-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v246) = v0 c
          ∧ r.2.mem ((c.tc : Thread Cert.ReferenceIdeal.nD Cert.ReferenceIdeal.τ).loc Cert.ReferenceIdeal.main_v245) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v1_0)) (v1 : (c : Dev Cert.Kernel2Ideal.nD) → Buf (Elt Ideal) ((c.tc : Thread Cert.Kernel2Ideal.nD Cert.Kernel2Ideal.τ).loc Cert.Kernel2Ideal.main_v1_1)) (v2 : (c : Dev Cert.Kernel2Ideal.nD) → Buf (Elt Ideal) ((c.tc : Thread Cert.Kernel2Ideal.nD Cert.Kernel2Ideal.τ).loc Cert.Kernel2Ideal.main_v1_2)) (v3 : (c : Dev Cert.Kernel2Ideal.nD) → Buf (Elt Ideal) ((c.tc : Thread Cert.Kernel2Ideal.nD Cert.Kernel2Ideal.τ).loc Cert.Kernel2Ideal.main_v1_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1_0) = v0 c
          ∧ r.2.mem ((c.tc : Thread Cert.Kernel2Ideal.nD Cert.Kernel2Ideal.τ).loc Cert.Kernel2Ideal.main_v1_1) = v1 c
          ∧ r.2.mem ((c.tc : Thread Cert.Kernel2Ideal.nD Cert.Kernel2Ideal.τ).loc Cert.Kernel2Ideal.main_v1_2) = v2 c
          ∧ r.2.mem ((c.tc : Thread Cert.Kernel2Ideal.nD Cert.Kernel2Ideal.τ).loc Cert.Kernel2Ideal.main_v1_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v23) = v0 c
          ∧ r.2.mem ((c.tc : Thread Cert.Reference2Ideal.nD Cert.Reference2Ideal.τ).loc Cert.Reference2Ideal.main_v26) = v1 c
          ∧ r.2.mem ((c.tc : Thread Cert.Reference2Ideal.nD Cert.Reference2Ideal.τ).loc Cert.Reference2Ideal.main_v29) = v2 c
          ∧ r.2.mem ((c.tc : Thread Cert.Reference2Ideal.nD Cert.Reference2Ideal.τ).loc Cert.Reference2Ideal.main_v32) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v1_0)) (v1 : (c : Dev Cert.Kernel3Ideal.nD) → Buf (Elt Ideal) ((c.tc : Thread Cert.Kernel3Ideal.nD Cert.Kernel3Ideal.τ).loc Cert.Kernel3Ideal.main_v1_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1_0) = v0 c
          ∧ r.2.mem ((c.tc : Thread Cert.Kernel3Ideal.nD Cert.Kernel3Ideal.τ).loc Cert.Kernel3Ideal.main_v1_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v16) = v0 c
          ∧ r.2.mem ((c.tc : Thread Cert.Reference3Ideal.nD Cert.Reference3Ideal.τ).loc Cert.Reference3Ideal.main_v19) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v15) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v14) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v15) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v149) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v12) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Kernel.lean ====
abbrev S4x2048x6144 : Shape := ⟨3, ![4, 2048, 6144]⟩
abbrev S4x2048x10240 : Shape := ⟨3, ![4, 2048, 10240]⟩
abbrev S128x8192 : Shape := ⟨2, ![128, 8192]⟩
abbrev S2x64 : Shape := ⟨2, ![2, 64]⟩
abbrev S64 : Shape := ⟨1, ![64]⟩
abbrev S64x64 : Shape := ⟨2, ![64, 64]⟩
abbrev S4096 : Shape := ⟨1, ![4096]⟩
abbrev S1x4096 : Shape := ⟨2, ![1, 4096]⟩
abbrev S128x1 : Shape := ⟨2, ![128, 1]⟩
abbrev S4x2048x4096 : Shape := ⟨3, ![4, 2048, 4096]⟩
abbrev S4x2048x1024 : Shape := ⟨3, ![4, 2048, 1024]⟩
abbrev S1x2048x512 : Shape := ⟨3, ![1, 2048, 512]⟩
abbrev S1x2048x128 : Shape := ⟨3, ![1, 2048, 128]⟩
abbrev S8x2048 : Shape := ⟨2, ![8, 2048]⟩
abbrev S8x1 : Shape := ⟨2, ![8, 1]⟩
abbrev S1x512 : Shape := ⟨2, ![1, 512]⟩
abbrev S2048x512 : Shape := ⟨2, ![2048, 512]⟩
abbrev S128x512 : Shape := ⟨2, ![128, 512]⟩
abbrev S128x128 : Shape := ⟨2, ![128, 128]⟩
abbrev S8x128 : Shape := ⟨2, ![8, 128]⟩
abbrev S1x128 : Shape := ⟨2, ![1, 128]⟩
abbrev S128x256 : Shape := ⟨2, ![128, 256]⟩
abbrev S8x512 : Shape := ⟨2, ![8, 512]⟩
abbrev S1x128x512 : Shape := ⟨3, ![1, 128, 512]⟩
abbrev S1x128x128 : Shape := ⟨3, ![1, 128, 128]⟩
abbrev S128x128x1 : Shape := ⟨3, ![128, 128, 1]⟩
abbrev S512x256 : Shape := ⟨2, ![512, 256]⟩

abbrev nBuf : Space → Nat
  | .hbm => 15
  | .vmem => 34
  | .smem => 0
  | _ => 0

abbrev bufTy : (tb : Table) → Fin (tcTables nBuf tb) → BufTy
  | .hbm, ⟨0, _⟩ => ⟨S4x2048x6144, .bf16⟩
  | .hbm, ⟨1, _⟩ => ⟨S4x2048x10240, .bf16⟩
  | .hbm, ⟨2, _⟩ => ⟨S128x8192, .f32⟩
  | .hbm, ⟨3, _⟩ => ⟨S2x64, .f32⟩
  | .hbm, ⟨4, _⟩ => ⟨S2x64, .f32⟩
  | .hbm, ⟨5, _⟩ => ⟨S64, .f32⟩
  | .hbm, ⟨6, _⟩ => ⟨S64x64, .f32⟩
  | .hbm, ⟨7, _⟩ => ⟨S4096, .f32⟩
  | .hbm, ⟨8, _⟩ => ⟨S1x4096, .f32⟩
  | .hbm, ⟨9, _⟩ => ⟨S128x1, .f32⟩
  | .hbm, ⟨10, _⟩ => ⟨S128x1, .f32⟩
  | .hbm, ⟨11, _⟩ => ⟨S128x1, .f32⟩
  | .hbm, ⟨12, _⟩ => ⟨S128x1, .f32⟩
  | .hbm, ⟨13, _⟩ => ⟨S4x2048x4096, .bf16⟩
  | .hbm, ⟨14, _⟩ => ⟨S4x2048x1024, .f32⟩
  | .local _ .vmem, ⟨0, _⟩ => ⟨S1x2048x512, .bf16⟩
  | .local _ .vmem, ⟨1, _⟩ => ⟨S1x2048x512, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x2048x512, .bf16⟩
  | .local _ .vmem, ⟨7, _⟩ => ⟨S1x2048x512, .bf16⟩
  | .local _ .vmem, ⟨8, _⟩ => ⟨S8x2048, .f32⟩
  | .local _ .vmem, ⟨9, _⟩ => ⟨S8x2048, .f32⟩
  | .local _ .vmem, ⟨10, _⟩ => ⟨S8x2048, .f32⟩
  | .local _ .vmem, ⟨11, _⟩ => ⟨S8x2048, .f32⟩
  | .local _ .vmem, ⟨12, _⟩ => ⟨S8x1, .f32⟩
  | .local _ .vmem, ⟨13, _⟩ => ⟨S8x1, .f32⟩
  | .local _ .vmem, ⟨14, _⟩ => ⟨S8x1, .f32⟩
  | .local _ .vmem, ⟨15, _⟩ => ⟨S8x1, .f32⟩
  | .local _ .vmem, ⟨16, _⟩ => ⟨S8x1, .f32⟩
  | .local _ .vmem, ⟨17, _⟩ => ⟨S8x1, .f32⟩
  | .local _ .vmem, ⟨18, _⟩ => ⟨S8x1, .f32⟩
  | .local _ .vmem, ⟨19, _⟩ => ⟨S8x1, .f32⟩
  | .local _ .vmem, ⟨20, _⟩ => ⟨S1x512, .f32⟩
  | .local _ .vmem, ⟨21, _⟩ => ⟨S1x512, .f32⟩
  | .local _ .vmem, ⟨22, _⟩ => ⟨S1x2048x512, .bf16⟩
  | .local _ .vmem, ⟨23, _⟩ => ⟨S1x2048x512, .bf16⟩
  | .local _ .vmem, ⟨24, _⟩ => ⟨S1x2048x128, .f32⟩
  | .local _ .vmem, ⟨25, _⟩ => ⟨S1x2048x128, .f32⟩
  | .local _ .vmem, ⟨26, _⟩ => ⟨S2048x512, .f32⟩
  | .local _ .vmem, ⟨27, _⟩ => ⟨S128x512, .f32⟩
  | .local _ .vmem, ⟨28, _⟩ => ⟨S128x128, .f32⟩
  | .local _ .vmem, ⟨29, _⟩ => ⟨S128x128, .f32⟩
  | .local _ .vmem, ⟨30, _⟩ => ⟨S128x128, .f32⟩
  | .local _ .vmem, ⟨31, _⟩ => ⟨S128x128, .f32⟩
  | .local _ .vmem, ⟨32, _⟩ => ⟨S128x128, .f32⟩
  | .local _ .vmem, ⟨33, _⟩ => ⟨S128x512, .f32⟩
  | _, _ => ⟨S4x2048x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_scratch3 : Ref sig .tc := ⟨.vmem, 29, rfl⟩
abbrev cc0_scratch4 : Ref sig .tc := ⟨.vmem, 30, rfl⟩
abbrev cc0_scratch5 : Ref sig .tc := ⟨.vmem, 31, rfl⟩
abbrev cc0_scratch6 : Ref sig .tc := ⟨.vmem, 32, rfl⟩
abbrev cc0_scratch7 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![4, 8], ![false, false]⟩

@[reducible] def k0_t1_loop : Scf.Loop 32 :=
  let c0_i32 : BitVec 32 := 0#32
  let c16_i32 : BitVec 32 := 16#32
  let v147 : BitVec 32 := Scalar.addi c0_i32 c16_i32
  let c1_i32 : BitVec 32 := 1#32
  ⟨c0_i32, v147, c1_i32⟩
def k0_mult1 (k0_t1 : Fin k0_t1_loop.trips) : BitVec 32 :=
  let c0_i32 : BitVec 32 := 0#32
  let c1_i32 : BitVec 32 := 1#32
  let arg23 : BitVec 32 := Scf.iv c0_i32 c1_i32 k0_t1
  let c128_i32 : BitVec 32 := 128#32
  let v296 : BitVec 32 := Scalar.muli arg23 c128_i32
  v296
def k0_mult2 (k0_t1 : Fin k0_t1_loop.trips) : BitVec 32 :=
  let c0_i32 : BitVec 32 := 0#32
  let c1_i32 : BitVec 32 := 1#32
  let arg23 : BitVec 32 := Scf.iv c0_i32 c1_i32 k0_t1
  let c8_i32 : BitVec 32 := 8#32
  let v298 : BitVec 32 := Scalar.muli arg23 c8_i32
  v298
def k0_off1 (k0_t1 : Fin k0_t1_loop.trips) : Fin 2 → Nat :=
  let c0_i32 : BitVec 32 := 0#32
  let c1_i32 : BitVec 32 := 1#32
  let arg23 : BitVec 32 := Scf.iv c0_i32 c1_i32 k0_t1
  let c8_i32 : BitVec 32 := 8#32
  let v298 : BitVec 32 := Scalar.muli arg23 c8_i32
  let v299 : BitVec 32 := v298
  let v302 : Index := Scalar.indexCast v299
  let c0_77 : Index := 0#32
  ![v302.toNat, 0]
def k0_off2 (k0_t1 : Fin k0_t1_loop.trips) : Fin 2 → Nat :=
  let c0_i32 : BitVec 32 := 0#32
  let c1_i32 : BitVec 32 := 1#32
  let arg23 : BitVec 32 := Scf.iv c0_i32 c1_i32 k0_t1
  let c8_i32 : BitVec 32 := 8#32
  let v298 : BitVec 32 := Scalar.muli arg23 c8_i32
  let v299 : BitVec 32 := v298
  let v306 : Index := Scalar.indexCast v299
  let c0_79 : Index := 0#32
  ![v306.toNat, 0]
def k0_off3 (k0_t1 : Fin k0_t1_loop.trips) : Fin 3 → Nat :=
  let c0_80 : Index := 0#32
  let c0_i32 : BitVec 32 := 0#32
  let c1_i32 : BitVec 32 := 1#32
  let arg23 : BitVec 32 := Scf.iv c0_i32 c1_i32 k0_t1
  let c128_i32 : BitVec 32 := 128#32
  let v296 : BitVec 32 := Scalar.muli arg23 c128_i32
  let v297 : BitVec 32 := v296
  let v309 : Index := Scalar.indexCast v297
  let c0_81 : Index := 0#32
  ![0, v309.toNat, 0]
def k0_off4 (k0_t1 : Fin k0_t1_loop.trips) : Fin 3 → Nat :=
  let c0_82 : Index := 0#32
  let c0_i32 : BitVec 32 := 0#32
  let c1_i32 : BitVec 32 := 1#32
  let arg23 : BitVec 32 := Scf.iv c0_i32 c1_i32 k0_t1
  let c128_i32 : BitVec 32 := 128#32
  let v296 : BitVec 32 := Scalar.muli arg23 c128_i32
  let v297 : BitVec 32 := v296
  let v313 : Index := Scalar.indexCast v297
  let c0_83 : Index := 0#32
  ![0, v313.toNat, 0]
def k0_off5 (k0_t1 : Fin k0_t1_loop.trips) : Fin 2 → Nat :=
  let c0_i32 : BitVec 32 := 0#32
  let c1_i32 : BitVec 32 := 1#32
  let arg23 : BitVec 32 := Scf.iv c0_i32 c1_i32 k0_t1
  let c128_i32 : BitVec 32 := 128#32
  let v296 : BitVec 32 := Scalar.muli arg23 c128_i32
  let v297 : BitVec 32 := v296
  let v640 : Index := Scalar.indexCast v297
  let c0_170 : Index := 0#32
  ![v640.toNat, 0]
@[reducible] def k0_t2_loop : Scf.Loop 32 :=
  let c0_i32_70 : BitVec 32 := 0#32
  let c16_i32_71 : BitVec 32 := 16#32
  let v295 : BitVec 32 := Scalar.addi c0_i32_70 c16_i32_71
  let c1_i32_72 : BitVec 32 := 1#32
  ⟨c0_i32_70, v295, c1_i32_72⟩
def k0_mult3 (k0_t2 : Fin k0_t2_loop.trips) : BitVec 32 :=
  let c15_i32 : BitVec 32 := 15#32
  let c0_i32_70 : BitVec 32 := 0#32
  let c1_i32_72 : BitVec 32 := 1#32
  let arg23 : BitVec 32 := Scf.iv c0_i32_70 c1_i32_72 k0_t2
  let v296 : BitVec 32 := Scalar.subi c15_i32 arg23
  let c128_i32 : BitVec 32 := 128#32
  let v297 : BitVec 32 := Scalar.muli v296 c128_i32
  v297
def k0_mult4 (k0_t2 : Fin k0_t2_loop.trips) : BitVec 32 :=
  let c15_i32 : BitVec 32 := 15#32
  let c0_i32_70 : BitVec 32 := 0#32
  let c1_i32_72 : BitVec 32 := 1#32
  let arg23 : BitVec 32 := Scf.iv c0_i32_70 c1_i32_72 k0_t2
  let v296 : BitVec 32 := Scalar.subi c15_i32 arg23
  let c8_i32 : BitVec 32 := 8#32
  let v299 : BitVec 32 := Scalar.muli v296 c8_i32
  v299
def k0_off6 (k0_t2 : Fin k0_t2_loop.trips) : Fin 2 → Nat :=
  let c15_i32 : BitVec 32 := 15#32
  let c0_i32_70 : BitVec 32 := 0#32
  let c1_i32_72 : BitVec 32 := 1#32
  let arg23 : BitVec 32 := Scf.iv c0_i32_70 c1_i32_72 k0_t2
  let v296 : BitVec 32 := Scalar.subi c15_i32 arg23
  let c8_i32 : BitVec 32 := 8#32
  let v299 : BitVec 32 := Scalar.muli v296 c8_i32
  let v300 : BitVec 32 := v299
  let v303 : Index := Scalar.indexCast v300
  let c0_77 : Index := 0#32
  ![v303.toNat, 0]
def k0_off7 (k0_t2 : Fin k0_t2_loop.trips) : Fin 2 → Nat :=
  let c15_i32 : BitVec 32 := 15#32
  let c0_i32_70 : BitVec 32 := 0#32
  let c1_i32_72 : BitVec 32 := 1#32
  let arg23 : BitVec 32 := Scf.iv c0_i32_70 c1_i32_72 k0_t2
  let v296 : BitVec 32 := Scalar.subi c15_i32 arg23
  let c8_i32 : BitVec 32 := 8#32
  let v299 : BitVec 32 := Scalar.muli v296 c8_i32
  let v300 : BitVec 32 := v299
  let v307 : Index := Scalar.indexCast v300
  let c0_79 : Index := 0#32
  ![v307.toNat, 0]
def k0_off8 (k0_t2 : Fin k0_t2_loop.trips) : Fin 3 → Nat :=
  let c0_80 : Index := 0#32
  let c15_i32 : BitVec 32 := 15#32
  let c0_i32_70 : BitVec 32 := 0#32
  let c1_i32_72 : BitVec 32 := 1#32
  let arg23 : BitVec 32 := Scf.iv c0_i32_70 c1_i32_72 k0_t2
  let v296 : BitVec 32 := Scalar.subi c15_i32 arg23
  let c128_i32 : BitVec 32 := 128#32
  let v297 : BitVec 32 := Scalar.muli v296 c128_i32
  let v298 : BitVec 32 := v297
  let v310 : Index := Scalar.indexCast v298
  let c0_81 : Index := 0#32
  ![0, v310.toNat, 0]
def k0_off9 (k0_t2 : Fin k0_t2_loop.trips) : Fin 3 → Nat :=
  let c0_82 : Index := 0#32
  let c15_i32 : BitVec 32 := 15#32
  let c0_i32_70 : BitVec 32 := 0#32
  let c1_i32_72 : BitVec 32 := 1#32
  let arg23 : BitVec 32 := Scf.iv c0_i32_70 c1_i32_72 k0_t2
  let v296 : BitVec 32 := Scalar.subi c15_i32 arg23
  let c128_i32 : BitVec 32 := 128#32
  let v297 : BitVec 32 := Scalar.muli v296 c128_i32
  let v298 : BitVec 32 := v297
  let v314 : Index := Scalar.indexCast v298
  let c0_83 : Index := 0#32
  ![0, v314.toNat, 0]
def k0_off10 (k0_t2 : Fin k0_t2_loop.trips) : Fin 2 → Nat :=
  let c15_i32 : BitVec 32 := 15#32
  let c0_i32_70 : BitVec 32 := 0#32
  let c1_i32_72 : BitVec 32 := 1#32
  let arg23 : BitVec 32 := Scf.iv c0_i32_70 c1_i32_72 k0_t2
  let v296 : BitVec 32 := Scalar.subi c15_i32 arg23
  let c128_i32 : BitVec 32 := 128#32
  let v297 : BitVec 32 := Scalar.muli v296 c128_i32
  let v298 : BitVec 32 := v297
  let v636 : Index := Scalar.indexCast v298
  let c0_168 : Index := 0#32
  ![v636.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c40_i32 : BitVec 32 := 40#32
  let v0 : BitVec 32 := Scalar.addi c40_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![v0.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![v0.toNat, c0_i32_0.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![v0.toNat, c0_i32_0.toNat]

def cc0_transform_9 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S8x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S8x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S8x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1x2048x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x2048x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== ReferenceIdeal.lean ====
abbrev S4x2048x6144 : Shape := ⟨3, ![4, 2048, 6144]⟩
abbrev S4x2048x10240 : Shape := ⟨3, ![4, 2048, 10240]⟩
abbrev S128x8192 : Shape := ⟨2, ![128, 8192]⟩
abbrev S2x64 : Shape := ⟨2, ![2, 64]⟩
abbrev S64 : Shape := ⟨1, ![64]⟩
abbrev S4x2048x4096 : Shape := ⟨3, ![4, 2048, 4096]⟩
abbrev S4x2048x64x64 : Shape := ⟨4, ![4, 2048, 64, 64]⟩
abbrev S4x2048x1024 : Shape := ⟨3, ![4, 2048, 1024]⟩
abbrev S4x2048x8x128 : Shape := ⟨4, ![4, 2048, 8, 128]⟩
abbrev S4x2048x8x8x128 : Shape := ⟨5, ![4, 2048, 8, 8, 128]⟩
abbrev S4x2048x64x128 : Shape := ⟨4, ![4, 2048, 64, 128]⟩
abbrev S2x64x4x2048 : Shape := ⟨4, ![2, 64, 4, 2048]⟩
abbrev S2x4x2048x64 : Shape := ⟨4, ![2, 4, 2048, 64]⟩
abbrev S2x1x1x64 : Shape := ⟨4, ![2, 1, 1, 64]⟩
abbrev S_ : Shape := ⟨0, ![]⟩
abbrev S8x2048x64x64 : Shape := ⟨4, ![8, 2048, 64, 64]⟩
abbrev S1x4x2048x64 : Shape := ⟨4, ![1, 4, 2048, 64]⟩
abbrev S4x2048x64 : Shape := ⟨3, ![4, 2048, 64]⟩
abbrev S8x2048x64 : Shape := ⟨3, ![8, 2048, 64]⟩
abbrev S8x2048x64x128 : Shape := ⟨4, ![8, 2048, 64, 128]⟩
abbrev S8x2048x64x1 : Shape := ⟨4, ![8, 2048, 64, 1]⟩
abbrev S8x16x128x64x64 : Shape := ⟨5, ![8, 16, 128, 64, 64]⟩
abbrev S8x16x128x64x128 : Shape := ⟨5, ![8, 16, 128, 64, 128]⟩
abbrev S8x16x128x64 : Shape := ⟨4, ![8, 16, 128, 64]⟩
abbrev S128x128 : Shape := ⟨2, ![128, 128]⟩
abbrev S128x128x1 : Shape := ⟨3, ![128, 128, 1]⟩
abbrev S8x16x128x1x64 : Shape := ⟨5, ![8, 16, 128, 1, 64]⟩
abbrev S8x16x1x128x64 : Shape := ⟨5, ![8, 16, 1, 128, 64]⟩
abbrev S8x16x128x128x64 : Shape := ⟨5, ![8, 16, 128, 128, 64]⟩
abbrev S8x16x64x128x128 : Shape := ⟨5, ![8, 16, 64, 128, 128]⟩
abbrev S8x16x64x64x128 : Shape := ⟨5, ![8, 16, 64, 64, 128]⟩
abbrev S8x16x1x64 : Shape := ⟨4, ![8, 16, 1, 64]⟩
abbrev S8x16x128x64x1 : Shape := ⟨5, ![8, 16, 128, 64, 1]⟩
abbrev S8x16x64 : Shape := ⟨3, ![8, 16, 64]⟩
abbrev S8x64x64x128 : Shape := ⟨4, ![8, 64, 64, 128]⟩
abbrev S8x1x64 : Shape := ⟨3, ![8, 1, 64]⟩
abbrev S8x64 : Shape := ⟨2, ![8, 64]⟩
abbrev S8x64x1x1 : Shape := ⟨4, ![8, 64, 1, 1]⟩
abbrev S8x1x64x64x128 : Shape := ⟨5, ![8, 1, 64, 64, 128]⟩
abbrev S64x1 : Shape := ⟨2, ![64, 1]⟩
abbrev S1x1x64x1 : Shape := ⟨4, ![1, 1, 64, 1]⟩
abbrev S4x2048x8x4x128 : Shape := ⟨5, ![4, 2048, 8, 4, 128]⟩

abbrev nBuf : Space → Nat
  | .hbm => 291
  | .vmem => 0
  | .smem => 0
  | _ => 0

abbrev hbmTy0_0 (i : Nat) : BufTy := match i % 128 with
  | 0 => ⟨S4x2048x6144, .bf16⟩
  | 1 => ⟨S4x2048x10240, .bf16⟩
  | 2 => ⟨S128x8192, .f32⟩
  | 3 => ⟨S2x64, .f32⟩
  | 4 => ⟨S2x64, .f32⟩
  | 5 => ⟨S64, .f32⟩
  | 6 => ⟨S4x2048x6144, .f32⟩
  | 7 => ⟨S4x2048x4096, .bf16⟩
  | 8 => ⟨S4x2048x4096, .f32⟩
  | 9 => ⟨S4x2048x4096, .f32⟩
  | 10 => ⟨S4x2048x64x64, .f32⟩
  | 11 => ⟨S4x2048x1024, .f32⟩
  | 12 => ⟨S4x2048x8x128, .f32⟩
  | 13 => ⟨S4x2048x1024, .f32⟩
  | 14 => ⟨S4x2048x8x128, .f32⟩
  | 15 => ⟨S4x2048x8x8x128, .f32⟩
  | 16 => ⟨S4x2048x64x128, .f32⟩
  | 17 => ⟨S4x2048x8x8x128, .f32⟩
  | 18 => ⟨S4x2048x64x128, .f32⟩
  | 19 => ⟨S2x64x4x2048, .f32⟩
  | 20 => ⟨S2x4x2048x64, .f32⟩
  | 21 => ⟨S2x1x1x64, .f32⟩
  | 22 => ⟨S2x4x2048x64, .f32⟩
  | 23 => ⟨S2x4x2048x64, .f32⟩
  | 24 => ⟨S_, .f32⟩
  | 25 => ⟨S2x4x2048x64, .f32⟩
  | 26 => ⟨S2x4x2048x64, .f32⟩
  | 27 => ⟨S2x4x2048x64, .f32⟩
  | 28 => ⟨S2x4x2048x64, .f32⟩
  | 29 => ⟨S2x4x2048x64, .i1⟩
  | 30 => ⟨S2x4x2048x64, .f32⟩
  | 31 => ⟨S2x4x2048x64, .f32⟩
  | 32 => ⟨S2x4x2048x64, .f32⟩
  | 33 => ⟨S2x4x2048x64, .f32⟩
  | 34 => ⟨S2x4x2048x64, .f32⟩
  | 35 => ⟨S2x4x2048x64, .f32⟩
  | 36 => ⟨S2x4x2048x64, .f32⟩
  | 37 => ⟨S2x4x2048x64, .f32⟩
  | 38 => ⟨S2x64, .f32⟩
  | 39 => ⟨S2x64, .f32⟩
  | 40 => ⟨S2x1x1x64, .f32⟩
  | 41 => ⟨S2x4x2048x64, .f32⟩
  | 42 => ⟨S2x4x2048x64, .f32⟩
  | 43 => ⟨S4x2048x64x64, .f32⟩
  | 44 => ⟨S8x2048x64x64, .f32⟩
  | 45 => ⟨S1x4x2048x64, .f32⟩
  | 46 => ⟨S4x2048x64, .f32⟩
  | 47 => ⟨S1x4x2048x64, .f32⟩
  | 48 => ⟨S4x2048x64, .f32⟩
  | 49 => ⟨S4x2048x64, .f32⟩
  | 50 => ⟨S8x2048x64, .f32⟩
  | 51 => ⟨S1x4x2048x64, .f32⟩
  | 52 => ⟨S4x2048x64, .f32⟩
  | 53 => ⟨S1x4x2048x64, .f32⟩
  | 54 => ⟨S4x2048x64, .f32⟩
  | 55 => ⟨S4x2048x64, .f32⟩
  | 56 => ⟨S8x2048x64, .f32⟩
  | 57 => ⟨S4x2048x64x128, .f32⟩
  | 58 => ⟨S8x2048x64x128, .f32⟩
  | 59 => ⟨S4x2048x64x128, .f32⟩
  | 60 => ⟨S8x2048x64x128, .f32⟩
  | 61 => ⟨S8x2048x64x1, .f32⟩
  | 62 => ⟨S8x2048x64x64, .f32⟩
  | 63 => ⟨S8x2048x64x64, .f32⟩
  | 64 => ⟨S8x16x128x64x64, .f32⟩
  | 65 => ⟨S8x16x128x64x128, .f32⟩
  | 66 => ⟨S8x16x128x64x128, .f32⟩
  | 67 => ⟨S8x16x128x64, .f32⟩
  | 68 => ⟨S_, .f32⟩
  | 69 => ⟨S_, .f32⟩
  | 70 => ⟨S8x16x128x64, .f32⟩
  | 71 => ⟨S_, .i1⟩
  | 72 => ⟨S128x128, .i1⟩
  | 73 => ⟨S128x128, .i32⟩
  | 74 => ⟨S_, .i32⟩
  | 75 => ⟨S128x128, .i32⟩
  | 76 => ⟨S128x128, .i32⟩
  | 77 => ⟨S128x128, .i32⟩
  | 78 => ⟨S128x128, .i1⟩
  | 79 => ⟨S_, .i1⟩
  | 80 => ⟨S128x128, .i1⟩
  | 81 => ⟨S128x128, .i1⟩
  | 82 => ⟨S128x128x1, .i1⟩
  | 83 => ⟨S8x16x128x1x64, .f32⟩
  | 84 => ⟨S8x16x1x128x64, .f32⟩
  | 85 => ⟨S8x16x128x128x64, .f32⟩
  | 86 => ⟨S8x16x128x128x64, .f32⟩
  | 87 => ⟨S8x16x128x128x64, .f32⟩
  | 88 => ⟨S_, .f32⟩
  | 89 => ⟨S_, .f32⟩
  | 90 => ⟨S8x16x128x128x64, .i1⟩
  | 91 => ⟨S8x16x128x128x64, .f32⟩
  | 92 => ⟨S8x16x128x128x64, .f32⟩
  | 93 => ⟨S8x16x128x128x64, .f32⟩
  | 94 => ⟨S8x16x64x128x128, .f32⟩
  | 95 => ⟨S8x16x64x128x128, .f32⟩
  | 96 => ⟨S8x16x64x128x128, .f32⟩
  | 97 => ⟨S8x16x64x64x128, .f32⟩
  | 98 => ⟨S8x16x128x64x64, .f32⟩
  | 99 => ⟨S8x16x1x64, .f32⟩
  | 100 => ⟨S8x16x128x64, .f32⟩
  | 101 => ⟨S8x16x128x64, .f32⟩
  | 102 => ⟨S8x16x128x64, .f32⟩
  | 103 => ⟨S8x16x128x64x1, .f32⟩
  | 104 => ⟨S8x16x128x64x64, .f32⟩
  | 105 => ⟨S8x16x128x64x64, .f32⟩
  | 106 => ⟨S8x16x64x64x128, .f32⟩
  | 107 => ⟨S8x16x1x64, .f32⟩
  | 108 => ⟨S8x16x64, .f32⟩
  | 109 => ⟨S8x16x64, .f32⟩
  | 110 => ⟨S_, .f32⟩
  | 111 => ⟨S8x64x64x128, .f32⟩
  | 112 => ⟨S8x1x64, .f32⟩
  | 113 => ⟨S8x64, .f32⟩
  | 114 => ⟨S8x64x1x1, .f32⟩
  | 115 => ⟨S8x64x64x128, .f32⟩
  | 116 => ⟨S8x64x64x128, .f32⟩
  | 117 => ⟨S8x1x64x64x128, .f32⟩
  | 118 => ⟨S8x64x64x128, .f32⟩
  | 119 => ⟨S8x64x64x128, .f32⟩
  | 120 => ⟨S8x1x64, .f32⟩
  | 121 => ⟨S8x64, .f32⟩
  | 122 => ⟨S8x64x1x1, .f32⟩
  | 123 => ⟨S8x64x64x128, .f32⟩
  | 124 => ⟨S8x64x64x128, .f32⟩
  | 125 => ⟨S8x1x64x64x128, .f32⟩
  | 126 => ⟨S8x64x64x128, .f32⟩
  | 127 => ⟨S8x64x64x128, .f32⟩
  | _ => ⟨S4x2048x6144, .bf16⟩

abbrev hbmTy0_1 (i : Nat) : BufTy := match i % 128 with
  | 0 => ⟨S8x1x64, .f32⟩
  | 1 => ⟨S8x64, .f32⟩
  | 2 => ⟨S8x64x1x1, .f32⟩
  | 3 => ⟨S8x64x64x128, .f32⟩
  | 4 => ⟨S8x64x64x128, .f32⟩
  | 5 => ⟨S8x1x64x64x128, .f32⟩
  | 6 => ⟨S8x64x64x128, .f32⟩
  | 7 => ⟨S8x64x64x128, .f32⟩
  | 8 => ⟨S8x1x64, .f32⟩
  | 9 => ⟨S8x64, .f32⟩
  | 10 => ⟨S8x64x1x1, .f32⟩
  | 11 => ⟨S8x64x64x128, .f32⟩
  | 12 => ⟨S8x64x64x128, .f32⟩
  | 13 => ⟨S8x1x64x64x128, .f32⟩
  | 14 => ⟨S8x64x64x128, .f32⟩
  | 15 => ⟨S8x64x64x128, .f32⟩
  | 16 => ⟨S8x1x64, .f32⟩
  | 17 => ⟨S8x64, .f32⟩
  | 18 => ⟨S8x64x1x1, .f32⟩
  | 19 => ⟨S8x64x64x128, .f32⟩
  | 20 => ⟨S8x64x64x128, .f32⟩
  | 21 => ⟨S8x1x64x64x128, .f32⟩
  | 22 => ⟨S8x64x64x128, .f32⟩
  | 23 => ⟨S8x64x64x128, .f32⟩
  | 24 => ⟨S8x1x64, .f32⟩
  | 25 => ⟨S8x64, .f32⟩
  | 26 => ⟨S8x64x1x1, .f32⟩
  | 27 => ⟨S8x64x64x128, .f32⟩
  | 28 => ⟨S8x64x64x128, .f32⟩
  | 29 => ⟨S8x1x64x64x128, .f32⟩
  | 30 => ⟨S8x64x64x128, .f32⟩
  | 31 => ⟨S8x64x64x128, .f32⟩
  | 32 => ⟨S8x1x64, .f32⟩
  | 33 => ⟨S8x64, .f32⟩
  | 34 => ⟨S8x64x1x1, .f32⟩
  | 35 => ⟨S8x64x64x128, .f32⟩
  | 36 => ⟨S8x64x64x128, .f32⟩
  | 37 => ⟨S8x1x64x64x128, .f32⟩
  | 38 => ⟨S8x64x64x128, .f32⟩
  | 39 => ⟨S8x64x64x128, .f32⟩
  | 40 => ⟨S8x1x64, .f32⟩
  | 41 => ⟨S8x64, .f32⟩
  | 42 => ⟨S8x64x1x1, .f32⟩
  | 43 => ⟨S8x64x64x128, .f32⟩
  | 44 => ⟨S8x64x64x128, .f32⟩
  | 45 => ⟨S8x1x64x64x128, .f32⟩
  | 46 => ⟨S8x64x64x128, .f32⟩
  | 47 => ⟨S8x64x64x128, .f32⟩
  | 48 => ⟨S8x1x64, .f32⟩
  | 49 => ⟨S8x64, .f32⟩
  | 50 => ⟨S8x64x1x1, .f32⟩
  | 51 => ⟨S8x64x64x128, .f32⟩
  | 52 => ⟨S8x64x64x128, .f32⟩
  | 53 => ⟨S8x1x64x64x128, .f32⟩
  | 54 => ⟨S8x64x64x128, .f32⟩
  | 55 => ⟨S8x64x64x128, .f32⟩
  | 56 => ⟨S8x1x64, .f32⟩
  | 57 => ⟨S8x64, .f32⟩
  | 58 => ⟨S8x64x1x1, .f32⟩
  | 59 => ⟨S8x64x64x128, .f32⟩
  | 60 => ⟨S8x64x64x128, .f32⟩
  | 61 => ⟨S8x1x64x64x128, .f32⟩
  | 62 => ⟨S8x64x64x128, .f32⟩
  | 63 => ⟨S8x64x64x128, .f32⟩
  | 64 => ⟨S8x1x64, .f32⟩
  | 65 => ⟨S8x64, .f32⟩
  | 66 => ⟨S8x64x1x1, .f32⟩
  | 67 => ⟨S8x64x64x128, .f32⟩
  | 68 => ⟨S8x64x64x128, .f32⟩
  | 69 => ⟨S8x1x64x64x128, .f32⟩
  | 70 => ⟨S8x64x64x128, .f32⟩
  | 71 => ⟨S8x64x64x128, .f32⟩
  | 72 => ⟨S8x1x64, .f32⟩
  | 73 => ⟨S8x64, .f32⟩
  | 74 => ⟨S8x64x1x1, .f32⟩
  | 75 => ⟨S8x64x64x128, .f32⟩
  | 76 => ⟨S8x64x64x128, .f32⟩
  | 77 => ⟨S8x1x64x64x128, .f32⟩
  | 78 => ⟨S8x64x64x128, .f32⟩
  | 79 => ⟨S8x64x64x128, .f32⟩
  | 80 => ⟨S8x1x64, .f32⟩
  | 81 => ⟨S8x64, .f32⟩
  | 82 => ⟨S8x64x1x1, .f32⟩
  | 83 => ⟨S8x64x64x128, .f32⟩
  | 84 => ⟨S8x64x64x128, .f32⟩
  | 85 => ⟨S8x1x64x64x128, .f32⟩
  | 86 => ⟨S8x64x64x128, .f32⟩
  | 87 => ⟨S8x64x64x128, .f32⟩
  | 88 => ⟨S8x1x64, .f32⟩
  | 89 => ⟨S8x64, .f32⟩
  | 90 => ⟨S8x64x1x1, .f32⟩
  | 91 => ⟨S8x64x64x128, .f32⟩
  | 92 => ⟨S8x64x64x128, .f32⟩
  | 93 => ⟨S8x1x64x64x128, .f32⟩
  | 94 => ⟨S8x64x64x128, .f32⟩
  | 95 => ⟨S8x64x64x128, .f32⟩
  | 96 => ⟨S8x1x64, .f32⟩
  | 97 => ⟨S8x64, .f32⟩
  | 98 => ⟨S8x64x1x1, .f32⟩
  | 99 => ⟨S8x64x64x128, .f32⟩
  | 100 => ⟨S8x64x64x128, .f32⟩
  | 101 => ⟨S8x1x64x64x128, .f32⟩
  | 102 => ⟨S8x64x64x128, .f32⟩
  | 103 => ⟨S8x64x64x128, .f32⟩
  | 104 => ⟨S8x1x64, .f32⟩
  | 105 => ⟨S8x64, .f32⟩
  | 106 => ⟨S8x64x1x1, .f32⟩
  | 107 => ⟨S8x64x64x128, .f32⟩
  | 108 => ⟨S8x64x64x128, .f32⟩
  | 109 => ⟨S8x1x64x64x128, .f32⟩
  | 110 => ⟨S8x64x64x128, .f32⟩
  | 111 => ⟨S8x64x64x128, .f32⟩
  | 112 => ⟨S8x1x64x64x128, .f32⟩
  | 113 => ⟨S8x1x64x64x128, .f32⟩
  | 114 => ⟨S8x1x64x64x128, .f32⟩
  | 115 => ⟨S8x1x64x64x128, .f32⟩
  | 116 => ⟨S8x1x64x64x128, .f32⟩
  | 117 => ⟨S8x1x64x64x128, .f32⟩
  | 118 => ⟨S8x1x64x64x128, .f32⟩
  | 119 => ⟨S8x1x64x64x128, .f32⟩
  | 120 => ⟨S8x1x64x64x128, .f32⟩
  | 121 => ⟨S8x1x64x64x128, .f32⟩
  | 122 => ⟨S8x1x64x64x128, .f32⟩
  | 123 => ⟨S8x1x64x64x128, .f32⟩
  | 124 => ⟨S8x1x64x64x128, .f32⟩
  | 125 => ⟨S8x1x64x64x128, .f32⟩
  | 126 => ⟨S8x1x64x64x128, .f32⟩
  | 127 => ⟨S8x1x64x64x128, .f32⟩
  | _ => ⟨S4x2048x6144, .bf16⟩

abbrev hbmTy0_2 (i : Nat) : BufTy := match i % 128 with
  | 0 => ⟨S8x16x64x64x128, .f32⟩
  | 1 => ⟨S8x16x64x64x128, .f32⟩
  | 2 => ⟨S8x16x128x64x64, .f32⟩
  | 3 => ⟨S8x16x128x64, .f32⟩
  | 4 => ⟨S8x16x128x64x1, .f32⟩
  | 5 => ⟨S8x16x128x64x64, .f32⟩
  | 6 => ⟨S8x16x128x64x64, .f32⟩
  | 7 => ⟨S8x16x128x64x64, .f32⟩
  | 8 => ⟨S8x2048x64x64, .f32⟩
  | 9 => ⟨S4x2048x64x64, .f32⟩
  | 10 => ⟨S4x2048x64x64, .f32⟩
  | 11 => ⟨S4x2048x64x64, .f32⟩
  | 12 => ⟨S4x2048x64x64, .f32⟩
  | 13 => ⟨S64x1, .f32⟩
  | 14 => ⟨S1x1x64x1, .f32⟩
  | 15 => ⟨S4x2048x64x64, .f32⟩
  | 16 => ⟨S4x2048x64x64, .f32⟩
  | 17 => ⟨S4x2048x64x64, .f32⟩
  | 18 => ⟨S4x2048x4096, .f32⟩
  | 19 => ⟨S4x2048x4096, .f32⟩
  | 20 => ⟨S4x2048x4096, .f32⟩
  | 21 => ⟨S_, .f32⟩
  | 22 => ⟨S4x2048x4096, .f32⟩
  | 23 => ⟨S4x2048x4096, .f32⟩
  | 24 => ⟨S_, .f32⟩
  | 25 => ⟨S4x2048x4096, .f32⟩
  | 26 => ⟨S4x2048x4096, .f32⟩
  | 27 => ⟨S4x2048x4096, .f32⟩
  | 28 => ⟨S4x2048x4096, .f32⟩
  | 29 => ⟨S4x2048x4096, .f32⟩
  | 30 => ⟨S4x2048x8x4x128, .f32⟩
  | 31 => ⟨S_, .f32⟩
  | 32 => ⟨S4x2048x8x128, .f32⟩
  | 33 => ⟨S4x2048x1024, .f32⟩
  | 34 => ⟨S4x2048x4096, .bf16⟩
  | _ => ⟨S4x2048x6144, .bf16⟩

abbrev hbmTy (i : Nat) : BufTy := match i / 128 with
  | 0 => hbmTy0_0 i
  | 1 => hbmTy0_1 i
  | 2 => hbmTy0_2 i
  | _ => ⟨S4x2048x6144, .bf16⟩

abbrev bufTy : (tb : Table) → Fin (tcTables nBuf tb) → BufTy
  | .hbm, ⟨i, _⟩ => hbmTy i
  | _, _ => ⟨S4x2048x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_call0_cst : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_call6_call0_cst : Ref sig .tc := ⟨.hbm, 68, rfl⟩
abbrev main_call6_call0_v0 : Ref sig .tc := ⟨.hbm, 69, rfl⟩
abbrev main_v49 : Ref sig .tc := ⟨.hbm, 70, rfl⟩
abbrev main_c : Ref sig .tc := ⟨.hbm, 71, rfl⟩
abbrev main_v50 : Ref sig .tc := ⟨.hbm, 72, rfl⟩
abbrev main_call7_v0 : Ref sig .tc := ⟨.hbm, 73, rfl⟩
abbrev main_call7_c : Ref sig .tc := ⟨.hbm, 74, rfl⟩
abbrev main_call7_v1 : Ref sig .tc := ⟨.hbm, 75, rfl⟩
abbrev main_call7_v2 : Ref sig .tc := ⟨.hbm, 76, rfl⟩
abbrev main_call7_v3 : Ref sig .tc := ⟨.hbm, 77, rfl⟩
abbrev main_call7_v4 : Ref sig .tc := ⟨.hbm, 78, rfl⟩
abbrev main_call7_c_0 : Ref sig .tc := ⟨.hbm, 79, rfl⟩
abbrev main_call7_v5 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_cst : Ref sig .tc := ⟨.hbm, 88, rfl⟩
abbrev main_call8_v0 : Ref sig .tc := ⟨.hbm, 89, rfl⟩
abbrev main_call8_v1 : Ref sig .tc := ⟨.hbm, 90, rfl⟩
abbrev main_call8_v2 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_cst_0 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩
abbrev main_v147 : Ref sig .tc := ⟨.hbm, 182, rfl⟩
abbrev main_v148 : Ref sig .tc := ⟨.hbm, 183, rfl⟩
abbrev main_v149 : Ref sig .tc := ⟨.hbm, 184, rfl⟩
abbrev main_v150 : Ref sig .tc := ⟨.hbm, 185, rfl⟩
abbrev main_v151 : Ref sig .tc := ⟨.hbm, 186, rfl⟩
abbrev main_v152 : Ref sig .tc := ⟨.hbm, 187, rfl⟩
abbrev main_v153 : Ref sig .tc := ⟨.hbm, 188, rfl⟩
abbrev main_v154 : Ref sig .tc := ⟨.hbm, 189, rfl⟩
abbrev main_v155 : Ref sig .tc := ⟨.hbm, 190, rfl⟩
abbrev main_v156 : Ref sig .tc := ⟨.hbm, 191, rfl⟩
abbrev main_v157 : Ref sig .tc := ⟨.hbm, 192, rfl⟩
abbrev main_v158 : Ref sig .tc := ⟨.hbm, 193, rfl⟩
abbrev main_v159 : Ref sig .tc := ⟨.hbm, 194, rfl⟩
abbrev main_v160 : Ref sig .tc := ⟨.hbm, 195, rfl⟩
abbrev main_v161 : Ref sig .tc := ⟨.hbm, 196, rfl⟩
abbrev main_v162 : Ref sig .tc := ⟨.hbm, 197, rfl⟩
abbrev main_v163 : Ref sig .tc := ⟨.hbm, 198, rfl⟩
abbrev main_v164 : Ref sig .tc := ⟨.hbm, 199, rfl⟩
abbrev main_v165 : Ref sig .tc := ⟨.hbm, 200, rfl⟩
abbrev main_v166 : Ref sig .tc := ⟨.hbm, 201, rfl⟩
abbrev main_v167 : Ref sig .tc := ⟨.hbm, 202, rfl⟩
abbrev main_v168 : Ref sig .tc := ⟨.hbm, 203, rfl⟩
abbrev main_v169 : Ref sig .tc := ⟨.hbm, 204, rfl⟩
abbrev main_v170 : Ref sig .tc := ⟨.hbm, 205, rfl⟩
abbrev main_v171 : Ref sig .tc := ⟨.hbm, 206, rfl⟩
abbrev main_v172 : Ref sig .tc := ⟨.hbm, 207, rfl⟩
abbrev main_v173 : Ref sig .tc := ⟨.hbm, 208, rfl⟩
abbrev main_v174 : Ref sig .tc := ⟨.hbm, 209, rfl⟩
abbrev main_v175 : Ref sig .tc := ⟨.hbm, 210, rfl⟩
abbrev main_v176 : Ref sig .tc := ⟨.hbm, 211, rfl⟩
abbrev main_v177 : Ref sig .tc := ⟨.hbm, 212, rfl⟩
abbrev main_v178 : Ref sig .tc := ⟨.hbm, 213, rfl⟩
abbrev main_v179 : Ref sig .tc := ⟨.hbm, 214, rfl⟩
abbrev main_v180 : Ref sig .tc := ⟨.hbm, 215, rfl⟩
abbrev main_v181 : Ref sig .tc := ⟨.hbm, 216, rfl⟩
abbrev main_v182 : Ref sig .tc := ⟨.hbm, 217, rfl⟩
abbrev main_v183 : Ref sig .tc := ⟨.hbm, 218, rfl⟩
abbrev main_v184 : Ref sig .tc := ⟨.hbm, 219, rfl⟩
abbrev main_v185 : Ref sig .tc := ⟨.hbm, 220, rfl⟩
abbrev main_v186 : Ref sig .tc := ⟨.hbm, 221, rfl⟩
abbrev main_v187 : Ref sig .tc := ⟨.hbm, 222, rfl⟩
abbrev main_v188 : Ref sig .tc := ⟨.hbm, 223, rfl⟩
abbrev main_v189 : Ref sig .tc := ⟨.hbm, 224, rfl⟩
abbrev main_v190 : Ref sig .tc := ⟨.hbm, 225, rfl⟩
abbrev main_v191 : Ref sig .tc := ⟨.hbm, 226, rfl⟩
abbrev main_v192 : Ref sig .tc := ⟨.hbm, 227, rfl⟩
abbrev main_v193 : Ref sig .tc := ⟨.hbm, 228, rfl⟩
abbrev main_v194 : Ref sig .tc := ⟨.hbm, 229, rfl⟩
abbrev main_v195 : Ref sig .tc := ⟨.hbm, 230, rfl⟩
abbrev main_v196 : Ref sig .tc := ⟨.hbm, 231, rfl⟩
abbrev main_v197 : Ref sig .tc := ⟨.hbm, 232, rfl⟩
abbrev main_v198 : Ref sig .tc := ⟨.hbm, 233, rfl⟩
abbrev main_v199 : Ref sig .tc := ⟨.hbm, 234, rfl⟩
abbrev main_v200 : Ref sig .tc := ⟨.hbm, 235, rfl⟩
abbrev main_v201 : Ref sig .tc := ⟨.hbm, 236, rfl⟩
abbrev main_v202 : Ref sig .tc := ⟨.hbm, 237, rfl⟩
abbrev main_v203 : Ref sig .tc := ⟨.hbm, 238, rfl⟩
abbrev main_v204 : Ref sig .tc := ⟨.hbm, 239, rfl⟩
abbrev main_v205 : Ref sig .tc := ⟨.hbm, 240, rfl⟩
abbrev main_v206 : Ref sig .tc := ⟨.hbm, 241, rfl⟩
abbrev main_v207 : Ref sig .tc := ⟨.hbm, 242, rfl⟩
abbrev main_v208 : Ref sig .tc := ⟨.hbm, 243, rfl⟩
abbrev main_v209 : Ref sig .tc := ⟨.hbm, 244, rfl⟩
abbrev main_v210 : Ref sig .tc := ⟨.hbm, 245, rfl⟩
abbrev main_v211 : Ref sig .tc := ⟨.hbm, 246, rfl⟩
abbrev main_v212 : Ref sig .tc := ⟨.hbm, 247, rfl⟩
abbrev main_v213 : Ref sig .tc := ⟨.hbm, 248, rfl⟩
abbrev main_v214 : Ref sig .tc := ⟨.hbm, 249, rfl⟩
abbrev main_v215 : Ref sig .tc := ⟨.hbm, 250, rfl⟩
abbrev main_v216 : Ref sig .tc := ⟨.hbm, 251, rfl⟩
abbrev main_v217 : Ref sig .tc := ⟨.hbm, 252, rfl⟩
abbrev main_v218 : Ref sig .tc := ⟨.hbm, 253, rfl⟩
abbrev main_v219 : Ref sig .tc := ⟨.hbm, 254, rfl⟩
abbrev main_v220 : Ref sig .tc := ⟨.hbm, 255, rfl⟩
abbrev main_v221 : Ref sig .tc := ⟨.hbm, 256, rfl⟩
abbrev main_v222 : Ref sig .tc := ⟨.hbm, 257, rfl⟩
abbrev main_v223 : Ref sig .tc := ⟨.hbm, 258, rfl⟩
abbrev main_v224 : Ref sig .tc := ⟨.hbm, 259, rfl⟩
abbrev main_v225 : Ref sig .tc := ⟨.hbm, 260, rfl⟩
abbrev main_v226 : Ref sig .tc := ⟨.hbm, 261, rfl⟩
abbrev main_v227 : Ref sig .tc := ⟨.hbm, 262, rfl⟩
abbrev main_v228 : Ref sig .tc := ⟨.hbm, 263, rfl⟩
abbrev main_v229 : Ref sig .tc := ⟨.hbm, 264, rfl⟩
abbrev main_v230 : Ref sig .tc := ⟨.hbm, 265, rfl⟩
abbrev main_v231 : Ref sig .tc := ⟨.hbm, 266, rfl⟩
abbrev main_v232 : Ref sig .tc := ⟨.hbm, 267, rfl⟩
abbrev main_v233 : Ref sig .tc := ⟨.hbm, 268, rfl⟩
abbrev main_v234 : Ref sig .tc := ⟨.hbm, 269, rfl⟩
abbrev main_v235 : Ref sig .tc := ⟨.hbm, 270, rfl⟩
abbrev main_v236 : Ref sig .tc := ⟨.hbm, 271, rfl⟩
abbrev main_v237 : Ref sig .tc := ⟨.hbm, 272, rfl⟩
abbrev main_v238 : Ref sig .tc := ⟨.hbm, 273, rfl⟩
abbrev main_v239 : Ref sig .tc := ⟨.hbm, 274, rfl⟩
abbrev main_call10_v0 : Ref sig .tc := ⟨.hbm, 275, rfl⟩
abbrev main_call10_v1 : Ref sig .tc := ⟨.hbm, 276, rfl⟩
abbrev main_call10_cst : Ref sig .tc := ⟨.hbm, 277, rfl⟩
abbrev main_call10_v2 : Ref sig .tc := ⟨.hbm, 278, rfl⟩
abbrev main_call10_v3 : Ref sig .tc := ⟨.hbm, 279, rfl⟩
abbrev main_call10_cst_0 : Ref sig .tc := ⟨.hbm, 280, rfl⟩
abbrev main_call10_v4 : Ref sig .tc := ⟨.hbm, 281, rfl⟩
abbrev main_call10_v5 : Ref sig .tc := ⟨.hbm, 282, rfl⟩
abbrev main_v240 : Ref sig .tc := ⟨.hbm, 283, rfl⟩
abbrev main_v241 : Ref sig .tc := ⟨.hbm, 284, rfl⟩
abbrev main_v242 : Ref sig .tc := ⟨.hbm, 285, rfl⟩
abbrev main_v243 : Ref sig .tc := ⟨.hbm, 286, rfl⟩
abbrev main_cst_1 : Ref sig .tc := ⟨.hbm, 287, rfl⟩
abbrev main_v244 : Ref sig .tc := ⟨.hbm, 288, rfl⟩
abbrev main_v245 : Ref sig .tc := ⟨.hbm, 289, rfl⟩
abbrev main_v246 : Ref sig .tc := ⟨.hbm, 290, rfl⟩

abbrev nD : Nat := 1
abbrev τ : Topo := Topo.v7x

variable {F : FTy → Type} [FloatOps F]
-- ==== Kernel2.lean ====
abbrev S8192x2048 : Shape := ⟨2, ![8192, 2048]⟩
abbrev S2048 : Shape := ⟨1, ![2048]⟩
abbrev S2048x5632 : Shape := ⟨2, ![2048, 5632]⟩
abbrev S5632x2048 : Shape := ⟨2, ![5632, 2048]⟩
abbrev S4x2x2048x5632 : Shape := ⟨4, ![4, 2, 2048, 5632]⟩
abbrev S4x2x5632x2048 : Shape := ⟨4, ![4, 2, 5632, 2048]⟩
abbrev S1x2048 : Shape := ⟨2, ![1, 2048]⟩
abbrev S1024x2048 : Shape := ⟨2, ![1024, 2048]⟩
abbrev S2048x512 : Shape := ⟨2, ![2048, 512]⟩
abbrev S512x2048 : Shape := ⟨2, ![512, 2048]⟩
abbrev S1x1x256x512 : Shape := ⟨4, ![1, 1, 256, 512]⟩
abbrev S1x1x64x2048 : Shape := ⟨4, ![1, 1, 64, 2048]⟩
abbrev S256x512 : Shape := ⟨2, ![256, 512]⟩
abbrev S64x2048 : Shape := ⟨2, ![64, 2048]⟩
abbrev S1024 : Shape := ⟨1, ![1024]⟩
abbrev S1024x1 : Shape := ⟨2, ![1024, 1]⟩
abbrev S1024x512 : Shape := ⟨2, ![1024, 512]⟩

abbrev nBuf : Space → Nat
  | .hbm => 13
  | .vmem => 24
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x5632, .bf16⟩
  | .hbm, ⟨3, _⟩ => ⟨S2048x5632, .bf16⟩
  | .hbm, ⟨4, _⟩ => ⟨S5632x2048, .bf16⟩
  | .hbm, ⟨5, _⟩ => ⟨S4x2x2048x5632, .f32⟩
  | .hbm, ⟨6, _⟩ => ⟨S4x2x2048x5632, .f32⟩
  | .hbm, ⟨7, _⟩ => ⟨S4x2x5632x2048, .f32⟩
  | .hbm, ⟨8, _⟩ => ⟨S1x2048, .f32⟩
  | .hbm, ⟨9, _⟩ => ⟨S8192x2048, .f32⟩
  | .hbm, ⟨10, _⟩ => ⟨S2048x5632, .bf16⟩
  | .hbm, ⟨11, _⟩ => ⟨S2048x5632, .bf16⟩
  | .hbm, ⟨12, _⟩ => ⟨S5632x2048, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S1x1x256x512, .f32⟩
  | .local _ .vmem, ⟨10, _⟩ => ⟨S1x1x256x512, .f32⟩
  | .local _ .vmem, ⟨11, _⟩ => ⟨S1x1x256x512, .f32⟩
  | .local _ .vmem, ⟨12, _⟩ => ⟨S1x1x256x512, .f32⟩
  | .local _ .vmem, ⟨13, _⟩ => ⟨S1x1x64x2048, .f32⟩
  | .local _ .vmem, ⟨14, _⟩ => ⟨S1x1x64x2048, .f32⟩
  | .local _ .vmem, ⟨15, _⟩ => ⟨S1024x2048, .f32⟩
  | .local _ .vmem, ⟨16, _⟩ => ⟨S1024x2048, .f32⟩
  | .local _ .vmem, ⟨17, _⟩ => ⟨S256x512, .bf16⟩
  | .local _ .vmem, ⟨18, _⟩ => ⟨S256x512, .bf16⟩
  | .local _ .vmem, ⟨19, _⟩ => ⟨S256x512, .bf16⟩
  | .local _ .vmem, ⟨20, _⟩ => ⟨S256x512, .bf16⟩
  | .local _ .vmem, ⟨21, _⟩ => ⟨S64x2048, .bf16⟩
  | .local _ .vmem, ⟨22, _⟩ => ⟨S64x2048, .bf16⟩
  | .local _ .vmem, ⟨23, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨2, ![8, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 4 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c87_i32 : BitVec 32 := 87#32
  let v2 : BitVec 32 := Scalar.minsi v1 c87_i32
  let c11_i32_0 : BitVec 32 := 11#32
  let v3 : BitVec 32 := Scalar.divsi v2 c11_i32_0
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c11_i32_0 c0_i32_2
  let v10 : BitVec 32 := Scalar.extui v9
  let c0_i32_3 : BitVec 32 := 0#32
  let v11 : BitVec 1 := Scalar.cmpi .slt c11_i32_0 c0_i32_3
  let v12 : BitVec 32 := Scalar.extui v11
  let v13 : BitVec 32 := Scalar.subi v10 v12
  let v14 : BitVec 1 := Scalar.cmpi .ne v8 v13
  let v15 : BitVec 32 := Scalar.remsi v2 c11_i32_0
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c11_i32_5 : BitVec 32 := 11#32
  let c0_i32_6 : BitVec 32 := 0#32
  let v20 : BitVec 1 := Scalar.cmpi .eq c11_i32_5 c0_i32_6
  let c1_i32_7 : BitVec 32 := 1#32
  let v21 : BitVec 32 := Scalar.select v20 c1_i32_7 c11_i32_5
  let v22 : BitVec 32 := Scalar.remsi v2 v21
  let c0_i32_8 : BitVec 32 := 0#32
  let v23 : BitVec 1 := Scalar.cmpi .ne v22 c0_i32_8
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let v27 : BitVec 1 := Scalar.andi v26 v23
  let v28 : BitVec 32 := Scalar.addi v22 v21
  let v29 : BitVec 32 := Scalar.select v27 v28 v22
  let c1_i32_11 : BitVec 32 := 1#32
  let c0_i32_12 : BitVec 32 := 0#32
  let c0_i32_13 : BitVec 32 := 0#32
  ![c1_i32_11.toNat, c0_i32_12.toNat, v19.toNat, v29.toNat]

def cc0_transform_6 (i : grid0.Coords) : Fin 4 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c87_i32 : BitVec 32 := 87#32
  let v2 : BitVec 32 := Scalar.minsi v1 c87_i32
  let c11_i32_0 : BitVec 32 := 11#32
  let v3 : BitVec 32 := Scalar.divsi v2 c11_i32_0
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c11_i32_0 c0_i32_2
  let v10 : BitVec 32 := Scalar.extui v9
  let c0_i32_3 : BitVec 32 := 0#32
  let v11 : BitVec 1 := Scalar.cmpi .slt c11_i32_0 c0_i32_3
  let v12 : BitVec 32 := Scalar.extui v11
  let v13 : BitVec 32 := Scalar.subi v10 v12
  let v14 : BitVec 1 := Scalar.cmpi .ne v8 v13
  let v15 : BitVec 32 := Scalar.remsi v2 c11_i32_0
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c11_i32_5 : BitVec 32 := 11#32
  let c0_i32_6 : BitVec 32 := 0#32
  let v20 : BitVec 1 := Scalar.cmpi .eq c11_i32_5 c0_i32_6
  let c1_i32_7 : BitVec 32 := 1#32
  let v21 : BitVec 32 := Scalar.select v20 c1_i32_7 c11_i32_5
  let v22 : BitVec 32 := Scalar.remsi v2 v21
  let c0_i32_8 : BitVec 32 := 0#32
  let v23 : BitVec 1 := Scalar.cmpi .ne v22 c0_i32_8
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let v27 : BitVec 1 := Scalar.andi v26 v23
  let v28 : BitVec 32 := Scalar.addi v22 v21
  let v29 : BitVec 32 := Scalar.select v27 v28 v22
  let c1_i32_11 : BitVec 32 := 1#32
  let c0_i32_12 : BitVec 32 := 0#32
  let c0_i32_13 : BitVec 32 := 0#32
  ![c1_i32_11.toNat, c0_i32_12.toNat, v19.toNat, v29.toNat]

def cc0_transform_7 (i : grid0.Coords) : Fin 4 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c87_i32 : BitVec 32 := 87#32
  let v2 : BitVec 32 := Scalar.minsi v1 c87_i32
  let c1_i32 : BitVec 32 := 1#32
  let v3 : BitVec 32 := Scalar.divsi v2 c1_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c0_i32_1 : BitVec 32 := 0#32
  let v9 : BitVec 1 := Scalar.cmpi .sgt c1_i32 c0_i32_1
  let v10 : BitVec 32 := Scalar.extui v9
  let c0_i32_2 : BitVec 32 := 0#32
  let v11 : BitVec 1 := Scalar.cmpi .slt c1_i32 c0_i32_2
  let v12 : BitVec 32 := Scalar.extui v11
  let v13 : BitVec 32 := Scalar.subi v10 v12
  let v14 : BitVec 1 := Scalar.cmpi .ne v8 v13
  let v15 : BitVec 32 := Scalar.remsi v2 c1_i32
  let c0_i32_3 : BitVec 32 := 0#32
  let v16 : BitVec 1 := Scalar.cmpi .ne v15 c0_i32_3
  let v17 : BitVec 1 := Scalar.andi v14 v16
  let c1_i32_4 : BitVec 32 := 1#32
  let v18 : BitVec 32 := Scalar.subi v3 c1_i32_4
  let v19 : BitVec 32 := Scalar.select v17 v18 v3
  let c1_i32_5 : BitVec 32 := 1#32
  let c0_i32_6 : BitVec 32 := 0#32
  let v20 : BitVec 1 := Scalar.cmpi .eq c1_i32_5 c0_i32_6
  let c1_i32_7 : BitVec 32 := 1#32
  let v21 : BitVec 32 := Scalar.select v20 c1_i32_7 c1_i32_5
  let v22 : BitVec 32 := Scalar.remsi v2 v21
  let c0_i32_8 : BitVec 32 := 0#32
  let v23 : BitVec 1 := Scalar.cmpi .ne v22 c0_i32_8
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let v27 : BitVec 1 := Scalar.andi v26 v23
  let v28 : BitVec 32 := Scalar.addi v22 v21
  let v29 : BitVec 32 := Scalar.select v27 v28 v22
  let c1_i32_11 : BitVec 32 := 1#32
  let c0_i32_12 : BitVec 32 := 0#32
  let c0_i32_13 : BitVec 32 := 0#32
  ![c1_i32_11.toNat, c0_i32_12.toNat, v19.toNat, v29.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c87_i32 : BitVec 32 := 87#32
  let v2 : BitVec 32 := Scalar.minsi v1 c87_i32
  let c11_i32_0 : BitVec 32 := 11#32
  let v3 : BitVec 32 := Scalar.divsi v2 c11_i32_0
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c11_i32_0 c0_i32_2
  let v10 : BitVec 32 := Scalar.extui v9
  let c0_i32_3 : BitVec 32 := 0#32
  let v11 : BitVec 1 := Scalar.cmpi .slt c11_i32_0 c0_i32_3
  let v12 : BitVec 32 := Scalar.extui v11
  let v13 : BitVec 32 := Scalar.subi v10 v12
  let v14 : BitVec 1 := Scalar.cmpi .ne v8 v13
  let v15 : BitVec 32 := Scalar.remsi v2 c11_i32_0
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c11_i32_5 : BitVec 32 := 11#32
  let c0_i32_6 : BitVec 32 := 0#32
  let v20 : BitVec 1 := Scalar.cmpi .eq c11_i32_5 c0_i32_6
  let c1_i32_7 : BitVec 32 := 1#32
  let v21 : BitVec 32 := Scalar.select v20 c1_i32_7 c11_i32_5
  let v22 : BitVec 32 := Scalar.remsi v2 v21
  let c0_i32_8 : BitVec 32 := 0#32
  let v23 : BitVec 1 := Scalar.cmpi .ne v22 c0_i32_8
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let v27 : BitVec 1 := Scalar.andi v26 v23
  let v28 : BitVec 32 := Scalar.addi v22 v21
  let v29 : BitVec 32 := Scalar.select v27 v28 v22
  let c0_i32_11 : BitVec 32 := 0#32
  ![v19.toNat, v29.toNat]

def cc0_transform_10 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c87_i32 : BitVec 32 := 87#32
  let v2 : BitVec 32 := Scalar.minsi v1 c87_i32
  let c11_i32_0 : BitVec 32 := 11#32
  let v3 : BitVec 32 := Scalar.divsi v2 c11_i32_0
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c11_i32_0 c0_i32_2
  let v10 : BitVec 32 := Scalar.extui v9
  let c0_i32_3 : BitVec 32 := 0#32
  let v11 : BitVec 1 := Scalar.cmpi .slt c11_i32_0 c0_i32_3
  let v12 : BitVec 32 := Scalar.extui v11
  let v13 : BitVec 32 := Scalar.subi v10 v12
  let v14 : BitVec 1 := Scalar.cmpi .ne v8 v13
  let v15 : BitVec 32 := Scalar.remsi v2 c11_i32_0
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c11_i32_5 : BitVec 32 := 11#32
  let c0_i32_6 : BitVec 32 := 0#32
  let v20 : BitVec 1 := Scalar.cmpi .eq c11_i32_5 c0_i32_6
  let c1_i32_7 : BitVec 32 := 1#32
  let v21 : BitVec 32 := Scalar.select v20 c1_i32_7 c11_i32_5
  let v22 : BitVec 32 := Scalar.remsi v2 v21
  let c0_i32_8 : BitVec 32 := 0#32
  let v23 : BitVec 1 := Scalar.cmpi .ne v22 c0_i32_8
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let v27 : BitVec 1 := Scalar.andi v26 v23
  let v28 : BitVec 32 := Scalar.addi v22 v21
  let v29 : BitVec 32 := Scalar.select v27 v28 v22
  let c0_i32_11 : BitVec 32 := 0#32
  ![v19.toNat, v29.toNat]

def cc0_transform_11 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c87_i32 : BitVec 32 := 87#32
  let v2 : BitVec 32 := Scalar.minsi v1 c87_i32
  let c1_i32 : BitVec 32 := 1#32
  let v3 : BitVec 32 := Scalar.divsi v2 c1_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c0_i32_1 : BitVec 32 := 0#32
  let v9 : BitVec 1 := Scalar.cmpi .sgt c1_i32 c0_i32_1
  let v10 : BitVec 32 := Scalar.extui v9
  let c0_i32_2 : BitVec 32 := 0#32
  let v11 : BitVec 1 := Scalar.cmpi .slt c1_i32 c0_i32_2
  let v12 : BitVec 32 := Scalar.extui v11
  let v13 : BitVec 32 := Scalar.subi v10 v12
  let v14 : BitVec 1 := Scalar.cmpi .ne v8 v13
  let v15 : BitVec 32 := Scalar.remsi v2 c1_i32
  let c0_i32_3 : BitVec 32 := 0#32
  let v16 : BitVec 1 := Scalar.cmpi .ne v15 c0_i32_3
  let v17 : BitVec 1 := Scalar.andi v14 v16
  let c1_i32_4 : BitVec 32 := 1#32
  let v18 : BitVec 32 := Scalar.subi v3 c1_i32_4
  let v19 : BitVec 32 := Scalar.select v17 v18 v3
  let c1_i32_5 : BitVec 32 := 1#32
  let c0_i32_6 : BitVec 32 := 0#32
  let v20 : BitVec 1 := Scalar.cmpi .eq c1_i32_5 c0_i32_6
  let c1_i32_7 : BitVec 32 := 1#32
  let v21 : BitVec 32 := Scalar.select v20 c1_i32_7 c1_i32_5
  let v22 : BitVec 32 := Scalar.remsi v2 v21
  let c0_i32_8 : BitVec 32 := 0#32
  let v23 : BitVec 1 := Scalar.cmpi .ne v22 c0_i32_8
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let v27 : BitVec 1 := Scalar.andi v26 v23
  let v28 : BitVec 32 := Scalar.addi v22 v21
  let v29 : BitVec 32 := Scalar.select v27 v28 v22
  let c0_i32_11 : BitVec 32 := 0#32
  ![v19.toNat, v29.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S64x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference2Ideal.lean ====
abbrev S8192x2048 : Shape := ⟨2, ![8192, 2048]⟩
abbrev S2048 : Shape := ⟨1, ![2048]⟩
abbrev S2048x5632 : Shape := ⟨2, ![2048, 5632]⟩
abbrev S5632x2048 : Shape := ⟨2, ![5632, 2048]⟩
abbrev S4x2x2048x5632 : Shape := ⟨4, ![4, 2, 2048, 5632]⟩
abbrev S4x2x5632x2048 : Shape := ⟨4, ![4, 2, 5632, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x5632 : Shape := ⟨2, ![8192, 5632]⟩
abbrev S1x1x2048x5632 : Shape := ⟨4, ![1, 1, 2048, 5632]⟩
abbrev S1x1x5632x2048 : Shape := ⟨4, ![1, 1, 5632, 2048]⟩

abbrev nBuf : Space → Nat
  | .hbm => 53
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x5632, .bf16⟩
  | .hbm, ⟨3, _⟩ => ⟨S2048x5632, .bf16⟩
  | .hbm, ⟨4, _⟩ => ⟨S5632x2048, .bf16⟩
  | .hbm, ⟨5, _⟩ => ⟨S4x2x2048x5632, .f32⟩
  | .hbm, ⟨6, _⟩ => ⟨S4x2x2048x5632, .f32⟩
  | .hbm, ⟨7, _⟩ => ⟨S4x2x5632x2048, .f32⟩
  | .hbm, ⟨8, _⟩ => ⟨S8192x2048, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S1x2048, .f32⟩
  | .hbm, ⟨22, _⟩ => ⟨S8192x2048, .f32⟩
  | .hbm, ⟨23, _⟩ => ⟨S8192x2048, .f32⟩
  | .hbm, ⟨24, _⟩ => ⟨S2048x5632, .f32⟩
  | .hbm, ⟨25, _⟩ => ⟨S2048x5632, .f32⟩
  | .hbm, ⟨26, _⟩ => ⟨S5632x2048, .f32⟩
  | .hbm, ⟨27, _⟩ => ⟨S8192x5632, .f32⟩
  | .hbm, ⟨28, _⟩ => ⟨S8192x5632, .f32⟩
  | .hbm, ⟨29, _⟩ => ⟨S8192x5632, .f32⟩
  | .hbm, ⟨30, _⟩ => ⟨S_, .f32⟩
  | .hbm, ⟨31, _⟩ => ⟨S8192x5632, .f32⟩
  | .hbm, ⟨32, _⟩ => ⟨S8192x5632, .f32⟩
  | .hbm, ⟨33, _⟩ => ⟨S_, .f32⟩
  | .hbm, ⟨34, _⟩ => ⟨S8192x5632, .f32⟩
  | .hbm, ⟨35, _⟩ => ⟨S8192x5632, .f32⟩
  | .hbm, ⟨36, _⟩ => ⟨S8192x5632, .f32⟩
  | .hbm, ⟨37, _⟩ => ⟨S8192x5632, .f32⟩
  | .hbm, ⟨38, _⟩ => ⟨S8192x5632, .f32⟩
  | .hbm, ⟨39, _⟩ => ⟨S8192x2048, .f32⟩
  | .hbm, ⟨40, _⟩ => ⟨S_, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S1x1x2048x5632, .f32⟩
  | .hbm, ⟨45, _⟩ => ⟨S2048x5632, .f32⟩
  | .hbm, ⟨46, _⟩ => ⟨S2048x5632, .bf16⟩
  | .hbm, ⟨47, _⟩ => ⟨S1x1x2048x5632, .f32⟩
  | .hbm, ⟨48, _⟩ => ⟨S2048x5632, .f32⟩
  | .hbm, ⟨49, _⟩ => ⟨S2048x5632, .bf16⟩
  | .hbm, ⟨50, _⟩ => ⟨S1x1x5632x2048, .f32⟩
  | .hbm, ⟨51, _⟩ => ⟨S5632x2048, .f32⟩
  | .hbm, ⟨52, _⟩ => ⟨S5632x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_2 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩

abbrev nD : Nat := 1
abbrev τ : Topo := Topo.v7x

variable {F : FTy → Type} [FloatOps F]
-- ==== Kernel3.lean ====
abbrev S8192x2048 : Shape := ⟨2, ![8192, 2048]⟩
abbrev S2048 : Shape := ⟨1, ![2048]⟩
abbrev S2048x10368 : Shape := ⟨2, ![2048, 10368]⟩
abbrev S2x4096x2048 : Shape := ⟨3, ![2, 4096, 2048]⟩
abbrev S1x2048 : Shape := ⟨2, ![1, 2048]⟩
abbrev S8192x10240 : Shape := ⟨2, ![8192, 10240]⟩
abbrev S4096x2048 : Shape := ⟨2, ![4096, 2048]⟩
abbrev S1024x2048 : Shape := ⟨2, ![1024, 2048]⟩
abbrev S2048x1024 : Shape := ⟨2, ![2048, 1024]⟩
abbrev S1x64x2048 : Shape := ⟨3, ![1, 64, 2048]⟩
abbrev S1024x1024 : Shape := ⟨2, ![1024, 1024]⟩
abbrev S64x2048 : Shape := ⟨2, ![64, 2048]⟩
abbrev S1024 : Shape := ⟨1, ![1024]⟩
abbrev S1024x1 : Shape := ⟨2, ![1024, 1]⟩

abbrev nBuf : Space → Nat
  | .hbm => 7
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x10368, .bf16⟩
  | .hbm, ⟨3, _⟩ => ⟨S2x4096x2048, .f32⟩
  | .hbm, ⟨4, _⟩ => ⟨S1x2048, .f32⟩
  | .hbm, ⟨5, _⟩ => ⟨S8192x10240, .bf16⟩
  | .hbm, ⟨6, _⟩ => ⟨S4096x2048, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1x64x2048, .f32⟩
  | .local _ .vmem, ⟨6, _⟩ => ⟨S1x64x2048, .f32⟩
  | .local _ .vmem, ⟨7, _⟩ => ⟨S1024x1024, .bf16⟩
  | .local _ .vmem, ⟨8, _⟩ => ⟨S1024x1024, .bf16⟩
  | .local _ .vmem, ⟨9, _⟩ => ⟨S64x2048, .bf16⟩
  | .local _ .vmem, ⟨10, _⟩ => ⟨S64x2048, .bf16⟩
  | .local _ .vmem, ⟨11, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 10], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c63_i32 : BitVec 32 := 63#32
  let v2 : BitVec 32 := Scalar.minsi v1 c63_i32
  let c1_i32 : BitVec 32 := 1#32
  let v3 : BitVec 32 := Scalar.divsi v2 c1_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c0_i32_1 : BitVec 32 := 0#32
  let v9 : BitVec 1 := Scalar.cmpi .sgt c1_i32 c0_i32_1
  let v10 : BitVec 32 := Scalar.extui v9
  let c0_i32_2 : BitVec 32 := 0#32
  let v11 : BitVec 1 := Scalar.cmpi .slt c1_i32 c0_i32_2
  let v12 : BitVec 32 := Scalar.extui v11
  let v13 : BitVec 32 := Scalar.subi v10 v12
  let v14 : BitVec 1 := Scalar.cmpi .ne v8 v13
  let v15 : BitVec 32 := Scalar.remsi v2 c1_i32
  let c0_i32_3 : BitVec 32 := 0#32
  let v16 : BitVec 1 := Scalar.cmpi .ne v15 c0_i32_3
  let v17 : BitVec 1 := Scalar.andi v14 v16
  let c1_i32_4 : BitVec 32 := 1#32
  let v18 : BitVec 32 := Scalar.subi v3 c1_i32_4
  let v19 : BitVec 32 := Scalar.select v17 v18 v3
  let c1_i32_5 : BitVec 32 := 1#32
  let c0_i32_6 : BitVec 32 := 0#32
  let v20 : BitVec 1 := Scalar.cmpi .eq c1_i32_5 c0_i32_6
  let c1_i32_7 : BitVec 32 := 1#32
  let v21 : BitVec 32 := Scalar.select v20 c1_i32_7 c1_i32_5
  let v22 : BitVec 32 := Scalar.remsi v2 v21
  let c0_i32_8 : BitVec 32 := 0#32
  let v23 : BitVec 1 := Scalar.cmpi .ne v22 c0_i32_8
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let v27 : BitVec 1 := Scalar.andi v26 v23
  let v28 : BitVec 32 := Scalar.addi v22 v21
  let v29 : BitVec 32 := Scalar.select v27 v28 v22
  let c0_i32_11 : BitVec 32 := 0#32
  let c0_i32_12 : BitVec 32 := 0#32
  ![c0_i32_11.toNat, v19.toNat, v29.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c63_i32 : BitVec 32 := 63#32
  let v2 : BitVec 32 := Scalar.minsi v1 c63_i32
  let c1_i32 : BitVec 32 := 1#32
  let v3 : BitVec 32 := Scalar.divsi v2 c1_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c0_i32_1 : BitVec 32 := 0#32
  let v9 : BitVec 1 := Scalar.cmpi .sgt c1_i32 c0_i32_1
  let v10 : BitVec 32 := Scalar.extui v9
  let c0_i32_2 : BitVec 32 := 0#32
  let v11 : BitVec 1 := Scalar.cmpi .slt c1_i32 c0_i32_2
  let v12 : BitVec 32 := Scalar.extui v11
  let v13 : BitVec 32 := Scalar.subi v10 v12
  let v14 : BitVec 1 := Scalar.cmpi .ne v8 v13
  let v15 : BitVec 32 := Scalar.remsi v2 c1_i32
  let c0_i32_3 : BitVec 32 := 0#32
  let v16 : BitVec 1 := Scalar.cmpi .ne v15 c0_i32_3
  let v17 : BitVec 1 := Scalar.andi v14 v16
  let c1_i32_4 : BitVec 32 := 1#32
  let v18 : BitVec 32 := Scalar.subi v3 c1_i32_4
  let v19 : BitVec 32 := Scalar.select v17 v18 v3
  let c1_i32_5 : BitVec 32 := 1#32
  let c0_i32_6 : BitVec 32 := 0#32
  let v20 : BitVec 1 := Scalar.cmpi .eq c1_i32_5 c0_i32_6
  let c1_i32_7 : BitVec 32 := 1#32
  let v21 : BitVec 32 := Scalar.select v20 c1_i32_7 c1_i32_5
  let v22 : BitVec 32 := Scalar.remsi v2 v21
  let c0_i32_8 : BitVec 32 := 0#32
  let v23 : BitVec 1 := Scalar.cmpi .ne v22 c0_i32_8
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let v27 : BitVec 1 := Scalar.andi v26 v23
  let v28 : BitVec 32 := Scalar.addi v22 v21
  let v29 : BitVec 32 := Scalar.select v27 v28 v22
  let c0_i32_11 : BitVec 32 := 0#32
  ![v19.toNat, v29.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference3Ideal.lean ====
abbrev S8192x2048 : Shape := ⟨2, ![8192, 2048]⟩
abbrev S2048 : Shape := ⟨1, ![2048]⟩
abbrev S2048x10368 : Shape := ⟨2, ![2048, 10368]⟩
abbrev S2x4096x2048 : Shape := ⟨3, ![2, 4096, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S2048x10240 : Shape := ⟨2, ![2048, 10240]⟩
abbrev S8192x10240 : Shape := ⟨2, ![8192, 10240]⟩
abbrev S1x4096x2048 : Shape := ⟨3, ![1, 4096, 2048]⟩
abbrev S4096x2048 : Shape := ⟨2, ![4096, 2048]⟩

abbrev nBuf : Space → Nat
  | .hbm => 27
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x10368, .bf16⟩
  | .hbm, ⟨3, _⟩ => ⟨S2x4096x2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x2048, .f32⟩
  | .hbm, ⟨16, _⟩ => ⟨S8192x2048, .f32⟩
  | .hbm, ⟨17, _⟩ => ⟨S1x2048, .f32⟩
  | .hbm, ⟨18, _⟩ => ⟨S8192x2048, .f32⟩
  | .hbm, ⟨19, _⟩ => ⟨S8192x2048, .f32⟩
  | .hbm, ⟨20, _⟩ => ⟨S2048x10240, .bf16⟩
  | .hbm, ⟨21, _⟩ => ⟨S2048x10240, .f32⟩
  | .hbm, ⟨22, _⟩ => ⟨S8192x10240, .f32⟩
  | .hbm, ⟨23, _⟩ => ⟨S8192x10240, .bf16⟩
  | .hbm, ⟨24, _⟩ => ⟨S1x4096x2048, .f32⟩
  | .hbm, ⟨25, _⟩ => ⟨S4096x2048, .f32⟩
  | .hbm, ⟨26, _⟩ => ⟨S4096x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Kernel4.lean ====
abbrev S8192x2048 : Shape := ⟨2, ![8192, 2048]⟩
abbrev S2048x2048 : Shape := ⟨2, ![2048, 2048]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S8192x2048 : Shape := ⟨2, ![8192, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S8192x2048, .f32⟩
  | .hbm, ⟨4, _⟩ => ⟨S2048x2048, .f32⟩
  | .hbm, ⟨5, _⟩ => ⟨S8192x2048, .f32⟩
  | .hbm, ⟨6, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel5.lean ====
abbrev S8192x4096 : Shape := ⟨2, ![8192, 4096]⟩
abbrev S8192x1024 : Shape := ⟨2, ![8192, 1024]⟩
abbrev S4096 : Shape := ⟨1, ![4096]⟩
abbrev S4096x2048 : Shape := ⟨2, ![4096, 2048]⟩
abbrev S8192x2048 : Shape := ⟨2, ![8192, 2048]⟩
abbrev S1x4096 : Shape := ⟨2, ![1, 4096]⟩
abbrev S1024x4096 : Shape := ⟨2, ![1024, 4096]⟩
abbrev S1024x1024 : Shape := ⟨2, ![1024, 1024]⟩
abbrev S4096x512 : Shape := ⟨2, ![4096, 512]⟩
abbrev S1024x512 : Shape := ⟨2, ![1024, 512]⟩
abbrev S128x1024 : Shape := ⟨2, ![128, 1024]⟩
abbrev S128 : Shape := ⟨1, ![128]⟩
abbrev S128x1 : Shape := ⟨2, ![128, 1]⟩
abbrev S128x4096 : Shape := ⟨2, ![128, 4096]⟩

abbrev nBuf : Space → Nat
  | .hbm => 7
  | .vmem => 12
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .f32⟩
  | .hbm, ⟨2, _⟩ => ⟨S4096, .f32⟩
  | .hbm, ⟨3, _⟩ => ⟨S4096x2048, .bf16⟩
  | .hbm, ⟨4, _⟩ => ⟨S8192x2048, .f32⟩
  | .hbm, ⟨5, _⟩ => ⟨S1x4096, .f32⟩
  | .hbm, ⟨6, _⟩ => ⟨S8192x2048, .f32⟩
  | .local _ .vmem, ⟨0, _⟩ => ⟨S1024x4096, .bf16⟩
  | .local _ .vmem, ⟨1, _⟩ => ⟨S1024x4096, .bf16⟩
  | .local _ .vmem, ⟨2, _⟩ => ⟨S1024x1024, .f32⟩
  | .local _ .vmem, ⟨3, _⟩ => ⟨S1024x1024, .f32⟩
  | .local _ .vmem, ⟨4, _⟩ => ⟨S1x4096, .f32⟩
  | .local _ .vmem, ⟨5, _⟩ => ⟨S4096x512, .bf16⟩
  | .local _ .vmem, ⟨6, _⟩ => ⟨S4096x512, .bf16⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x4096, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_8 : BitVec 32 := 0#32
  let c8_i32 : BitVec 32 := 8#32
  let v9 : BitVec 32 := Scalar.addi c0_i32_8 c8_i32
  let c1_i32 : BitVec 32 := 1#32
  ⟨c0_i32_8, v9, c1_i32⟩
def k0_mult1 (k0_t1 : Fin k0_t1_loop.trips) : BitVec 32 :=
  let c0_i32_8 : BitVec 32 := 0#32
  let c1_i32 : BitVec 32 := 1#32
  let arg9 : BitVec 32 := Scf.iv c0_i32_8 c1_i32 k0_t1
  let c128_i32 : BitVec 32 := 128#32
  let v10 : BitVec 32 := Scalar.muli arg9 c128_i32
  v10
def k0_off1 (k0_t1 : Fin k0_t1_loop.trips) : Fin 2 → Nat :=
  let c0_i32_8 : BitVec 32 := 0#32
  let c1_i32 : BitVec 32 := 1#32
  let arg9 : BitVec 32 := Scf.iv c0_i32_8 c1_i32 k0_t1
  let c128_i32 : BitVec 32 := 128#32
  let v10 : BitVec 32 := Scalar.muli arg9 c128_i32
  let v11 : BitVec 32 := v10
  let v12 : Index := Scalar.indexCast v11
  let c0_10 : Index := 0#32
  ![v12.toNat, 0]
def k0_off2 (k0_t1 : Fin k0_t1_loop.trips) : Fin 2 → Nat :=
  let c0_i32_8 : BitVec 32 := 0#32
  let c1_i32 : BitVec 32 := 1#32
  let arg9 : BitVec 32 := Scf.iv c0_i32_8 c1_i32 k0_t1
  let c128_i32 : BitVec 32 := 128#32
  let v10 : BitVec 32 := Scalar.muli arg9 c128_i32
  let v11 : BitVec 32 := v10
  let v18 : Index := Scalar.indexCast v11
  let c0_13 : Index := 0#32
  ![v18.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference5Ideal.lean ====
abbrev S8192x4096 : Shape := ⟨2, ![8192, 4096]⟩
abbrev S8192x1024 : Shape := ⟨2, ![8192, 1024]⟩
abbrev S4096 : Shape := ⟨1, ![4096]⟩
abbrev S4096x2048 : Shape := ⟨2, ![4096, 2048]⟩
abbrev S8192x2048 : Shape := ⟨2, ![8192, 2048]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 24
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .f32⟩
  | .hbm, ⟨2, _⟩ => ⟨S4096, .f32⟩
  | .hbm, ⟨3, _⟩ => ⟨S4096x2048, .bf16⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x4096, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x4096, .f32⟩
  | .hbm, ⟨17, _⟩ => ⟨S8192x4096, .f32⟩
  | .hbm, ⟨18, _⟩ => ⟨S1x4096, .f32⟩
  | .hbm, ⟨19, _⟩ => ⟨S8192x4096, .f32⟩
  | .hbm, ⟨20, _⟩ => ⟨S8192x4096, .f32⟩
  | .hbm, ⟨21, _⟩ => ⟨S4096x2048, .f32⟩
  | .hbm, ⟨22, _⟩ => ⟨S8192x2048, .f32⟩
  | .hbm, ⟨23, _⟩ => ⟨S8192x2048, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]
-- ==== Kernel6.lean ====
abbrev S8192x2048 : Shape := ⟨2, ![8192, 2048]⟩
abbrev S2048 : Shape := ⟨1, ![2048]⟩
abbrev S2048x2048 : Shape := ⟨2, ![2048, 2048]⟩
abbrev S1x2048 : Shape := ⟨2, ![1, 2048]⟩
abbrev S1024x2048 : Shape := ⟨2, ![1024, 2048]⟩
abbrev S2048x1024 : Shape := ⟨2, ![2048, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 5
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x2048, .bf16⟩
  | .hbm, ⟨3, _⟩ => ⟨S1x2048, .f32⟩
  | .hbm, ⟨4, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1024x1024, .f32⟩
  | .local _ .vmem, ⟨6, _⟩ => ⟨S1024x1024, .f32⟩
  | .local _ .vmem, ⟨7, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S8192x2048 : Shape := ⟨2, ![8192, 2048]⟩
abbrev S2048 : Shape := ⟨1, ![2048]⟩
abbrev S2048x2048 : Shape := ⟨2, ![2048, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 21
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x2048, .bf16⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S2048x2048, .f32⟩
  | .hbm, ⟨20, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel7.lean ====
abbrev S8192x2048 : Shape := ⟨2, ![8192, 2048]⟩
abbrev S2048 : Shape := ⟨1, ![2048]⟩
abbrev S2048x128 : Shape := ⟨2, ![2048, 128]⟩
abbrev S128x2048 : Shape := ⟨2, ![128, 2048]⟩
abbrev S1x2048 : Shape := ⟨2, ![1, 2048]⟩
abbrev S128x8192 : Shape := ⟨2, ![128, 8192]⟩
abbrev S1024x2048 : Shape := ⟨2, ![1024, 2048]⟩
abbrev S128x1024 : Shape := ⟨2, ![128, 1024]⟩
abbrev S1024 : Shape := ⟨1, ![1024]⟩
abbrev S1024x1 : Shape := ⟨2, ![1024, 1]⟩

abbrev nBuf : Space → Nat
  | .hbm => 6
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x128, .bf16⟩
  | .hbm, ⟨3, _⟩ => ⟨S128x2048, .bf16⟩
  | .hbm, ⟨4, _⟩ => ⟨S1x2048, .f32⟩
  | .hbm, ⟨5, _⟩ => ⟨S128x8192, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S128x2048, .bf16⟩
  | .local _ .vmem, ⟨4, _⟩ => ⟨S128x1024, .f32⟩
  | .local _ .vmem, ⟨5, _⟩ => ⟨S128x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference7Ideal.lean ====
abbrev S8192x2048 : Shape := ⟨2, ![8192, 2048]⟩
abbrev S2048 : Shape := ⟨1, ![2048]⟩
abbrev S2048x128 : Shape := ⟨2, ![2048, 128]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x128 : Shape := ⟨2, ![8192, 128]⟩
abbrev S128x8192 : Shape := ⟨2, ![128, 8192]⟩

abbrev nBuf : Space → Nat
  | .hbm => 22
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x128, .bf16⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S2048x128, .f32⟩
  | .hbm, ⟨20, _⟩ => ⟨S8192x128, .f32⟩
  | .hbm, ⟨21, _⟩ => ⟨S128x8192, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel8.lean ====
abbrev S4x2048x2048 : Shape := ⟨3, ![4, 2048, 2048]⟩
abbrev S4x512x512 : Shape := ⟨3, ![4, 512, 512]⟩
abbrev S2048 : Shape := ⟨1, ![2048]⟩
abbrev S1x2048 : Shape := ⟨2, ![1, 2048]⟩
abbrev S1x2048x512 : Shape := ⟨3, ![1, 2048, 512]⟩
abbrev S1x512x512 : Shape := ⟨3, ![1, 512, 512]⟩
abbrev S1x512 : Shape := ⟨2, ![1, 512]⟩
abbrev S2064x512 : Shape := ⟨2, ![2064, 512]⟩
abbrev S8x512 : Shape := ⟨2, ![8, 512]⟩
abbrev S2048x512 : Shape := ⟨2, ![2048, 512]⟩
abbrev S128x1 : Shape := ⟨2, ![128, 1]⟩
abbrev S144x512 : Shape := ⟨2, ![144, 512]⟩
abbrev S128x512 : Shape := ⟨2, ![128, 512]⟩
abbrev S512x512 : Shape := ⟨2, ![512, 512]⟩
abbrev S1x128x512 : Shape := ⟨3, ![1, 128, 512]⟩

abbrev nBuf : Space → Nat
  | .hbm => 5
  | .vmem => 9
  | .smem => 0
  | _ => 0

abbrev bufTy : (tb : Table) → Fin (tcTables nBuf tb) → BufTy
  | .hbm, ⟨0, _⟩ => ⟨S4x2048x2048, .f32⟩
  | .hbm, ⟨1, _⟩ => ⟨S4x512x512, .bf16⟩
  | .hbm, ⟨2, _⟩ => ⟨S2048, .f32⟩
  | .hbm, ⟨3, _⟩ => ⟨S1x2048, .f32⟩
  | .hbm, ⟨4, _⟩ => ⟨S4x2048x2048, .bf16⟩
  | .local _ .vmem, ⟨0, _⟩ => ⟨S1x2048x512, .f32⟩
  | .local _ .vmem, ⟨1, _⟩ => ⟨S1x2048x512, .f32⟩
  | .local _ .vmem, ⟨2, _⟩ => ⟨S1x512x512, .bf16⟩
  | .local _ .vmem, ⟨3, _⟩ => ⟨S1x512x512, .bf16⟩
  | .local _ .vmem, ⟨4, _⟩ => ⟨S1x512, .f32⟩
  | .local _ .vmem, ⟨5, _⟩ => ⟨S1x512, .f32⟩
  | .local _ .vmem, ⟨6, _⟩ => ⟨S1x2048x512, .bf16⟩
  | .local _ .vmem, ⟨7, _⟩ => ⟨S1x2048x512, .bf16⟩
  | .local _ .vmem, ⟨8, _⟩ => ⟨S2064x512, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg1 : BitVec 32 := BitVec.ofNat 32 (i 1).val
  let c0_i32 : BitVec 32 := 0#32
  let v13 : BitVec 1 := Scalar.cmpi .eq arg1 c0_i32
  let v14 : BitVec 32 := Scalar.extui v13
  let c0_i32_7 : BitVec 32 := 0#32
  let v15 : BitVec 1 := Scalar.cmpi .ne v14 c0_i32_7
  v15

@[reducible] def k0_t1_loop : Scf.Loop 32 :=
  let c0_i32_11 : BitVec 32 := 0#32
  let c16_i32 : BitVec 32 := 16#32
  let v25 : BitVec 32 := Scalar.addi c0_i32_11 c16_i32
  let c1_i32_12 : BitVec 32 := 1#32
  ⟨c0_i32_11, v25, c1_i32_12⟩
def k0_mult1 (k0_t1 : Fin k0_t1_loop.trips) : BitVec 32 :=
  let c0_i32_11 : BitVec 32 := 0#32
  let c1_i32_12 : BitVec 32 := 1#32
  let arg7 : BitVec 32 := Scf.iv c0_i32_11 c1_i32_12 k0_t1
  let c128_i32 : BitVec 32 := 128#32
  let v26 : BitVec 32 := Scalar.muli arg7 c128_i32
  v26
def k0_off1 (k0_t1 : Fin k0_t1_loop.trips) : Fin 2 → Nat :=
  let c0_i32_11 : BitVec 32 := 0#32
  let c1_i32_12 : BitVec 32 := 1#32
  let arg7 : BitVec 32 := Scf.iv c0_i32_11 c1_i32_12 k0_t1
  let c128_i32 : BitVec 32 := 128#32
  let v26 : BitVec 32 := Scalar.muli arg7 c128_i32
  let v27 : BitVec 32 := v26
  let v43 : Index := Scalar.indexCast v27
  let c0_18 : Index := 0#32
  ![v43.toNat, 0]
def k0_off2 (k0_t1 : Fin k0_t1_loop.trips) : Fin 3 → Nat :=
  let c0_25 : Index := 0#32
  let c0_i32_11 : BitVec 32 := 0#32
  let c1_i32_12 : BitVec 32 := 1#32
  let arg7 : BitVec 32 := Scf.iv c0_i32_11 c1_i32_12 k0_t1
  let c128_i32 : BitVec 32 := 128#32
  let v26 : BitVec 32 := Scalar.muli arg7 c128_i32
  let v27 : BitVec 32 := v26
  let v61 : Index := Scalar.indexCast v27
  let c0_26 : Index := 0#32
  ![0, v61.toNat, 0]
def k0_cond2 (i : grid0.Coords) : BitVec 1 :=
  let arg1 : BitVec 32 := BitVec.ofNat 32 (i 1).val
  let c1_i32 : BitVec 32 := 1#32
  let v16 : BitVec 1 := Scalar.cmpi .eq arg1 c1_i32
  let v17 : BitVec 32 := Scalar.extui v16
  let c0_i32_8 : BitVec 32 := 0#32
  let v18 : BitVec 1 := Scalar.cmpi .ne v17 c0_i32_8
  v18

@[reducible] def k0_t2_loop : Scf.Loop 32 :=
  let c0_i32_11 : BitVec 32 := 0#32
  let c16_i32 : BitVec 32 := 16#32
  let v25 : BitVec 32 := Scalar.addi c0_i32_11 c16_i32
  let c1_i32_12 : BitVec 32 := 1#32
  ⟨c0_i32_11, v25, c1_i32_12⟩
def k0_mult2 (k0_t2 : Fin k0_t2_loop.trips) : BitVec 32 :=
  let c0_i32_11 : BitVec 32 := 0#32
  let c1_i32_12 : BitVec 32 := 1#32
  let arg7 : BitVec 32 := Scf.iv c0_i32_11 c1_i32_12 k0_t2
  let c128_i32 : BitVec 32 := 128#32
  let v26 : BitVec 32 := Scalar.muli arg7 c128_i32
  v26
def k0_off3 (k0_t2 : Fin k0_t2_loop.trips) : Fin 2 → Nat :=
  let c0_i32_11 : BitVec 32 := 0#32
  let c1_i32_12 : BitVec 32 := 1#32
  let arg7 : BitVec 32 := Scf.iv c0_i32_11 c1_i32_12 k0_t2
  let c128_i32 : BitVec 32 := 128#32
  let v26 : BitVec 32 := Scalar.muli arg7 c128_i32
  let v27 : BitVec 32 := v26
  let v43 : Index := Scalar.indexCast v27
  let c0_18 : Index := 0#32
  ![v43.toNat, 0]
def k0_off4 (k0_t2 : Fin k0_t2_loop.trips) : Fin 3 → Nat :=
  let c0_25 : Index := 0#32
  let c0_i32_11 : BitVec 32 := 0#32
  let c1_i32_12 : BitVec 32 := 1#32
  let arg7 : BitVec 32 := Scf.iv c0_i32_11 c1_i32_12 k0_t2
  let c128_i32 : BitVec 32 := 128#32
  let v26 : BitVec 32 := Scalar.muli arg7 c128_i32
  let v27 : BitVec 32 := v26
  let v65 : Index := Scalar.indexCast v27
  let c0_26 : Index := 0#32
  ![0, v65.toNat, 0]
def k0_cond3 (i : grid0.Coords) : BitVec 1 :=
  let arg1 : BitVec 32 := BitVec.ofNat 32 (i 1).val
  let c2_i32 : BitVec 32 := 2#32
  let v19 : BitVec 1 := Scalar.cmpi .eq arg1 c2_i32
  let v20 : BitVec 32 := Scalar.extui v19
  let c0_i32_9 : BitVec 32 := 0#32
  let v21 : BitVec 1 := Scalar.cmpi .ne v20 c0_i32_9
  v21

@[reducible] def k0_t3_loop : Scf.Loop 32 :=
  let c0_i32_11 : BitVec 32 := 0#32
  let c16_i32 : BitVec 32 := 16#32
  let v25 : BitVec 32 := Scalar.addi c0_i32_11 c16_i32
  let c1_i32_12 : BitVec 32 := 1#32
  ⟨c0_i32_11, v25, c1_i32_12⟩
def k0_mult3 (k0_t3 : Fin k0_t3_loop.trips) : BitVec 32 :=
  let c0_i32_11 : BitVec 32 := 0#32
  let c1_i32_12 : BitVec 32 := 1#32
  let arg7 : BitVec 32 := Scf.iv c0_i32_11 c1_i32_12 k0_t3
  let c128_i32 : BitVec 32 := 128#32
  let v26 : BitVec 32 := Scalar.muli arg7 c128_i32
  v26
def k0_off5 (k0_t3 : Fin k0_t3_loop.trips) : Fin 2 → Nat :=
  let c0_i32_11 : BitVec 32 := 0#32
  let c1_i32_12 : BitVec 32 := 1#32
  let arg7 : BitVec 32 := Scf.iv c0_i32_11 c1_i32_12 k0_t3
  let c128_i32 : BitVec 32 := 128#32
  let v26 : BitVec 32 := Scalar.muli arg7 c128_i32
  let v27 : BitVec 32 := v26
  let v43 : Index := Scalar.indexCast v27
  let c0_17 : Index := 0#32
  ![v43.toNat, 0]
def k0_off6 (k0_t3 : Fin k0_t3_loop.trips) : Fin 3 → Nat :=
  let c0_24 : Index := 0#32
  let c0_i32_11 : BitVec 32 := 0#32
  let c1_i32_12 : BitVec 32 := 1#32
  let arg7 : BitVec 32 := Scf.iv c0_i32_11 c1_i32_12 k0_t3
  let c128_i32 : BitVec 32 := 128#32
  let v26 : BitVec 32 := Scalar.muli arg7 c128_i32
  let v27 : BitVec 32 := v26
  let v73 : Index := Scalar.indexCast v27
  let c0_25 : Index := 0#32
  ![0, v73.toNat, 0]
def k0_cond4 (i : grid0.Coords) : BitVec 1 :=
  let arg1 : BitVec 32 := BitVec.ofNat 32 (i 1).val
  let c3_i32 : BitVec 32 := 3#32
  let v22 : BitVec 1 := Scalar.cmpi .eq arg1 c3_i32
  let v23 : BitVec 32 := Scalar.extui v22
  let c0_i32_10 : BitVec 32 := 0#32
  let v24 : BitVec 1 := Scalar.cmpi .ne v23 c0_i32_10
  v24

@[reducible] def k0_t4_loop : Scf.Loop 32 :=
  let c0_i32_11 : BitVec 32 := 0#32
  let c16_i32 : BitVec 32 := 16#32
  let v25 : BitVec 32 := Scalar.addi c0_i32_11 c16_i32
  let c1_i32_12 : BitVec 32 := 1#32
  ⟨c0_i32_11, v25, c1_i32_12⟩
def k0_mult4 (k0_t4 : Fin k0_t4_loop.trips) : BitVec 32 :=
  let c0_i32_11 : BitVec 32 := 0#32
  let c1_i32_12 : BitVec 32 := 1#32
  let arg7 : BitVec 32 := Scf.iv c0_i32_11 c1_i32_12 k0_t4
  let c128_i32 : BitVec 32 := 128#32
  let v26 : BitVec 32 := Scalar.muli arg7 c128_i32
  v26
def k0_off7 (k0_t4 : Fin k0_t4_loop.trips) : Fin 2 → Nat :=
  let c0_i32_11 : BitVec 32 := 0#32
  let c1_i32_12 : BitVec 32 := 1#32
  let arg7 : BitVec 32 := Scf.iv c0_i32_11 c1_i32_12 k0_t4
  let c128_i32 : BitVec 32 := 128#32
  let v26 : BitVec 32 := Scalar.muli arg7 c128_i32
  let v27 : BitVec 32 := v26
  let v43 : Index := Scalar.indexCast v27
  let c0_17 : Index := 0#32
  ![v43.toNat, 0]
def k0_off8 (k0_t4 : Fin k0_t4_loop.trips) : Fin 3 → Nat :=
  let c0_24 : Index := 0#32
  let c0_i32_11 : BitVec 32 := 0#32
  let c1_i32_12 : BitVec 32 := 1#32
  let arg7 : BitVec 32 := Scf.iv c0_i32_11 c1_i32_12 k0_t4
  let c128_i32 : BitVec 32 := 128#32
  let v26 : BitVec 32 := Scalar.muli arg7 c128_i32
  let v27 : BitVec 32 := v26
  let v89 : Index := Scalar.indexCast v27
  let c0_25 : Index := 0#32
  ![0, v89.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference8Ideal.lean ====
abbrev S4x2048x2048 : Shape := ⟨3, ![4, 2048, 2048]⟩
abbrev S4x512x512 : Shape := ⟨3, ![4, 512, 512]⟩
abbrev S2048 : Shape := ⟨1, ![2048]⟩
abbrev S4x2048x512 : Shape := ⟨3, ![4, 2048, 512]⟩
abbrev S_ : Shape := ⟨0, ![]⟩
abbrev S1x2048x1 : Shape := ⟨3, ![1, 2048, 1]⟩
abbrev S4x2050x512 : Shape := ⟨3, ![4, 2050, 512]⟩
abbrev S1x512x512 : Shape := ⟨3, ![1, 512, 512]⟩
abbrev S512x512 : Shape := ⟨2, ![512, 512]⟩
abbrev S4x2052x512 : Shape := ⟨3, ![4, 2052, 512]⟩
abbrev S4x2056x512 : Shape := ⟨3, ![4, 2056, 512]⟩
abbrev S4x2064x512 : Shape := ⟨3, ![4, 2064, 512]⟩
abbrev S1x1x2048 : Shape := ⟨3, ![1, 1, 2048]⟩

abbrev nBuf : Space → Nat
  | .hbm => 181
  | .vmem => 0
  | .smem => 0
  | _ => 0

abbrev hbmTy0_0 (i : Nat) : BufTy := match i % 128 with
  | 0 => ⟨S4x2048x2048, .f32⟩
  | 1 => ⟨S4x512x512, .bf16⟩
  | 2 => ⟨S2048, .f32⟩
  | 3 => ⟨S2048, .i32⟩
  | 4 => ⟨S4x2048x512, .f32⟩
  | 5 => ⟨S_, .i32⟩
  | 6 => ⟨S2048, .i32⟩
  | 7 => ⟨S2048, .i32⟩
  | 8 => ⟨S_, .i32⟩
  | 9 => ⟨S2048, .i32⟩
  | 10 => ⟨S2048, .i32⟩
  | 11 => ⟨S_, .i32⟩
  | 12 => ⟨S2048, .i32⟩
  | 13 => ⟨S2048, .i32⟩
  | 14 => ⟨S_, .i32⟩
  | 15 => ⟨S2048, .i32⟩
  | 16 => ⟨S2048, .i32⟩
  | 17 => ⟨S2048, .i32⟩
  | 18 => ⟨S2048, .f32⟩
  | 19 => ⟨S1x2048x1, .f32⟩
  | 20 => ⟨S_, .i32⟩
  | 21 => ⟨S_, .f32⟩
  | 22 => ⟨S4x2050x512, .f32⟩
  | 23 => ⟨S4x2048x512, .f32⟩
  | 24 => ⟨S_, .f32⟩
  | 25 => ⟨S4x2048x512, .f32⟩
  | 26 => ⟨S4x2048x512, .f32⟩
  | 27 => ⟨S4x2048x512, .f32⟩
  | 28 => ⟨S4x2048x512, .f32⟩
  | 29 => ⟨S4x2048x512, .f32⟩
  | 30 => ⟨S4x2048x512, .f32⟩
  | 31 => ⟨S4x2048x512, .f32⟩
  | 32 => ⟨S1x512x512, .bf16⟩
  | 33 => ⟨S512x512, .bf16⟩
  | 34 => ⟨S512x512, .f32⟩
  | 35 => ⟨S4x2048x512, .f32⟩
  | 36 => ⟨S4x2048x512, .f32⟩
  | 37 => ⟨S_, .i32⟩
  | 38 => ⟨S2048, .i32⟩
  | 39 => ⟨S2048, .i32⟩
  | 40 => ⟨S_, .i32⟩
  | 41 => ⟨S2048, .i32⟩
  | 42 => ⟨S2048, .i32⟩
  | 43 => ⟨S_, .i32⟩
  | 44 => ⟨S2048, .i32⟩
  | 45 => ⟨S2048, .i32⟩
  | 46 => ⟨S_, .i32⟩
  | 47 => ⟨S2048, .i32⟩
  | 48 => ⟨S2048, .i32⟩
  | 49 => ⟨S2048, .i32⟩
  | 50 => ⟨S2048, .f32⟩
  | 51 => ⟨S1x2048x1, .f32⟩
  | 52 => ⟨S_, .i32⟩
  | 53 => ⟨S_, .f32⟩
  | 54 => ⟨S4x2052x512, .f32⟩
  | 55 => ⟨S4x2048x512, .f32⟩
  | 56 => ⟨S_, .f32⟩
  | 57 => ⟨S4x2048x512, .f32⟩
  | 58 => ⟨S4x2048x512, .f32⟩
  | 59 => ⟨S4x2048x512, .f32⟩
  | 60 => ⟨S4x2048x512, .f32⟩
  | 61 => ⟨S4x2048x512, .f32⟩
  | 62 => ⟨S4x2048x512, .f32⟩
  | 63 => ⟨S4x2048x512, .f32⟩
  | 64 => ⟨S4x2048x512, .f32⟩
  | 65 => ⟨S4x2048x512, .f32⟩
  | 66 => ⟨S4x2048x512, .f32⟩
  | 67 => ⟨S4x2048x512, .f32⟩
  | 68 => ⟨S1x512x512, .bf16⟩
  | 69 => ⟨S512x512, .bf16⟩
  | 70 => ⟨S512x512, .f32⟩
  | 71 => ⟨S4x2048x512, .f32⟩
  | 72 => ⟨S4x2048x512, .f32⟩
  | 73 => ⟨S_, .i32⟩
  | 74 => ⟨S2048, .i32⟩
  | 75 => ⟨S2048, .i32⟩
  | 76 => ⟨S_, .i32⟩
  | 77 => ⟨S2048, .i32⟩
  | 78 => ⟨S2048, .i32⟩
  | 79 => ⟨S_, .i32⟩
  | 80 => ⟨S2048, .i32⟩
  | 81 => ⟨S2048, .i32⟩
  | 82 => ⟨S_, .i32⟩
  | 83 => ⟨S2048, .i32⟩
  | 84 => ⟨S2048, .i32⟩
  | 85 => ⟨S2048, .i32⟩
  | 86 => ⟨S2048, .f32⟩
  | 87 => ⟨S1x2048x1, .f32⟩
  | 88 => ⟨S_, .i32⟩
  | 89 => ⟨S_, .f32⟩
  | 90 => ⟨S4x2056x512, .f32⟩
  | 91 => ⟨S4x2048x512, .f32⟩
  | 92 => ⟨S_, .f32⟩
  | 93 => ⟨S4x2048x512, .f32⟩
  | 94 => ⟨S4x2048x512, .f32⟩
  | 95 => ⟨S4x2048x512, .f32⟩
  | 96 => ⟨S4x2048x512, .f32⟩
  | 97 => ⟨S4x2048x512, .f32⟩
  | 98 => ⟨S4x2048x512, .f32⟩
  | 99 => ⟨S4x2048x512, .f32⟩
  | 100 => ⟨S4x2048x512, .f32⟩
  | 101 => ⟨S4x2048x512, .f32⟩
  | 102 => ⟨S4x2048x512, .f32⟩
  | 103 => ⟨S4x2048x512, .f32⟩
  | 104 => ⟨S4x2048x512, .f32⟩
  | 105 => ⟨S4x2048x512, .f32⟩
  | 106 => ⟨S4x2048x512, .f32⟩
  | 107 => ⟨S4x2048x512, .f32⟩
  | 108 => ⟨S4x2048x512, .f32⟩
  | 109 => ⟨S4x2048x512, .f32⟩
  | 110 => ⟨S4x2048x512, .f32⟩
  | 111 => ⟨S4x2048x512, .f32⟩
  | 112 => ⟨S1x512x512, .bf16⟩
  | 113 => ⟨S512x512, .bf16⟩
  | 114 => ⟨S512x512, .f32⟩
  | 115 => ⟨S4x2048x512, .f32⟩
  | 116 => ⟨S4x2048x512, .f32⟩
  | 117 => ⟨S_, .i32⟩
  | 118 => ⟨S2048, .i32⟩
  | 119 => ⟨S2048, .i32⟩
  | 120 => ⟨S_, .i32⟩
  | 121 => ⟨S2048, .i32⟩
  | 122 => ⟨S2048, .i32⟩
  | 123 => ⟨S_, .i32⟩
  | 124 => ⟨S2048, .i32⟩
  | 125 => ⟨S2048, .i32⟩
  | 126 => ⟨S_, .i32⟩
  | 127 => ⟨S2048, .i32⟩
  | _ => ⟨S4x2048x2048, .f32⟩

abbrev hbmTy0_1 (i : Nat) : BufTy := match i % 128 with
  | 0 => ⟨S2048, .i32⟩
  | 1 => ⟨S2048, .i32⟩
  | 2 => ⟨S2048, .f32⟩
  | 3 => ⟨S1x2048x1, .f32⟩
  | 4 => ⟨S_, .i32⟩
  | 5 => ⟨S_, .f32⟩
  | 6 => ⟨S4x2064x512, .f32⟩
  | 7 => ⟨S4x2048x512, .f32⟩
  | 8 => ⟨S_, .f32⟩
  | 9 => ⟨S4x2048x512, .f32⟩
  | 10 => ⟨S4x2048x512, .f32⟩
  | 11 => ⟨S4x2048x512, .f32⟩
  | 12 => ⟨S4x2048x512, .f32⟩
  | 13 => ⟨S4x2048x512, .f32⟩
  | 14 => ⟨S4x2048x512, .f32⟩
  | 15 => ⟨S4x2048x512, .f32⟩
  | 16 => ⟨S4x2048x512, .f32⟩
  | 17 => ⟨S4x2048x512, .f32⟩
  | 18 => ⟨S4x2048x512, .f32⟩
  | 19 => ⟨S4x2048x512, .f32⟩
  | 20 => ⟨S4x2048x512, .f32⟩
  | 21 => ⟨S4x2048x512, .f32⟩
  | 22 => ⟨S4x2048x512, .f32⟩
  | 23 => ⟨S4x2048x512, .f32⟩
  | 24 => ⟨S4x2048x512, .f32⟩
  | 25 => ⟨S4x2048x512, .f32⟩
  | 26 => ⟨S4x2048x512, .f32⟩
  | 27 => ⟨S4x2048x512, .f32⟩
  | 28 => ⟨S4x2048x512, .f32⟩
  | 29 => ⟨S4x2048x512, .f32⟩
  | 30 => ⟨S4x2048x512, .f32⟩
  | 31 => ⟨S4x2048x512, .f32⟩
  | 32 => ⟨S4x2048x512, .f32⟩
  | 33 => ⟨S4x2048x512, .f32⟩
  | 34 => ⟨S4x2048x512, .f32⟩
  | 35 => ⟨S4x2048x512, .f32⟩
  | 36 => ⟨S4x2048x512, .f32⟩
  | 37 => ⟨S4x2048x512, .f32⟩
  | 38 => ⟨S4x2048x512, .f32⟩
  | 39 => ⟨S4x2048x512, .f32⟩
  | 40 => ⟨S4x2048x512, .f32⟩
  | 41 => ⟨S4x2048x512, .f32⟩
  | 42 => ⟨S4x2048x512, .f32⟩
  | 43 => ⟨S4x2048x512, .f32⟩
  | 44 => ⟨S1x512x512, .bf16⟩
  | 45 => ⟨S512x512, .bf16⟩
  | 46 => ⟨S512x512, .f32⟩
  | 47 => ⟨S4x2048x512, .f32⟩
  | 48 => ⟨S4x2048x2048, .f32⟩
  | 49 => ⟨S1x1x2048, .f32⟩
  | 50 => ⟨S4x2048x2048, .f32⟩
  | 51 => ⟨S4x2048x2048, .f32⟩
  | 52 => ⟨S4x2048x2048, .bf16⟩
  | _ => ⟨S4x2048x2048, .f32⟩

abbrev hbmTy (i : Nat) : BufTy := match i / 128 with
  | 0 => hbmTy0_0 i
  | 1 => hbmTy0_1 i
  | _ => ⟨S4x2048x2048, .f32⟩

abbrev bufTy : (tb : Table) → Fin (tcTables nBuf tb) → BufTy
  | .hbm, ⟨i, _⟩ => hbmTy i
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_c_1 : Ref sig .tc := ⟨.hbm, 11, rfl⟩
abbrev main_v6 : Ref sig .tc := ⟨.hbm, 12, rfl⟩
abbrev main_v7 : Ref sig .tc := ⟨.hbm, 13, rfl⟩
abbrev main_c_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_3 : Ref sig .tc := ⟨.hbm, 20, rfl⟩
abbrev main_call0_v0 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_c_4 : Ref sig .tc := ⟨.hbm, 37, rfl⟩
abbrev main_v27 : Ref sig .tc := ⟨.hbm, 38, rfl⟩
abbrev main_v28 : Ref sig .tc := ⟨.hbm, 39, rfl⟩
abbrev main_c_5 : Ref sig .tc := ⟨.hbm, 40, rfl⟩
abbrev main_v29 : Ref sig .tc := ⟨.hbm, 41, rfl⟩
abbrev main_v30 : Ref sig .tc := ⟨.hbm, 42, rfl⟩
abbrev main_c_6 : Ref sig .tc := ⟨.hbm, 43, rfl⟩
abbrev main_v31 : Ref sig .tc := ⟨.hbm, 44, rfl⟩
abbrev main_v32 : Ref sig .tc := ⟨.hbm, 45, rfl⟩
abbrev main_c_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_c_8 : Ref sig .tc := ⟨.hbm, 52, rfl⟩
abbrev main_call1_v0 : Ref sig .tc := ⟨.hbm, 53, rfl⟩
abbrev main_v38 : Ref sig .tc := ⟨.hbm, 54, rfl⟩
abbrev main_v39 : Ref sig .tc := ⟨.hbm, 55, rfl⟩
abbrev main_cst_9 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_c_10 : Ref sig .tc := ⟨.hbm, 73, rfl⟩
abbrev main_v56 : Ref sig .tc := ⟨.hbm, 74, rfl⟩
abbrev main_v57 : Ref sig .tc := ⟨.hbm, 75, rfl⟩
abbrev main_c_11 : Ref sig .tc := ⟨.hbm, 76, rfl⟩
abbrev main_v58 : Ref sig .tc := ⟨.hbm, 77, rfl⟩
abbrev main_v59 : Ref sig .tc := ⟨.hbm, 78, rfl⟩
abbrev main_c_12 : Ref sig .tc := ⟨.hbm, 79, rfl⟩
abbrev main_v60 : Ref sig .tc := ⟨.hbm, 80, rfl⟩
abbrev main_v61 : Ref sig .tc := ⟨.hbm, 81, rfl⟩
abbrev main_c_13 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_c_14 : Ref sig .tc := ⟨.hbm, 88, rfl⟩
abbrev main_call2_v0 : Ref sig .tc := ⟨.hbm, 89, rfl⟩
abbrev main_v67 : Ref sig .tc := ⟨.hbm, 90, rfl⟩
abbrev main_v68 : Ref sig .tc := ⟨.hbm, 91, rfl⟩
abbrev main_cst_15 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_c_16 : Ref sig .tc := ⟨.hbm, 117, rfl⟩
abbrev main_v93 : Ref sig .tc := ⟨.hbm, 118, rfl⟩
abbrev main_v94 : Ref sig .tc := ⟨.hbm, 119, rfl⟩
abbrev main_c_17 : Ref sig .tc := ⟨.hbm, 120, rfl⟩
abbrev main_v95 : Ref sig .tc := ⟨.hbm, 121, rfl⟩
abbrev main_v96 : Ref sig .tc := ⟨.hbm, 122, rfl⟩
abbrev main_c_18 : Ref sig .tc := ⟨.hbm, 123, rfl⟩
abbrev main_v97 : Ref sig .tc := ⟨.hbm, 124, rfl⟩
abbrev main_v98 : Ref sig .tc := ⟨.hbm, 125, rfl⟩
abbrev main_c_19 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_c_20 : Ref sig .tc := ⟨.hbm, 132, rfl⟩
abbrev main_call3_v0 : Ref sig .tc := ⟨.hbm, 133, rfl⟩
abbrev main_v104 : Ref sig .tc := ⟨.hbm, 134, rfl⟩
abbrev main_v105 : Ref sig .tc := ⟨.hbm, 135, rfl⟩
abbrev main_cst_21 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_v145 : Ref sig .tc := ⟨.hbm, 176, rfl⟩
abbrev main_v146 : Ref sig .tc := ⟨.hbm, 177, rfl⟩
abbrev main_v147 : Ref sig .tc := ⟨.hbm, 178, rfl⟩
abbrev main_v148 : Ref sig .tc := ⟨.hbm, 179, rfl⟩
abbrev main_v149 : Ref sig .tc := ⟨.hbm, 180, rfl⟩

abbrev nD : Nat := 1
abbrev τ : Topo := Topo.v7x

variable {F : FTy → Type} [FloatOps F]
-- ==== Kernel9.lean ====
abbrev S8192x2048 : Shape := ⟨2, ![8192, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048, .f32⟩
  | .hbm, ⟨3, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference9Ideal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 18
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S1x2048, .f32⟩
  | .hbm, ⟨16, _⟩ => ⟨S8192x2048, .f32⟩
  | .hbm, ⟨17, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Proof.SsdLoops.lean ====
/-
  THE TWO LOOPS' PIECES DO NOT DEPEND ON WHAT THE STORED BUFFERS HELD BEFORE: a trip of the first loop stores its rows of
  the partial sums without using what they held, a trip of the second loop stores its rows of the results likewise; and the
  first loop's stores cover the partial sums.
-/
module

public import proofs.«01_k».proof.Proof.Gen.KernelIdeal.Loops
public import Idealize.ShloMosaic.Lib.Pipeline.FrameBody
public import Idealize.ShloMosaic.Lib.Ring

@[expose] public section

set_option maxRecDepth 16384

noncomputable section

namespace Cert.KernelIdeal.Gen

open Idealize.ShloMosaic Idealize.ShloMosaic.TcCoe Idealize.ShloMosaic.Tactic

variable {F : FTy → Type} [FloatOps F]
variable {𝒱 : Variants} {c : Dev nD} {bd : Option 𝒱.V} {i : grid0.Coords} {arg2 : Memref sig .tc .vmem S1x2048x512 .bf16} {harg2 : arg2.IsWhole} {arg3 : Memref sig .tc .vmem S1x2048x128 .bf16} {harg3 : arg3.IsWhole} {arg4 : Memref sig .tc .vmem S1x2048x128 .bf16} {harg4 : arg4.IsWhole} {arg5 : Memref sig .tc .vmem S1x2048x512 .bf16} {harg5 : arg5.IsWhole} {arg6 : Memref sig .tc .vmem S8x2048 .f32} {harg6 : arg6.IsWhole} {arg7 : Memref sig .tc .vmem S8x2048 .f32} {harg7 : arg7.IsWhole} {arg8 : Memref sig .tc .vmem S8x1 .f32} {harg8 : arg8.IsWhole} {arg9 : Memref sig .tc .vmem S8x1 .f32} {harg9 : arg9.IsWhole} {arg10 : Memref sig .tc .vmem S8x1 .f32} {harg10 : arg10.IsWhole} {arg11 : Memref sig .tc .vmem S8x1 .f32} {harg11 : arg11.IsWhole} {arg12 : Memref sig .tc .vmem S1x512 .f32} {harg12 : arg12.IsWhole} {arg13 : Memref sig .tc .vmem S1x2048x512 .bf16} {harg13 : arg13.IsWhole} {arg14 : Memref sig .tc .vmem S1x2048x128 .f32} {harg14 : arg14.IsWhole} {arg15 : Memref sig .tc .vmem S2048x512 .f32} {harg15 : arg15.IsWhole} {arg16 : Memref sig .tc .vmem S128x512 .f32} {harg16 : arg16.IsWhole} {arg17 : Memref sig .tc .vmem S128x128 .f32} {harg17 : arg17.IsWhole} {arg18 : Memref sig .tc .vmem S128x128 .f32} {harg18 : arg18.IsWhole} {arg19 : Memref sig .tc .vmem S128x128 .f32} {harg19 : arg19.IsWhole} {arg20 : Memref sig .tc .vmem S128x128 .f32} {harg20 : arg20.IsWhole} {arg21 : Memref sig .tc .vmem S128x128 .f32} {harg21 : arg21.IsWhole} {arg22 : Memref sig .tc .vmem S128x512 .f32} {harg22 : arg22.IsWhole}

/-- A trip of the first loop does not use the partial sums it finds. -/
theorem tripL1_free {v136 : IVec S128x128 1} {v137 : IVec S128x128 32} {v138 : IVec S128x128 32} {X_arg2 : BufTy.Contents (Elt F) arg2.view.ty} {X_arg3 : BufTy.Contents (Elt F) arg3.view.ty} {X_arg4 : BufTy.Contents (Elt F) arg4.view.ty} {X_arg12 : BufTy.Contents (Elt F) arg12.view.ty} {X_arg17 : BufTy.Contents (Elt F) arg17.view.ty} {X_arg18 : BufTy.Contents (Elt F) arg18.view.ty} {X_arg19 : BufTy.Contents (Elt F) arg19.view.ty} {X_arg20 : BufTy.Contents (Elt F) arg20.view.ty} {X_arg21 : BufTy.Contents (Elt F) arg21.view.ty} {X_arg22 : BufTy.Contents (Elt F) arg22.view.ty} {k : Fin k0_t1_loop.trips} (f g : BufTy.Contents (Elt F) arg15.view.ty) (h : BufTy.Contents (Elt F) arg16.view.ty) :
    tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v136 v137 v138 X_arg2 X_arg3 X_arg4 X_arg12 X_arg17 X_arg18 X_arg19 X_arg20 X_arg21 X_arg22 k f h = tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v136 v137 v138 X_arg2 X_arg3 X_arg4 X_arg12 X_arg17 X_arg18 X_arg19 X_arg20 X_arg21 X_arg22 k g h := by
  unfold tripL_k0_t1 trip_k0_t1
  rfl

/-- So the first loop's pieces are the same whatever the partial sums held. -/
theorem pb1_free {v136 : IVec S128x128 1} {v137 : IVec S128x128 32} {v138 : IVec S128x128 32} {X_arg2 : BufTy.Contents (Elt F) arg2.view.ty} {X_arg3 : BufTy.Contents (Elt F) arg3.view.ty} {X_arg4 : BufTy.Contents (Elt F) arg4.view.ty} {X_arg12 : BufTy.Contents (Elt F) arg12.view.ty} {X_arg17 : BufTy.Contents (Elt F) arg17.view.ty} {X_arg18 : BufTy.Contents (Elt F) arg18.view.ty} {X_arg19 : BufTy.Contents (Elt F) arg19.view.ty} {X_arg20 : BufTy.Contents (Elt F) arg20.view.ty} {X_arg21 : BufTy.Contents (Elt F) arg21.view.ty} {X_arg22 : BufTy.Contents (Elt F) arg22.view.ty} {G_arg16 : BufTy.Contents (Elt F) arg16.view.ty} (f g : BufTy.Contents (Elt F) arg15.view.ty) (n : ℕ) :
    pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v136 v137 v138 X_arg2 X_arg3 X_arg4 X_arg12 X_arg17 X_arg18 X_arg19 X_arg20 X_arg21 X_arg22 f G_arg16 n = pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v136 v137 v138 X_arg2 X_arg3 X_arg4 X_arg12 X_arg17 X_arg18 X_arg19 X_arg20 X_arg21 X_arg22 g G_arg16 n := by
  induction n with
  | zero => rfl
  | succ n ih =>
    rw [pb_k0_t1.eq_2, pb_k0_t1.eq_2, ih]
    unfold pb_k0_t1Step
    split
    · rw [tripL1_free]
    · rfl

/-- A trip of the second loop does not use the results it finds. -/
theorem tripL2_free {X_arg2 : BufTy.Contents (Elt F) arg2.view.ty} {X_arg3 : BufTy.Contents (Elt F) arg3.view.ty} {X_arg4 : BufTy.Contents (Elt F) arg4.view.ty} {X_arg5 : BufTy.Contents (Elt F) arg5.view.ty} {X_arg15 : BufTy.Contents (Elt F) arg15.view.ty} {X_arg17 : BufTy.Contents (Elt F) arg17.view.ty} {X_arg18 : BufTy.Contents (Elt F) arg18.view.ty} {X_arg19 : BufTy.Contents (Elt F) arg19.view.ty} {X_arg20 : BufTy.Contents (Elt F) arg20.view.ty} {X_arg21 : BufTy.Contents (Elt F) arg21.view.ty} {X_arg22 : BufTy.Contents (Elt F) arg22.view.ty} {k : Fin k0_t2_loop.trips} (f f1 : BufTy.Contents (Elt F) arg13.view.ty) (g g1 : BufTy.Contents (Elt F) arg14.view.ty) (h : BufTy.Contents (Elt F) arg16.view.ty) :
    tripL_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X_arg2 X_arg3 X_arg4 X_arg5 X_arg15 X_arg17 X_arg18 X_arg19 X_arg20 X_arg21 X_arg22 k f g h = tripL_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X_arg2 X_arg3 X_arg4 X_arg5 X_arg15 X_arg17 X_arg18 X_arg19 X_arg20 X_arg21 X_arg22 k f1 g1 h := by
  unfold tripL_k0_t2 trip_k0_t2
  rfl

theorem pb2_free {X_arg2 : BufTy.Contents (Elt F) arg2.view.ty} {X_arg3 : BufTy.Contents (Elt F) arg3.view.ty} {X_arg4 : BufTy.Contents (Elt F) arg4.view.ty} {X_arg5 : BufTy.Contents (Elt F) arg5.view.ty} {X_arg15 : BufTy.Contents (Elt F) arg15.view.ty} {X_arg17 : BufTy.Contents (Elt F) arg17.view.ty} {X_arg18 : BufTy.Contents (Elt F) arg18.view.ty} {X_arg19 : BufTy.Contents (Elt F) arg19.view.ty} {X_arg20 : BufTy.Contents (Elt F) arg20.view.ty} {X_arg21 : BufTy.Contents (Elt F) arg21.view.ty} {X_arg22 : BufTy.Contents (Elt F) arg22.view.ty} {G_arg16 : BufTy.Contents (Elt F) arg16.view.ty} (f f1 : BufTy.Contents (Elt F) arg13.view.ty) (g g1 : BufTy.Contents (Elt F) arg14.view.ty) (n : ℕ) :
    pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X_arg2 X_arg3 X_arg4 X_arg5 X_arg15 X_arg17 X_arg18 X_arg19 X_arg20 X_arg21 X_arg22 f g G_arg16 n = pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X_arg2 X_arg3 X_arg4 X_arg5 X_arg15 X_arg17 X_arg18 X_arg19 X_arg20 X_arg21 X_arg22 f1 g1 G_arg16 n := by
  induction n with
  | zero => rfl
  | succ n ih =>
    rw [pb_k0_t2.eq_2, pb_k0_t2.eq_2, ih]
    unfold pb_k0_t2Step
    split
    · rw [tripL2_free]
    · rfl

/-- The first loop's stores cover the partial sums. -/
theorem cover1 {v136 : IVec S128x128 1} {v137 : IVec S128x128 32} {v138 : IVec S128x128 32} {X_arg2 : BufTy.Contents (Elt F) arg2.view.ty} {X_arg3 : BufTy.Contents (Elt F) arg3.view.ty} {X_arg4 : BufTy.Contents (Elt F) arg4.view.ty} {X_arg12 : BufTy.Contents (Elt F) arg12.view.ty} {X_arg17 : BufTy.Contents (Elt F) arg17.view.ty} {X_arg18 : BufTy.Contents (Elt F) arg18.view.ty} {X_arg19 : BufTy.Contents (Elt F) arg19.view.ty} {X_arg20 : BufTy.Contents (Elt F) arg20.view.ty} {X_arg21 : BufTy.Contents (Elt F) arg21.view.ty} {X_arg22 : BufTy.Contents (Elt F) arg22.view.ty} {G_arg15 : BufTy.Contents (Elt F) arg15.view.ty} {G_arg16 : BufTy.Contents (Elt F) arg16.view.ty} (y : S2048x512.Idx) :
    ∃ pc ∈ (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v136 v137 v138 X_arg2 X_arg3 X_arg4 X_arg12 X_arg17 X_arg18 X_arg19 X_arg20 X_arg21 X_arg22 G_arg15 G_arg16 (Scf.trips k0_t1_loop.lb k0_t1_loop.ub k0_t1_loop.st)).1, y ∈ pc.1.set :=
  View.cover_of_tiledL (s := S2048x512) (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v136 v137 v138 X_arg2 X_arg3 X_arg4 X_arg12 X_arg17 X_arg18 X_arg19 X_arg20 X_arg21 X_arg22 G_arg15 G_arg16 (Scf.trips k0_t1_loop.lb k0_t1_loop.ub k0_t1_loop.st)).1 S128x512.size (by sl_kernel_rfl) y

/-- So after it the partial sums are a function of the pieces alone. -/
theorem sums_eq {v136 : IVec S128x128 1} {v137 : IVec S128x128 32} {v138 : IVec S128x128 32} {X_arg2 : BufTy.Contents (Elt F) arg2.view.ty} {X_arg3 : BufTy.Contents (Elt F) arg3.view.ty} {X_arg4 : BufTy.Contents (Elt F) arg4.view.ty} {X_arg12 : BufTy.Contents (Elt F) arg12.view.ty} {X_arg17 : BufTy.Contents (Elt F) arg17.view.ty} {X_arg18 : BufTy.Contents (Elt F) arg18.view.ty} {X_arg19 : BufTy.Contents (Elt F) arg19.view.ty} {X_arg20 : BufTy.Contents (Elt F) arg20.view.ty} {X_arg21 : BufTy.Contents (Elt F) arg21.view.ty} {X_arg22 : BufTy.Contents (Elt F) arg22.view.ty} {G_arg16 : BufTy.Contents (Elt F) arg16.view.ty} (f g : BufTy.Contents (Elt F) arg15.view.ty) :
    arg15.view.writes (Elt F) f (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v136 v137 v138 X_arg2 X_arg3 X_arg4 X_arg12 X_arg17 X_arg18 X_arg19 X_arg20 X_arg21 X_arg22 g G_arg16 (Scf.trips k0_t1_loop.lb k0_t1_loop.ub k0_t1_loop.st)).1
      = harg15.unread (View.canon (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v136 v137 v138 X_arg2 X_arg3 X_arg4 X_arg12 X_arg17 X_arg18 X_arg19 X_arg20 X_arg21 X_arg22 g G_arg16 (Scf.trips k0_t1_loop.lb k0_t1_loop.ub k0_t1_loop.st)).1) :=
  harg15.eq_unread (View.read_writes_eq_canon _ _ _ cover1)

end Cert.KernelIdeal.Gen

end
-- ==== Proof.SsdRun.lean ====
/-
  THE SCAN'S BODY, RUN ONCE: the stores it leaves in its two results.
-/
module

public import proofs.«01_k».proof.Proof.Gen.KernelIdeal.Frame.Runs

public import proofs.«01_k».proof.Proof.SsdLoops

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The scan's body on whole staging memrefs: from the inputs at their blocks, the results' and the scratch buffers at
    anything, it runs to the end holding the inputs as they were, the results' buffers with its stores written (the lists,
    last first), the scratch at some contents. After the run the lists are freed of what the results' and the partial sums'
    buffers held before (`pb1_free`, `sums_eq`, `pb2_free`), so that they are functions of the inputs alone. -/
noncomputable def kernelRun0_A (c : Dev nD) (i : grid0.Coords) (arg2 : Memref sig .tc .vmem S1x2048x512 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x512 .bf16) (harg5 : arg5.IsWhole) (arg6 : Memref sig .tc .vmem S8x2048 .f32) (harg6 : arg6.IsWhole) (arg7 : Memref sig .tc .vmem S8x2048 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x1 .f32) (harg10 : arg10.IsWhole) (arg11 : Memref sig .tc .vmem S8x1 .f32) (harg11 : arg11.IsWhole) (arg12 : Memref sig .tc .vmem S1x512 .f32) (harg12 : arg12.IsWhole) (arg13 : Memref sig .tc .vmem S1x2048x512 .bf16) (harg13 : arg13.IsWhole) (arg14 : Memref sig .tc .vmem S1x2048x128 .f32) (harg14 : arg14.IsWhole) (arg15 : Memref sig .tc .vmem S2048x512 .f32) (harg15 : arg15.IsWhole) (arg16 : Memref sig .tc .vmem S128x512 .f32) (harg16 : arg16.IsWhole) (arg17 : Memref sig .tc .vmem S128x128 .f32) (harg17 : arg17.IsWhole) (arg18 : Memref sig .tc .vmem S128x128 .f32) (harg18 : arg18.IsWhole) (arg19 : Memref sig .tc .vmem S128x128 .f32) (harg19 : arg19.IsWhole) (arg20 : Memref sig .tc .vmem S128x128 .f32) (harg20 : arg20.IsWhole) (arg21 : Memref sig .tc .vmem S128x128 .f32) (harg21 : arg21.IsWhole) (arg22 : Memref sig .tc .vmem S128x512 .f32) (harg22 : arg22.IsWhole)
    (x0 : Vec F S1x2048x512 .bf16) (x1 : Vec F S1x2048x128 .bf16) (x2 : Vec F S1x2048x128 .bf16) (x3 : Vec F S1x2048x512 .bf16) (x4 : Vec F S8x2048 .f32) (x5 : Vec F S8x2048 .f32) (x6 : Vec F S8x1 .f32) (x7 : Vec F S8x1 .f32) (x8 : Vec F S8x1 .f32) (x9 : Vec F S8x1 .f32) (x10 : Vec F S1x512 .f32) :
    Σ' (L11 : List (View.Piece (Elt F) S1x2048x512 .bf16)), { L12 : List (View.Piece (Elt F) S1x2048x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)) -∗ K ⟨⟩))
          ⊢ wp frame (wpE (defs₀ (F := F)) Variants.none c none) E (cc0_ssd_scan i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, ?_, fun E K => ?run⟩
  case run =>
    simp only [cc0_ssd_scan_eq_skeleton]; unfold cc0_ssd_scan_skel
    simp only [k0_part16_eq_skeleton, k0_part17_eq_skeleton, k0_part18_eq_skeleton, k0_part19_eq_skeleton, k0_part20_eq_skeleton, k0_part21_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
    sl_exec
    sl_step
    rw [pb1_free fs0 arg15.view.junk]
    rw [sums_eq fs0 arg15.view.junk]
    rw [pb2_free f11 arg13.view.junk f12 arg14.view.junk]
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]; · iexists _; iexact H11
    isplitl [H12]; · iexists _; iexact H12
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    iexists _, _; isplitr; swap; · iexact HS7
    ipureintro; rfl

end Cert.KernelIdeal.Gen

end
-- ==== Proof.SsdFrame.lean ====
/-
  THE SCAN'S FRAME, from its body's run (SsdRun): what the results hold point by point, the launch, the arrays unchanged.
-/
module

public import proofs.«01_k».proof.Proof.SsdRun
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The run's pieces for output 11 tile its block (16 stores of `S1x128x512`, checked by the kernel's evaluation: Lib/Ring.lean `Piece.tiledL`, linear in the pieces, through a loop's `@[irreducible]` trip theorem too), so they cover it. -/
theorem cover0_A_11 (c : Dev nD) (i : grid0.Coords) (arg2 : Memref sig .tc .vmem S1x2048x512 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x512 .bf16) (harg5 : arg5.IsWhole) (arg6 : Memref sig .tc .vmem S8x2048 .f32) (harg6 : arg6.IsWhole) (arg7 : Memref sig .tc .vmem S8x2048 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x1 .f32) (harg10 : arg10.IsWhole) (arg11 : Memref sig .tc .vmem S8x1 .f32) (harg11 : arg11.IsWhole) (arg12 : Memref sig .tc .vmem S1x512 .f32) (harg12 : arg12.IsWhole) (arg13 : Memref sig .tc .vmem S1x2048x512 .bf16) (harg13 : arg13.IsWhole) (arg14 : Memref sig .tc .vmem S1x2048x128 .f32) (harg14 : arg14.IsWhole) (arg15 : Memref sig .tc .vmem S2048x512 .f32) (harg15 : arg15.IsWhole) (arg16 : Memref sig .tc .vmem S128x512 .f32) (harg16 : arg16.IsWhole) (arg17 : Memref sig .tc .vmem S128x128 .f32) (harg17 : arg17.IsWhole) (arg18 : Memref sig .tc .vmem S128x128 .f32) (harg18 : arg18.IsWhole) (arg19 : Memref sig .tc .vmem S128x128 .f32) (harg19 : arg19.IsWhole) (arg20 : Memref sig .tc .vmem S128x128 .f32) (harg20 : arg20.IsWhole) (arg21 : Memref sig .tc .vmem S128x128 .f32) (harg21 : arg21.IsWhole) (arg22 : Memref sig .tc .vmem S128x512 .f32) (harg22 : arg22.IsWhole)
    (x0 : Vec F S1x2048x512 .bf16) (x1 : Vec F S1x2048x128 .bf16) (x2 : Vec F S1x2048x128 .bf16) (x3 : Vec F S1x2048x512 .bf16) (x4 : Vec F S8x2048 .f32) (x5 : Vec F S8x2048 .f32) (x6 : Vec F S8x1 .f32) (x7 : Vec F S8x1 .f32) (x8 : Vec F S8x1 .f32) (x9 : Vec F S8x1 .f32) (x10 : Vec F S1x512 .f32) (y : S1x2048x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10).1 S1x128x512.size (by sl_kernel_rfl) y

/-- What the run leaves in output 11's staging buffer: its pieces read back over junk. -/
def out0_A_11 (c : Dev nD) (i : grid0.Coords) (arg2 : Memref sig .tc .vmem S1x2048x512 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x512 .bf16) (harg5 : arg5.IsWhole) (arg6 : Memref sig .tc .vmem S8x2048 .f32) (harg6 : arg6.IsWhole) (arg7 : Memref sig .tc .vmem S8x2048 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x1 .f32) (harg10 : arg10.IsWhole) (arg11 : Memref sig .tc .vmem S8x1 .f32) (harg11 : arg11.IsWhole) (arg12 : Memref sig .tc .vmem S1x512 .f32) (harg12 : arg12.IsWhole) (arg13 : Memref sig .tc .vmem S1x2048x512 .bf16) (harg13 : arg13.IsWhole) (arg14 : Memref sig .tc .vmem S1x2048x128 .f32) (harg14 : arg14.IsWhole) (arg15 : Memref sig .tc .vmem S2048x512 .f32) (harg15 : arg15.IsWhole) (arg16 : Memref sig .tc .vmem S128x512 .f32) (harg16 : arg16.IsWhole) (arg17 : Memref sig .tc .vmem S128x128 .f32) (harg17 : arg17.IsWhole) (arg18 : Memref sig .tc .vmem S128x128 .f32) (harg18 : arg18.IsWhole) (arg19 : Memref sig .tc .vmem S128x128 .f32) (harg19 : arg19.IsWhole) (arg20 : Memref sig .tc .vmem S128x128 .f32) (harg20 : arg20.IsWhole) (arg21 : Memref sig .tc .vmem S128x128 .f32) (harg21 : arg21.IsWhole) (arg22 : Memref sig .tc .vmem S128x512 .f32) (harg22 : arg22.IsWhole)
    (x0 : Vec F S1x2048x512 .bf16) (x1 : Vec F S1x2048x128 .bf16) (x2 : Vec F S1x2048x128 .bf16) (x3 : Vec F S1x2048x512 .bf16) (x4 : Vec F S8x2048 .f32) (x5 : Vec F S8x2048 .f32) (x6 : Vec F S8x1 .f32) (x7 : Vec F S8x1 .f32) (x8 : Vec F S8x1 .f32) (x9 : Vec F S8x1 .f32) (x10 : Vec F S1x512 .f32) : Vec F S1x2048x512 .bf16 :=
  VO0_11.read (Elt F) (VO0_11.writes (Elt F) VO0_11.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10).1)

/-- The run's pieces for output 12 tile its block (16 stores of `S1x128x128`, checked by the kernel's evaluation: Lib/Ring.lean `Piece.tiledL`, linear in the pieces, through a loop's `@[irreducible]` trip theorem too), so they cover it. -/
theorem cover0_A_12 (c : Dev nD) (i : grid0.Coords) (arg2 : Memref sig .tc .vmem S1x2048x512 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x512 .bf16) (harg5 : arg5.IsWhole) (arg6 : Memref sig .tc .vmem S8x2048 .f32) (harg6 : arg6.IsWhole) (arg7 : Memref sig .tc .vmem S8x2048 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x1 .f32) (harg10 : arg10.IsWhole) (arg11 : Memref sig .tc .vmem S8x1 .f32) (harg11 : arg11.IsWhole) (arg12 : Memref sig .tc .vmem S1x512 .f32) (harg12 : arg12.IsWhole) (arg13 : Memref sig .tc .vmem S1x2048x512 .bf16) (harg13 : arg13.IsWhole) (arg14 : Memref sig .tc .vmem S1x2048x128 .f32) (harg14 : arg14.IsWhole) (arg15 : Memref sig .tc .vmem S2048x512 .f32) (harg15 : arg15.IsWhole) (arg16 : Memref sig .tc .vmem S128x512 .f32) (harg16 : arg16.IsWhole) (arg17 : Memref sig .tc .vmem S128x128 .f32) (harg17 : arg17.IsWhole) (arg18 : Memref sig .tc .vmem S128x128 .f32) (harg18 : arg18.IsWhole) (arg19 : Memref sig .tc .vmem S128x128 .f32) (harg19 : arg19.IsWhole) (arg20 : Memref sig .tc .vmem S128x128 .f32) (harg20 : arg20.IsWhole) (arg21 : Memref sig .tc .vmem S128x128 .f32) (harg21 : arg21.IsWhole) (arg22 : Memref sig .tc .vmem S128x512 .f32) (harg22 : arg22.IsWhole)
    (x0 : Vec F S1x2048x512 .bf16) (x1 : Vec F S1x2048x128 .bf16) (x2 : Vec F S1x2048x128 .bf16) (x3 : Vec F S1x2048x512 .bf16) (x4 : Vec F S8x2048 .f32) (x5 : Vec F S8x2048 .f32) (x6 : Vec F S8x1 .f32) (x7 : Vec F S8x1 .f32) (x8 : Vec F S8x1 .f32) (x9 : Vec F S8x1 .f32) (x10 : Vec F S1x512 .f32) (y : S1x2048x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10).2.1 S1x128x128.size (by sl_kernel_rfl) y

/-- What the run leaves in output 12's staging buffer: its pieces read back over junk. -/
def out0_A_12 (c : Dev nD) (i : grid0.Coords) (arg2 : Memref sig .tc .vmem S1x2048x512 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x512 .bf16) (harg5 : arg5.IsWhole) (arg6 : Memref sig .tc .vmem S8x2048 .f32) (harg6 : arg6.IsWhole) (arg7 : Memref sig .tc .vmem S8x2048 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x1 .f32) (harg10 : arg10.IsWhole) (arg11 : Memref sig .tc .vmem S8x1 .f32) (harg11 : arg11.IsWhole) (arg12 : Memref sig .tc .vmem S1x512 .f32) (harg12 : arg12.IsWhole) (arg13 : Memref sig .tc .vmem S1x2048x512 .bf16) (harg13 : arg13.IsWhole) (arg14 : Memref sig .tc .vmem S1x2048x128 .f32) (harg14 : arg14.IsWhole) (arg15 : Memref sig .tc .vmem S2048x512 .f32) (harg15 : arg15.IsWhole) (arg16 : Memref sig .tc .vmem S128x512 .f32) (harg16 : arg16.IsWhole) (arg17 : Memref sig .tc .vmem S128x128 .f32) (harg17 : arg17.IsWhole) (arg18 : Memref sig .tc .vmem S128x128 .f32) (harg18 : arg18.IsWhole) (arg19 : Memref sig .tc .vmem S128x128 .f32) (harg19 : arg19.IsWhole) (arg20 : Memref sig .tc .vmem S128x128 .f32) (harg20 : arg20.IsWhole) (arg21 : Memref sig .tc .vmem S128x128 .f32) (harg21 : arg21.IsWhole) (arg22 : Memref sig .tc .vmem S128x512 .f32) (harg22 : arg22.IsWhole)
    (x0 : Vec F S1x2048x512 .bf16) (x1 : Vec F S1x2048x128 .bf16) (x2 : Vec F S1x2048x128 .bf16) (x3 : Vec F S1x2048x512 .bf16) (x4 : Vec F S8x2048 .f32) (x5 : Vec F S8x2048 .f32) (x6 : Vec F S8x1 .f32) (x7 : Vec F S8x1 .f32) (x8 : Vec F S8x1 .f32) (x9 : Vec F S8x1 .f32) (x10 : Vec F S1x512 .f32) : Vec F S1x2048x128 .f32 :=
  VO0_12.read (Elt F) (VO0_12.writes (Elt F) VO0_12.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10).2.1)

/-! ## What the outputs hold after each point -/

/-- What the outputs' staging buffers hold after the body at point `t` (as a tuple, in window order): the run's contents at
    the point's memrefs and input blocks. -/
def outsAt0 (c : Dev nD) (t : Fin cfg0.N) : Vec F S1x2048x512 .bf16 × Vec F S1x2048x128 .f32 :=
  (out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t), out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => (outsAt0 m c t).1
    | ⟨12, _⟩ => (outsAt0 m c t).2
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = (outsAt0 m c t).1 := by dsimp only [dats]
theorem after0_12 (c : Dev nD) (t : Fin cfg0.N) : (dats m 0 c).after 12 t = (outsAt0 m c t).2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t))

set_option maxHeartbeats 2000000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12]
  rw [show (dats m 0 c).Φ t.castSucc = Pipeline.ΦA spec0 c from rfl, PhiA0_eq]
  unfold outsAt0
  unfold out0_A_11 out0_A_12; (try dsimp only)
  iintro ⟨⟨⟨HS0, HS1, HS2, HS3, HS4, HS5, HS6, HS7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((kernelRun0_A c (grid0.coords t) _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  iintro ⟨H0, H1, H2, H3, H4, H5, H6, H7, H8, H9, H10, ⟨%e11, H11⟩, ⟨%e12, H12⟩, HS0, HS1, HS2, HS3, HS4, HS5, HS6, HS7⟩
  isplitl [HS0 HS1 HS2 HS3 HS4 HS5 HS6 HS7 Hg]
  · isplitl [HS0 HS1 HS2 HS3 HS4 HS5 HS6 HS7]
    · isplitl [HS0]
      · iexact HS0
      isplitl [HS1]
      · iexact HS1
      isplitl [HS2]
      · iexact HS2
      isplitl [HS3]
      · iexact HS3
      isplitl [HS4]
      · iexact HS4
      isplitl [HS5]
      · iexact HS5
      isplitl [HS6]
      · iexact HS6
      iexact HS7
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · unfold owns; iexists _; isplitr
    swap; · iexact H11
    ipureintro; exact View.read_writes_of_cover _ _ _ _ _ (cover0_A_11 c _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H12
  ipureintro; exact View.read_writes_of_cover _ _ _ _ _ (cover0_A_12 c _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.KernelIdeal.Gen

end
-- ==== Proof.FfnPay.lean ====
/-
  THE FEED-FORWARD CALL'S PAYLOADS AT AN INDEX, over the extended reals: what each store of the body writes, as sums and products of
  what it read. `rms` is the normalised row, `gated` one hidden unit's gated activation.
-/
module

public import proofs.«01_k».proof.Proof.Gen.Kernel2Ideal.Skeleton
public import Idealize.ShloMosaic.Lib.Pointwise

@[expose] public section

noncomputable section

namespace Cert.Proof.Ffn

open Idealize.ShloMosaic Cert.Kernel2Ideal Cert.Kernel2Ideal.Gen

/-- Entry `a` of a row `x` of length 2048 after RMS normalisation with gain `g`. -/
def rms (x : Fin 2048 → EReal) (g : Fin 2048 → EReal) (a : Fin 2048) : EReal :=
  x a * Ideal.rsqrt (Ideal.div (∑ b, x b * x b) (Ideal.ofBits .f32 0x45000000#32) + Ideal.ofBits .f32 0x358637BD#32) * g a

/-- One hidden unit: `silu` of the gate's product times the up product. -/
def gated (n wg wu : Fin 2048 → EReal) : EReal :=
  (∑ a, n a * wg a) * Ideal.logistic (∑ a, n a * wg a) * (∑ a, n a * wu a)

theorem pay2_apply (x : Vec Ideal S1024x2048 .f32) (g : Vec Ideal S1x2048 .f32) (r : Fin 1024) (a : Fin 2048) :
    k0_pay2 (F := Ideal) x g (ix2 r a) = rms (fun b => x (ix2 r b)) (fun b => g (ix2 0 b)) a := by
  unfold rms
  unfold_payloads
  pointwise

theorem pay3_apply (n : Vec Ideal S1024x2048 .bf16) (wg wu : Vec Ideal S2048x512 .bf16) (acc : Vec Ideal S1024x2048 .f32)
    (wd : Vec Ideal S512x2048 .bf16) (r : Fin 1024) (l : Fin 2048) :
    k0_pay3 (F := Ideal) n wg wu acc wd (ix2 r l)
      = acc (ix2 r l) + ∑ k : Fin 512, gated (fun a => n (ix2 r a)) (fun a => wg (ix2 a k)) (fun a => wu (ix2 a k))
          * Ideal.ofBits .f32 0x3F000000#32 * wd (ix2 k l) := by
  unfold gated
  unfold_payloads
  pointwise [dot_S1024x2048_S2048x512_S1024x512_1_0_0_1_n_n, dot_S1024x512_S512x2048_S1024x2048_1_0_0_1_n_n]

theorem pay4_apply (w : Vec Ideal S1x1x256x512 .f32) (r : Fin 256) (l : Fin 512) :
    k0_pay4 (F := Ideal) w (ix2 r l) = w (ix4 0 0 r l) := by
  unfold_payloads
  pointwise

theorem pay5_apply (w : Vec Ideal S1x1x256x512 .f32) (r : Fin 256) (l : Fin 512) :
    k0_pay5 (F := Ideal) w (ix2 r l) = w (ix4 0 0 r l) := by
  unfold_payloads
  pointwise

theorem pay1_apply (w : Vec Ideal S1x1x64x2048 .f32) (r : Fin 64) (l : Fin 2048) :
    k0_pay1 (F := Ideal) w (ix2 r l) = w (ix4 0 0 r l) := by
  unfold_payloads
  pointwise

/-- A nonnegative finite factor moves through a finite sum of extended reals. -/
theorem mul_sum_coe {ι : Type} (s : Finset ι) (f : ι → EReal) (c : EReal) (h0 : 0 ≤ c) (ht : c ≠ ⊤) :
    c * ∑ k ∈ s, f k = ∑ k ∈ s, c * f k := by
  classical
  induction s using Finset.induction_on with
  | empty => simp
  | insert a s ha ih => rw [Finset.sum_insert ha, Finset.sum_insert ha, EReal.left_distrib_of_nonneg_of_ne_top h0 ht, ih]

/-- The word of one half denotes the real one half. -/
theorem ofBits_half : Ideal.ofBits .f32 0x3F000000#32 = (((1 : ℝ) / 2 : ℝ) : EReal) := by
  have h : ((8388608 : ℝ) : EReal) * ((1 / 16777216 : ℝ) : EReal) = ((1 / 2 : ℝ) : EReal) := by
    rw [← EReal.coe_mul]; norm_num
  simp [Ideal.ofBits, Ideal.ieee]
  norm_num
  exact h

end Cert.Proof.Ffn

end
-- ==== Proof.FfnBody.lean ====
/-
  THE FEED-FORWARD CALL, POINT BY POINT: what each grid point leaves in the four outputs' staging buffers and in the carried normalised
  rows, as the body's payloads of the point's blocks (`at_first`, at the first hidden tile of a row block; `at_next`, at the others).
-/
module

public import proofs.«01_k».proof.Proof.Gen.Kernel2Ideal.Value
public import Idealize.ShloMosaic.Lib.Pipeline.Value

@[expose] public section

set_option maxRecDepth 16384

noncomputable section

namespace Cert.Proof.Ffn

open Idealize.ShloMosaic Idealize.ShloMosaic.TcCoe Idealize.SL.Sem Cert.Kernel2Ideal Cert.Kernel2Ideal.Gen

variable {F : FTy → Type} [FloatOps F]
variable (m : (ℓ : Loc nD τ sig) → Buf (Elt F) ℓ)

theorem z2 : (![0, 0] : Fin 2 → Nat) = fun _ => 0 := funext fun a => by fin_cases a <;> rfl
theorem z4 : (![0, 0, 0, 0] : Fin 4 → Nat) = fun _ => 0 := funext fun a => by fin_cases a <;> rfl

/-- The first hidden tile of a row block: the rows are normalised and kept, the output starts from the rows themselves. -/
theorem at_first (c : Dev nD) (t : Fin cfg0.N) (h0 : t.val % 11 = 0) :
    outsAt0 m c t.val t.isLt
      = (k0_pay3 (k0_pay2 (iblk m c 0 t) (iblk m c 1 t)) (iblk m c 2 t) (iblk m c 3 t) (iblk m c 0 t) (iblk m c 4 t),
         k0_pay4 (iblk m c 5 t), k0_pay5 (iblk m c 6 t), k0_pay1 (iblk m c 7 t), k0_pay2 (iblk m c 0 t) (iblk m c 1 t)) := by
  rw [outsAt0_A m c t h0]
  refine Prod.ext ?_ (Prod.ext ?_ (Prod.ext ?_ (Prod.ext ?_ ?_)))
  · dsimp only
    unfold out0_A_8
    rw [View.read_writes_eq_canon _ _ _ (fun _ => cover0_A_8 ..)]
    unfold kernelRun0_A
    dsimp only
    sl_unfold_words
    rw [View.canon_cons_unit_zero (S := S1024x2048) z2]
    simp only [View.readCov_unit_zero (S := S1024x2048) _ z2, View.readAt_eq_ld, (hs0_0 t).read_unread, (hs0_1 t).read_unread,
      (hs0_2 t).read_unread, (hs0_3 t).read_unread, (hs0_4 t).read_unread, View.ld_unit_zero (S := S1024x2048) z2,
      View.ld_unit_zero (S := S1x2048) z2, View.ld_unit_zero (S := S2048x512) z2, View.ld_unit_zero (S := S512x2048) z2]
  · dsimp only
    unfold out0_A_9
    rw [View.read_writes_eq_canon _ _ _ (fun _ => cover0_A_9 ..)]
    unfold kernelRun0_A
    dsimp only
    sl_unfold_words
    rw [View.canon_unit_zero (S := S256x512) z2]
    simp only [View.readAt_eq_ld, (hs0_5 t).read_unread, View.ld_unit_zero (S := S1x1x256x512) z4]
  · dsimp only
    unfold out0_A_10
    rw [View.read_writes_eq_canon _ _ _ (fun _ => cover0_A_10 ..)]
    unfold kernelRun0_A
    dsimp only
    sl_unfold_words
    rw [View.canon_unit_zero (S := S256x512) z2]
    simp only [View.readAt_eq_ld, (hs0_6 t).read_unread, View.ld_unit_zero (S := S1x1x256x512) z4]
  · dsimp only
    unfold out0_A_11
    rw [View.read_writes_eq_canon _ _ _ (fun _ => cover0_A_11 ..)]
    unfold kernelRun0_A
    dsimp only
    sl_unfold_words
    rw [View.canon_unit_zero (S := S64x2048) z2]
    simp only [View.readAt_eq_ld, (hs0_7 t).read_unread, View.ld_unit_zero (S := S1x1x64x2048) z4]
  · dsimp only
    unfold sout0_A_0
    rw [View.read_writes_eq_canon _ _ _ (fun _ => scover0_A_0 ..)]
    unfold kernelRun0_A
    dsimp only
    sl_unfold_words
    rw [View.canon_unit_zero (S := S1024x2048) z2]
    simp only [View.readAt_eq_ld, (hs0_0 t).read_unread, (hs0_1 t).read_unread, View.ld_unit_zero (S := S1024x2048) z2,
      View.ld_unit_zero (S := S1x2048) z2]

/-- A later hidden tile: the kept rows are read, and the tile's contribution is added to what the point before left. -/
theorem at_next (c : Dev nD) (t : Fin cfg0.N) (h0 : ¬t.val % 11 = 0)
    (prev : Vec F S1024x2048 .f32 × Vec F S256x512 .bf16 × Vec F S256x512 .bf16 × Vec F S64x2048 .bf16 × Vec F S1024x2048 .bf16)
    (hp : outsAt0 m c (t.val - 1) (Nat.lt_of_le_of_lt (Nat.sub_le _ _) t.isLt) = prev) :
    outsAt0 m c t.val t.isLt
      = (k0_pay3 prev.2.2.2.2 (iblk m c 2 t) (iblk m c 3 t) prev.1 (iblk m c 4 t),
         k0_pay4 (iblk m c 5 t), k0_pay5 (iblk m c 6 t), k0_pay1 (iblk m c 7 t), prev.2.2.2.2) := by
  rw [outsAt0_B m c t h0, hp]
  refine Prod.ext ?_ (Prod.ext ?_ (Prod.ext ?_ (Prod.ext ?_ ?_)))
  · dsimp only
    unfold out0_B_8
    rw [View.read_writes_eq_canon _ _ _ (fun _ => cover0_B_8 ..)]
    unfold kernelRun0_B
    dsimp only
    sl_unfold_words
    rw [View.canon_unit_zero (S := S1024x2048) z2]
    simp only [View.readAt_eq_ld, (hs0_8 t).read_unread, (Memref.isWhole_whole cc0_scratch0).read_unread,
      (hs0_2 t).read_unread, (hs0_3 t).read_unread, (hs0_4 t).read_unread, View.ld_unit_zero (S := S1024x2048) z2,
      View.ld_unit_zero (S := S2048x512) z2, View.ld_unit_zero (S := S512x2048) z2]
  · dsimp only
    unfold out0_B_9
    rw [View.read_writes_eq_canon _ _ _ (fun _ => cover0_B_9 ..)]
    unfold kernelRun0_B
    dsimp only
    sl_unfold_words
    rw [View.canon_unit_zero (S := S256x512) z2]
    simp only [View.readAt_eq_ld, (hs0_5 t).read_unread, View.ld_unit_zero (S := S1x1x256x512) z4]
  · dsimp only
    unfold out0_B_10
    rw [View.read_writes_eq_canon _ _ _ (fun _ => cover0_B_10 ..)]
    unfold kernelRun0_B
    dsimp only
    sl_unfold_words
    rw [View.canon_unit_zero (S := S256x512) z2]
    simp only [View.readAt_eq_ld, (hs0_6 t).read_unread, View.ld_unit_zero (S := S1x1x256x512) z4]
  · dsimp only
    unfold out0_B_11
    rw [View.read_writes_eq_canon _ _ _ (fun _ => cover0_B_11 ..)]
    unfold kernelRun0_B
    dsimp only
    sl_unfold_words
    rw [View.canon_unit_zero (S := S64x2048) z2]
    simp only [View.readAt_eq_ld, (hs0_7 t).read_unread, View.ld_unit_zero (S := S1x1x64x2048) z4]
  · rfl

end Cert.Proof.Ffn

end
-- ==== Proof.FfnValue.lean ====
/-
  THE FEED-FORWARD CALL'S RESULTS AT AN INDEX: the first is `x + ∑ over the 5632 hidden units` of the halved gated activation times the
  down-projection's row, the other three the second layer of each weight stack. The sum is the body's, taken 512 hidden units at a time.
-/
module

public import proofs.«01_k».proof.Proof.FfnPay
public import proofs.«01_k».proof.Proof.FfnBody

@[expose] public section

set_option maxRecDepth 16384

noncomputable section

namespace Cert.Proof.Ffn

open Idealize.ShloMosaic Idealize.ShloMosaic.TcCoe Idealize.SL.Sem Cert.Kernel2Ideal Cert.Kernel2Ideal.Gen

variable (m : (ℓ : Loc nD τ sig) → Buf (Elt Ideal) ℓ)

/-! ## The blocks -/

theorem idx0 : ∀ t : Fin grid0.N, win0_0.index t 0 = t.val / 11 ∧ win0_0.index t 1 = 0 := by decide +kernel
theorem idx1 : ∀ t : Fin grid0.N, win0_1.index t 0 = 0 ∧ win0_1.index t 1 = 0 := by decide +kernel
theorem idx2 : ∀ t : Fin grid0.N, win0_2.index t 0 = 0 ∧ win0_2.index t 1 = t.val % 11 := by decide +kernel
theorem idx3 : ∀ t : Fin grid0.N, win0_3.index t 0 = 0 ∧ win0_3.index t 1 = t.val % 11 := by decide +kernel
theorem idx4 : ∀ t : Fin grid0.N, win0_4.index t 0 = t.val % 11 ∧ win0_4.index t 1 = 0 := by decide +kernel
theorem idx5 : ∀ t : Fin grid0.N, win0_5.index t 0 = 1 ∧ win0_5.index t 1 = 0 ∧ win0_5.index t 2 = t.val / 11
    ∧ win0_5.index t 3 = t.val % 11 := by decide +kernel
theorem idx6 : ∀ t : Fin grid0.N, win0_6.index t 0 = 1 ∧ win0_6.index t 1 = 0 ∧ win0_6.index t 2 = t.val / 11
    ∧ win0_6.index t 3 = t.val % 11 := by decide +kernel
theorem idx7 : ∀ t : Fin grid0.N, win0_7.index t 0 = 1 ∧ win0_7.index t 1 = 0 ∧ win0_7.index t 2 = t.val
    ∧ win0_7.index t 3 = 0 := by decide +kernel

theorem blk0 (c : Dev nD) (t : Fin cfg0.N) (r : Fin 1024) (a : Fin 2048) (R : Fin 8192) (hR : R.val = t.val / 11 * 1024 + r.val) :
    (iblk m c 0 t : Vec Ideal S1024x2048 .f32) (ix2 r a) = m ((c : Thread nD τ).loc main_arg0) (ix2 R a) := by
  rw [← V_main_arg0 m c]
  unfold iblk
  rw [View.read_apply]
  show V m c main_arg0 _ = V m c main_arg0 _
  congr 1
  funext d
  apply Fin.ext
  match d with
  | ⟨0, _⟩ => show win0_0.index t 0 * 1024 + 1 * r.val = R.val; rw [(idx0 t).1]; omega
  | ⟨1, _⟩ => show win0_0.index t 1 * 2048 + 1 * a.val = a.val; rw [(idx0 t).2]; omega

theorem gain (c : Dev nD) (a : Fin 2048) :
    (V m c main_v0 : Vec Ideal S1x2048 .f32) (ix2 0 a) = m ((c : Thread nD τ).loc main_arg1) (ix1 a) := by
  have h : V m c main_v0 = shapeCast S1x2048 (m ((c : Thread nD τ).loc main_arg1)) shapeCasts_S2048_S1x2048 := by
    unfold V
    simp only [hostOps0, List.flatten_cons, List.flatten_nil, List.append_nil, List.cons_append, List.nil_append]
    after_results_simp <;> rfl
  rw [h]
  exact shapeCast_apply _ shapeCasts_S2048_S1x2048 _ _ (by decide +revert)

theorem blk1 (c : Dev nD) (t : Fin cfg0.N) (a : Fin 2048) :
    (iblk m c 1 t : Vec Ideal S1x2048 .f32) (ix2 0 a) = m ((c : Thread nD τ).loc main_arg1) (ix1 a) := by
  rw [← gain m c]
  unfold iblk
  rw [View.read_apply]
  show V m c main_v0 _ = V m c main_v0 _
  congr 1
  funext d
  apply Fin.ext
  match d with
  | ⟨0, _⟩ => show win0_1.index t 0 * 1 + 1 * 0 = 0; rw [(idx1 t).1]
  | ⟨1, _⟩ => show win0_1.index t 1 * 2048 + 1 * a.val = a.val; rw [(idx1 t).2]; omega

theorem blk2 (c : Dev nD) (t : Fin cfg0.N) (a : Fin 2048) (k : Fin 512) (K : Fin 5632) (hK : K.val = t.val % 11 * 512 + k.val) :
    (iblk m c 2 t : Vec Ideal S2048x512 .bf16) (ix2 a k) = m ((c : Thread nD τ).loc main_arg2) (ix2 a K) := by
  rw [← V_main_arg2 m c]
  unfold iblk
  rw [View.read_apply]
  show V m c main_arg2 _ = V m c main_arg2 _
  congr 1
  funext d
  apply Fin.ext
  match d with
  | ⟨0, _⟩ => show win0_2.index t 0 * 2048 + 1 * a.val = a.val; rw [(idx2 t).1]; omega
  | ⟨1, _⟩ => show win0_2.index t 1 * 512 + 1 * k.val = K.val; rw [(idx2 t).2]; omega

theorem blk3 (c : Dev nD) (t : Fin cfg0.N) (a : Fin 2048) (k : Fin 512) (K : Fin 5632) (hK : K.val = t.val % 11 * 512 + k.val) :
    (iblk m c 3 t : Vec Ideal S2048x512 .bf16) (ix2 a k) = m ((c : Thread nD τ).loc main_arg3) (ix2 a K) := by
  rw [← V_main_arg3 m c]
  unfold iblk
  rw [View.read_apply]
  show V m c main_arg3 _ = V m c main_arg3 _
  congr 1
  funext d
  apply Fin.ext
  match d with
  | ⟨0, _⟩ => show win0_3.index t 0 * 2048 + 1 * a.val = a.val; rw [(idx3 t).1]; omega
  | ⟨1, _⟩ => show win0_3.index t 1 * 512 + 1 * k.val = K.val; rw [(idx3 t).2]; omega

theorem blk4 (c : Dev nD) (t : Fin cfg0.N) (k : Fin 512) (l : Fin 2048) (K : Fin 5632) (hK : K.val = t.val % 11 * 512 + k.val) :
    (iblk m c 4 t : Vec Ideal S512x2048 .bf16) (ix2 k l) = m ((c : Thread nD τ).loc main_arg4) (ix2 K l) := by
  rw [← V_main_arg4 m c]
  unfold iblk
  rw [View.read_apply]
  show V m c main_arg4 _ = V m c main_arg4 _
  congr 1
  funext d
  apply Fin.ext
  match d with
  | ⟨0, _⟩ => show win0_4.index t 0 * 512 + 1 * k.val = K.val; rw [(idx4 t).1]; omega
  | ⟨1, _⟩ => show win0_4.index t 1 * 2048 + 1 * l.val = l.val; rw [(idx4 t).2]; omega

theorem blk5 (c : Dev nD) (t : Fin cfg0.N) (r : Fin 256) (l : Fin 512) (R : Fin 2048) (L : Fin 5632)
    (hR : R.val = t.val / 11 * 256 + r.val) (hL : L.val = t.val % 11 * 512 + l.val) :
    (iblk m c 5 t : Vec Ideal S1x1x256x512 .f32) (ix4 0 0 r l) = m ((c : Thread nD τ).loc main_arg5) (ix4 1 0 R L) := by
  rw [← V_main_arg5 m c]
  unfold iblk
  rw [View.read_apply]
  show V m c main_arg5 _ = V m c main_arg5 _
  congr 1
  funext d
  apply Fin.ext
  obtain ⟨h0, h1, h2, h3⟩ := idx5 t
  match d with
  | ⟨0, _⟩ => show win0_5.index t 0 * 1 + 1 * 0 = 1; rw [h0]
  | ⟨1, _⟩ => show win0_5.index t 1 * 1 + 1 * 0 = 0; rw [h1]
  | ⟨2, _⟩ => show win0_5.index t 2 * 256 + 1 * r.val = R.val; rw [h2]; omega
  | ⟨3, _⟩ => show win0_5.index t 3 * 512 + 1 * l.val = L.val; rw [h3]; omega

theorem blk6 (c : Dev nD) (t : Fin cfg0.N) (r : Fin 256) (l : Fin 512) (R : Fin 2048) (L : Fin 5632)
    (hR : R.val = t.val / 11 * 256 + r.val) (hL : L.val = t.val % 11 * 512 + l.val) :
    (iblk m c 6 t : Vec Ideal S1x1x256x512 .f32) (ix4 0 0 r l) = m ((c : Thread nD τ).loc main_arg6) (ix4 1 0 R L) := by
  rw [← V_main_arg6 m c]
  unfold iblk
  rw [View.read_apply]
  show V m c main_arg6 _ = V m c main_arg6 _
  congr 1
  funext d
  apply Fin.ext
  obtain ⟨h0, h1, h2, h3⟩ := idx6 t
  match d with
  | ⟨0, _⟩ => show win0_6.index t 0 * 1 + 1 * 0 = 1; rw [h0]
  | ⟨1, _⟩ => show win0_6.index t 1 * 1 + 1 * 0 = 0; rw [h1]
  | ⟨2, _⟩ => show win0_6.index t 2 * 256 + 1 * r.val = R.val; rw [h2]; omega
  | ⟨3, _⟩ => show win0_6.index t 3 * 512 + 1 * l.val = L.val; rw [h3]; omega

theorem blk7 (c : Dev nD) (t : Fin cfg0.N) (r : Fin 64) (l : Fin 2048) (R : Fin 5632) (hR : R.val = t.val * 64 + r.val) :
    (iblk m c 7 t : Vec Ideal S1x1x64x2048 .f32) (ix4 0 0 r l) = m ((c : Thread nD τ).loc main_arg7) (ix4 1 0 R l) := by
  rw [← V_main_arg7 m c]
  unfold iblk
  rw [View.read_apply]
  show V m c main_arg7 _ = V m c main_arg7 _
  congr 1
  funext d
  apply Fin.ext
  obtain ⟨h0, h1, h2, h3⟩ := idx7 t
  match d with
  | ⟨0, _⟩ => show win0_7.index t 0 * 1 + 1 * 0 = 1; rw [h0]
  | ⟨1, _⟩ => show win0_7.index t 1 * 1 + 1 * 0 = 0; rw [h1]
  | ⟨2, _⟩ => show win0_7.index t 2 * 64 + 1 * r.val = R.val; rw [h2]; omega
  | ⟨3, _⟩ => show win0_7.index t 3 * 2048 + 1 * l.val = l.val; rw [h3]; omega

/-! ## The first result -/

/-- The argument's entry, as a number. -/
abbrev xin (c : Dev nD) (R : Fin 8192) (l : Fin 2048) : EReal := m ((c : Thread nD τ).loc main_arg0) (ix2 R l)

/-- Row `R` normalised. -/
def nrow (c : Dev nD) (R : Fin 8192) (a : Fin 2048) : EReal :=
  rms (fun b => m ((c : Thread nD τ).loc main_arg0) (ix2 R b)) (fun b => m ((c : Thread nD τ).loc main_arg1) (ix1 b)) a

/-- Hidden unit `K`'s contribution to entry `l` of row `R`, before the halving. -/
def unit (c : Dev nD) (R : Fin 8192) (l : Fin 2048) (K : Fin 5632) : EReal :=
  gated (nrow m c R) (fun a => m ((c : Thread nD τ).loc main_arg2) (ix2 a K)) (fun a => m ((c : Thread nD τ).loc main_arg3) (ix2 a K))
    * m ((c : Thread nD τ).loc main_arg4) (ix2 K l)

/-- The same by number, halved; `0` past the last unit. -/
def unitN (c : Dev nD) (R : Fin 8192) (l : Fin 2048) (K : ℕ) : EReal :=
  if h : K < 5632 then Ideal.ofBits .f32 0x3F000000#32 * unit m c R l ⟨K, h⟩ else 0

/-- What one tile adds: 512 consecutive units. -/
theorem tile (c : Dev nD) (t : Fin cfg0.N) (R : Fin 8192) (n : Vec Ideal S1024x2048 .bf16) (r : Fin 1024) (l : Fin 2048)
    (hn : ∀ a, n (ix2 r a) = nrow m c R a) :
    ∑ k : Fin 512, gated (fun a => n (ix2 r a)) (fun a => (iblk m c 2 t : Vec Ideal S2048x512 .bf16) (ix2 a k))
          (fun a => (iblk m c 3 t : Vec Ideal S2048x512 .bf16) (ix2 a k))
          * Ideal.ofBits .f32 0x3F000000#32 * (iblk m c 4 t : Vec Ideal S512x2048 .bf16) (ix2 k l)
      = ∑ k ∈ Finset.range 512, unitN m c R l (512 * (t.val % 11) + k) := by
  rw [Finset.sum_range]
  refine Finset.sum_congr rfl fun k _ => ?_
  have hlt : 512 * (t.val % 11) + k.val < 5632 := by have := k.isLt; omega
  unfold unitN
  rw [dif_pos hlt]
  unfold unit
  rw [funext hn, blk4 m c t k l ⟨_, hlt⟩ (by simp only; omega)]
  simp only [fun a => blk2 m c t a k ⟨_, hlt⟩ (by simp only; omega), fun a => blk3 m c t a k ⟨_, hlt⟩ (by simp only; omega)]
  rw [mul_comm (gated _ _ _) (Ideal.ofBits _ _), mul_assoc]

/-- After the tile `j` of row block `q`: the kept rows are the normalised ones, the output has the units so far. -/
theorem after_tile (c : Dev nD) (q : ℕ) (hq : q < 8) : ∀ (j : ℕ) (hj : j < 11) (hn : 11 * q + j < cfg0.N) (r : Fin 1024) (R : Fin 8192),
    R.val = q * 1024 + r.val →
    (∀ a, (outsAt0 m c (11 * q + j) hn).2.2.2.2 (ix2 r a) = nrow m c R a)
    ∧ ∀ l, (outsAt0 m c (11 * q + j) hn).1 (ix2 r l)
        = xin m c R l + ∑ k ∈ Finset.range (512 * (j + 1)), unitN m c R l k := by
  intro j
  induction j with
  | zero =>
    intro hj hn r R hR
    have h0 : (⟨11 * q + 0, hn⟩ : Fin cfg0.N).val % 11 = 0 := by simp only; omega
    have hd : (⟨11 * q + 0, hn⟩ : Fin cfg0.N).val / 11 = q := by simp only; omega
    have e := at_first m c ⟨11 * q + 0, hn⟩ h0
    have hx : ∀ a, (iblk m c 0 ⟨11 * q + 0, hn⟩ : Vec Ideal S1024x2048 .f32) (ix2 r a) = xin m c R a :=
      fun a => blk0 m c _ r a R (by rw [hd]; exact hR)
    have hk : ∀ a, k0_pay2 (F := Ideal) (iblk m c 0 ⟨11 * q + 0, hn⟩) (iblk m c 1 ⟨11 * q + 0, hn⟩) (ix2 r a) = nrow m c R a := by
      intro a
      rw [pay2_apply]
      unfold nrow
      rw [funext hx, funext (blk1 m c _)]
    rw [e]
    refine ⟨hk, fun l => ?_⟩
    show k0_pay3 _ _ _ _ _ (ix2 r l) = _
    rw [pay3_apply, hx, tile m c _ R _ r l hk, h0]
    simp only [mul_zero, zero_add, mul_one]
  | succ j ih =>
    intro hj hn r R hR
    have hn' : 11 * q + j < cfg0.N := Nat.lt_of_succ_lt hn
    obtain ⟨ihn, iho⟩ := ih (by omega) hn' r R hR
    have hm : (⟨11 * q + (j + 1), hn⟩ : Fin cfg0.N).val % 11 = j + 1 := by simp only; omega
    have e := at_next m c ⟨11 * q + (j + 1), hn⟩ (by rw [hm]; omega) (outsAt0 m c (11 * q + j) hn') rfl
    rw [e]
    refine ⟨ihn, fun l => ?_⟩
    show k0_pay3 _ _ _ _ _ (ix2 r l) = _
    rw [pay3_apply, iho, tile m c _ R _ r l ihn, hm, show 512 * (j + 1 + 1) = 512 * (j + 1) + 512 by ring, Finset.sum_range_add, add_assoc]

/-- The first result at an index. -/
theorem result8 (c : Dev nD) (R : Fin 8192) (l : Fin 2048) :
    Value.G8 m c (ix2 R l) = xin m c R l
      + Ideal.ofBits .f32 0x3F000000#32 * ∑ K : Fin 5632, unit m c R l K := by
  have hN : cfg0.N = 88 := N_0
  have hp : Value.pt8Of (ix2 R l) = 11 * (R.val / 1024) + 10 := by
    show 11 * (1 * (R.val / 1024 - 0) + 1 * (l.val / 2048 - 0)) + 10 = _
    have := l.isLt; omega
  have hq : R.val / 1024 < 8 := by have := R.isLt; omega
  have hn : 11 * (R.val / 1024) + 10 < cfg0.N := by omega
  have hl : Value.loc8Of (ix2 R l) = ix2 (⟨R.val % 1024, Nat.mod_lt _ (by decide)⟩ : Fin 1024) l := by
    funext d
    apply Fin.ext
    match d with
    | ⟨0, _⟩ => rfl
    | ⟨1, _⟩ => show l.val % 2048 = l.val; exact Nat.mod_eq_of_lt l.isLt
  have h := (after_tile m c (R.val / 1024) hq 10 (by omega) hn ⟨R.val % 1024, Nat.mod_lt _ (by decide)⟩ R (by simp only; omega)).2 l
  have hg : Value.G8 m c (ix2 R l) = (outsAt0 m c (11 * (R.val / 1024) + 10) hn).1 (ix2 (⟨R.val % 1024, Nat.mod_lt _ (by decide)⟩ : Fin 1024) l) := by
    unfold Value.G8
    rw [dif_pos (by rw [hp]; exact hn), hl, Value.outsAt0_sweep m c _ hn, Value.fold0_congr m c _ _ _ (by omega) hp]
  rw [hg, h]
  congr 1
  rw [mul_sum_coe _ _ _ (by rw [ofBits_half]; exact_mod_cast (by norm_num : (0 : ℝ) ≤ 1 / 2)) (by rw [ofBits_half]; exact EReal.coe_ne_top _),
    show 512 * (10 + 1) = 5632 by norm_num, Finset.sum_range]
  refine Finset.sum_congr rfl fun K _ => ?_
  unfold unitN
  rw [dif_pos K.isLt]

/-! ## The cast stacks -/

/-- What every point writes of the stacks, whichever its case. -/
theorem at_any (c : Dev nD) (t : Fin cfg0.N) :
    (outsAt0 m c t.val t.isLt).2.1 = k0_pay4 (iblk m c 5 t) ∧ (outsAt0 m c t.val t.isLt).2.2.1 = k0_pay5 (iblk m c 6 t)
    ∧ (outsAt0 m c t.val t.isLt).2.2.2.1 = k0_pay1 (iblk m c 7 t) := by
  by_cases h0 : t.val % 11 = 0
  · rw [at_first m c t h0]; exact ⟨rfl, rfl, rfl⟩
  · rw [at_next m c t h0 _ rfl]; exact ⟨rfl, rfl, rfl⟩

theorem result9 (c : Dev nD) (R : Fin 2048) (L : Fin 5632) :
    Value.G9 m c (ix2 R L) = m ((c : Thread nD τ).loc main_arg5) (ix4 1 0 R L) := by
  have hN : cfg0.N = 88 := N_0
  have hp : Value.pt9Of (ix2 R L) = 11 * (R.val / 256) + L.val / 512 := by
    show 11 * (R.val / 256 - 0) + 1 * (L.val / 512 - 0) = _
    omega
  have hn : 11 * (R.val / 256) + L.val / 512 < cfg0.N := by have := R.isLt; have := L.isLt; omega
  have hl : Value.loc9Of (ix2 R L) = ix2 (⟨R.val % 256, Nat.mod_lt _ (by decide)⟩ : Fin 256) (⟨L.val % 512, Nat.mod_lt _ (by decide)⟩ : Fin 512) := by
    funext d
    match d with
    | ⟨0, _⟩ => rfl
    | ⟨1, _⟩ => rfl
  unfold Value.G9
  rw [dif_pos (by rw [hp]; exact hn), hl, Value.fold0_congr m c _ _ _ (by omega) hp, ← Value.outsAt0_sweep m c _ hn,
    (at_any m c ⟨_, hn⟩).1, pay4_apply]
  exact blk5 m c _ _ _ R L (by have := L.isLt; simp only; omega) (by have := L.isLt; simp only; omega)

theorem result10 (c : Dev nD) (R : Fin 2048) (L : Fin 5632) :
    Value.G10 m c (ix2 R L) = m ((c : Thread nD τ).loc main_arg6) (ix4 1 0 R L) := by
  have hN : cfg0.N = 88 := N_0
  have hp : Value.pt10Of (ix2 R L) = 11 * (R.val / 256) + L.val / 512 := by
    show 11 * (R.val / 256 - 0) + 1 * (L.val / 512 - 0) = _
    omega
  have hn : 11 * (R.val / 256) + L.val / 512 < cfg0.N := by have := R.isLt; have := L.isLt; omega
  have hl : Value.loc10Of (ix2 R L) = ix2 (⟨R.val % 256, Nat.mod_lt _ (by decide)⟩ : Fin 256) (⟨L.val % 512, Nat.mod_lt _ (by decide)⟩ : Fin 512) := by
    funext d
    match d with
    | ⟨0, _⟩ => rfl
    | ⟨1, _⟩ => rfl
  unfold Value.G10
  rw [dif_pos (by rw [hp]; exact hn), hl, Value.fold0_congr m c _ _ _ (by omega) hp, ← Value.outsAt0_sweep m c _ hn,
    (at_any m c ⟨_, hn⟩).2.1, pay5_apply]
  exact blk6 m c _ _ _ R L (by have := L.isLt; simp only; omega) (by have := L.isLt; simp only; omega)

theorem result11 (c : Dev nD) (R : Fin 5632) (L : Fin 2048) :
    Value.G11 m c (ix2 R L) = m ((c : Thread nD τ).loc main_arg7) (ix4 1 0 R L) := by
  have hN : cfg0.N = 88 := N_0
  have hp : Value.pt11Of (ix2 R L) = R.val / 64 := by
    show 1 * (R.val / 64 - 0) + 1 * (L.val / 2048 - 0) = _
    have := L.isLt; omega
  have hn : R.val / 64 < cfg0.N := by have := R.isLt; omega
  have hl : Value.loc11Of (ix2 R L) = ix2 (⟨R.val % 64, Nat.mod_lt _ (by decide)⟩ : Fin 64) L := by
    funext d
    apply Fin.ext
    match d with
    | ⟨0, _⟩ => rfl
    | ⟨1, _⟩ => show L.val % 2048 = L.val; exact Nat.mod_eq_of_lt L.isLt
  unfold Value.G11
  rw [dif_pos (by rw [hp]; exact hn), hl, Value.fold0_congr m c _ _ _ (by omega) hp, ← Value.outsAt0_sweep m c _ hn,
    (at_any m c ⟨_, hn⟩).2.2, pay1_apply]
  exact blk7 m c _ _ _ R (by simp only; omega)

end Cert.Proof.Ffn

end
-- ==== Proof.FfnRef.lean ====
/-
  THE FEED-FORWARD REFERENCE'S RESULTS AT AN INDEX, and the two programs' results equal.
-/
module

public import proofs.«01_k».proof.Proof.FfnValue
public import proofs.«01_k».proof.Proof.Gen.Reference2Ideal.Read

@[expose] public section

set_option maxRecDepth 16384

noncomputable section

namespace Cert.Proof.Ffn

open Idealize.ShloMosaic Idealize.ShloMosaic.TcCoe Idealize.SL.Sem Cert.Reference2Ideal Cert.Reference2Ideal.Read

/-- The idealized words of zero and one. -/
theorem ofBits_zero : Ideal.ofBits .f32 0x00000000#32 = 0 := by simp [Ideal.ofBits, Ideal.ieee]
theorem ofBits_one : Ideal.ofBits .f32 0x3F800000#32 = 1 := by
  have h : ((8388608 : ℝ) : EReal) * ((1 / 8388608 : ℝ) : EReal) = ((1 : ℝ) : EReal) := by
    rw [← EReal.coe_mul]; norm_num
  simp [Ideal.ofBits, Ideal.ieee]
  norm_num
  exact h

/-- Two indices of a matrix with the same coordinates. -/
theorem ext2 {n0 n1 : ℕ} {i j : (⟨2, ![n0, n1]⟩ : Shape).Idx} (h0 : (i 0).val = (j 0).val) (h1 : (i 1).val = (j 1).val) : i = j := by
  funext d
  apply Fin.ext
  match d with
  | ⟨0, _⟩ => exact h0
  | ⟨1, _⟩ => exact h1

variable (x : (⟨S8192x2048, .f32⟩ : BufTy).Contents (Elt Ideal)) (g : (⟨S2048, .f32⟩ : BufTy).Contents (Elt Ideal))
  (wg wu : (⟨S2048x5632, .bf16⟩ : BufTy).Contents (Elt Ideal)) (wd : (⟨S5632x2048, .bf16⟩ : BufTy).Contents (Elt Ideal))

/-- The normalised rows. -/
theorem ref_rms (R : Fin 8192) (a : Fin 2048) :
    val_main_v12 (F := Ideal) x g (ix2 R a) = rms (fun b => x (ix2 R b)) (fun b => g (ix1 b)) a := by
  rw [val_main_v12_apply, val_main_v9_apply, val_main_v8_apply, val_main_v7_apply, val_main_v6_apply, val_main_v5_apply,
    val_main_cst_1_apply, val_main_v4_apply, val_main_v3_apply, val_main_cst_0_apply, val_main_v2_apply, val_main_v1_apply,
    val_main_cst_apply, val_main_v11_apply, val_main_v10_apply]
  unfold rms
  have e1 : idx_main_v10 (idx_main_v11 (ix2 R a)) = ix1 a := by
    funext d
    match d with
    | ⟨0, _⟩ => rfl
  have e2 : ∀ k, idx_main_v1 (idx_main_v2 (idx_main_v8 (ix2 R a))) k = ix2 R k := fun k => ext2 rfl rfl
  rw [e1]
  simp only [val_main_v0_apply, e2]
  show x (ix2 R a) * Ideal.rsqrt (Ideal.div (Ideal.ofBits .f32 0x00000000#32 + _) _ + _) * _ = _
  rw [ofBits_zero, zero_add]
  rfl

/-- The gated activation. -/
theorem ref_gated (R : Fin 8192) (K : Fin 5632) :
    val_main_v19 (F := Ideal) x g wg wu (ix2 R K)
      = gated (fun a => rms (fun b => x (ix2 R b)) (fun b => g (ix1 b)) a) (fun a => wg (ix2 a K)) (fun a => wu (ix2 a K)) := by
  have hg : val_main_v16 (F := Ideal) x g wg (ix2 R K)
      = ∑ a, rms (fun b => x (ix2 R b)) (fun b => g (ix1 b)) a * wg (ix2 a K) := by
    rw [val_main_v16_apply]
    refine Finset.sum_congr rfl fun a _ => ?_
    rw [show lidx_main_v16 (ix2 R K) a = ix2 R a from ext2 rfl rfl, show ridx_main_v16 (ix2 R K) a = ix2 a K from ext2 rfl rfl, ref_rms]
    rfl
  have hu : val_main_v18 (F := Ideal) x g wu (ix2 R K)
      = ∑ a, rms (fun b => x (ix2 R b)) (fun b => g (ix1 b)) a * wu (ix2 a K) := by
    rw [val_main_v18_apply]
    refine Finset.sum_congr rfl fun a _ => ?_
    rw [show lidx_main_v18 (ix2 R K) a = ix2 R a from ext2 rfl rfl, show ridx_main_v18 (ix2 R K) a = ix2 a K from ext2 rfl rfl, ref_rms]
    rfl
  rw [val_main_v19_apply, val_main_v17_apply, val_main_call0_v5_apply, val_main_call0_v4_apply, val_main_call0_cst_0_apply,
    val_main_call0_v3_apply, val_main_call0_v2_apply, val_main_call0_cst_apply, val_main_call0_v1_apply, val_main_call0_v0_apply, hg, hu]
  show _ * Ideal.div (Ideal.ofBits .f32 0x3F800000#32) (Ideal.ofBits .f32 0x3F800000#32 + Ideal.exp (-_)) * _ = _
  rw [ofBits_one]
  rfl

/-- The first result. -/
theorem ref_first (R : Fin 8192) (l : Fin 2048) :
    val_main_v23 (F := Ideal) x g wg wu wd (ix2 R l) = (show EReal from x (ix2 R l)) + Ideal.ofBits .f32 0x3F000000#32
      * ∑ K : Fin 5632, gated (fun a => rms (fun b => x (ix2 R b)) (fun b => g (ix1 b)) a) (fun a => wg (ix2 a K)) (fun a => wu (ix2 a K))
          * wd (ix2 K l) := by
  rw [val_main_v23_apply, val_main_v22_apply, val_main_v21_apply, val_main_cst_2_apply, val_main_v20_apply]
  show _ + _ * _ = _
  congr 2
  refine Finset.sum_congr rfl fun K _ => ?_
  rw [show lidx_main_v20 (ix2 R l) K = ix2 R K from ext2 rfl rfl, show ridx_main_v20 (ix2 R l) K = ix2 K l from ext2 rfl rfl, ref_gated]
  rfl

/-- The cast stacks: the first feed-forward of the second layer. -/
theorem ref_up (w : (⟨S4x2x2048x5632, .f32⟩ : BufTy).Contents (Elt Ideal)) (R : Fin 2048) (L : Fin 5632) :
    val_main_v26 (F := Ideal) w (ix2 R L) = w (ix4 1 0 R L) ∧ val_main_v29 (F := Ideal) w (ix2 R L) = w (ix4 1 0 R L) := by
  have hR := R.isLt
  have hL := L.isLt
  constructor
  · rw [val_main_v26_apply, val_main_v25_apply, val_main_v24_apply]
    show w _ = _
    congr 1
    funext d
    apply Fin.ext
    match d with
    | ⟨0, _⟩ => rfl
    | ⟨1, _⟩ => rfl
    | ⟨2, _⟩ => show (R.val * 5632 + L.val) / 5632 % 2048 = R.val; omega
    | ⟨3, _⟩ => show (R.val * 5632 + L.val) % 5632 = L.val; omega
  · rw [val_main_v29_apply, val_main_v28_apply, val_main_v27_apply]
    show w _ = _
    congr 1
    funext d
    apply Fin.ext
    match d with
    | ⟨0, _⟩ => rfl
    | ⟨1, _⟩ => rfl
    | ⟨2, _⟩ => show (R.val * 5632 + L.val) / 5632 % 2048 = R.val; omega
    | ⟨3, _⟩ => show (R.val * 5632 + L.val) % 5632 = L.val; omega

theorem ref_down (w : (⟨S4x2x5632x2048, .f32⟩ : BufTy).Contents (Elt Ideal)) (R : Fin 5632) (L : Fin 2048) :
    val_main_v32 (F := Ideal) w (ix2 R L) = w (ix4 1 0 R L) := by
  have hR := R.isLt
  have hL := L.isLt
  rw [val_main_v32_apply, val_main_v31_apply, val_main_v30_apply]
  show w _ = _
  congr 1
  funext d
  apply Fin.ext
  match d with
  | ⟨0, _⟩ => rfl
  | ⟨1, _⟩ => rfl
  | ⟨2, _⟩ => show (R.val * 2048 + L.val) / 2048 % 5632 = R.val; omega
  | ⟨3, _⟩ => show (R.val * 2048 + L.val) % 2048 = L.val; omega

/-! ## The two programs -/

open Cert.Kernel2Ideal in
/-- The kernel's arrays after the run are the reference's stages of the kernel's arguments. -/
theorem results (m : (ℓ : Loc Cert.Kernel2Ideal.nD Cert.Kernel2Ideal.τ Cert.Kernel2Ideal.sig) → Buf (Elt Ideal) ℓ) (c : Dev Cert.Kernel2Ideal.nD) :
    Cert.Kernel2Ideal.Value.G8 m c = val_main_v23 (F := Ideal) (m (c.tc.loc Cert.Kernel2Ideal.main_arg0))
        (m (c.tc.loc Cert.Kernel2Ideal.main_arg1)) (m (c.tc.loc Cert.Kernel2Ideal.main_arg2))
        (m (c.tc.loc Cert.Kernel2Ideal.main_arg3)) (m (c.tc.loc Cert.Kernel2Ideal.main_arg4))
    ∧ Cert.Kernel2Ideal.Value.G9 m c = val_main_v26 (F := Ideal) (m (c.tc.loc Cert.Kernel2Ideal.main_arg5))
    ∧ Cert.Kernel2Ideal.Value.G10 m c = val_main_v29 (F := Ideal) (m (c.tc.loc Cert.Kernel2Ideal.main_arg6))
    ∧ Cert.Kernel2Ideal.Value.G11 m c = val_main_v32 (F := Ideal) (m (c.tc.loc Cert.Kernel2Ideal.main_arg7)) := by
  refine ⟨funext fun i => ?_, funext fun i => ?_, funext fun i => ?_, funext fun i => ?_⟩
  · obtain ⟨R, l, rfl⟩ : ∃ (R : Fin 8192) (l : Fin 2048), i = ix2 R l := ⟨i 0, i 1, ext2 rfl rfl⟩
    exact (result8 m c R l).trans (ref_first _ _ _ _ _ R l).symm
  · obtain ⟨R, l, rfl⟩ : ∃ (R : Fin 2048) (l : Fin 5632), i = ix2 R l := ⟨i 0, i 1, ext2 rfl rfl⟩
    exact (result9 m c R l).trans (ref_up _ R l).1.symm
  · obtain ⟨R, l, rfl⟩ : ∃ (R : Fin 2048) (l : Fin 5632), i = ix2 R l := ⟨i 0, i 1, ext2 rfl rfl⟩
    exact (result10 m c R l).trans (ref_up _ R l).2.symm
  · obtain ⟨R, l, rfl⟩ : ∃ (R : Fin 5632) (l : Fin 2048), i = ix2 R l := ⟨i 0, i 1, ext2 rfl rfl⟩
    exact (result11 m c R l).trans (ref_down _ R l).symm

end Cert.Proof.Ffn

end
-- ==== Proof.ScanStep.lean ====
/-
  ONE CHUNK OF THE SCAN: what a trip of either loop computes from the chunk's tokens, the state it finds and the tables of
  cumulated decays. The second loop computes by the first loop's formulas, at the other mask and the chunk counted from behind.
-/
module

public import proofs.«01_k».proof.Proof.FfnRef
public import proofs.«01_k».proof.Proof.Gen.KernelIdeal.Skeleton
public import Idealize.ShloMosaic.Lib.Pipeline.Value

@[expose] public section

set_option maxRecDepth 16384

noncomputable section

namespace Cert.Proof.Scan

open Idealize.ShloMosaic Idealize.ShloMosaic.TcCoe Idealize.SL.Sem Cert.KernelIdeal Cert.KernelIdeal.Gen
open Cert.Proof.Ffn (ext2)

/-- The idealized word of minus infinity. -/
theorem ofBits_bot : Ideal.ofBits .f32 0xFF800000#32 = ⊥ := by simp [Ideal.ofBits, Ideal.ieee]

/-- Four pieces of 128 columns side by side. -/
theorem cat4 {α : Type} (f : Fin 4 → (S128x128.Idx → α)) (h) (r : Fin 128) (l : Fin 512) :
    concatenate S128x512 1 [⟨S128x128, f 0⟩, ⟨S128x128, f 1⟩, ⟨S128x128, f 2⟩, ⟨S128x128, f 3⟩] h (ix2 r l)
      = f ⟨l.val / 128, by omega⟩ (ix2 r ⟨l.val % 128, by omega⟩) := by
  refine concatenate_ofFn_apply (t := S128x512) (s₁ := S128x128) 1 f h rfl 128 rfl _ ⟨l.val / 128, by omega⟩ rfl _ rfl fun b hb => ?_
  match b with
  | ⟨0, _⟩ => rfl
  | ⟨1, _⟩ => exact absurd rfl hb

/-- Four pieces of 128 rows one under the other. -/
theorem cat4r {α : Type} (f : Fin 4 → (S128x256.Idx → α)) (h) (r : Fin 512) (l : Fin 256) :
    concatenate S512x256 0 [⟨S128x256, f 0⟩, ⟨S128x256, f 1⟩, ⟨S128x256, f 2⟩, ⟨S128x256, f 3⟩] h (ix2 r l)
      = f ⟨r.val / 128, by omega⟩ (ix2 ⟨r.val % 128, by omega⟩ l) := by
  refine concatenate_ofFn_apply (t := S512x256) (s₁ := S128x256) 0 f h rfl 128 rfl _ ⟨r.val / 128, by omega⟩ rfl _ rfl fun b hb => ?_
  match b with
  | ⟨0, _⟩ => exact absurd rfl hb
  | ⟨1, _⟩ => rfl

/-- Two pieces of 256 columns side by side. -/
theorem cat2 {α : Type} (f : Fin 2 → (S128x256.Idx → α)) (h) (r : Fin 128) (l : Fin 512) :
    concatenate S128x512 1 [⟨S128x256, f 0⟩, ⟨S128x256, f 1⟩] h (ix2 r l)
      = f ⟨l.val / 256, by omega⟩ (ix2 r ⟨l.val % 256, by omega⟩) := by
  refine concatenate_ofFn_apply (t := S128x512) (s₁ := S128x256) 1 f h rfl 256 rfl _ ⟨l.val / 256, by omega⟩ rfl _ rfl fun b hb => ?_
  match b with
  | ⟨0, _⟩ => rfl
  | ⟨1, _⟩ => exact absurd rfl hb

/-- A word counted from behind if it is negative. -/
def wrap (w : BitVec 32) : BitVec 32 := Scalar.select (IntOp.cmpi .slt w 0#32) (IntOp.addi w 128#32) w

/-- The columns `i` of `x`, row by row. -/
def gat (x : Vec Ideal S128x128 .f32) (i : IVec S128x128 32) : FVec Ideal S128x128 .f32 :=
  dynamicGather 1 x (shapeCast S128x128 (shapeCast S128x128x1 (select (cmpi .slt i (broadcast S128x128 0#32))
    (addi i (broadcast S128x128 128#32)) i) shapeCasts_S128x128_S128x128x1) shapeCasts_S128x128x1_S128x128)

theorem gat_apply (x : Vec Ideal S128x128 .f32) (i : IVec S128x128 32) (r l : Fin 128) (n : ℕ) (hn : n < 128)
    (h : (wrap (i (ix2 r l))).toNat = n) : gat x i (ix2 r l) = x (ix2 r ⟨n, hn⟩) := by
  unfold gat
  pointwise
  subst h
  refine congrArg x (ext2 rfl ?_)
  show (wrap (i (ix2 r l))).toNat % 128 = (wrap (i (ix2 r l))).toNat
  exact Nat.mod_eq_of_lt hn

theorem wrap_lane : ∀ (c : Fin 16) (j : Fin 4) (l : Fin 128),
    (wrap (IntOp.addi (Scalar.addi (BitVec.ofNat 32 (8 * c.val)) (![0#32, 2#32, 4#32, 6#32] j)) (IntOp.shrui .vector (BitVec.ofNat 32 l.val) 6#32))).toNat
      = 8 * c.val + (2 * j.val + l.val / 64) := by decide +kernel

theorem wrap_head : ∀ (c : Fin 16) (h : Fin 8),
    (wrap (Scalar.addi (BitVec.ofNat 32 (8 * c.val)) (![0#32, 1#32, 2#32, 3#32, 4#32, 5#32, 6#32, 7#32] h))).toNat = 8 * c.val + h.val := by decide +kernel

/-- The head a column of the group belongs to. -/
def hd (l : Fin 512) : Fin 8 := ⟨l.val / 64, by omega⟩

/-- The row of a table that holds head `h` of chunk `c`. -/
def row (c : Fin 16) (h : Fin 8) : Fin 128 := ⟨8 * c.val + h.val, by omega⟩

/-- The lanes' numbers divided by the width of a head. -/
def lane : IVec S128x128 32 := k0_pay97 (iota .tc S128x128 32 [1] iota_S128x128_d1_w32) k0_pay96

section
attribute [local irreducible] gat lane

/-- The entries of a table spread over a head's columns. -/
theorem spread (x : Vec Ideal S128x128 .f32) (c : Fin 16) (h) (r : Fin 128) (l : Fin 512) :
    concatenate S128x512 1 [⟨S128x128, gat x (addi (broadcast S128x128 (Scalar.addi (BitVec.ofNat 32 (8 * c.val)) 0#32)) lane)⟩,
      ⟨S128x128, gat x (addi (broadcast S128x128 (Scalar.addi (BitVec.ofNat 32 (8 * c.val)) 2#32)) lane)⟩,
      ⟨S128x128, gat x (addi (broadcast S128x128 (Scalar.addi (BitVec.ofNat 32 (8 * c.val)) 4#32)) lane)⟩,
      ⟨S128x128, gat x (addi (broadcast S128x128 (Scalar.addi (BitVec.ofNat 32 (8 * c.val)) 6#32)) lane)⟩] h (ix2 r l)
      = x (ix2 r (row c (hd l))) := by
  refine (cat4 ![gat x (addi (broadcast S128x128 (Scalar.addi (BitVec.ofNat 32 (8 * c.val)) 0#32)) lane),
    gat x (addi (broadcast S128x128 (Scalar.addi (BitVec.ofNat 32 (8 * c.val)) 2#32)) lane),
    gat x (addi (broadcast S128x128 (Scalar.addi (BitVec.ofNat 32 (8 * c.val)) 4#32)) lane),
    gat x (addi (broadcast S128x128 (Scalar.addi (BitVec.ofNat 32 (8 * c.val)) 6#32)) lane)] h r l).trans ?_
  have key : ∀ j : Fin 4, (![gat x (addi (broadcast S128x128 (Scalar.addi (BitVec.ofNat 32 (8 * c.val)) 0#32)) lane),
    gat x (addi (broadcast S128x128 (Scalar.addi (BitVec.ofNat 32 (8 * c.val)) 2#32)) lane),
    gat x (addi (broadcast S128x128 (Scalar.addi (BitVec.ofNat 32 (8 * c.val)) 4#32)) lane),
    gat x (addi (broadcast S128x128 (Scalar.addi (BitVec.ofNat 32 (8 * c.val)) 6#32)) lane)] : Fin 4 → FVec Ideal S128x128 .f32) j
      = gat x (addi (broadcast S128x128 (Scalar.addi (BitVec.ofNat 32 (8 * c.val)) (![0#32, 2#32, 4#32, 6#32] j))) lane) := fun j => by
    match j with
    | 0 => rfl
    | 1 => rfl
    | 2 => rfl
    | 3 => rfl
  rw [key]
  refine (gat_apply x _ _ _ (8 * c.val + l.val / 64) (by omega) ?_)
  refine Eq.trans ?_ ((wrap_lane c ⟨l.val / 128, by omega⟩ ⟨l.val % 128, by omega⟩).trans ?_)
  · unfold lane k0_pay97 k0_pay96
    pointwise
  show 8 * c.val + (2 * (l.val / 128) + l.val % 128 / 64) = _
  omega

end

section
variable (mask : IVec S128x128 1) (b : BitVec 32) (tcs te tw : Vec Ideal S128x128 .f32) (csr dtr : Vec Ideal S8x128 .f32)
  (dec : Vec Ideal S8x512 .f32) (X : Vec Ideal S1x128x512 .bf16) (B C : Vec Ideal S1x128x128 .bf16) (H : Vec Ideal S128x512 .f32)

/-- The new state. -/
def stepH : FVec Ideal S128x512 .f32 :=
  k0_pay19 lane b (k0_pay7 dec) (k0_pay9 X) (k0_pay10 B) H tw (k0_pay16 lane b) (k0_pay17 lane b) (k0_pay18 lane b)

/-- One head's weights of the chunk's tokens. -/
def weights (o : ℕ) (ho : S8x128.Slices ![o, 0] S1x128) (w : BitVec 32) : FVec Ideal S128x128 .bf16 :=
  truncf .bf16 (mulf (mulf (k0_pay12 B C) (exp (select mask (subf (gat tcs (broadcast S128x128 (Scalar.addi b w)))
    (broadcastTo S128x128 (extractStridedSlice S1x128 ![o, 0] csr ho) broadcasts_S1x128_S128x128))
    (broadcast S128x128 (Scalar.ofBits (F := Ideal) .f32 0xFF800000#32)))))
    (broadcastTo S128x128 (extractStridedSlice S1x128 ![o, 0] dtr ho) broadcasts_S1x128_S128x128)) bitsLt_bf16_f32

/-- The tokens with the columns of all heads but one replaced by zero. -/
def masked (t : FVec Ideal S128x256 .bf16) (w : BitVec 32) : FVec Ideal S128x256 .bf16 :=
  select (cmpi .eq k0_pay98 (broadcast S128x256 w)) t (broadcast S128x256 (Scalar.ofBits (F := Ideal) .bf16 0x0000#16))

/-- Four heads' tokens weighed. -/
def tile (t : FVec Ideal S128x256 .bf16) (m : Fin 4 → FVec Ideal S128x128 .bf16) : FVec Ideal S128x256 .f32 :=
  matmul dot_S128x512_S512x256_S128x256_1_0_0_1_n_n none
    (concatenate S128x512 1 [⟨S128x128, m 0⟩, ⟨S128x128, m 1⟩, ⟨S128x128, m 2⟩, ⟨S128x128, m 3⟩] concatenates_S128x128_S128x128_S128x128_S128x128_S128x512_d1)
    (concatenate S512x256 0 [⟨S128x256, masked t 0#32⟩, ⟨S128x256, masked t 1#32⟩, ⟨S128x256, masked t 2#32⟩, ⟨S128x256, masked t 3#32⟩] concatenates_S128x256_S128x256_S128x256_S128x256_S512x256_d0)
    (constant S128x256 .f32 0x00000000#32)

/-- The chunk's contribution to the result. -/
def stepY : FVec Ideal S128x512 .f32 :=
  addf (k0_pay15 lane b (k0_pay13 C H) te (select (cmpi .slt (k0_pay16 lane b) (broadcast S128x128 0#32)) (addi (k0_pay16 lane b) (broadcast S128x128 128#32)) (k0_pay16 lane b)))
    (concatenate S128x512 1 [
      ⟨S128x256, tile (k0_pay20 (k0_pay8 X)) ![weights mask b tcs csr dtr B C 0 slices_S8x128_o0_0_S1x128 0#32,
        weights mask b tcs csr dtr B C 1 slices_S8x128_o1_0_S1x128 1#32, weights mask b tcs csr dtr B C 2 slices_S8x128_o2_0_S1x128 2#32,
        weights mask b tcs csr dtr B C 3 slices_S8x128_o3_0_S1x128 3#32]⟩,
      ⟨S128x256, tile (k0_pay30 (k0_pay8 X)) ![weights mask b tcs csr dtr B C 4 slices_S8x128_o4_0_S1x128 4#32,
        weights mask b tcs csr dtr B C 5 slices_S8x128_o5_0_S1x128 5#32, weights mask b tcs csr dtr B C 6 slices_S8x128_o6_0_S1x128 6#32,
        weights mask b tcs csr dtr B C 7 slices_S8x128_o7_0_S1x128 7#32]⟩] concatenates_S128x256_S128x256_S128x512_d1)

theorem mask_lane : ∀ (k : Fin 4) (l : Fin 256), IntOp.cmpi .eq (IntOp.shrui .vector (BitVec.ofNat 32 l.val) 6#32) (BitVec.ofNat 32 k.val)
    = if k.val = l.val / 64 then 1#1 else 0#1 := by decide +kernel

theorem ofBits_zero16 : Ideal.ofBits .bf16 0x0000#16 = 0 := by simp [Ideal.ofBits, Ideal.ieee]

/-- The masked tokens at an index. -/
theorem masked_apply (t : FVec Ideal S128x256 .bf16) (k : Fin 4) (s : Fin 128) (l : Fin 256) :
    masked t (BitVec.ofNat 32 k.val) (ix2 s l) = if k.val = l.val / 64 then t (ix2 s l) else 0 := by
  unfold masked k0_pay98
  pointwise
  rw [mask_lane]
  split
  · rfl
  · rfl

variable (c : Fin 16) (hb : b = BitVec.ofNat 32 (8 * c.val))
include hb

theorem stepH_apply (n : Fin 128) (l : Fin 512) : stepH b tw dec X B H (ix2 n l)
    = H (ix2 n l) * dec (ix2 0 l) + ∑ s : Fin 128, B (ix3 0 s n) * (X (ix3 0 s l) * tw (ix2 s (row c (hd l)))) := by
  subst hb
  have e : stepH (BitVec.ofNat 32 (8 * c.val)) tw dec X B H = shapeCast S128x512 (addf (mulf H (broadcastTo S128x512 (k0_pay7 dec) broadcasts_S1x512_S128x512))
      (matmul dot_S128x128_S128x512_S128x512_0_0_1_1_n_n none (k0_pay10 B) (truncf .bf16 (mulf (k0_pay9 X)
        (concatenate S128x512 1 [⟨S128x128, gat tw (addi (broadcast S128x128 (Scalar.addi (BitVec.ofNat 32 (8 * c.val)) 0#32)) lane)⟩,
      ⟨S128x128, gat tw (addi (broadcast S128x128 (Scalar.addi (BitVec.ofNat 32 (8 * c.val)) 2#32)) lane)⟩,
      ⟨S128x128, gat tw (addi (broadcast S128x128 (Scalar.addi (BitVec.ofNat 32 (8 * c.val)) 4#32)) lane)⟩,
      ⟨S128x128, gat tw (addi (broadcast S128x128 (Scalar.addi (BitVec.ofNat 32 (8 * c.val)) 6#32)) lane)⟩] concatenates_S128x128_S128x128_S128x128_S128x128_S128x512_d1)) bitsLt_bf16_f32)
        (constant S128x512 .f32 0x00000000#32))) shapeCasts_S128x512_S128x512 := rfl
  rw [e]
  generalize hq : concatenate S128x512 1 _ _ = q
  have hq' : ∀ s : Fin 128, q (ix2 s l) = tw (ix2 s (row c (hd l))) := fun s => by rw [← hq]; exact spread tw c _ s l
  unfold k0_pay7 k0_pay9 k0_pay8 k0_pay10
  pointwise [dot_S128x128_S128x512_S128x512_0_0_1_1_n_n]
  simp only [hq']

theorem weights_apply (h : Fin 8) (ho) (w) (hw : w = ![0#32, 1#32, 2#32, 3#32, 4#32, 5#32, 6#32, 7#32] h) (r s : Fin 128) :
    weights mask b tcs csr dtr B C h.val ho w (ix2 r s)
    = (∑ n : Fin 128, C (ix3 0 r n) * B (ix3 0 s n)) * Ideal.exp (if mask (ix2 r s) = 1#1 then tcs (ix2 r (row c h)) - csr (ix2 h s) else ⊥) * dtr (ix2 h s) := by
  subst hb hw
  unfold weights k0_pay12 k0_pay11 k0_pay10
  pointwise [dot_S128x128_S128x128_S128x128_1_1_0_0_n_n]
  rw [gat_apply tcs (broadcast S128x128 (Scalar.addi (BitVec.ofNat 32 (8 * c.val)) (![0#32, 1#32, 2#32, 3#32, 4#32, 5#32, 6#32, 7#32] h)))
    r s (8 * c.val + h.val) (by omega) (show (wrap (Scalar.addi _ _)).toNat = _ from wrap_head c h), ofBits_bot]
  rfl

omit hb in
/-- Four heads' weighed tokens, at the columns of head `j`. -/
theorem tile_apply (t : FVec Ideal S128x256 .bf16) (m : Fin 4 → FVec Ideal S128x128 .bf16) (r : Fin 128) (l : Fin 256) :
    tile t m (ix2 r l) = ∑ s : Fin 128, m ⟨l.val / 64, by omega⟩ (ix2 r s) * t (ix2 s l) := by
  unfold tile
  generalize hp : concatenate S128x512 1 _ _ = p
  generalize hq : concatenate S512x256 0 _ _ = q
  have hp' : ∀ (k : Fin 4) (s : Fin 128), p (ix2 r ⟨k.val * 128 + s.val, by omega⟩) = m k (ix2 r s) := fun k s => by
    rw [← hp]
    refine (cat4 m _ r ⟨k.val * 128 + s.val, by omega⟩).trans ?_
    have e1 : (⟨(k.val * 128 + s.val) / 128, by omega⟩ : Fin 4) = k := Fin.ext (by show (k.val * 128 + s.val) / 128 = k.val; omega)
    have e2 : (⟨(k.val * 128 + s.val) % 128, by omega⟩ : Fin 128) = s := Fin.ext (by show (k.val * 128 + s.val) % 128 = s.val; omega)
    show m ⟨(k.val * 128 + s.val) / 128, _⟩ (ix2 r ⟨(k.val * 128 + s.val) % 128, _⟩) = _
    rw [e1, e2]
  have hq' : ∀ (k : Fin 4) (s : Fin 128), q (ix2 ⟨k.val * 128 + s.val, by omega⟩ l) = if k.val = l.val / 64 then t (ix2 s l) else 0 := fun k s => by
    rw [← hq]
    refine (cat4r ![masked t 0#32, masked t 1#32, masked t 2#32, masked t 3#32] _ ⟨k.val * 128 + s.val, by omega⟩ l).trans ?_
    have e1 : (⟨(k.val * 128 + s.val) / 128, by omega⟩ : Fin 4) = k := Fin.ext (by show (k.val * 128 + s.val) / 128 = k.val; omega)
    have e2 : (⟨(k.val * 128 + s.val) % 128, by omega⟩ : Fin 128) = s := Fin.ext (by show (k.val * 128 + s.val) % 128 = s.val; omega)
    show (![masked t 0#32, masked t 1#32, masked t 2#32, masked t 3#32] : Fin 4 → FVec Ideal S128x256 .bf16) ⟨(k.val * 128 + s.val) / 128, _⟩ (ix2 ⟨(k.val * 128 + s.val) % 128, _⟩ l) = _
    rw [e1, e2]
    have key : (![masked t 0#32, masked t 1#32, masked t 2#32, masked t 3#32] : Fin 4 → FVec Ideal S128x256 .bf16) k = masked t (BitVec.ofNat 32 k.val) := by
      match k with
      | 0 => rfl
      | 1 => rfl
      | 2 => rfl
      | 3 => rfl
    rw [key]
    exact masked_apply t k s l
  pointwise [dot_S128x512_S512x256_S128x256_1_0_0_1_n_n]
  rw [Fin.sum_univ_tiles 4 128 rfl]
  simp only [hp', hq', mul_ite, mul_zero]
  rw [Finset.sum_eq_single (⟨l.val / 64, by omega⟩ : Fin 4)]
  · simp
  · intro k _ hk
    refine Finset.sum_eq_zero fun s _ => if_neg fun h => hk (Fin.ext h)
  · intro h; exact absurd (Finset.mem_univ _) h

theorem stepY_apply (r : Fin 128) (l : Fin 512) : stepY mask b tcs te csr dtr X B C H (ix2 r l)
    = (∑ n : Fin 128, C (ix3 0 r n) * H (ix2 n l)) * te (ix2 r (row c (hd l)))
      + ∑ s : Fin 128, ((∑ n : Fin 128, C (ix3 0 r n) * B (ix3 0 s n))
          * Ideal.exp (if mask (ix2 r s) = 1#1 then tcs (ix2 r (row c (hd l))) - csr (ix2 (hd l) s) else ⊥) * dtr (ix2 (hd l) s)) * X (ix3 0 s l) := by
  subst hb
  have e : stepY mask (BitVec.ofNat 32 (8 * c.val)) tcs te csr dtr X B C H = addf (mulf (k0_pay13 C H)
        (concatenate S128x512 1 [⟨S128x128, gat te (addi (broadcast S128x128 (Scalar.addi (BitVec.ofNat 32 (8 * c.val)) 0#32)) lane)⟩,
      ⟨S128x128, gat te (addi (broadcast S128x128 (Scalar.addi (BitVec.ofNat 32 (8 * c.val)) 2#32)) lane)⟩,
      ⟨S128x128, gat te (addi (broadcast S128x128 (Scalar.addi (BitVec.ofNat 32 (8 * c.val)) 4#32)) lane)⟩,
      ⟨S128x128, gat te (addi (broadcast S128x128 (Scalar.addi (BitVec.ofNat 32 (8 * c.val)) 6#32)) lane)⟩] concatenates_S128x128_S128x128_S128x128_S128x128_S128x512_d1))
    (concatenate S128x512 1 [
      ⟨S128x256, tile (k0_pay20 (k0_pay8 X)) ![weights mask (BitVec.ofNat 32 (8 * c.val)) tcs csr dtr B C 0 slices_S8x128_o0_0_S1x128 0#32,
        weights mask (BitVec.ofNat 32 (8 * c.val)) tcs csr dtr B C 1 slices_S8x128_o1_0_S1x128 1#32, weights mask (BitVec.ofNat 32 (8 * c.val)) tcs csr dtr B C 2 slices_S8x128_o2_0_S1x128 2#32,
        weights mask (BitVec.ofNat 32 (8 * c.val)) tcs csr dtr B C 3 slices_S8x128_o3_0_S1x128 3#32]⟩,
      ⟨S128x256, tile (k0_pay30 (k0_pay8 X)) ![weights mask (BitVec.ofNat 32 (8 * c.val)) tcs csr dtr B C 4 slices_S8x128_o4_0_S1x128 4#32,
        weights mask (BitVec.ofNat 32 (8 * c.val)) tcs csr dtr B C 5 slices_S8x128_o5_0_S1x128 5#32, weights mask (BitVec.ofNat 32 (8 * c.val)) tcs csr dtr B C 6 slices_S8x128_o6_0_S1x128 6#32,
        weights mask (BitVec.ofNat 32 (8 * c.val)) tcs csr dtr B C 7 slices_S8x128_o7_0_S1x128 7#32]⟩] concatenates_S128x256_S128x256_S128x512_d1) := rfl
  rw [e]
  generalize hq : concatenate S128x512 1 [⟨S128x128, _⟩, _, _, _] _ = q
  generalize hp : concatenate S128x512 1 [⟨S128x256, _⟩, _] _ = p
  have hq' : q (ix2 r l) = te (ix2 r (row c (hd l))) := by rw [← hq]; exact spread te c _ r l
  have hp' : p (ix2 r l) = ∑ s : Fin 128, ((∑ n : Fin 128, C (ix3 0 r n) * B (ix3 0 s n))
          * Ideal.exp (if mask (ix2 r s) = 1#1 then tcs (ix2 r (row c (hd l))) - csr (ix2 (hd l) s) else ⊥) * dtr (ix2 (hd l) s)) * X (ix3 0 s l) := by
    rw [← hp]
    refine (cat2 ![_, _] _ r l).trans ?_
    let W : Fin 8 → Fin 128 → EReal := fun h s => (∑ n : Fin 128, C (ix3 0 r n) * B (ix3 0 s n))
          * Ideal.exp (if mask (ix2 r s) = 1#1 then tcs (ix2 r (row c h)) - csr (ix2 h s) else ⊥) * dtr (ix2 h s)
    have hW : ∀ (h : Fin 8) (ho) (w) (hw : w = ![0#32, 1#32, 2#32, 3#32, 4#32, 5#32, 6#32, 7#32] h) (s : Fin 128),
        weights mask (BitVec.ofNat 32 (8 * c.val)) tcs csr dtr B C h.val ho w (ix2 r s) = W h s :=
      fun h ho w hw s => weights_apply mask _ tcs csr dtr B C c rfl h ho w hw r s
    have lo : ∀ (k : Fin 4) (s : Fin 128), (![weights mask (BitVec.ofNat 32 (8 * c.val)) tcs csr dtr B C 0 slices_S8x128_o0_0_S1x128 0#32,
        weights mask (BitVec.ofNat 32 (8 * c.val)) tcs csr dtr B C 1 slices_S8x128_o1_0_S1x128 1#32, weights mask (BitVec.ofNat 32 (8 * c.val)) tcs csr dtr B C 2 slices_S8x128_o2_0_S1x128 2#32,
        weights mask (BitVec.ofNat 32 (8 * c.val)) tcs csr dtr B C 3 slices_S8x128_o3_0_S1x128 3#32] : Fin 4 → FVec Ideal S128x128 .bf16) k (ix2 r s) = W ⟨k.val, by omega⟩ s := fun k s => by
      match k with
      | 0 => exact hW 0 _ _ rfl s
      | 1 => exact hW 1 _ _ rfl s
      | 2 => exact hW 2 _ _ rfl s
      | 3 => exact hW 3 _ _ rfl s
    have hi : ∀ (k : Fin 4) (s : Fin 128), (![weights mask (BitVec.ofNat 32 (8 * c.val)) tcs csr dtr B C 4 slices_S8x128_o4_0_S1x128 4#32,
        weights mask (BitVec.ofNat 32 (8 * c.val)) tcs csr dtr B C 5 slices_S8x128_o5_0_S1x128 5#32, weights mask (BitVec.ofNat 32 (8 * c.val)) tcs csr dtr B C 6 slices_S8x128_o6_0_S1x128 6#32,
        weights mask (BitVec.ofNat 32 (8 * c.val)) tcs csr dtr B C 7 slices_S8x128_o7_0_S1x128 7#32] : Fin 4 → FVec Ideal S128x128 .bf16) k (ix2 r s) = W ⟨4 + k.val, by omega⟩ s := fun k s => by
      match k with
      | 0 => exact hW 4 _ _ rfl s
      | 1 => exact hW 5 _ _ rfl s
      | 2 => exact hW 6 _ _ rfl s
      | 3 => exact hW 7 _ _ rfl s
    have x0 : ∀ (s : Fin 128) (j : Fin 256), k0_pay20 (k0_pay8 X) (ix2 s j) = X (ix3 0 s ⟨j.val, by omega⟩) := fun s j => by
      unfold k0_pay20 k0_pay8
      pointwise
    have x1 : ∀ (s : Fin 128) (j : Fin 256), k0_pay30 (k0_pay8 X) (ix2 s j) = X (ix3 0 s ⟨256 + j.val, by omega⟩) := fun s j => by
      unfold k0_pay30 k0_pay8
      pointwise
    rcases Nat.lt_or_ge l.val 256 with hl | hl
    · have e0 : (⟨l.val / 256, by omega⟩ : Fin 2) = 0 := Fin.ext (by show l.val / 256 = 0; omega)
      rw [e0]
      refine (tile_apply _ _ r ⟨l.val % 256, by omega⟩).trans (Finset.sum_congr rfl fun s _ => ?_)
      rw [lo, x0]
      have e1 : (⟨l.val % 256 / 64, by omega⟩ : Fin 8) = hd l := Fin.ext (by show l.val % 256 / 64 = l.val / 64; omega)
      have e2 : (⟨l.val % 256, by omega⟩ : Fin 512) = l := Fin.ext (by show l.val % 256 = l.val; omega)
      show W ⟨l.val % 256 / 64, _⟩ s * X (ix3 0 s ⟨l.val % 256, _⟩) = _
      rw [e1, e2]
    · have e0 : (⟨l.val / 256, by omega⟩ : Fin 2) = 1 := Fin.ext (by show l.val / 256 = 1; omega)
      rw [e0]
      refine (tile_apply _ _ r ⟨l.val % 256, by omega⟩).trans (Finset.sum_congr rfl fun s _ => ?_)
      rw [hi, x1]
      have e1 : (⟨4 + l.val % 256 / 64, by omega⟩ : Fin 8) = hd l := Fin.ext (by show 4 + l.val % 256 / 64 = l.val / 64; omega)
      have e2 : (⟨256 + l.val % 256, by omega⟩ : Fin 512) = l := Fin.ext (by show 256 + l.val % 256 = l.val; omega)
      show W ⟨4 + l.val % 256 / 64, _⟩ s * X (ix3 0 s ⟨256 + l.val % 256, _⟩) = _
      rw [e1, e2]
  unfold k0_pay13 k0_pay11
  pointwise [dot_S128x128_S128x512_S128x512_1_0_0_1_n_n]
  rw [hp', hq']

end

end Cert.Proof.Scan

end
-- ==== Proof.ScanTab.lean ====
/-
  THE SCAN'S TABLES: step sizes, cumulated decays and the factors the two loops read, at an index.
-/
module

public import proofs.«01_k».proof.Proof.ScanStep

@[expose] public section

set_option maxRecDepth 16384

noncomputable section

namespace Cert.Proof.Scan

open Idealize.ShloMosaic Idealize.ShloMosaic.TcCoe Idealize.SL.Sem Cert.KernelIdeal Cert.KernelIdeal.Gen
open Cert.Proof.Ffn (ext2)

/-- The step size of a raw value. -/
def sp (v : EReal) : EReal := max v 0 + Ideal.log1p (Ideal.exp (0 - max v (-v)))

theorem pay76_apply (v : Vec Ideal S8x2048 .f32) (b : Vec Ideal S8x1 .f32) (h : Fin 8) (t : Fin 2048) :
    k0_pay76 v b (ix2 h t) = sp (v (ix2 h t) + b (ix2 h 0)) := by
  unfold k0_pay76 sp
  pointwise
  rfl

theorem pay77_apply (v : Vec Ideal S8x2048 .f32) (b a : Vec Ideal S8x1 .f32) (h : Fin 8) (t : Fin 2048) :
    k0_pay77 v b a (ix2 h t) = sp (v (ix2 h t) + b (ix2 h 0)) * (0 - Ideal.exp (a (ix2 h 0))) := by
  unfold k0_pay77
  pointwise
  rw [pay76_apply]

/-- Sixteen pieces of eight rows one under the other. -/
theorem cat16 {α : Type} (f : Fin 16 → (S8x128.Idx → α)) (h) (r s : Fin 128) :
    concatenate S128x128 0 [⟨S8x128, f 0⟩, ⟨S8x128, f 1⟩, ⟨S8x128, f 2⟩, ⟨S8x128, f 3⟩, ⟨S8x128, f 4⟩, ⟨S8x128, f 5⟩, ⟨S8x128, f 6⟩, ⟨S8x128, f 7⟩,
      ⟨S8x128, f 8⟩, ⟨S8x128, f 9⟩, ⟨S8x128, f 10⟩, ⟨S8x128, f 11⟩, ⟨S8x128, f 12⟩, ⟨S8x128, f 13⟩, ⟨S8x128, f 14⟩, ⟨S8x128, f 15⟩] h (ix2 r s)
      = f ⟨r.val / 8, by omega⟩ (ix2 ⟨r.val % 8, by omega⟩ s) := by
  refine concatenate_ofFn_apply (t := S128x128) (s₁ := S8x128) 0 f h rfl 8 rfl _ ⟨r.val / 8, by omega⟩ rfl _ rfl fun b hb => ?_
  match b with
  | ⟨0, _⟩ => exact absurd rfl hb
  | ⟨1, _⟩ => rfl

/-- The chunk `c` of rows of step sizes. -/
def cut (x : FVec Ideal S8x2048 .f32) (c : Fin 16) : FVec Ideal S8x128 .f32 := fun i => x (ix2 (i 0) ⟨c.val * 128 + (i 1).val, by have := (i 1).isLt; have h : (i 1).val < 128 := this; omega⟩)

theorem cut_eq (x : FVec Ideal S8x2048 .f32) (c : Fin 16) (h : S8x2048.Slices ![0, c.val * 128] S8x128) :
    extractStridedSlice S8x128 ![0, c.val * 128] x h = cut x c := by
  funext i
  rw [eq_ix2 i]
  unfold cut
  pointwise

/-- The chunks one under the other. -/
def stack (x : FVec Ideal S8x2048 .f32) : FVec Ideal S128x128 .f32 :=
  fun i => x (ix2 ⟨(i 0).val % 8, by omega⟩ ⟨(i 0).val / 8 * 128 + (i 1).val, by
    have h0 : (i 0).val < 128 := (i 0).isLt
    have h1 : (i 1).val < 128 := (i 1).isLt
    omega⟩)

theorem stack_eq (x : FVec Ideal S8x2048 .f32) : concatenate S128x128 0 [⟨S8x128, extractStridedSlice S8x128 ![0, 0] x slices_S8x2048_o0_0_S8x128⟩, ⟨S8x128, extractStridedSlice S8x128 ![0, 128] x slices_S8x2048_o0_128_S8x128⟩, ⟨S8x128, extractStridedSlice S8x128 ![0, 256] x slices_S8x2048_o0_256_S8x128⟩, ⟨S8x128, extractStridedSlice S8x128 ![0, 384] x slices_S8x2048_o0_384_S8x128⟩, ⟨S8x128, extractStridedSlice S8x128 ![0, 512] x slices_S8x2048_o0_512_S8x128⟩, ⟨S8x128, extractStridedSlice S8x128 ![0, 640] x slices_S8x2048_o0_640_S8x128⟩, ⟨S8x128, extractStridedSlice S8x128 ![0, 768] x slices_S8x2048_o0_768_S8x128⟩, ⟨S8x128, extractStridedSlice S8x128 ![0, 896] x slices_S8x2048_o0_896_S8x128⟩, ⟨S8x128, extractStridedSlice S8x128 ![0, 1024] x slices_S8x2048_o0_1024_S8x128⟩, ⟨S8x128, extractStridedSlice S8x128 ![0, 1152] x slices_S8x2048_o0_1152_S8x128⟩, ⟨S8x128, extractStridedSlice S8x128 ![0, 1280] x slices_S8x2048_o0_1280_S8x128⟩, ⟨S8x128, extractStridedSlice S8x128 ![0, 1408] x slices_S8x2048_o0_1408_S8x128⟩, ⟨S8x128, extractStridedSlice S8x128 ![0, 1536] x slices_S8x2048_o0_1536_S8x128⟩, ⟨S8x128, extractStridedSlice S8x128 ![0, 1664] x slices_S8x2048_o0_1664_S8x128⟩, ⟨S8x128, extractStridedSlice S8x128 ![0, 1792] x slices_S8x2048_o0_1792_S8x128⟩, ⟨S8x128, extractStridedSlice S8x128 ![0, 1920] x slices_S8x2048_o0_1920_S8x128⟩]
    concatenates_S8x128_S8x128_S8x128_S8x128_S8x128_S8x128_S8x128_S8x128_S8x128_S8x128_S8x128_S8x128_S8x128_S8x128_S8x128_S8x128_S128x128_d0 = stack x := by
  funext i
  rw [eq_ix2 i]
  have key : ∀ j : Fin 16, (![extractStridedSlice S8x128 ![0, 0] x slices_S8x2048_o0_0_S8x128, extractStridedSlice S8x128 ![0, 128] x slices_S8x2048_o0_128_S8x128, extractStridedSlice S8x128 ![0, 256] x slices_S8x2048_o0_256_S8x128, extractStridedSlice S8x128 ![0, 384] x slices_S8x2048_o0_384_S8x128, extractStridedSlice S8x128 ![0, 512] x slices_S8x2048_o0_512_S8x128, extractStridedSlice S8x128 ![0, 640] x slices_S8x2048_o0_640_S8x128, extractStridedSlice S8x128 ![0, 768] x slices_S8x2048_o0_768_S8x128, extractStridedSlice S8x128 ![0, 896] x slices_S8x2048_o0_896_S8x128, extractStridedSlice S8x128 ![0, 1024] x slices_S8x2048_o0_1024_S8x128, extractStridedSlice S8x128 ![0, 1152] x slices_S8x2048_o0_1152_S8x128, extractStridedSlice S8x128 ![0, 1280] x slices_S8x2048_o0_1280_S8x128, extractStridedSlice S8x128 ![0, 1408] x slices_S8x2048_o0_1408_S8x128, extractStridedSlice S8x128 ![0, 1536] x slices_S8x2048_o0_1536_S8x128, extractStridedSlice S8x128 ![0, 1664] x slices_S8x2048_o0_1664_S8x128, extractStridedSlice S8x128 ![0, 1792] x slices_S8x2048_o0_1792_S8x128, extractStridedSlice S8x128 ![0, 1920] x slices_S8x2048_o0_1920_S8x128] : Fin 16 → FVec Ideal S8x128 .f32) j = cut x j := fun j => by
    match j with
    | ⟨0, _⟩ => exact cut_eq x 0 slices_S8x2048_o0_0_S8x128
    | ⟨1, _⟩ => exact cut_eq x 1 slices_S8x2048_o0_128_S8x128
    | ⟨2, _⟩ => exact cut_eq x 2 slices_S8x2048_o0_256_S8x128
    | ⟨3, _⟩ => exact cut_eq x 3 slices_S8x2048_o0_384_S8x128
    | ⟨4, _⟩ => exact cut_eq x 4 slices_S8x2048_o0_512_S8x128
    | ⟨5, _⟩ => exact cut_eq x 5 slices_S8x2048_o0_640_S8x128
    | ⟨6, _⟩ => exact cut_eq x 6 slices_S8x2048_o0_768_S8x128
    | ⟨7, _⟩ => exact cut_eq x 7 slices_S8x2048_o0_896_S8x128
    | ⟨8, _⟩ => exact cut_eq x 8 slices_S8x2048_o0_1024_S8x128
    | ⟨9, _⟩ => exact cut_eq x 9 slices_S8x2048_o0_1152_S8x128
    | ⟨10, _⟩ => exact cut_eq x 10 slices_S8x2048_o0_1280_S8x128
    | ⟨11, _⟩ => exact cut_eq x 11 slices_S8x2048_o0_1408_S8x128
    | ⟨12, _⟩ => exact cut_eq x 12 slices_S8x2048_o0_1536_S8x128
    | ⟨13, _⟩ => exact cut_eq x 13 slices_S8x2048_o0_1664_S8x128
    | ⟨14, _⟩ => exact cut_eq x 14 slices_S8x2048_o0_1792_S8x128
    | ⟨15, _⟩ => exact cut_eq x 15 slices_S8x2048_o0_1920_S8x128
    | ⟨n + 16, h⟩ => exact absurd h (by omega)
  refine (cat16 ![extractStridedSlice S8x128 ![0, 0] x slices_S8x2048_o0_0_S8x128, extractStridedSlice S8x128 ![0, 128] x slices_S8x2048_o0_128_S8x128, extractStridedSlice S8x128 ![0, 256] x slices_S8x2048_o0_256_S8x128, extractStridedSlice S8x128 ![0, 384] x slices_S8x2048_o0_384_S8x128, extractStridedSlice S8x128 ![0, 512] x slices_S8x2048_o0_512_S8x128, extractStridedSlice S8x128 ![0, 640] x slices_S8x2048_o0_640_S8x128, extractStridedSlice S8x128 ![0, 768] x slices_S8x2048_o0_768_S8x128, extractStridedSlice S8x128 ![0, 896] x slices_S8x2048_o0_896_S8x128, extractStridedSlice S8x128 ![0, 1024] x slices_S8x2048_o0_1024_S8x128, extractStridedSlice S8x128 ![0, 1152] x slices_S8x2048_o0_1152_S8x128, extractStridedSlice S8x128 ![0, 1280] x slices_S8x2048_o0_1280_S8x128, extractStridedSlice S8x128 ![0, 1408] x slices_S8x2048_o0_1408_S8x128, extractStridedSlice S8x128 ![0, 1536] x slices_S8x2048_o0_1536_S8x128, extractStridedSlice S8x128 ![0, 1664] x slices_S8x2048_o0_1664_S8x128, extractStridedSlice S8x128 ![0, 1792] x slices_S8x2048_o0_1792_S8x128, extractStridedSlice S8x128 ![0, 1920] x slices_S8x2048_o0_1920_S8x128] _ (i 0) (i 1)).trans ?_
  rw [key]
  rfl

theorem stack_apply (x : FVec Ideal S8x2048 .f32) (c : Fin 16) (h : Fin 8) (s : Fin 128) :
    stack x (ix2 (row c h) s) = x (ix2 h ⟨c.val * 128 + s.val, by omega⟩) := by
  refine congrArg x (ext2 ?_ ?_)
  · show (8 * c.val + h.val) % 8 = h.val
    omega
  · show (8 * c.val + h.val) / 8 * 128 + s.val = c.val * 128 + s.val
    omega

/-- A number times zero or one is the sum of the products of its three parts. -/
theorem split3 (v m : EReal) (hv : v ≠ ⊤) (hm : m = 0 ∨ m = 1) : v * m + (v - v) * m + ((v - v) - (v - v)) * m = v * m := by
  rcases hm with rfl | rfl
  · simp
  · simp only [mul_one]
    induction v with
    | bot => rfl
    | top => exact absurd rfl hv
    | coe v => rw [EReal.sub_self (by simp) (by simp)]; simp

/-- The product with a matrix of zeros and ones, by three parts of the left factor. -/
def csum (m : FVec Ideal S128x128 .bf16) (a : FVec Ideal S128x128 .f32) : FVec Ideal S128x128 .f32 :=
  addf (addf (matmul dot_S128x128_S128x128_S128x128_1_0_0_1_n_n none (truncf .bf16 a bitsLt_bf16_f32) m (constant S128x128 .f32 0x00000000#32))
    (matmul dot_S128x128_S128x128_S128x128_1_0_0_1_n_n none (truncf .bf16 (subf a (extf .f32 (truncf .bf16 a bitsLt_bf16_f32) bitsLt_bf16_f32)) bitsLt_bf16_f32) m (constant S128x128 .f32 0x00000000#32)))
    (matmul dot_S128x128_S128x128_S128x128_1_0_0_1_n_n none (truncf .bf16 (subf (subf a (extf .f32 (truncf .bf16 a bitsLt_bf16_f32) bitsLt_bf16_f32))
      (extf .f32 (truncf .bf16 (subf a (extf .f32 (truncf .bf16 a bitsLt_bf16_f32) bitsLt_bf16_f32)) bitsLt_bf16_f32) bitsLt_bf16_f32)) bitsLt_bf16_f32) m (constant S128x128 .f32 0x00000000#32))

theorem csum_apply (m : FVec Ideal S128x128 .bf16) (a : FVec Ideal S128x128 .f32) (ha : ∀ i, a i ≠ ⊤) (P : Fin 128 → Fin 128 → Prop) [∀ j s, Decidable (P j s)]
    (hm : ∀ j s, m (ix2 j s) = if P j s then 1 else 0) (r s : Fin 128) : csum m a (ix2 r s) = ∑ j : Fin 128, if P j s then a (ix2 r j) else 0 := by
  unfold csum
  pointwise [dot_S128x128_S128x128_S128x128_1_0_0_1_n_n]
  rw [← Finset.sum_add_distrib, ← Finset.sum_add_distrib]
  refine Finset.sum_congr rfl fun j _ => ?_
  refine (split3 _ _ (ha _) ?_).trans ?_
  · rw [hm]; split
    · exact Or.inr rfl
    · exact Or.inl rfl
  · rw [hm]; split
    · exact mul_one _
    · exact mul_zero _

theorem le_word : ∀ j s : Fin 128, IntOp.cmpi .sle (BitVec.ofNat 32 j.val) (BitVec.ofNat 32 s.val) = if j ≤ s then 1#1 else 0#1 := by decide +kernel
theorem ge_word : ∀ j s : Fin 128, IntOp.cmpi .sge (BitVec.ofNat 32 j.val) (BitVec.ofNat 32 s.val) = if s ≤ j then 1#1 else 0#1 := by decide +kernel

theorem word01 (p : Prop) [Decidable p] : (FloatOps.sitofp (F := Ideal) .f32 ((if p then 1#1 else 0#1 : BitVec 1).setWidth 32) : EReal) = if p then 1 else 0 := by
  split
  · show (((1 : ℤ) : ℝ) : EReal) = 1
    norm_num
  · show (((0 : ℤ) : ℝ) : EReal) = 0
    norm_num

theorem pay79_apply (j s : Fin 128) : k0_pay79 (F := Ideal) (ix2 j s) = if j ≤ s then 1 else 0 := by
  unfold k0_pay79
  pointwise
  rw [le_word]
  exact word01 _

/-- The matrix the backward scan cumulates with. -/
def upto : FVec Ideal S128x128 .bf16 :=
  truncf .bf16 (sitofp .f32 (extui 32 (cmpi .sge (iota .tc S128x128 32 [0] iota_S128x128_d0_w32) (iota .tc S128x128 32 [1] iota_S128x128_d1_w32)) natLt_1_32)) bitsLt_bf16_f32

theorem upto_apply (j s : Fin 128) : upto (ix2 j s) = if s ≤ j then 1 else 0 := by
  unfold upto
  pointwise
  rw [ge_word]
  exact word01 _

/-- The decay factors of the chunks, each on the rows of its chunk. -/
def band (e : FVec Ideal S1x128 .f32) : FVec Ideal S128x128 .f32 :=
  select (cmpi .eq (shrui (iota .tc S128x128 32 [0] iota_S128x128_d0_w32) (broadcast S128x128 3#32))
    (shrui (iota .tc S128x128 32 [1] iota_S128x128_d1_w32) (broadcast S128x128 3#32)))
    (broadcastTo S128x128 (shapeCast S1x128 e shapeCasts_S1x128_S1x128) broadcasts_S1x128_S128x128) (broadcast S128x128 (Scalar.ofBits (F := Ideal) .f32 0x00000000#32))

/-- A table spread over the heads' columns. -/
def cols (d : FVec Ideal S128x128 .f32) : FVec Ideal S128x512 .f32 :=
  shapeCast S128x512 (addf (addf (matmul dot_S128x128_S128x512_S128x512_1_0_0_1_n_n none (truncf .bf16 d bitsLt_bf16_f32) k0_pay125 (constant S128x512 .f32 0x00000000#32))
    (matmul dot_S128x128_S128x512_S128x512_1_0_0_1_n_n none (truncf .bf16 (subf d (extf .f32 (truncf .bf16 d bitsLt_bf16_f32) bitsLt_bf16_f32)) bitsLt_bf16_f32) k0_pay125 (constant S128x512 .f32 0x00000000#32)))
    (matmul dot_S128x128_S128x512_S128x512_1_0_0_1_n_n none (truncf .bf16 (subf (subf d (extf .f32 (truncf .bf16 d bitsLt_bf16_f32) bitsLt_bf16_f32))
      (extf .f32 (truncf .bf16 (subf d (extf .f32 (truncf .bf16 d bitsLt_bf16_f32) bitsLt_bf16_f32)) bitsLt_bf16_f32) bitsLt_bf16_f32)) bitsLt_bf16_f32) k0_pay125 (constant S128x512 .f32 0x00000000#32))) shapeCasts_S128x512_S128x512

theorem shr3 : ∀ j : Fin 128, IntOp.shrui .vector (BitVec.ofNat 32 j.val) 3#32 = BitVec.ofNat 32 (j.val / 8) := by decide +kernel
theorem and7 : ∀ j : Fin 128, IntOp.andi (BitVec.ofNat 32 j.val) 7#32 = BitVec.ofNat 32 (j.val % 8) := by decide +kernel
theorem shr6 : ∀ j : Fin 512, IntOp.shrui .vector (BitVec.ofNat 32 j.val) 6#32 = BitVec.ofNat 32 (j.val / 64) := by decide +kernel
theorem eq_word : ∀ i j : Fin 16, IntOp.cmpi .eq (BitVec.ofNat 32 i.val) (BitVec.ofNat 32 j.val) = if i.val = j.val then 1#1 else 0#1 := by decide +kernel

theorem pay125_apply (j : Fin 128) (l : Fin 512) : k0_pay125 (F := Ideal) (ix2 j l) = if j.val % 8 = l.val / 64 then 1 else 0 := by
  unfold k0_pay125
  pointwise
  rw [and7, shr6]
  rw [show IntOp.cmpi .eq (BitVec.ofNat 32 (j.val % 8)) (BitVec.ofNat 32 (l.val / 64)) = if j.val % 8 = l.val / 64 then 1#1 else 0#1 from
    eq_word ⟨j.val % 8, by omega⟩ ⟨l.val / 64, by omega⟩]
  exact word01 _

theorem band_apply (e : FVec Ideal S1x128 .f32) (i j : Fin 128) :
    band e (ix2 i j) = if i.val / 8 = j.val / 8 then e (ix2 0 j) else 0 := by
  unfold band
  pointwise
  rw [shr3, shr3]
  rw [show IntOp.cmpi .eq (BitVec.ofNat 32 (i.val / 8)) (BitVec.ofNat 32 (j.val / 8)) = _ from eq_word ⟨i.val / 8, by omega⟩ ⟨j.val / 8, by omega⟩]
  split
  · rfl
  · rfl

theorem cols_apply (d : FVec Ideal S128x128 .f32) (hd' : ∀ i, d i ≠ ⊤) (i : Fin 128) (l : Fin 512) :
    cols d (ix2 i l) = ∑ j : Fin 128, if j.val % 8 = l.val / 64 then d (ix2 i j) else 0 := by
  unfold cols
  pointwise [dot_S128x128_S128x512_S128x512_1_0_0_1_n_n]
  rw [← Finset.sum_add_distrib, ← Finset.sum_add_distrib]
  refine Finset.sum_congr rfl fun j _ => ?_
  refine (split3 _ _ (hd' _) ?_).trans ?_
  · rw [pay125_apply]; split
    · exact Or.inr rfl
    · exact Or.inl rfl
  · rw [pay125_apply]; split
    · exact mul_one _
    · exact mul_zero _

theorem decw_apply (e : FVec Ideal S1x128 .f32) (he : ∀ i, e i ≠ ⊤) (c : Fin 16) (h : Fin 8) (l : Fin 512) :
    cols (band e) (ix2 (row c h) l) = e (ix2 0 (row c (hd l))) := by
  rw [cols_apply]
  · rw [Finset.sum_eq_single (row c (hd l))]
    · rw [band_apply, if_pos (by show (8 * c.val + l.val / 64) % 8 = l.val / 64; omega),
        if_pos (by show (8 * c.val + h.val) / 8 = (8 * c.val + l.val / 64) / 8; omega)]
    · intro j _ hj
      split
      · next h1 =>
        rw [band_apply, if_neg]
        intro h2
        refine hj (Fin.ext ?_)
        have h3 : (8 * c.val + h.val) / 8 = j.val / 8 := h2
        show j.val = 8 * c.val + l.val / 64
        omega
      · rfl
    · intro hn; exact absurd (Finset.mem_univ _) hn
  · intro i
    rw [show band e i = _ from (congrArg _ (eq_ix2 i)).trans (band_apply e (i 0) (i 1))]
    split
    · exact he _
    · exact EReal.zero_ne_top

/-! ## The tables of a direction from its cumulated decays and step sizes -/

/-- The sum of the values up to position `r`. -/
def CS (a : Fin 128 → EReal) (r : Fin 128) : EReal := ∑ s : Fin 128, if s ≤ r then a s else 0

theorem CS_nonpos (a : Fin 128 → EReal) (ha : ∀ s, a s ≤ 0) (r : Fin 128) : CS a r ≤ 0 :=
  Finset.sum_nonpos fun s _ => by split; exacts [ha s, le_rfl]

theorem exp_ne_top {v : EReal} (hv : v ≠ ⊤) : Ideal.exp v ≠ ⊤ := by
  induction v with
  | bot => exact EReal.zero_ne_top
  | top => exact absurd rfl hv
  | coe v => exact EReal.coe_ne_top _

theorem exp_nonneg (v : EReal) : 0 ≤ Ideal.exp v := by
  induction v with
  | bot => exact le_rfl
  | top => exact le_top
  | coe v => exact EReal.coe_nonneg.mpr (Real.exp_pos v).le

theorem log1p_nonneg (v : EReal) (hv : 0 ≤ v) : 0 ≤ Ideal.log1p v := by
  induction v with
  | bot => simp at hv
  | top => exact le_top
  | coe v =>
    have h0 : 0 ≤ v := EReal.coe_nonneg.mp hv
    have e : (1 : EReal) + (v : EReal) = ((1 + v : ℝ) : EReal) := rfl
    unfold Ideal.log1p
    rw [e]
    show 0 ≤ (if 1 + v ≤ 0 then ⊥ else ((Real.log (1 + v) : ℝ) : EReal))
    rw [if_neg (by linarith)]
    exact EReal.coe_nonneg.mpr (Real.log_nonneg (by linarith))

theorem sp_nonneg (v : EReal) : 0 ≤ sp v := add_nonneg (le_max_right _ _) (log1p_nonneg _ (exp_nonneg _))

/-- A step's log-decay is not positive. -/
theorem decay_nonpos (v a : EReal) : sp v * (0 - Ideal.exp a) ≤ 0 := by
  have h : 0 - Ideal.exp a = -Ideal.exp a := zero_sub _
  rw [h, mul_neg]
  exact (EReal.neg_le_neg_iff.mpr (mul_nonneg (sp_nonneg v) (exp_nonneg a))).trans_eq neg_zero

/-- What the tables hold, read in the order `σ` in which the direction goes through a chunk. -/
structure Tabs (σ : Equiv.Perm (Fin 128)) (a d : Fin 16 → Fin 8 → Fin 128 → EReal) (csr dtr tcs tw te : FVec Ideal S128x128 .f32)
    (dec : FVec Ideal S128x512 .f32) : Prop where
  csr : ∀ c h s, csr (ix2 (row c h) (σ s)) = CS (a c h) s
  dtr : ∀ c h s, dtr (ix2 (row c h) (σ s)) = d c h s
  tcs : ∀ c h s, tcs (ix2 (σ s) (row c h)) = CS (a c h) s
  te : ∀ c h s, te (ix2 (σ s) (row c h)) = Ideal.exp (CS (a c h) s)
  tw : ∀ c h s, tw (ix2 (σ s) (row c h)) = d c h s * Ideal.exp (CS (a c h) 127 - CS (a c h) s)
  dec : ∀ c h l, dec (ix2 (row c h) l) = Ideal.exp (CS (a c (hd l)) 127)

theorem row_surj (i : Fin 128) : ∃ c h, i = row c h := ⟨⟨i.val / 8, by omega⟩, ⟨i.val % 8, by omega⟩, Fin.ext (by show i.val = 8 * (i.val / 8) + i.val % 8; omega)⟩

/-- The tables of either direction, from what the cumulated decays are. -/
theorem tabs_of (σ : Equiv.Perm (Fin 128)) (a d : Fin 16 → Fin 8 → Fin 128 → EReal) (ha : ∀ c h s, a c h s ≤ 0) (cs dt : FVec Ideal S128x128 .f32)
    (hcs : ∀ c h s, cs (ix2 (row c h) (σ s)) = CS (a c h) s) (hdt : ∀ c h s, dt (ix2 (row c h) (σ s)) = d c h s)
    (o : ℕ) (h1 : S128x128.Slices ![0, o] S128x1) (h2 : S128x128.Slices ![o, 0] S1x128) (ho : (σ 127).val = o) :
    Tabs σ a d (shapeCast S128x128 cs shapeCasts_S128x128_S128x128) (shapeCast S128x128 dt shapeCasts_S128x128_S128x128)
      (shapeCast S128x128 (transpose S128x128 [1, 0] cs transposes_S128x128_p1_0_S128x128) shapeCasts_S128x128_S128x128)
      (shapeCast S128x128 (transpose S128x128 [1, 0] (mulf dt (exp (subf (broadcastTo S128x128 (extractStridedSlice S128x1 ![0, o] cs h1) broadcasts_S128x1_S128x128) cs))) transposes_S128x128_p1_0_S128x128) shapeCasts_S128x128_S128x128)
      (shapeCast S128x128 (transpose S128x128 [1, 0] (exp cs) transposes_S128x128_p1_0_S128x128) shapeCasts_S128x128_S128x128)
      (cols (band (exp (extractStridedSlice S1x128 ![o, 0] (transpose S128x128 [1, 0] cs transposes_S128x128_p1_0_S128x128) h2)))) := by
  subst ho
  refine ⟨fun c h s => ?_, fun c h s => ?_, fun c h s => ?_, fun c h s => ?_, fun c h s => ?_, fun c h l => ?_⟩
  · pointwise; exact hcs c h s
  · pointwise; exact hdt c h s
  · pointwise; exact hcs c h s
  · pointwise; exact congrArg _ (hcs c h s)
  · pointwise
    rw [hdt]
    exact congrArg₂ (fun p q => d c h s * Ideal.exp (p - q)) (hcs c h 127) (hcs c h s)
  · have hx : ∀ c h, exp (extractStridedSlice S1x128 ![(σ 127).val, 0] (transpose S128x128 [1, 0] cs transposes_S128x128_p1_0_S128x128) h2) (ix2 0 (row c h))
        = Ideal.exp (CS (a c h) 127) := fun c h => by
      pointwise
      exact congrArg _ (hcs c h 127)
    rw [decw_apply]
    · exact hx c (hd l)
    · intro i
      obtain ⟨c', h', e⟩ := row_surj (i 1)
      have e2 : i = ix2 0 (row c' h') := (eq_ix2 i).trans (ext2 (by have := (i 0).isLt; have h : (i 0).val < 1 := this; show (i 0).val = 0; omega) (congrArg Fin.val e))
      rw [e2, hx]
      exact exp_ne_top ((CS_nonpos _ (fun s => ha _ _ _) _).trans_lt EReal.zero_lt_top).ne

theorem pay77_nonpos (v : Vec Ideal S8x2048 .f32) (b al : Vec Ideal S8x1 .f32) (i : S8x2048.Idx) : k0_pay77 v b al i ≤ 0 := by
  rw [show k0_pay77 v b al i = _ from (congrArg _ (eq_ix2 i)).trans (pay77_apply v b al (i 0) (i 1))]
  exact decay_nonpos _ _

theorem stack_ne_top (v : Vec Ideal S8x2048 .f32) (b al : Vec Ideal S8x1 .f32) (i : S128x128.Idx) : stack (k0_pay77 v b al) i ≠ ⊤ :=
  ((pay77_nonpos v b al _).trans_lt EReal.zero_lt_top).ne

/-- The forward tables. -/
theorem tabsF (v : Vec Ideal S8x2048 .f32) (b al : Vec Ideal S8x1 .f32) :
    Tabs (Equiv.refl _) (fun c h s => k0_pay77 v b al (ix2 h ⟨c.val * 128 + s.val, by omega⟩)) (fun c h s => k0_pay76 v b (ix2 h ⟨c.val * 128 + s.val, by omega⟩))
      (k0_pay88 (k0_pay77 v b al) k0_pay79 (k0_pay80 v b al) (k0_pay81 v b al) (k0_pay82 v b al) (k0_pay83 v b al) (k0_pay84 v b al) (k0_pay85 v b al))
      (k0_pay89 (k0_pay78 v b))
      (k0_pay90 (k0_pay77 v b al) k0_pay79 (k0_pay80 v b al) (k0_pay81 v b al) (k0_pay82 v b al) (k0_pay83 v b al) (k0_pay84 v b al) (k0_pay85 v b al))
      (k0_pay91 (k0_pay77 v b al) (k0_pay78 v b) k0_pay79 (k0_pay80 v b al) (k0_pay81 v b al) (k0_pay82 v b al) (k0_pay83 v b al) (k0_pay84 v b al) (k0_pay85 v b al))
      (k0_pay93 (k0_pay92 (k0_pay77 v b al) k0_pay79 (k0_pay80 v b al) (k0_pay81 v b al) (k0_pay82 v b al) (k0_pay83 v b al) (k0_pay84 v b al) (k0_pay85 v b al)))
      (k0_pay94 (k0_pay87 (k0_pay77 v b al) k0_pay79 (k0_pay80 v b al) (k0_pay81 v b al) (k0_pay82 v b al) (k0_pay83 v b al) (k0_pay84 v b al) (k0_pay85 v b al))) := by
  have e86 : k0_pay86 (k0_pay77 v b al) k0_pay79 (k0_pay80 v b al) (k0_pay81 v b al) (k0_pay82 v b al) (k0_pay83 v b al) (k0_pay84 v b al) (k0_pay85 v b al)
      = csum k0_pay79 (stack (k0_pay77 v b al)) := congrArg (csum k0_pay79) (stack_eq _)
  refine tabs_of _ _ _ (fun c h s => pay77_nonpos v b al _) (k0_pay86 (k0_pay77 v b al) k0_pay79 (k0_pay80 v b al) (k0_pay81 v b al) (k0_pay82 v b al) (k0_pay83 v b al) (k0_pay84 v b al) (k0_pay85 v b al)) (k0_pay78 v b) (fun c h s => ?_) (fun c h s => ?_) 127 slices_S128x128_o0_127_S128x1 slices_S128x128_o127_0_S1x128 rfl
  · rw [e86, csum_apply _ _ (stack_ne_top v b al) (fun j s => j ≤ s) pay79_apply]
    simp only [stack_apply]
    rfl
  · rw [show k0_pay78 v b = stack (k0_pay76 v b) from stack_eq _]
    exact stack_apply _ c h s

/-- The backward tables. -/
theorem tabsB (v : Vec Ideal S8x2048 .f32) (b al : Vec Ideal S8x1 .f32) :
    Tabs Fin.revPerm (fun c h s => k0_pay77 v b al (ix2 h ⟨c.val * 128 + (Fin.rev s).val, by omega⟩)) (fun c h s => k0_pay76 v b (ix2 h ⟨c.val * 128 + (Fin.rev s).val, by omega⟩))
      (k0_pay119 (k0_pay102 v b al))
      (k0_pay120 (k0_pay101 v b) (k0_pay103 v b) (k0_pay104 v b) (k0_pay105 v b) (k0_pay106 v b) (k0_pay107 v b) (k0_pay108 v b) (k0_pay109 v b) (k0_pay110 v b) (k0_pay111 v b) (k0_pay112 v b) (k0_pay113 v b) (k0_pay114 v b))
      (k0_pay121 (k0_pay118 (k0_pay102 v b al)))
      (k0_pay122 (k0_pay115 (k0_pay101 v b) (k0_pay103 v b) (k0_pay104 v b) (k0_pay105 v b) (k0_pay106 v b) (k0_pay107 v b) (k0_pay108 v b) (k0_pay109 v b) (k0_pay110 v b) (k0_pay111 v b) (k0_pay112 v b) (k0_pay113 v b) (k0_pay114 v b)) (k0_pay116 (k0_pay102 v b al)) (k0_pay117 (k0_pay102 v b al)))
      (k0_pay123 (k0_pay116 (k0_pay102 v b al)))
      (k0_pay1 k0_pay125 (k0_pay128 (k0_pay118 (k0_pay102 v b al))) (k0_pay129 (k0_pay118 (k0_pay102 v b al))) (k0_pay130 (k0_pay118 (k0_pay102 v b al))) (constant S128x512 .f32 0x00000000#32)) := by
  have e116 : k0_pay116 (k0_pay102 v b al) = csum upto (stack (k0_pay77 v b al)) := congrArg (csum upto) (stack_eq _)
  have e115 : k0_pay115 (k0_pay101 v b) (k0_pay103 v b) (k0_pay104 v b) (k0_pay105 v b) (k0_pay106 v b) (k0_pay107 v b) (k0_pay108 v b) (k0_pay109 v b) (k0_pay110 v b) (k0_pay111 v b) (k0_pay112 v b) (k0_pay113 v b) (k0_pay114 v b) = stack (k0_pay76 v b) := stack_eq _
  refine tabs_of _ _ _ (fun c h s => pay77_nonpos v b al _) (k0_pay116 (k0_pay102 v b al)) (k0_pay115 (k0_pay101 v b) (k0_pay103 v b) (k0_pay104 v b) (k0_pay105 v b) (k0_pay106 v b) (k0_pay107 v b) (k0_pay108 v b) (k0_pay109 v b) (k0_pay110 v b) (k0_pay111 v b) (k0_pay112 v b) (k0_pay113 v b) (k0_pay114 v b)) (fun c h s => ?_) (fun c h s => ?_) 0 slices_S128x128_o0_0_S128x1 slices_S128x128_o0_0_S1x128 rfl
  · rw [e116, csum_apply _ _ (stack_ne_top v b al) (fun j s => s ≤ j) upto_apply]
    simp only [stack_apply]
    unfold CS
    rw [← Equiv.sum_comp Fin.revPerm]
    simp only [Fin.revPerm_apply, Fin.rev_le_rev]
  · rw [e115]
    exact stack_apply _ c h _

end Cert.Proof.Scan

end
-- ==== Proof.ScanSpec.lean ====
/-
  THE SCAN IN ONE DIRECTION, CHUNK BY CHUNK: what a chunk adds to the result and to the state, in the order in which the
  direction goes through the tokens; a trip's formulas are these.
-/
module

public import proofs.«01_k».proof.Proof.ScanTab

@[expose] public section

set_option maxRecDepth 16384

noncomputable section

namespace Cert.Proof.Scan

open Idealize.ShloMosaic Idealize.ShloMosaic.TcCoe Idealize.SL.Sem Cert.KernelIdeal Cert.KernelIdeal.Gen
open Cert.Proof.Ffn (ext2)

/-- The result of a chunk, for one column of a head: the state's part and the chunk's own tokens'. -/
def chunkY (a d x : Fin 128 → EReal) (b cc : Fin 128 → Fin 128 → EReal) (H : Fin 128 → EReal) (r : Fin 128) : EReal :=
  (∑ n : Fin 128, cc r n * H n) * Ideal.exp (CS a r)
    + ∑ s : Fin 128, ((∑ n : Fin 128, cc r n * b s n) * Ideal.exp (if s ≤ r then CS a r - CS a s else ⊥) * d s) * x s

/-- The state after a chunk, for one column of a head. -/
def chunkH (a d x : Fin 128 → EReal) (b : Fin 128 → Fin 128 → EReal) (H : Fin 128 → EReal) (n : Fin 128) : EReal :=
  H n * Ideal.exp (CS a 127) + ∑ s : Fin 128, b s n * (x s * (d s * Ideal.exp (CS a 127 - CS a s)))

section
variable {σ : Equiv.Perm (Fin 128)} {a d : Fin 16 → Fin 8 → Fin 128 → EReal} {csr dtr tcs tw te : FVec Ideal S128x128 .f32} {dec : FVec Ideal S128x512 .f32}
  (T : Tabs σ a d csr dtr tcs tw te dec)
include T

theorem stepH_eq (b : BitVec 32) (c : Fin 16) (hb : b = BitVec.ofNat 32 (8 * c.val)) (decc : Vec Ideal S8x512 .f32) (hdec : ∀ l, decc (ix2 0 l) = dec (ix2 (row c 0) l))
    (X : Vec Ideal S1x128x512 .bf16) (B : Vec Ideal S1x128x128 .bf16) (H : Vec Ideal S128x512 .f32) (n : Fin 128) (l : Fin 512) :
    stepH b tw decc X B H (ix2 n l)
      = chunkH (a c (hd l)) (d c (hd l)) (fun s => X (ix3 0 (σ s) l)) (fun s n => B (ix3 0 (σ s) n)) (fun n => H (ix2 n l)) n := by
  rw [stepH_apply b tw decc X B H c hb, hdec, T.dec]
  unfold chunkH
  refine congrArg _ ?_
  rw [← Equiv.sum_comp σ]
  simp only [T.tw]

theorem stepY_eq (mask : IVec S128x128 1) (hm : ∀ r s, mask (ix2 (σ r) (σ s)) = if s ≤ r then 1#1 else 0#1) (b : BitVec 32) (c : Fin 16) (hb : b = BitVec.ofNat 32 (8 * c.val))
    (csc dtc : Vec Ideal S8x128 .f32) (hcs : ∀ h s, csc (ix2 h s) = csr (ix2 (row c h) s)) (hdt : ∀ h s, dtc (ix2 h s) = dtr (ix2 (row c h) s))
    (X : Vec Ideal S1x128x512 .bf16) (B C : Vec Ideal S1x128x128 .bf16) (H : Vec Ideal S128x512 .f32) (r : Fin 128) (l : Fin 512) :
    stepY mask b tcs te csc dtc X B C H (ix2 (σ r) l)
      = chunkY (a c (hd l)) (d c (hd l)) (fun s => X (ix3 0 (σ s) l)) (fun s n => B (ix3 0 (σ s) n)) (fun s n => C (ix3 0 (σ s) n)) (fun n => H (ix2 n l)) r := by
  rw [stepY_apply mask b tcs te csc dtc X B C H c hb, T.te]
  unfold chunkY
  refine congrArg _ ?_
  rw [← Equiv.sum_comp σ]
  refine Finset.sum_congr rfl fun s _ => ?_
  rw [hm, hcs, hdt, T.tcs, T.csr, T.dtr]
  by_cases h : s ≤ r
  · simp only [if_pos h]
    rfl
  · simp only [if_neg h]
    rfl

end

theorem maskF (r s : Fin 128) : k0_pay95 (ix2 r s) = if s ≤ r then 1#1 else 0#1 := by
  unfold k0_pay95
  pointwise
  exact ge_word r s

theorem maskB (r s : Fin 128) : k0_pay2 (ix2 (Fin.revPerm r) (Fin.revPerm s)) = if s ≤ r then 1#1 else 0#1 := by
  unfold k0_pay2
  pointwise
  refine (le_word _ _).trans ?_
  simp only [Fin.revPerm_apply, Fin.rev_le_rev]

/-- The state before each chunk. -/
def states (a d x : ℕ → Fin 128 → EReal) (b : ℕ → Fin 128 → Fin 128 → EReal) : ℕ → Fin 128 → EReal
  | 0 => fun _ => 0
  | k + 1 => chunkH (a k) (d k) (x k) (b k) (states a d x b k)

end Cert.Proof.Scan

end
-- ==== Proof.ScanTrip.lean ====
/-
  ONE TRIP OF EITHER LOOP: the stores it leaves, in the chunk formulas of ScanStep.
-/
module

public import proofs.«01_k».proof.Proof.ScanStep
public import proofs.«01_k».proof.Proof.SsdFrame

@[expose] public section

set_option maxRecDepth 16384

noncomputable section

namespace Cert.Proof.Scan

theorem z2 : (![0, 0] : Fin 2 → Nat) = fun _ => 0 := funext fun a => by fin_cases a <;> rfl

open Idealize.ShloMosaic Idealize.ShloMosaic.TcCoe Idealize.ShloMosaic.Tactic Idealize.SL.Sem Cert.KernelIdeal Cert.KernelIdeal.Gen

variable {𝒱 : Variants} {c : Dev nD} {bd : Option 𝒱.V} {i : grid0.Coords} {arg2 : Memref sig .tc .vmem S1x2048x512 .bf16} {harg2 : arg2.IsWhole} {arg3 : Memref sig .tc .vmem S1x2048x128 .bf16} {harg3 : arg3.IsWhole} {arg4 : Memref sig .tc .vmem S1x2048x128 .bf16} {harg4 : arg4.IsWhole} {arg5 : Memref sig .tc .vmem S1x2048x512 .bf16} {harg5 : arg5.IsWhole} {arg6 : Memref sig .tc .vmem S8x2048 .f32} {harg6 : arg6.IsWhole} {arg7 : Memref sig .tc .vmem S8x2048 .f32} {harg7 : arg7.IsWhole} {arg8 : Memref sig .tc .vmem S8x1 .f32} {harg8 : arg8.IsWhole} {arg9 : Memref sig .tc .vmem S8x1 .f32} {harg9 : arg9.IsWhole} {arg10 : Memref sig .tc .vmem S8x1 .f32} {harg10 : arg10.IsWhole} {arg11 : Memref sig .tc .vmem S8x1 .f32} {harg11 : arg11.IsWhole} {arg12 : Memref sig .tc .vmem S1x512 .f32} {harg12 : arg12.IsWhole} {arg13 : Memref sig .tc .vmem S1x2048x512 .bf16} {harg13 : arg13.IsWhole} {arg14 : Memref sig .tc .vmem S1x2048x128 .f32} {harg14 : arg14.IsWhole} {arg15 : Memref sig .tc .vmem S2048x512 .f32} {harg15 : arg15.IsWhole} {arg16 : Memref sig .tc .vmem S128x512 .f32} {harg16 : arg16.IsWhole} {arg17 : Memref sig .tc .vmem S128x128 .f32} {harg17 : arg17.IsWhole} {arg18 : Memref sig .tc .vmem S128x128 .f32} {harg18 : arg18.IsWhole} {arg19 : Memref sig .tc .vmem S128x128 .f32} {harg19 : arg19.IsWhole} {arg20 : Memref sig .tc .vmem S128x128 .f32} {harg20 : arg20.IsWhole} {arg21 : Memref sig .tc .vmem S128x128 .f32} {harg21 : arg21.IsWhole} {arg22 : Memref sig .tc .vmem S128x512 .f32} {harg22 : arg22.IsWhole}

/-- What a trip of the first loop stores in the partial sums. -/
def outY (mask : IVec S128x128 1) (b : BitVec 32) (tcs te : Vec Ideal S128x128 .f32) (csr dtr : Vec Ideal S8x128 .f32)
    (X : Vec Ideal S1x128x512 .bf16) (B C : Vec Ideal S1x128x128 .bf16) (H : Vec Ideal S128x512 .f32) (D : Vec Ideal S1x512 .f32) : FVec Ideal S128x512 .f32 :=
  shapeCast S128x512 (addf (stepY mask b tcs te csr dtr X B C H) (mulf (k0_pay9 X)
    (broadcastTo S128x512 (shapeCast S1x512 D shapeCasts_S1x512_S1x512) broadcasts_S1x512_S128x512))) shapeCasts_S128x512_S128x512

theorem trip1 {v136 : IVec S128x128 1} {X_arg2 : BufTy.Contents (Elt Ideal) arg2.view.ty} {X_arg3 : BufTy.Contents (Elt Ideal) arg3.view.ty} {X_arg4 : BufTy.Contents (Elt Ideal) arg4.view.ty} {X_arg12 : BufTy.Contents (Elt Ideal) arg12.view.ty} {X_arg17 : BufTy.Contents (Elt Ideal) arg17.view.ty} {X_arg18 : BufTy.Contents (Elt Ideal) arg18.view.ty} {X_arg19 : BufTy.Contents (Elt Ideal) arg19.view.ty} {X_arg20 : BufTy.Contents (Elt Ideal) arg20.view.ty} {X_arg21 : BufTy.Contents (Elt Ideal) arg21.view.ty} {X_arg22 : BufTy.Contents (Elt Ideal) arg22.view.ty} {k : Fin k0_t1_loop.trips} (f : BufTy.Contents (Elt Ideal) arg15.view.ty) (h : BufTy.Contents (Elt Ideal) arg16.view.ty) : ∃ i8 ix ib i9 iy ih, tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v136 (iota .tc S128x128 32 [1] iota_S128x128_d1_w32) k0_pay96 X_arg2 X_arg3 X_arg4 X_arg12 X_arg17 X_arg18 X_arg19 X_arg20 X_arg21 X_arg22 k f h
    = ([⟨Rect.unit (s := S2048x512) ![BitVec.toNat (Scalar.indexCast (Scalar.muli (Scf.iv 0#32 1#32 ↑k) 128#32)), 0] ![128, 512] iy, (outY v136 (Scalar.muli (Scf.iv 0#32 1#32 ↑k) 8#32) (View.read (Elt Ideal) arg19.view X_arg19) (View.read (Elt Ideal) arg21.view X_arg21) (View.ld (View.read (Elt Ideal) arg17.view X_arg17) (Rect.unit ![BitVec.toNat (Scalar.indexCast (Scalar.muli (Scf.iv 0#32 1#32 ↑k) 8#32)), 0] ![8, 128] i8)) (View.ld (View.read (Elt Ideal) arg18.view X_arg18) (Rect.unit ![BitVec.toNat (Scalar.indexCast (Scalar.muli (Scf.iv 0#32 1#32 ↑k) 8#32)), 0] ![8, 128] i8))
      (View.ld (View.read (Elt Ideal) arg2.view X_arg2) (Rect.unit ![0, BitVec.toNat (Scalar.indexCast (Scalar.muli (Scf.iv 0#32 1#32 ↑k) 128#32)), 0] ![1, 128, 512] ix)) (View.ld (View.read (Elt Ideal) arg3.view X_arg3) (Rect.unit ![0, BitVec.toNat (Scalar.indexCast (Scalar.muli (Scf.iv 0#32 1#32 ↑k) 128#32)), 0] ![1, 128, 128] ib)) (View.ld (View.read (Elt Ideal) arg4.view X_arg4) (Rect.unit ![0, BitVec.toNat (Scalar.indexCast (Scalar.muli (Scf.iv 0#32 1#32 ↑k) 128#32)), 0] ![1, 128, 128] ib)) (View.read (Elt Ideal) arg16.view h) (View.read (Elt Ideal) arg12.view X_arg12))⟩],
      [⟨Rect.unit (s := S128x512) ![0, 0] ![128, 512] ih, (stepH (Scalar.muli (Scf.iv 0#32 1#32 ↑k) 8#32) (View.read (Elt Ideal) arg20.view X_arg20) (View.ld (View.read (Elt Ideal) arg22.view X_arg22) (Rect.unit ![BitVec.toNat (Scalar.indexCast (Scalar.muli (Scf.iv 0#32 1#32 ↑k) 8#32)), 0] ![8, 512] i9)) (View.ld (View.read (Elt Ideal) arg2.view X_arg2) (Rect.unit ![0, BitVec.toNat (Scalar.indexCast (Scalar.muli (Scf.iv 0#32 1#32 ↑k) 128#32)), 0] ![1, 128, 512] ix)) (View.ld (View.read (Elt Ideal) arg3.view X_arg3) (Rect.unit ![0, BitVec.toNat (Scalar.indexCast (Scalar.muli (Scf.iv 0#32 1#32 ↑k) 128#32)), 0] ![1, 128, 128] ib)) (View.read (Elt Ideal) arg16.view h))⟩]) := by
  refine ⟨?_, ?_, ?_, ?_, ?_, ?_, ?e⟩
  case e =>
    unfold tripL_k0_t1 trip_k0_t1
    dsimp only
    sl_unfold_words
    simp only [List.cons_append, List.nil_append, View.readAt_eq_ld, View.ld_unit_zero (S := S128x128) z2, View.ld_unit_zero (S := S128x512) z2, View.ld_unit_zero (S := S1x512) z2]
    rfl

/-- The second loop's gated sum. -/
def gated (mask : IVec S128x128 1) (b : BitVec 32) (tcs te : Vec Ideal S128x128 .f32) (csr dtr : Vec Ideal S8x128 .f32)
    (X : Vec Ideal S1x128x512 .bf16) (B C : Vec Ideal S1x128x128 .bf16) (H : Vec Ideal S128x512 .f32) (A : Vec Ideal S128x512 .f32)
    (Z : Vec Ideal S1x128x512 .bf16) : FVec Ideal S128x512 .f32 :=
  mulf (addf A (stepY mask b tcs te csr dtr X B C H)) (mulf (k0_pay9 Z) (logistic (k0_pay9 Z)))

/-- What a trip of the second loop stores in the first result. -/
def out13 (g : FVec Ideal S128x512 .f32) : FVec Ideal S1x128x512 .bf16 :=
  shapeCast S1x128x512 (truncf .bf16 g bitsLt_bf16_f32) shapeCasts_S128x512_S1x128x512

/-- What a trip of the second loop stores in the second result. -/
def out14 (g : FVec Ideal S128x512 .f32) : FVec Ideal S1x128x128 .f32 :=
  shapeCast S1x128x128 (addf (addf (addf (extractStridedSlice S128x128 ![0, 0] (mulf g g) slices_S128x512_o0_0_S128x128)
    (extractStridedSlice S128x128 ![0, 128] (mulf g g) slices_S128x512_o0_128_S128x128))
    (extractStridedSlice S128x128 ![0, 256] (mulf g g) slices_S128x512_o0_256_S128x128))
    (extractStridedSlice S128x128 ![0, 384] (mulf g g) slices_S128x512_o0_384_S128x128)) shapeCasts_S128x128_S1x128x128

theorem trip2 {X_arg2 : BufTy.Contents (Elt Ideal) arg2.view.ty} {X_arg3 : BufTy.Contents (Elt Ideal) arg3.view.ty} {X_arg4 : BufTy.Contents (Elt Ideal) arg4.view.ty} {X_arg5 : BufTy.Contents (Elt Ideal) arg5.view.ty} {X_arg15 : BufTy.Contents (Elt Ideal) arg15.view.ty} {X_arg17 : BufTy.Contents (Elt Ideal) arg17.view.ty} {X_arg18 : BufTy.Contents (Elt Ideal) arg18.view.ty} {X_arg19 : BufTy.Contents (Elt Ideal) arg19.view.ty} {X_arg20 : BufTy.Contents (Elt Ideal) arg20.view.ty} {X_arg21 : BufTy.Contents (Elt Ideal) arg21.view.ty} {X_arg22 : BufTy.Contents (Elt Ideal) arg22.view.ty} {k : Fin k0_t2_loop.trips} (f : BufTy.Contents (Elt Ideal) arg13.view.ty) (g : BufTy.Contents (Elt Ideal) arg14.view.ty) (h : BufTy.Contents (Elt Ideal) arg16.view.ty) : ∃ i8 ix ib i9 iy ih, tripL_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X_arg2 X_arg3 X_arg4 X_arg5 X_arg15 X_arg17 X_arg18 X_arg19 X_arg20 X_arg21 X_arg22 k f g h
    = ([⟨Rect.unit (s := S1x2048x512) ![0, BitVec.toNat (Scalar.indexCast (Scalar.muli (Scalar.subi 15#32 (Scf.iv 0#32 1#32 ↑k)) 128#32)), 0] ![1, 128, 512] ix, out13 (gated k0_pay2 (Scalar.muli (Scalar.subi 15#32 (Scf.iv 0#32 1#32 ↑k)) 8#32) (View.read (Elt Ideal) arg19.view X_arg19) (View.read (Elt Ideal) arg21.view X_arg21) (View.ld (View.read (Elt Ideal) arg17.view X_arg17) (Rect.unit ![BitVec.toNat (Scalar.indexCast (Scalar.muli (Scalar.subi 15#32 (Scf.iv 0#32 1#32 ↑k)) 8#32)), 0] ![8, 128] i8)) (View.ld (View.read (Elt Ideal) arg18.view X_arg18) (Rect.unit ![BitVec.toNat (Scalar.indexCast (Scalar.muli (Scalar.subi 15#32 (Scf.iv 0#32 1#32 ↑k)) 8#32)), 0] ![8, 128] i8))
      (View.ld (View.read (Elt Ideal) arg2.view X_arg2) (Rect.unit ![0, BitVec.toNat (Scalar.indexCast (Scalar.muli (Scalar.subi 15#32 (Scf.iv 0#32 1#32 ↑k)) 128#32)), 0] ![1, 128, 512] ix)) (View.ld (View.read (Elt Ideal) arg3.view X_arg3) (Rect.unit ![0, BitVec.toNat (Scalar.indexCast (Scalar.muli (Scalar.subi 15#32 (Scf.iv 0#32 1#32 ↑k)) 128#32)), 0] ![1, 128, 128] ib)) (View.ld (View.read (Elt Ideal) arg4.view X_arg4) (Rect.unit ![0, BitVec.toNat (Scalar.indexCast (Scalar.muli (Scalar.subi 15#32 (Scf.iv 0#32 1#32 ↑k)) 128#32)), 0] ![1, 128, 128] ib)) (View.read (Elt Ideal) arg16.view h)
      (View.ld (View.read (Elt Ideal) arg15.view X_arg15) (Rect.unit ![BitVec.toNat (Scalar.indexCast (Scalar.muli (Scalar.subi 15#32 (Scf.iv 0#32 1#32 ↑k)) 128#32)), 0] ![128, 512] iy)) (View.ld (View.read (Elt Ideal) arg5.view X_arg5) (Rect.unit ![0, BitVec.toNat (Scalar.indexCast (Scalar.muli (Scalar.subi 15#32 (Scf.iv 0#32 1#32 ↑k)) 128#32)), 0] ![1, 128, 512] ix)))⟩],
      [⟨Rect.unit (s := S1x2048x128) ![0, BitVec.toNat (Scalar.indexCast (Scalar.muli (Scalar.subi 15#32 (Scf.iv 0#32 1#32 ↑k)) 128#32)), 0] ![1, 128, 128] ib, out14 (gated k0_pay2 (Scalar.muli (Scalar.subi 15#32 (Scf.iv 0#32 1#32 ↑k)) 8#32) (View.read (Elt Ideal) arg19.view X_arg19) (View.read (Elt Ideal) arg21.view X_arg21) (View.ld (View.read (Elt Ideal) arg17.view X_arg17) (Rect.unit ![BitVec.toNat (Scalar.indexCast (Scalar.muli (Scalar.subi 15#32 (Scf.iv 0#32 1#32 ↑k)) 8#32)), 0] ![8, 128] i8)) (View.ld (View.read (Elt Ideal) arg18.view X_arg18) (Rect.unit ![BitVec.toNat (Scalar.indexCast (Scalar.muli (Scalar.subi 15#32 (Scf.iv 0#32 1#32 ↑k)) 8#32)), 0] ![8, 128] i8))
      (View.ld (View.read (Elt Ideal) arg2.view X_arg2) (Rect.unit ![0, BitVec.toNat (Scalar.indexCast (Scalar.muli (Scalar.subi 15#32 (Scf.iv 0#32 1#32 ↑k)) 128#32)), 0] ![1, 128, 512] ix)) (View.ld (View.read (Elt Ideal) arg3.view X_arg3) (Rect.unit ![0, BitVec.toNat (Scalar.indexCast (Scalar.muli (Scalar.subi 15#32 (Scf.iv 0#32 1#32 ↑k)) 128#32)), 0] ![1, 128, 128] ib)) (View.ld (View.read (Elt Ideal) arg4.view X_arg4) (Rect.unit ![0, BitVec.toNat (Scalar.indexCast (Scalar.muli (Scalar.subi 15#32 (Scf.iv 0#32 1#32 ↑k)) 128#32)), 0] ![1, 128, 128] ib)) (View.read (Elt Ideal) arg16.view h)
      (View.ld (View.read (Elt Ideal) arg15.view X_arg15) (Rect.unit ![BitVec.toNat (Scalar.indexCast (Scalar.muli (Scalar.subi 15#32 (Scf.iv 0#32 1#32 ↑k)) 128#32)), 0] ![128, 512] iy)) (View.ld (View.read (Elt Ideal) arg5.view X_arg5) (Rect.unit ![0, BitVec.toNat (Scalar.indexCast (Scalar.muli (Scalar.subi 15#32 (Scf.iv 0#32 1#32 ↑k)) 128#32)), 0] ![1, 128, 512] ix)))⟩],
      [⟨Rect.unit (s := S128x512) ![0, 0] ![128, 512] ih, (stepH (Scalar.muli (Scalar.subi 15#32 (Scf.iv 0#32 1#32 ↑k)) 8#32) (View.read (Elt Ideal) arg20.view X_arg20) (View.ld (View.read (Elt Ideal) arg22.view X_arg22) (Rect.unit ![BitVec.toNat (Scalar.indexCast (Scalar.muli (Scalar.subi 15#32 (Scf.iv 0#32 1#32 ↑k)) 8#32)), 0] ![8, 512] i9)) (View.ld (View.read (Elt Ideal) arg2.view X_arg2) (Rect.unit ![0, BitVec.toNat (Scalar.indexCast (Scalar.muli (Scalar.subi 15#32 (Scf.iv 0#32 1#32 ↑k)) 128#32)), 0] ![1, 128, 512] ix)) (View.ld (View.read (Elt Ideal) arg3.view X_arg3) (Rect.unit ![0, BitVec.toNat (Scalar.indexCast (Scalar.muli (Scalar.subi 15#32 (Scf.iv 0#32 1#32 ↑k)) 128#32)), 0] ![1, 128, 128] ib)) (View.read (Elt Ideal) arg16.view h))⟩]) := by
  refine ⟨?_, ?_, ?_, ?_, ?_, ?_, ?e⟩
  case e =>
    unfold tripL_k0_t2 trip_k0_t2
    dsimp only
    sl_unfold_words
    simp only [List.cons_append, List.nil_append, View.readAt_eq_ld, View.ld_unit_zero (S := S128x128) z2, View.ld_unit_zero (S := S128x512) z2]
    rfl

end Cert.Proof.Scan

end
-- ==== Proof.ScanLoop.lean ====
/-
  THE TWO LOOPS RUN: the state after each chunk, the partial sums the forward loop leaves, the results the backward loop leaves.
-/
module

public import proofs.«01_k».proof.Proof.ScanSpec
public import proofs.«01_k».proof.Proof.ScanTrip
public import Idealize.ShloMosaic.Lib.VecWindow

@[expose] public section

set_option maxRecDepth 16384

noncomputable section

namespace Cert.Proof.Scan

open Idealize.ShloMosaic Idealize.ShloMosaic.TcCoe Idealize.ShloMosaic.Tactic Idealize.SL.Sem Cert.KernelIdeal Cert.KernelIdeal.Gen
open Cert.Proof.Ffn (ext2)

theorem ext3 {n0 n1 n2 : ℕ} {x y : (⟨3, ![n0, n1, n2]⟩ : Shape).Idx} (h0 : (x 0).val = (y 0).val) (h1 : (x 1).val = (y 1).val) (h2 : (x 2).val = (y 2).val) : x = y :=
  funext fun a => Fin.ext (match a with | ⟨0, _⟩ => h0 | ⟨1, _⟩ => h1 | ⟨2, _⟩ => h2)

/-- Position `s` of chunk `c`. -/
def pos (c : Fin 16) (s : Fin 128) : Fin 2048 := ⟨c.val * 128 + s.val, by omega⟩

theorem pos_surj (R : Fin 2048) : ∃ c s, R = pos c s := ⟨⟨R.val / 128, by omega⟩, ⟨R.val % 128, by omega⟩, Fin.ext (by show R.val = R.val / 128 * 128 + R.val % 128; omega)⟩

/-- The chunk the forward loop takes at trip `k`, and the backward loop's. -/
def fw (k : ℕ) : Fin 16 := ⟨k % 16, by omega⟩
def bw (k : ℕ) : Fin 16 := ⟨15 - k % 16, by omega⟩

theorem fword : ∀ k : Fin 16, Scalar.muli (Scf.iv 0#32 1#32 k.val) 8#32 = BitVec.ofNat 32 (8 * (fw k.val).val) := by decide +kernel
theorem bword : ∀ k : Fin 16, Scalar.muli (Scalar.subi 15#32 (Scf.iv 0#32 1#32 k.val)) 8#32 = BitVec.ofNat 32 (8 * (bw k.val).val) := by decide +kernel
theorem foff8 : ∀ k : Fin 16, BitVec.toNat (Scalar.indexCast (Scalar.muli (Scf.iv 0#32 1#32 k.val) 8#32)) = 8 * (fw k.val).val := by decide +kernel
theorem boff8 : ∀ k : Fin 16, BitVec.toNat (Scalar.indexCast (Scalar.muli (Scalar.subi 15#32 (Scf.iv 0#32 1#32 k.val)) 8#32)) = 8 * (bw k.val).val := by decide +kernel
theorem foff128 : ∀ k : Fin 16, BitVec.toNat (Scalar.indexCast (Scalar.muli (Scf.iv 0#32 1#32 k.val) 128#32)) = (fw k.val).val * 128 := by decide +kernel
theorem boff128 : ∀ k : Fin 16, BitVec.toNat (Scalar.indexCast (Scalar.muli (Scalar.subi 15#32 (Scf.iv 0#32 1#32 k.val)) 128#32)) = (bw k.val).val * 128 := by decide +kernel

theorem ld_band {W : ℕ} {e : EltTy} (X : (⟨2, ![128, W]⟩ : Shape).Idx → Elt Ideal e) (c : Fin 16) {o : ℕ} (ho : o = 8 * c.val) (i) (h : Fin 8) (s : Fin W) :
    View.ld (Val := Elt Ideal) X (Rect.unit (s := (⟨2, ![128, W]⟩ : Shape)) ![o, 0] ![8, W] i) (ix2 h s) = X (ix2 (row c h) s) := by
  subst ho
  refine congrArg X (ext2 ?_ ?_)
  · show 8 * c.val + 1 * h.val = 8 * c.val + h.val; omega
  · show 0 + 1 * s.val = s.val; omega

theorem ld_chunk {W : ℕ} {e : EltTy} (X : (⟨3, ![1, 2048, W]⟩ : Shape).Idx → Elt Ideal e) (c : Fin 16) {o : ℕ} (ho : o = c.val * 128) (i) (s : Fin 128) (l : Fin W) :
    View.ld (Val := Elt Ideal) X (Rect.unit (s := (⟨3, ![1, 2048, W]⟩ : Shape)) ![0, o, 0] ![1, 128, W] i) (ix3 0 s l) = X (ix3 0 (pos c s) l) := by
  subst ho
  refine congrArg X (ext3 ?_ ?_ ?_)
  · show 0 + 1 * 0 = 0; omega
  · show c.val * 128 + 1 * s.val = c.val * 128 + s.val; omega
  · show 0 + 1 * l.val = l.val; omega

theorem ld_rows {W : ℕ} {e : EltTy} (X : (⟨2, ![2048, W]⟩ : Shape).Idx → Elt Ideal e) (c : Fin 16) {o : ℕ} (ho : o = c.val * 128) (i) (s : Fin 128) (l : Fin W) :
    View.ld (Val := Elt Ideal) X (Rect.unit (s := (⟨2, ![2048, W]⟩ : Shape)) ![o, 0] ![128, W] i) (ix2 s l) = X (ix2 (pos c s) l) := by
  subst ho
  refine congrArg X (ext2 ?_ ?_)
  · show c.val * 128 + 1 * s.val = c.val * 128 + s.val; omega
  · show 0 + 1 * l.val = l.val; omega

/-- Stores of a chunk's rows a trip: each chunk's rows hold what its trip stored. -/
theorem rows3 {W : ℕ} {e : EltTy} (ρ : ℕ → Fin 16) (hρ : ∀ j k, j < 16 → k < 16 → ρ j = ρ k → j = k) (L : ℕ → List (View.Piece (Elt Ideal) (⟨3, ![1, 2048, W]⟩ : Shape) e))
    (f : ℕ → Fin 128 → Fin W → Elt Ideal e)
    (hL : ∀ k, k < 16 → ∃ (o : ℕ) (inb : _) (w : (⟨3, ![1, 128, W]⟩ : Shape).Idx → Elt Ideal e),
      o = (ρ k).val * 128 ∧ L (k + 1) = ⟨Rect.unit (s := (⟨3, ![1, 2048, W]⟩ : Shape)) ![0, o, 0] ![1, 128, W] inb, w⟩ :: L k
        ∧ ∀ (r : Fin 128) (l : Fin W), w (ix3 0 r l) = f k r l) :
    ∀ n ≤ 16, ∀ k < n, ∀ (r : Fin 128) (l : Fin W), View.canon (L n) (ix3 0 (pos (ρ k) r) l) = f k r l := by
  intro n
  induction n with
  | zero => intro _ k h; omega
  | succ n ih =>
    intro hn k hk r l
    obtain ⟨o, inb, w, ho, e, hw⟩ := hL n hn
    subst ho
    rw [e]
    by_cases hkn : k = n
    · subst hkn
      have ee : (ix3 0 (pos (ρ k) r) l : (⟨3, ![1, 2048, W]⟩ : Shape).Idx) = (Rect.unit (s := (⟨3, ![1, 2048, W]⟩ : Shape)) ![0, (ρ k).val * 128, 0] ![1, 128, W] inb).emb (ix3 0 r l) := by
        refine ext3 ?_ ?_ ?_
        · show 0 = 0 + 1 * 0; omega
        · show (ρ k).val * 128 + r.val = (ρ k).val * 128 + 1 * r.val; omega
        · show l.val = 0 + 1 * l.val; omega
      rw [ee]
      exact (View.canon_cons_emb _ _ _ _).trans (hw _ _)
    · refine (View.canon_cons_of_not_mem _ _ ?_).trans (ih (Nat.le_of_succ_le hn) k (by omega) r l)
      intro hm
      have h2 := (Rect.mem_set_unit.mp (show (ix3 0 (pos (ρ k) r) l : (⟨3, ![1, 2048, W]⟩ : Shape).Idx) ∈ (Rect.unit (s := (⟨3, ![1, 2048, W]⟩ : Shape)) ![0, (ρ n).val * 128, 0] ![1, 128, W] inb).set from hm)) 1
      have h3 : (ρ n).val * 128 ≤ (ρ k).val * 128 + r.val := h2.1
      have h4 : (ρ k).val * 128 + r.val < (ρ n).val * 128 + 128 := h2.2
      exact hkn (hρ k n (by omega) (by omega) (Fin.ext (by omega)))

theorem rows2 {W : ℕ} {e : EltTy} (ρ : ℕ → Fin 16) (hρ : ∀ j k, j < 16 → k < 16 → ρ j = ρ k → j = k) (L : ℕ → List (View.Piece (Elt Ideal) (⟨2, ![2048, W]⟩ : Shape) e))
    (f : ℕ → Fin 128 → Fin W → Elt Ideal e)
    (hL : ∀ k, k < 16 → ∃ (o : ℕ) (inb : _) (w : (⟨2, ![128, W]⟩ : Shape).Idx → Elt Ideal e),
      o = (ρ k).val * 128 ∧ L (k + 1) = ⟨Rect.unit (s := (⟨2, ![2048, W]⟩ : Shape)) ![o, 0] ![128, W] inb, w⟩ :: L k
        ∧ ∀ (r : Fin 128) (l : Fin W), w (ix2 r l) = f k r l) :
    ∀ n ≤ 16, ∀ k < n, ∀ (r : Fin 128) (l : Fin W), View.canon (L n) (ix2 (pos (ρ k) r) l) = f k r l := by
  intro n
  induction n with
  | zero => intro _ k h; omega
  | succ n ih =>
    intro hn k hk r l
    obtain ⟨o, inb, w, ho, e, hw⟩ := hL n hn
    subst ho
    rw [e]
    by_cases hkn : k = n
    · subst hkn
      have ee : (ix2 (pos (ρ k) r) l : (⟨2, ![2048, W]⟩ : Shape).Idx) = (Rect.unit (s := (⟨2, ![2048, W]⟩ : Shape)) ![(ρ k).val * 128, 0] ![128, W] inb).emb (ix2 r l) := by
        refine ext2 ?_ ?_
        · show (ρ k).val * 128 + r.val = (ρ k).val * 128 + 1 * r.val; omega
        · show l.val = 0 + 1 * l.val; omega
      rw [ee]
      exact (View.canon_cons_emb _ _ _ _).trans (hw _ _)
    · refine (View.canon_cons_of_not_mem _ _ ?_).trans (ih (Nat.le_of_succ_le hn) k (by omega) r l)
      intro hm
      have h2 := (Rect.mem_set_unit.mp (show (ix2 (pos (ρ k) r) l : (⟨2, ![2048, W]⟩ : Shape).Idx) ∈ (Rect.unit (s := (⟨2, ![2048, W]⟩ : Shape)) ![(ρ n).val * 128, 0] ![128, W] inb).set from hm)) 0
      have h3 : (ρ n).val * 128 ≤ (ρ k).val * 128 + r.val := h2.1
      have h4 : (ρ k).val * 128 + r.val < (ρ n).val * 128 + 128 := h2.2
      exact hkn (hρ k n (by omega) (by omega) (Fin.ext (by omega)))

theorem fw_inj (j k : ℕ) (hj : j < 16) (hk : k < 16) (h : fw j = fw k) : j = k := by
  have := congrArg Fin.val h
  have : j % 16 = k % 16 := this
  omega

theorem bw_inj (j k : ℕ) (hj : j < 16) (hk : k < 16) (h : bw j = bw k) : j = k := by
  have := congrArg Fin.val h
  have : 15 - j % 16 = 15 - k % 16 := this
  omega

section
variable (σ : Equiv.Perm (Fin 128)) (ρ : ℕ → Fin 16) (a d : Fin 16 → Fin 8 → Fin 128 → EReal) (x0 : Vec Ideal S1x2048x512 .bf16) (x1 x2 : Vec Ideal S1x2048x128 .bf16)

/-- The state of column `l` before chunk `k` of the direction. -/
def dirH (l : Fin 512) : ℕ → Fin 128 → EReal :=
  states (fun k => a (ρ k) (hd l)) (fun k => d (ρ k) (hd l)) (fun k s => x0 (ix3 0 (pos (ρ k) (σ s)) l)) (fun k s n => x1 (ix3 0 (pos (ρ k) (σ s)) n))

/-- The direction's result at its chunk `k`, position `r`, column `l`. -/
def dirY (k : ℕ) (r : Fin 128) (l : Fin 512) : EReal :=
  chunkY (a (ρ k) (hd l)) (d (ρ k) (hd l)) (fun s => x0 (ix3 0 (pos (ρ k) (σ s)) l)) (fun s n => x1 (ix3 0 (pos (ρ k) (σ s)) n))
    (fun s n => x2 (ix3 0 (pos (ρ k) (σ s)) n)) (dirH σ ρ a d x0 x1 l k) r

/-- The state stored a trip is the recursion's. -/
theorem state_run {κ : Kind} {sp : Space} (v : View sig κ sp S128x512 .f32) (G : v.ty.Contents (Elt Ideal)) (hG : ∀ n l, v.read (Elt Ideal) G (ix2 n l) = 0)
    (L : ℕ → List (View.Piece (Elt Ideal) S128x512 .f32))
    (hL : ∀ k, k < 16 → ∃ (inb : _) (w : Vec Ideal S128x512 .f32), L (k + 1) = ⟨Rect.unit (s := S128x512) ![0, 0] ![128, 512] inb, w⟩ :: L k
      ∧ ∀ n l, w (ix2 n l) = chunkH (a (ρ k) (hd l)) (d (ρ k) (hd l)) (fun s => x0 (ix3 0 (pos (ρ k) (σ s)) l)) (fun s n => x1 (ix3 0 (pos (ρ k) (σ s)) n))
          (fun n => v.read (Elt Ideal) (v.writes (Elt Ideal) G (L k)) (ix2 n l)) n) (h0 : L 0 = []) :
    ∀ k ≤ 16, ∀ n l, v.read (Elt Ideal) (v.writes (Elt Ideal) G (L k)) (ix2 n l) = dirH σ ρ a d x0 x1 l k n := by
  intro k
  induction k with
  | zero =>
    intro _ n l
    rw [h0]
    exact hG n l
  | succ k ih =>
    intro hk n l
    obtain ⟨inb, w, e, hw⟩ := hL k hk
    rw [e]
    refine (View.read_writes_cons_rows_of_mem v G inb _ _ _ (ix2 n l) rfl (by show n.val = 0 + n.val; omega) rfl).trans ((hw n l).trans ?_)
    simp only [ih (Nat.le_of_succ_le hk)]
    rfl

end

theorem outY_apply (mask : IVec S128x128 1) (b : BitVec 32) (tcs te : Vec Ideal S128x128 .f32) (csr dtr : Vec Ideal S8x128 .f32)
    (X : Vec Ideal S1x128x512 .bf16) (B C : Vec Ideal S1x128x128 .bf16) (H : Vec Ideal S128x512 .f32) (D : Vec Ideal S1x512 .f32) (r : Fin 128) (l : Fin 512) :
    outY mask b tcs te csr dtr X B C H D (ix2 r l) = stepY mask b tcs te csr dtr X B C H (ix2 r l) + X (ix3 0 r l) * D (ix2 0 l) := by
  unfold outY k0_pay9 k0_pay8
  pointwise

theorem gated_apply (mask : IVec S128x128 1) (b : BitVec 32) (tcs te : Vec Ideal S128x128 .f32) (csr dtr : Vec Ideal S8x128 .f32)
    (X : Vec Ideal S1x128x512 .bf16) (B C : Vec Ideal S1x128x128 .bf16) (H : Vec Ideal S128x512 .f32) (A : Vec Ideal S128x512 .f32) (Z : Vec Ideal S1x128x512 .bf16) (r : Fin 128) (l : Fin 512) :
    gated mask b tcs te csr dtr X B C H A Z (ix2 r l) = (A (ix2 r l) + stepY mask b tcs te csr dtr X B C H (ix2 r l)) * (Z (ix3 0 r l) * Ideal.logistic (Z (ix3 0 r l))) := by
  unfold gated k0_pay9 k0_pay8
  pointwise

theorem out13_apply (g : FVec Ideal S128x512 .f32) (r : Fin 128) (l : Fin 512) : out13 g (ix3 0 r l) = g (ix2 r l) := by
  unfold out13
  pointwise

/-- Four columns' squares, added left to right. -/
def sq4 (g : Fin 512 → EReal) (j : Fin 128) : EReal :=
  g ⟨j.val, by omega⟩ * g ⟨j.val, by omega⟩ + g ⟨128 + j.val, by omega⟩ * g ⟨128 + j.val, by omega⟩
    + g ⟨256 + j.val, by omega⟩ * g ⟨256 + j.val, by omega⟩ + g ⟨384 + j.val, by omega⟩ * g ⟨384 + j.val, by omega⟩

theorem out14_apply (g : FVec Ideal S128x512 .f32) (r : Fin 128) (j : Fin 128) : out14 g (ix3 0 r j) = sq4 (fun l => g (ix2 r l)) j := by
  unfold out14 sq4
  pointwise

variable {𝒱 : Variants} {c : Dev nD} {bd : Option 𝒱.V} {i : grid0.Coords} {arg2 : Memref sig .tc .vmem S1x2048x512 .bf16} {harg2 : arg2.IsWhole} {arg3 : Memref sig .tc .vmem S1x2048x128 .bf16} {harg3 : arg3.IsWhole} {arg4 : Memref sig .tc .vmem S1x2048x128 .bf16} {harg4 : arg4.IsWhole} {arg5 : Memref sig .tc .vmem S1x2048x512 .bf16} {harg5 : arg5.IsWhole} {arg6 : Memref sig .tc .vmem S8x2048 .f32} {harg6 : arg6.IsWhole} {arg7 : Memref sig .tc .vmem S8x2048 .f32} {harg7 : arg7.IsWhole} {arg8 : Memref sig .tc .vmem S8x1 .f32} {harg8 : arg8.IsWhole} {arg9 : Memref sig .tc .vmem S8x1 .f32} {harg9 : arg9.IsWhole} {arg10 : Memref sig .tc .vmem S8x1 .f32} {harg10 : arg10.IsWhole} {arg11 : Memref sig .tc .vmem S8x1 .f32} {harg11 : arg11.IsWhole} {arg12 : Memref sig .tc .vmem S1x512 .f32} {harg12 : arg12.IsWhole} {arg13 : Memref sig .tc .vmem S1x2048x512 .bf16} {harg13 : arg13.IsWhole} {arg14 : Memref sig .tc .vmem S1x2048x128 .f32} {harg14 : arg14.IsWhole} {arg15 : Memref sig .tc .vmem S2048x512 .f32} {harg15 : arg15.IsWhole} {arg16 : Memref sig .tc .vmem S128x512 .f32} {harg16 : arg16.IsWhole} {arg17 : Memref sig .tc .vmem S128x128 .f32} {harg17 : arg17.IsWhole} {arg18 : Memref sig .tc .vmem S128x128 .f32} {harg18 : arg18.IsWhole} {arg19 : Memref sig .tc .vmem S128x128 .f32} {harg19 : arg19.IsWhole} {arg20 : Memref sig .tc .vmem S128x128 .f32} {harg20 : arg20.IsWhole} {arg21 : Memref sig .tc .vmem S128x128 .f32} {harg21 : arg21.IsWhole} {arg22 : Memref sig .tc .vmem S128x512 .f32} {harg22 : arg22.IsWhole}

section
variable {a d : Fin 16 → Fin 8 → Fin 128 → EReal} {X_arg2 : BufTy.Contents (Elt Ideal) arg2.view.ty} {X_arg3 : BufTy.Contents (Elt Ideal) arg3.view.ty} {X_arg4 : BufTy.Contents (Elt Ideal) arg4.view.ty} {X_arg12 : BufTy.Contents (Elt Ideal) arg12.view.ty} {X_arg17 : BufTy.Contents (Elt Ideal) arg17.view.ty} {X_arg18 : BufTy.Contents (Elt Ideal) arg18.view.ty} {X_arg19 : BufTy.Contents (Elt Ideal) arg19.view.ty} {X_arg20 : BufTy.Contents (Elt Ideal) arg20.view.ty} {X_arg21 : BufTy.Contents (Elt Ideal) arg21.view.ty} {X_arg22 : BufTy.Contents (Elt Ideal) arg22.view.ty} {G15 : BufTy.Contents (Elt Ideal) arg15.view.ty} {G16 : BufTy.Contents (Elt Ideal) arg16.view.ty}
  (T : Tabs (Equiv.refl _) a d (View.read (Elt Ideal) arg17.view X_arg17) (View.read (Elt Ideal) arg18.view X_arg18) (View.read (Elt Ideal) arg19.view X_arg19) (View.read (Elt Ideal) arg20.view X_arg20) (View.read (Elt Ideal) arg21.view X_arg21) (View.read (Elt Ideal) arg22.view X_arg22))
include T

/-- What a trip adds to the stores, and the values stored. -/
theorem fwd_trip (k : ℕ) (hk : k < 16) : ∃ iy ih wy wh, pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_pay95 (iota .tc S128x128 32 [1] iota_S128x128_d1_w32) k0_pay96 X_arg2 X_arg3 X_arg4 X_arg12 X_arg17 X_arg18 X_arg19 X_arg20 X_arg21 X_arg22 G15 G16 (k + 1)
    = (⟨Rect.unit (s := S2048x512) ![BitVec.toNat (Scalar.indexCast (Scalar.muli (Scf.iv 0#32 1#32 k) 128#32)), 0] ![128, 512] iy, wy⟩ :: (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_pay95 (iota .tc S128x128 32 [1] iota_S128x128_d1_w32) k0_pay96 X_arg2 X_arg3 X_arg4 X_arg12 X_arg17 X_arg18 X_arg19 X_arg20 X_arg21 X_arg22 G15 G16 k).1, ⟨Rect.unit (s := S128x512) ![0, 0] ![128, 512] ih, wh⟩ :: (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_pay95 (iota .tc S128x128 32 [1] iota_S128x128_d1_w32) k0_pay96 X_arg2 X_arg3 X_arg4 X_arg12 X_arg17 X_arg18 X_arg19 X_arg20 X_arg21 X_arg22 G15 G16 k).2)
    ∧ (∀ (n : Fin 128) (l : Fin 512), wh (ix2 n l) = chunkH (a (fw k) (hd l)) (d (fw k) (hd l)) (fun s => (View.read (Elt Ideal) arg2.view X_arg2) (ix3 0 (pos (fw k) s) l)) (fun s n => (View.read (Elt Ideal) arg3.view X_arg3) (ix3 0 (pos (fw k) s) n))
        (fun n => View.read (Elt Ideal) arg16.view (arg16.view.writes (Elt Ideal) G16 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_pay95 (iota .tc S128x128 32 [1] iota_S128x128_d1_w32) k0_pay96 X_arg2 X_arg3 X_arg4 X_arg12 X_arg17 X_arg18 X_arg19 X_arg20 X_arg21 X_arg22 G15 G16 k).2) (ix2 n l)) n)
    ∧ ∀ (r : Fin 128) (l : Fin 512), wy (ix2 r l) = chunkY (a (fw k) (hd l)) (d (fw k) (hd l)) (fun s => (View.read (Elt Ideal) arg2.view X_arg2) (ix3 0 (pos (fw k) s) l)) (fun s n => (View.read (Elt Ideal) arg3.view X_arg3) (ix3 0 (pos (fw k) s) n)) (fun s n => (View.read (Elt Ideal) arg4.view X_arg4) (ix3 0 (pos (fw k) s) n)) (fun n => View.read (Elt Ideal) arg16.view (arg16.view.writes (Elt Ideal) G16 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_pay95 (iota .tc S128x128 32 [1] iota_S128x128_d1_w32) k0_pay96 X_arg2 X_arg3 X_arg4 X_arg12 X_arg17 X_arg18 X_arg19 X_arg20 X_arg21 X_arg22 G15 G16 k).2) (ix2 n l)) r + (View.read (Elt Ideal) arg2.view X_arg2) (ix3 0 (pos (fw k) r) l) * (View.read (Elt Ideal) arg12.view X_arg12) (ix2 0 l) := by
  obtain ⟨i8, ix, ib, i9, iy, ih, e⟩ := trip1 (𝒱 := 𝒱) (c := c) (bd := bd) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22)
    (v136 := k0_pay95) (X_arg2 := X_arg2) (X_arg3 := X_arg3) (X_arg4 := X_arg4) (X_arg12 := X_arg12) (X_arg17 := X_arg17) (X_arg18 := X_arg18) (X_arg19 := X_arg19) (X_arg20 := X_arg20) (X_arg21 := X_arg21) (X_arg22 := X_arg22)
    (k := ⟨k, hk⟩) (arg15.view.writes (Elt Ideal) G15 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_pay95 (iota .tc S128x128 32 [1] iota_S128x128_d1_w32) k0_pay96 X_arg2 X_arg3 X_arg4 X_arg12 X_arg17 X_arg18 X_arg19 X_arg20 X_arg21 X_arg22 G15 G16 k).1) (arg16.view.writes (Elt Ideal) G16 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_pay95 (iota .tc S128x128 32 [1] iota_S128x128_d1_w32) k0_pay96 X_arg2 X_arg3 X_arg4 X_arg12 X_arg17 X_arg18 X_arg19 X_arg20 X_arg21 X_arg22 G15 G16 k).2)
  refine ⟨iy, ih, ?wy, ?wh, (pb_k0_t1_succ (k := ⟨k, hk⟩) ..).trans ?e, ?h, ?y⟩
  case e => exact congrArg₂ (fun p q => (p ++ (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_pay95 (iota .tc S128x128 32 [1] iota_S128x128_d1_w32) k0_pay96 X_arg2 X_arg3 X_arg4 X_arg12 X_arg17 X_arg18 X_arg19 X_arg20 X_arg21 X_arg22 G15 G16 k).1, q ++ (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_pay95 (iota .tc S128x128 32 [1] iota_S128x128_d1_w32) k0_pay96 X_arg2 X_arg3 X_arg4 X_arg12 X_arg17 X_arg18 X_arg19 X_arg20 X_arg21 X_arg22 G15 G16 k).2)) (congrArg Prod.fst e) (congrArg Prod.snd e)
  case h =>
    intro n l
    refine (stepH_eq T _ (fw k) (fword ⟨k, hk⟩) _ (fun l => ld_band (W := 512) (e := .f32) _ _ (foff8 ⟨k, hk⟩) _ 0 l) _ _ _ n l).trans ?_
    congr 1
    · exact funext fun s => ld_chunk (W := 512) (e := .bf16) _ _ (foff128 ⟨k, hk⟩) _ s l
    · exact funext fun s => funext fun n => ld_chunk (W := 128) (e := .bf16) _ _ (foff128 ⟨k, hk⟩) _ s n
  case y =>
    intro r l
    refine (outY_apply _ _ _ _ _ _ _ _ _ _ _ r l).trans (congrArg₂ (· + ·) ((stepY_eq T _ maskF _ (fw k) (fword ⟨k, hk⟩) _ _ (fun h s => ld_band (W := 128) (e := .f32) _ _ (foff8 ⟨k, hk⟩) _ h s) (fun h s => ld_band (W := 128) (e := .f32) _ _ (foff8 ⟨k, hk⟩) _ h s) _ _ _ _ r l).trans ?_) (congrArg (· * _) (ld_chunk (W := 512) (e := .bf16) _ _ (foff128 ⟨k, hk⟩) _ r l)))
    congr 1
    · exact funext fun s => ld_chunk (W := 512) (e := .bf16) _ _ (foff128 ⟨k, hk⟩) _ s l
    · exact funext fun s => funext fun n => ld_chunk (W := 128) (e := .bf16) _ _ (foff128 ⟨k, hk⟩) _ s n
    · exact funext fun s => funext fun n => ld_chunk (W := 128) (e := .bf16) _ _ (foff128 ⟨k, hk⟩) _ s n

/-- The states the direction goes through. -/
theorem fwd_states (hG : ∀ (n : Fin 128) (l : Fin 512), View.read (Elt Ideal) arg16.view G16 (ix2 n l) = 0) : ∀ k ≤ 16, ∀ n l, View.read (Elt Ideal) arg16.view (arg16.view.writes (Elt Ideal) G16 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_pay95 (iota .tc S128x128 32 [1] iota_S128x128_d1_w32) k0_pay96 X_arg2 X_arg3 X_arg4 X_arg12 X_arg17 X_arg18 X_arg19 X_arg20 X_arg21 X_arg22 G15 G16 k).2) (ix2 n l) = dirH (Equiv.refl _) fw a d (View.read (Elt Ideal) arg2.view X_arg2) (View.read (Elt Ideal) arg3.view X_arg3) l k n :=
  state_run (Equiv.refl _) fw a d (View.read (Elt Ideal) arg2.view X_arg2) (View.read (Elt Ideal) arg3.view X_arg3) arg16.view G16 hG (fun k => (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_pay95 (iota .tc S128x128 32 [1] iota_S128x128_d1_w32) k0_pay96 X_arg2 X_arg3 X_arg4 X_arg12 X_arg17 X_arg18 X_arg19 X_arg20 X_arg21 X_arg22 G15 G16 k).2)
    (fun k hk => by
      obtain ⟨iy, ih, wy, wh, e, hh, -⟩ := fwd_trip T k hk (G15 := G15) (G16 := G16) (X_arg12 := X_arg12)
      exact ⟨ih, wh, congrArg (fun x => x.2) e, hh⟩) rfl

/-- The partial sums the forward loop leaves. -/
theorem fwd_sums (hG : ∀ (n : Fin 128) (l : Fin 512), View.read (Elt Ideal) arg16.view G16 (ix2 n l) = 0) : ∀ k < 16, ∀ (r : Fin 128) (l : Fin 512), View.canon (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_pay95 (iota .tc S128x128 32 [1] iota_S128x128_d1_w32) k0_pay96 X_arg2 X_arg3 X_arg4 X_arg12 X_arg17 X_arg18 X_arg19 X_arg20 X_arg21 X_arg22 G15 G16 16).1 (ix2 (pos (fw k) r) l)
    = dirY (Equiv.refl _) fw a d (View.read (Elt Ideal) arg2.view X_arg2) (View.read (Elt Ideal) arg3.view X_arg3) (View.read (Elt Ideal) arg4.view X_arg4) k r l + (View.read (Elt Ideal) arg2.view X_arg2) (ix3 0 (pos (fw k) r) l) * (View.read (Elt Ideal) arg12.view X_arg12) (ix2 0 l) :=
  rows2 (W := 512) (e := .f32) fw fw_inj (fun k => (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_pay95 (iota .tc S128x128 32 [1] iota_S128x128_d1_w32) k0_pay96 X_arg2 X_arg3 X_arg4 X_arg12 X_arg17 X_arg18 X_arg19 X_arg20 X_arg21 X_arg22 G15 G16 k).1) (fun k r l => dirY (Equiv.refl _) fw a d (View.read (Elt Ideal) arg2.view X_arg2) (View.read (Elt Ideal) arg3.view X_arg3) (View.read (Elt Ideal) arg4.view X_arg4) k r l + (View.read (Elt Ideal) arg2.view X_arg2) (ix3 0 (pos (fw k) r) l) * (View.read (Elt Ideal) arg12.view X_arg12) (ix2 0 l))
    (fun k hk => by
      obtain ⟨iy, ih, wy, wh, e, -, hy⟩ := fwd_trip T k hk (G15 := G15) (G16 := G16) (X_arg12 := X_arg12)
      refine ⟨_, iy, wy, foff128 ⟨k, hk⟩, congrArg Prod.fst e, fun r l => (hy r l).trans ?_⟩
      simp only [fwd_states T hG k (Nat.le_of_lt hk)]
      rfl) 16 (Nat.le_refl _)

end

section
variable {a d : Fin 16 → Fin 8 → Fin 128 → EReal} {X_arg2 : BufTy.Contents (Elt Ideal) arg2.view.ty} {X_arg3 : BufTy.Contents (Elt Ideal) arg3.view.ty} {X_arg4 : BufTy.Contents (Elt Ideal) arg4.view.ty} {X_arg5 : BufTy.Contents (Elt Ideal) arg5.view.ty} {X_arg15 : BufTy.Contents (Elt Ideal) arg15.view.ty} {X_arg17 : BufTy.Contents (Elt Ideal) arg17.view.ty} {X_arg18 : BufTy.Contents (Elt Ideal) arg18.view.ty} {X_arg19 : BufTy.Contents (Elt Ideal) arg19.view.ty} {X_arg20 : BufTy.Contents (Elt Ideal) arg20.view.ty} {X_arg21 : BufTy.Contents (Elt Ideal) arg21.view.ty} {X_arg22 : BufTy.Contents (Elt Ideal) arg22.view.ty} {G13 : BufTy.Contents (Elt Ideal) arg13.view.ty} {G14 : BufTy.Contents (Elt Ideal) arg14.view.ty} {G16 : BufTy.Contents (Elt Ideal) arg16.view.ty}
  (T : Tabs Fin.revPerm a d (View.read (Elt Ideal) arg17.view X_arg17) (View.read (Elt Ideal) arg18.view X_arg18) (View.read (Elt Ideal) arg19.view X_arg19) (View.read (Elt Ideal) arg20.view X_arg20) (View.read (Elt Ideal) arg21.view X_arg21) (View.read (Elt Ideal) arg22.view X_arg22))
include T

/-- What a trip adds to the stores, and the values stored. -/
theorem bwd_trip (k : ℕ) (hk : k < 16) : ∃ ix ib ih, ∃ (g : FVec Ideal S128x512 .f32), ∃ wh, pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X_arg2 X_arg3 X_arg4 X_arg5 X_arg15 X_arg17 X_arg18 X_arg19 X_arg20 X_arg21 X_arg22 G13 G14 G16 (k + 1)
    = (⟨Rect.unit (s := S1x2048x512) ![0, BitVec.toNat (Scalar.indexCast (Scalar.muli (Scalar.subi 15#32 (Scf.iv 0#32 1#32 k)) 128#32)), 0] ![1, 128, 512] ix, out13 g⟩ :: (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X_arg2 X_arg3 X_arg4 X_arg5 X_arg15 X_arg17 X_arg18 X_arg19 X_arg20 X_arg21 X_arg22 G13 G14 G16 k).1, ⟨Rect.unit (s := S1x2048x128) ![0, BitVec.toNat (Scalar.indexCast (Scalar.muli (Scalar.subi 15#32 (Scf.iv 0#32 1#32 k)) 128#32)), 0] ![1, 128, 128] ib, out14 g⟩ :: (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X_arg2 X_arg3 X_arg4 X_arg5 X_arg15 X_arg17 X_arg18 X_arg19 X_arg20 X_arg21 X_arg22 G13 G14 G16 k).2.1, ⟨Rect.unit (s := S128x512) ![0, 0] ![128, 512] ih, wh⟩ :: (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X_arg2 X_arg3 X_arg4 X_arg5 X_arg15 X_arg17 X_arg18 X_arg19 X_arg20 X_arg21 X_arg22 G13 G14 G16 k).2.2)
    ∧ (∀ (n : Fin 128) (l : Fin 512), wh (ix2 n l) = chunkH (a (bw k) (hd l)) (d (bw k) (hd l)) (fun s => (View.read (Elt Ideal) arg2.view X_arg2) (ix3 0 (pos (bw k) (Fin.revPerm s)) l)) (fun s n => (View.read (Elt Ideal) arg3.view X_arg3) (ix3 0 (pos (bw k) (Fin.revPerm s)) n))
        (fun n => View.read (Elt Ideal) arg16.view (arg16.view.writes (Elt Ideal) G16 (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X_arg2 X_arg3 X_arg4 X_arg5 X_arg15 X_arg17 X_arg18 X_arg19 X_arg20 X_arg21 X_arg22 G13 G14 G16 k).2.2) (ix2 n l)) n)
    ∧ ∀ (r : Fin 128) (l : Fin 512), g (ix2 (Fin.revPerm r) l) = ((View.read (Elt Ideal) arg15.view X_arg15) (ix2 (pos (bw k) (Fin.revPerm r)) l) + chunkY (a (bw k) (hd l)) (d (bw k) (hd l)) (fun s => (View.read (Elt Ideal) arg2.view X_arg2) (ix3 0 (pos (bw k) (Fin.revPerm s)) l)) (fun s n => (View.read (Elt Ideal) arg3.view X_arg3) (ix3 0 (pos (bw k) (Fin.revPerm s)) n)) (fun s n => (View.read (Elt Ideal) arg4.view X_arg4) (ix3 0 (pos (bw k) (Fin.revPerm s)) n)) (fun n => View.read (Elt Ideal) arg16.view (arg16.view.writes (Elt Ideal) G16 (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X_arg2 X_arg3 X_arg4 X_arg5 X_arg15 X_arg17 X_arg18 X_arg19 X_arg20 X_arg21 X_arg22 G13 G14 G16 k).2.2) (ix2 n l)) r) * ((View.read (Elt Ideal) arg5.view X_arg5) (ix3 0 (pos (bw k) (Fin.revPerm r)) l) * Ideal.logistic ((View.read (Elt Ideal) arg5.view X_arg5) (ix3 0 (pos (bw k) (Fin.revPerm r)) l))) := by
  obtain ⟨i8, ix, ib, i9, iy, ih, e⟩ := trip2 (𝒱 := 𝒱) (c := c) (bd := bd) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22)
    (X_arg2 := X_arg2) (X_arg3 := X_arg3) (X_arg4 := X_arg4) (X_arg5 := X_arg5) (X_arg15 := X_arg15) (X_arg17 := X_arg17) (X_arg18 := X_arg18) (X_arg19 := X_arg19) (X_arg20 := X_arg20) (X_arg21 := X_arg21) (X_arg22 := X_arg22)
    (k := ⟨k, hk⟩) (arg13.view.writes (Elt Ideal) G13 (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X_arg2 X_arg3 X_arg4 X_arg5 X_arg15 X_arg17 X_arg18 X_arg19 X_arg20 X_arg21 X_arg22 G13 G14 G16 k).1) (arg14.view.writes (Elt Ideal) G14 (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X_arg2 X_arg3 X_arg4 X_arg5 X_arg15 X_arg17 X_arg18 X_arg19 X_arg20 X_arg21 X_arg22 G13 G14 G16 k).2.1) (arg16.view.writes (Elt Ideal) G16 (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X_arg2 X_arg3 X_arg4 X_arg5 X_arg15 X_arg17 X_arg18 X_arg19 X_arg20 X_arg21 X_arg22 G13 G14 G16 k).2.2)
  refine ⟨ix, ib, ih, ?wy, ?wh, (pb_k0_t2_succ (k := ⟨k, hk⟩) ..).trans ?e, ?h, ?y⟩
  case e => exact congrArg₂ (fun p q => (p ++ (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X_arg2 X_arg3 X_arg4 X_arg5 X_arg15 X_arg17 X_arg18 X_arg19 X_arg20 X_arg21 X_arg22 G13 G14 G16 k).1, q)) (congrArg Prod.fst e) (congrArg₂ (fun p q => (p ++ (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X_arg2 X_arg3 X_arg4 X_arg5 X_arg15 X_arg17 X_arg18 X_arg19 X_arg20 X_arg21 X_arg22 G13 G14 G16 k).2.1, q ++ (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X_arg2 X_arg3 X_arg4 X_arg5 X_arg15 X_arg17 X_arg18 X_arg19 X_arg20 X_arg21 X_arg22 G13 G14 G16 k).2.2)) (congrArg (fun x => x.2.1) e) (congrArg (fun x => x.2.2) e))
  case h =>
    intro n l
    refine (stepH_eq T _ (bw k) (bword ⟨k, hk⟩) _ (fun l => ld_band (W := 512) (e := .f32) _ _ (boff8 ⟨k, hk⟩) _ 0 l) _ _ _ n l).trans ?_
    congr 1
    · exact funext fun s => ld_chunk (W := 512) (e := .bf16) _ _ (boff128 ⟨k, hk⟩) _ (Fin.revPerm s) l
    · exact funext fun s => funext fun n => ld_chunk (W := 128) (e := .bf16) _ _ (boff128 ⟨k, hk⟩) _ (Fin.revPerm s) n
  case y =>
    intro r l
    refine (gated_apply _ _ _ _ _ _ _ _ _ _ _ _ (Fin.revPerm r) l).trans (congrArg₂ (· * ·) (congrArg₂ (· + ·) (ld_rows (W := 512) (e := .f32) _ _ (boff128 ⟨k, hk⟩) _ (Fin.revPerm r) l) ((stepY_eq T _ maskB _ (bw k) (bword ⟨k, hk⟩) _ _ (fun h s => ld_band (W := 128) (e := .f32) _ _ (boff8 ⟨k, hk⟩) _ h s) (fun h s => ld_band (W := 128) (e := .f32) _ _ (boff8 ⟨k, hk⟩) _ h s) _ _ _ _ r l).trans ?_)) (congrArg (fun z => z * Ideal.logistic z) (ld_chunk (W := 512) (e := .bf16) _ _ (boff128 ⟨k, hk⟩) _ (Fin.revPerm r) l)))
    congr 1
    · exact funext fun s => ld_chunk (W := 512) (e := .bf16) _ _ (boff128 ⟨k, hk⟩) _ (Fin.revPerm s) l
    · exact funext fun s => funext fun n => ld_chunk (W := 128) (e := .bf16) _ _ (boff128 ⟨k, hk⟩) _ (Fin.revPerm s) n
    · exact funext fun s => funext fun n => ld_chunk (W := 128) (e := .bf16) _ _ (boff128 ⟨k, hk⟩) _ (Fin.revPerm s) n

/-- The states the direction goes through. -/
theorem bwd_states (hG : ∀ (n : Fin 128) (l : Fin 512), View.read (Elt Ideal) arg16.view G16 (ix2 n l) = 0) : ∀ k ≤ 16, ∀ n l, View.read (Elt Ideal) arg16.view (arg16.view.writes (Elt Ideal) G16 (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X_arg2 X_arg3 X_arg4 X_arg5 X_arg15 X_arg17 X_arg18 X_arg19 X_arg20 X_arg21 X_arg22 G13 G14 G16 k).2.2) (ix2 n l) = dirH Fin.revPerm bw a d (View.read (Elt Ideal) arg2.view X_arg2) (View.read (Elt Ideal) arg3.view X_arg3) l k n :=
  state_run Fin.revPerm bw a d (View.read (Elt Ideal) arg2.view X_arg2) (View.read (Elt Ideal) arg3.view X_arg3) arg16.view G16 hG (fun k => (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X_arg2 X_arg3 X_arg4 X_arg5 X_arg15 X_arg17 X_arg18 X_arg19 X_arg20 X_arg21 X_arg22 G13 G14 G16 k).2.2)
    (fun k hk => by
      obtain ⟨ix, ib, ih, g, wh, e, hh, -⟩ := bwd_trip T k hk (G13 := G13) (G14 := G14) (X_arg5 := X_arg5) (X_arg15 := X_arg15) (G16 := G16)
      exact ⟨ih, wh, congrArg (fun x => x.2.2) e, hh⟩) rfl

/-- The gated sum at the backward loop's trip `k`, position `r`. -/
def gate (a d : Fin 16 → Fin 8 → Fin 128 → EReal) (x0 : Vec Ideal S1x2048x512 .bf16) (x1 x2 : Vec Ideal S1x2048x128 .bf16) (x3 : Vec Ideal S1x2048x512 .bf16) (A : Vec Ideal S2048x512 .f32)
    (k : ℕ) (r : Fin 128) (l : Fin 512) : EReal :=
  (A (ix2 (pos (bw k) r) l) + dirY Fin.revPerm bw a d x0 x1 x2 k (Fin.revPerm r) l) * (x3 (ix3 0 (pos (bw k) r) l) * Ideal.logistic (x3 (ix3 0 (pos (bw k) r) l)))

theorem bwd_gate (hG : ∀ (n : Fin 128) (l : Fin 512), View.read (Elt Ideal) arg16.view G16 (ix2 n l) = 0) (k : ℕ) (hk : k < 16) : ∃ ix ib ih, ∃ (g : FVec Ideal S128x512 .f32), ∃ wh, pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X_arg2 X_arg3 X_arg4 X_arg5 X_arg15 X_arg17 X_arg18 X_arg19 X_arg20 X_arg21 X_arg22 G13 G14 G16 (k + 1)
    = (⟨Rect.unit (s := S1x2048x512) ![0, BitVec.toNat (Scalar.indexCast (Scalar.muli (Scalar.subi 15#32 (Scf.iv 0#32 1#32 k)) 128#32)), 0] ![1, 128, 512] ix, out13 g⟩ :: (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X_arg2 X_arg3 X_arg4 X_arg5 X_arg15 X_arg17 X_arg18 X_arg19 X_arg20 X_arg21 X_arg22 G13 G14 G16 k).1, ⟨Rect.unit (s := S1x2048x128) ![0, BitVec.toNat (Scalar.indexCast (Scalar.muli (Scalar.subi 15#32 (Scf.iv 0#32 1#32 k)) 128#32)), 0] ![1, 128, 128] ib, out14 g⟩ :: (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X_arg2 X_arg3 X_arg4 X_arg5 X_arg15 X_arg17 X_arg18 X_arg19 X_arg20 X_arg21 X_arg22 G13 G14 G16 k).2.1, ⟨Rect.unit (s := S128x512) ![0, 0] ![128, 512] ih, wh⟩ :: (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X_arg2 X_arg3 X_arg4 X_arg5 X_arg15 X_arg17 X_arg18 X_arg19 X_arg20 X_arg21 X_arg22 G13 G14 G16 k).2.2) ∧ ∀ r l, g (ix2 r l) = gate a d (View.read (Elt Ideal) arg2.view X_arg2) (View.read (Elt Ideal) arg3.view X_arg3) (View.read (Elt Ideal) arg4.view X_arg4) (View.read (Elt Ideal) arg5.view X_arg5) (View.read (Elt Ideal) arg15.view X_arg15) k r l := by
  obtain ⟨ix, ib, ih, g, wh, e, -, hy⟩ := bwd_trip T k hk (G13 := G13) (G14 := G14) (G16 := G16) (X_arg5 := X_arg5) (X_arg15 := X_arg15)
  refine ⟨ix, ib, ih, g, wh, e, fun r l => ?_⟩
  have hr := hy (Fin.revPerm r) l
  simp only [bwd_states T hG k (Nat.le_of_lt hk)] at hr
  rw [show Fin.revPerm (Fin.revPerm r) = r from Fin.rev_rev r] at hr
  exact hr

/-- The first result's rows. -/
theorem bwd_out (hG : ∀ (n : Fin 128) (l : Fin 512), View.read (Elt Ideal) arg16.view G16 (ix2 n l) = 0) : ∀ k < 16, ∀ (r : Fin 128) (l : Fin 512), View.canon (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X_arg2 X_arg3 X_arg4 X_arg5 X_arg15 X_arg17 X_arg18 X_arg19 X_arg20 X_arg21 X_arg22 G13 G14 G16 16).1 (ix3 0 (pos (bw k) r) l)
    = gate a d (View.read (Elt Ideal) arg2.view X_arg2) (View.read (Elt Ideal) arg3.view X_arg3) (View.read (Elt Ideal) arg4.view X_arg4) (View.read (Elt Ideal) arg5.view X_arg5) (View.read (Elt Ideal) arg15.view X_arg15) k r l :=
  rows3 (W := 512) (e := .bf16) bw bw_inj (fun k => (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X_arg2 X_arg3 X_arg4 X_arg5 X_arg15 X_arg17 X_arg18 X_arg19 X_arg20 X_arg21 X_arg22 G13 G14 G16 k).1) (fun k r l => gate a d (View.read (Elt Ideal) arg2.view X_arg2) (View.read (Elt Ideal) arg3.view X_arg3) (View.read (Elt Ideal) arg4.view X_arg4) (View.read (Elt Ideal) arg5.view X_arg5) (View.read (Elt Ideal) arg15.view X_arg15) k r l)
    (fun k hk => by
      obtain ⟨ix, ib, ih, g, wh, e, hy⟩ := bwd_gate T hG k hk (G13 := G13) (G14 := G14) (X_arg5 := X_arg5) (X_arg15 := X_arg15)
      exact ⟨_, ix, out13 g, boff128 ⟨k, hk⟩, congrArg Prod.fst e, fun r l => (out13_apply g r l).trans (hy r l)⟩) 16 (Nat.le_refl _)

/-- The second result's rows. -/
theorem bwd_sq (hG : ∀ (n : Fin 128) (l : Fin 512), View.read (Elt Ideal) arg16.view G16 (ix2 n l) = 0) : ∀ k < 16, ∀ (r : Fin 128) (j : Fin 128), View.canon (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X_arg2 X_arg3 X_arg4 X_arg5 X_arg15 X_arg17 X_arg18 X_arg19 X_arg20 X_arg21 X_arg22 G13 G14 G16 16).2.1 (ix3 0 (pos (bw k) r) j)
    = sq4 (gate a d (View.read (Elt Ideal) arg2.view X_arg2) (View.read (Elt Ideal) arg3.view X_arg3) (View.read (Elt Ideal) arg4.view X_arg4) (View.read (Elt Ideal) arg5.view X_arg5) (View.read (Elt Ideal) arg15.view X_arg15) k r) j :=
  rows3 (W := 128) (e := .f32) bw bw_inj (fun k => (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X_arg2 X_arg3 X_arg4 X_arg5 X_arg15 X_arg17 X_arg18 X_arg19 X_arg20 X_arg21 X_arg22 G13 G14 G16 k).2.1) (fun k r j => sq4 (gate a d (View.read (Elt Ideal) arg2.view X_arg2) (View.read (Elt Ideal) arg3.view X_arg3) (View.read (Elt Ideal) arg4.view X_arg4) (View.read (Elt Ideal) arg5.view X_arg5) (View.read (Elt Ideal) arg15.view X_arg15) k r) j)
    (fun k hk => by
      obtain ⟨ix, ib, ih, g, wh, e, hy⟩ := bwd_gate T hG k hk (G13 := G13) (G14 := G14) (X_arg5 := X_arg5) (X_arg15 := X_arg15)
      exact ⟨_, ib, out14 g, boff128 ⟨k, hk⟩, congrArg (fun x => x.2.1) e, fun r j => (out14_apply g r j).trans (congrArg (fun f => sq4 f j) (funext fun l => hy r l))⟩) 16 (Nat.le_refl _)

end

end Cert.Proof.Scan

end
-- ==== Proof.ScanAt.lean ====
/-
  THE SCAN'S BODY AT A GRID POINT: the rows of its two results.
-/
module

public import proofs.«01_k».proof.Proof.ScanLoop

@[expose] public section

set_option maxRecDepth 16384

noncomputable section

namespace Cert.Proof.Scan

open Idealize.ShloMosaic Idealize.ShloMosaic.TcCoe Idealize.ShloMosaic.Tactic Idealize.SL.Sem Cert.KernelIdeal Cert.KernelIdeal.Gen
open Cert.Proof.Ffn (ext2)

variable (m : (ℓ : Loc nD τ sig) → Buf (Elt Ideal) ℓ)

theorem trips_a : Scf.trips k0_t1_loop.lb k0_t1_loop.ub k0_t1_loop.st = 16 := by decide +kernel
theorem trips_b : Scf.trips k0_t2_loop.lb k0_t2_loop.ub k0_t2_loop.st = 16 := by decide +kernel

theorem read_full2 {κ : Kind} {sp : Space} {A B : ℕ} {e : EltTy} (v : View sig κ sp (⟨2, ![A, B]⟩ : Shape) e) (f : v.ty.Contents (Elt Ideal)) (inb : ∀ a, ![0, 0] a + ![A, B] a ≤ (⟨2, ![A, B]⟩ : Shape).size a)
    (w : (⟨2, ![A, B]⟩ : Shape).Idx → Elt Ideal e) (L : List (View.Piece (Elt Ideal) (⟨2, ![A, B]⟩ : Shape) e)) :
    v.read (Elt Ideal) (v.writes (Elt Ideal) f (⟨Rect.unit (s := (⟨2, ![A, B]⟩ : Shape)) ![0, 0] ![A, B] inb, w⟩ :: L)) = w :=
  View.read_writes_full v f inb w L

section
variable (x0 : Vec Ideal S1x2048x512 .bf16) (x1 x2 : Vec Ideal S1x2048x128 .bf16) (x3 : Vec Ideal S1x2048x512 .bf16) (x4 x5 : Vec Ideal S8x2048 .f32) (x6 x7 x8 x9 : Vec Ideal S8x1 .f32) (x10 : Vec Ideal S1x512 .f32)

/-- The decays and step sizes of a chunk's positions, in the direction's order. -/
def aF (v : Vec Ideal S8x2048 .f32) (b al : Vec Ideal S8x1 .f32) (c : Fin 16) (h : Fin 8) (s : Fin 128) : EReal := k0_pay77 v b al (ix2 h (pos c s))
def dF (v : Vec Ideal S8x2048 .f32) (b : Vec Ideal S8x1 .f32) (c : Fin 16) (h : Fin 8) (s : Fin 128) : EReal := k0_pay76 v b (ix2 h (pos c s))
def aB (v : Vec Ideal S8x2048 .f32) (b al : Vec Ideal S8x1 .f32) (c : Fin 16) (h : Fin 8) (s : Fin 128) : EReal := k0_pay77 v b al (ix2 h (pos c (Fin.rev s)))
def dB (v : Vec Ideal S8x2048 .f32) (b : Vec Ideal S8x1 .f32) (c : Fin 16) (h : Fin 8) (s : Fin 128) : EReal := k0_pay76 v b (ix2 h (pos c (Fin.rev s)))

/-- The forward direction's sum with the skip, at position `r` of chunk `c`. -/
def sumF (c : Fin 16) (r : Fin 128) (l : Fin 512) : EReal :=
  dirY (Equiv.refl _) fw (aF x4 x6 x8) (dF x4 x6) x0 x1 x2 c.val r l + x0 (ix3 0 (pos c r) l) * x10 (ix2 0 l)

/-- The first result at position `r` of chunk `c`. -/
def rowOut (c : Fin 16) (r : Fin 128) (l : Fin 512) : EReal :=
  (sumF x0 x1 x2 x4 x6 x8 x10 c r l + dirY Fin.revPerm bw (aB x5 x7 x9) (dB x5 x7) x0 x1 x2 (15 - c.val) (Fin.revPerm r) l)
    * (x3 (ix3 0 (pos c r) l) * Ideal.logistic (x3 (ix3 0 (pos c r) l)))

end

theorem fw_val (c : Fin 16) : fw c.val = c := Fin.ext (Nat.mod_eq_of_lt c.isLt)
theorem bw_val (c : Fin 16) : bw (15 - c.val) = c := Fin.ext (by show 15 - (15 - c.val) % 16 = c.val; omega)

theorem zero5 (n : Fin 128) (l : Fin 512) : k0_pay5 (F := Ideal) (ix2 n l) = 0 := by
  unfold k0_pay5
  pointwise

theorem zero99 (n : Fin 128) (l : Fin 512) : k0_pay99 (F := Ideal) (ix2 n l) = 0 := by
  unfold k0_pay99
  pointwise

/-- The body's results at a point, by rows. -/
theorem rows_at (c : Dev nD) (t : Fin cfg0.N) (C : Fin 16) (r : Fin 128) :
    (∀ l : Fin 512, (outsAt0 m c t).1 (ix3 0 (pos C r) l) = rowOut (iblk m c 0 t) (iblk m c 1 t) (iblk m c 2 t) (iblk m c 3 t) (iblk m c 4 t) (iblk m c 5 t) (iblk m c 6 t) (iblk m c 7 t) (iblk m c 8 t) (iblk m c 9 t) (iblk m c 10 t) C r l)
    ∧ ∀ j : Fin 128, (outsAt0 m c t).2 (ix3 0 (pos C r) j) = sq4 (rowOut (iblk m c 0 t) (iblk m c 1 t) (iblk m c 2 t) (iblk m c 3 t) (iblk m c 4 t) (iblk m c 5 t) (iblk m c 6 t) (iblk m c 7 t) (iblk m c 8 t) (iblk m c 9 t) (iblk m c 10 t) C r) j := by
  unfold outsAt0
  dsimp only
  unfold out0_A_11 out0_A_12
  rw [View.read_writes_eq_canon _ _ _ (fun _ => cover0_A_11 ..), View.read_writes_eq_canon _ _ _ (fun _ => cover0_A_12 ..)]
  unfold kernelRun0_A
  dsimp only
  rw [trips_a]
  have hb := bw_val C
  have hk : 15 - C.val < 16 := by omega
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, View.ld_unit_zero (S := S8x2048) z2, View.ld_unit_zero (S := S8x1) z2]
  rw [show pos C r = pos (bw (15 - C.val)) r from congrArg (fun q => pos q r) hb.symm]
  refine ⟨fun l => ?_, fun j => ?_⟩
  · refine (bwd_out (a := aB (iblk m c 5 t) (iblk m c 7 t) (iblk m c 9 t)) (d := dB (iblk m c 5 t) (iblk m c 7 t)) ?T ?G _ hk r l).trans ?v
    case T =>
      simp only [read_full2 (A := 128) (B := 128) (e := .f32), read_full2 (A := 128) (B := 512) (e := .f32)]
      exact tabsB _ _ _
    case G =>
      intro n l
      exact (congrFun (read_full2 (A := 128) (B := 512) (e := .f32) _ _ _ _ _) _).trans (zero5 n l)
    case v =>
      unfold gate
      rw [hb]
      refine congrArg₂ (· * ·) (congrArg₂ (· + ·) ?A ?B) ?C
      case A =>
        rw [(Memref.isWhole_whole _).read_unread]
        rw [show pos C r = pos (fw C.val) r from congrArg (fun q => pos q r) (fw_val C).symm]
        refine (fwd_sums (a := aF (iblk m c 4 t) (iblk m c 6 t) (iblk m c 8 t)) (d := dF (iblk m c 4 t) (iblk m c 6 t)) ?T ?G C.val C.isLt r l).trans ?v
        case T =>
          simp only [read_full2 (A := 128) (B := 128) (e := .f32), read_full2 (A := 128) (B := 512) (e := .f32)]
          exact tabsF _ _ _
        case G =>
          intro n l
          exact (congrFun (read_full2 (A := 128) (B := 512) (e := .f32) _ _ _ _ _) _).trans (zero99 n l)
        case v =>
          simp only [fw_val, (hs0_0 t).read_unread, (hs0_1 t).read_unread, (hs0_2 t).read_unread, (hs0_3 t).read_unread, (hs0_10 t).read_unread]
          rfl
      case B => simp only [(hs0_0 t).read_unread, (hs0_1 t).read_unread, (hs0_2 t).read_unread, (hs0_3 t).read_unread, (hs0_10 t).read_unread]
      case C => simp only [(hs0_0 t).read_unread, (hs0_1 t).read_unread, (hs0_2 t).read_unread, (hs0_3 t).read_unread, (hs0_10 t).read_unread]

  · refine (bwd_sq (a := aB (iblk m c 5 t) (iblk m c 7 t) (iblk m c 9 t)) (d := dB (iblk m c 5 t) (iblk m c 7 t)) ?T ?G _ hk r j).trans ?v
    case T =>
      simp only [read_full2 (A := 128) (B := 128) (e := .f32), read_full2 (A := 128) (B := 512) (e := .f32)]
      exact tabsB _ _ _
    case G =>
      intro n l
      exact (congrFun (read_full2 (A := 128) (B := 512) (e := .f32) _ _ _ _ _) _).trans (zero5 n l)
    case v =>
      refine congrArg (fun f => sq4 f j) (funext fun l => ?_)
      unfold gate
      rw [hb]
      refine congrArg₂ (· * ·) (congrArg₂ (· + ·) ?A ?B) ?C
      case A =>
        rw [(Memref.isWhole_whole _).read_unread]
        rw [show pos C r = pos (fw C.val) r from congrArg (fun q => pos q r) (fw_val C).symm]
        refine (fwd_sums (a := aF (iblk m c 4 t) (iblk m c 6 t) (iblk m c 8 t)) (d := dF (iblk m c 4 t) (iblk m c 6 t)) ?T ?G C.val C.isLt r l).trans ?v
        case T =>
          simp only [read_full2 (A := 128) (B := 128) (e := .f32), read_full2 (A := 128) (B := 512) (e := .f32)]
          exact tabsF _ _ _
        case G =>
          intro n l
          exact (congrFun (read_full2 (A := 128) (B := 512) (e := .f32) _ _ _ _ _) _).trans (zero99 n l)
        case v =>
          simp only [fw_val, (hs0_0 t).read_unread, (hs0_1 t).read_unread, (hs0_2 t).read_unread, (hs0_3 t).read_unread, (hs0_10 t).read_unread]
          rfl
      case B => simp only [(hs0_0 t).read_unread, (hs0_1 t).read_unread, (hs0_2 t).read_unread, (hs0_3 t).read_unread, (hs0_10 t).read_unread]
      case C => simp only [(hs0_0 t).read_unread, (hs0_1 t).read_unread, (hs0_2 t).read_unread, (hs0_3 t).read_unread, (hs0_10 t).read_unread]

end Cert.Proof.Scan

end
-- ==== Proof.ScanRef.lean ====
/-
  THE REFERENCE'S SCAN AT AN INDEX: each direction's result is the recursion over the chunks, its sequences read in the direction's order.
-/
module

public import proofs.«01_k».proof.Proof.FfnRef
public import proofs.«01_k».proof.Proof.ScanLoop
public import proofs.«01_k».proof.Proof.Gen.ReferenceIdeal.Read

@[expose] public section

set_option maxRecDepth 16384

noncomputable section

namespace Cert.Proof.Scan

open Idealize.ShloMosaic Idealize.ShloMosaic.TcCoe Idealize.ShloMosaic.Tactic Idealize.SL.Sem Cert.ReferenceIdeal Cert.ReferenceIdeal.Read
open Cert.Proof.Ffn (ext2 ofBits_zero ofBits_one)

theorem ext4 {n0 n1 n2 n3 : ℕ} {x y : (⟨4, ![n0, n1, n2, n3]⟩ : Shape).Idx} (h0 : (x 0).val = (y 0).val) (h1 : (x 1).val = (y 1).val)
    (h2 : (x 2).val = (y 2).val) (h3 : (x 3).val = (y 3).val) : x = y := by
  funext d
  apply Fin.ext
  match d with
  | ⟨0, _⟩ => exact h0
  | ⟨1, _⟩ => exact h1
  | ⟨2, _⟩ => exact h2
  | ⟨3, _⟩ => exact h3

theorem ext5 {n0 n1 n2 n3 n4 : ℕ} {x y : (⟨5, ![n0, n1, n2, n3, n4]⟩ : Shape).Idx} (h0 : (x 0).val = (y 0).val) (h1 : (x 1).val = (y 1).val)
    (h2 : (x 2).val = (y 2).val) (h3 : (x 3).val = (y 3).val) (h4 : (x 4).val = (y 4).val) : x = y := by
  funext d
  apply Fin.ext
  match d with
  | ⟨0, _⟩ => exact h0
  | ⟨1, _⟩ => exact h1
  | ⟨2, _⟩ => exact h2
  | ⟨3, _⟩ => exact h3
  | ⟨4, _⟩ => exact h4

theorem foldl_sum {α : Type} (g : α → EReal) (L : List α) : ∀ v : EReal, L.foldl (fun r n => r + g n) v = v + (L.map g).sum := by
  induction L with
  | nil => intro v; exact (add_zero v).symm
  | cons x L ih => intro v; rw [List.foldl_cons, ih, List.map_cons, List.sum_cons, add_assoc]

/-- The positions of a window of one row and 128 places. -/
def win : Fin 128 ≃ (⟨4, ![1, 1, 128, 1]⟩ : Shape).Idx where
  toFun w := ix4 0 0 w 0
  invFun i := i 2
  left_inv _ := rfl
  right_inv i := ext4 (by have : (i 0).val < 1 := (i 0).isLt; show 0 = (i 0).val; omega) (by have : (i 1).val < 1 := (i 1).isLt; show 0 = (i 1).val; omega) rfl
    (by have : (i 3).val < 1 := (i 3).isLt; show 0 = (i 3).val; omega)

theorem window_sum (a : Fin 128 → EReal) (r : Fin 128) :
    (∑ w : Fin 128, if h : 127 ≤ r.val + w.val then a ⟨r.val + w.val - 127, by omega⟩ else 0) = CS a r := by
  unfold CS
  rw [← Equiv.sum_comp Fin.revPerm]
  have e : ∀ w : Fin 128, (if h : 127 ≤ r.val + (Fin.revPerm w).val then a ⟨r.val + (Fin.revPerm w).val - 127, by omega⟩ else 0)
      = if w ≤ r then a (r - w) else 0 := fun w => by
    have hv : (Fin.revPerm w).val = 127 - w.val := by show 128 - (w.val + 1) = 127 - w.val; omega
    by_cases hw : w ≤ r
    · have hw' : w.val ≤ r.val := hw
      rw [dif_pos (by omega), if_pos hw]
      refine congrArg a (Fin.ext ?_)
      show r.val + (Fin.revPerm w).val - 127 = _
      rw [hv, Fin.sub_val_of_le hw]
      omega
    · have hw' : ¬ w.val ≤ r.val := hw
      rw [dif_neg (by omega), if_neg hw]
  rw [Finset.sum_congr rfl fun w _ => e w, ← Finset.sum_filter, ← Finset.sum_filter]
  refine Finset.sum_nbij' (fun w => r - w) (fun s => r - s) ?_ ?_ ?_ ?_ ?_
  · intro w hw
    have hw' : w ≤ r := (Finset.mem_filter.mp hw).2
    refine Finset.mem_filter.mpr ⟨Finset.mem_univ _, ?_⟩
    show (r - w).val ≤ r.val
    rw [Fin.sub_val_of_le hw']
    omega
  · intro w hw
    have hw' : w ≤ r := (Finset.mem_filter.mp hw).2
    refine Finset.mem_filter.mpr ⟨Finset.mem_univ _, ?_⟩
    show (r - w).val ≤ r.val
    rw [Fin.sub_val_of_le hw']
    omega
  · intro w _; exact sub_sub_cancel r w
  · intro w _; exact sub_sub_cancel r w
  · intro w _; rfl

variable (x0 : (⟨S4x2048x6144, .bf16⟩ : BufTy).Contents (Elt Ideal)) (x1 : (⟨S4x2048x10240, .bf16⟩ : BufTy).Contents (Elt Ideal))
  (x2 : (⟨S128x8192, .f32⟩ : BufTy).Contents (Elt Ideal)) (x3 x4 : (⟨S2x64, .f32⟩ : BufTy).Contents (Elt Ideal)) (x5 : (⟨S64, .f32⟩ : BufTy).Contents (Elt Ideal))

section
variable (E : Fin 8) (c : Fin 16) (h : Fin 64)

/-- The sequences of a batch entry and direction `E`, at head `h`, chunk by chunk. -/
def rA (s : Fin 128) : EReal := val_main_v37 (F := Ideal) x2 x3 x4 (ix3 E (pos c s) h)
def rD (s : Fin 128) : EReal := val_main_v31 (F := Ideal) x2 x3 (ix3 E (pos c s) h)
def rX (p : Fin 64) (s : Fin 128) : EReal := val_main_v25 (F := Ideal) x0 (ix4 E (pos c s) h p)
def rB (s n : Fin 128) : EReal := val_main_v39 (F := Ideal) x0 (ix4 E (pos c s) h n)
def rC (s n : Fin 128) : EReal := val_main_v41 (F := Ideal) x0 (ix4 E (pos c s) h n)

theorem v45_at (s : Fin 128) (p : Fin 64) : val_main_v45 (F := Ideal) x0 x2 x3 (ix5 E c s h p) = rX x0 E c h p s * rD x2 x3 E c h s := by
  rw [val_main_v45_apply, show idx_main_v45 (ix5 E c s h p) = ix4 E (pos c s) h p from ext4
    (by show ((((E.val * 16 + c.val) * 128 + s.val) * 64 + h.val) * 64 + p.val) / 8388608 = E.val; omega)
    (by show ((((E.val * 16 + c.val) * 128 + s.val) * 64 + h.val) * 64 + p.val) / 4096 % 2048 = c.val * 128 + s.val; omega)
    (by show ((((E.val * 16 + c.val) * 128 + s.val) * 64 + h.val) * 64 + p.val) / 64 % 64 = h.val; omega)
    (by show ((((E.val * 16 + c.val) * 128 + s.val) * 64 + h.val) * 64 + p.val) % 64 = p.val; omega)]
  rw [val_main_v44_apply, val_main_v43_apply, val_main_v42_apply]
  exact congrArg (fun i => val_main_v25 (F := Ideal) x0 (ix4 E (pos c s) h p) * val_main_v31 (F := Ideal) x2 x3 i) (ext3 rfl rfl rfl)

theorem idx46 (s n : Fin 128) : idx_main_v46 (ix5 E c s h n) = ix4 E (pos c s) h n := ext4
    (by show ((((E.val * 16 + c.val) * 128 + s.val) * 64 + h.val) * 128 + n.val) / 16777216 = E.val; omega)
    (by show ((((E.val * 16 + c.val) * 128 + s.val) * 64 + h.val) * 128 + n.val) / 8192 % 2048 = c.val * 128 + s.val; omega)
    (by show ((((E.val * 16 + c.val) * 128 + s.val) * 64 + h.val) * 128 + n.val) / 128 % 64 = h.val; omega)
    (by show ((((E.val * 16 + c.val) * 128 + s.val) * 64 + h.val) * 128 + n.val) % 128 = n.val; omega)

theorem v46_at (s n : Fin 128) : val_main_v46 (F := Ideal) x0 (ix5 E c s h n) = rB x0 E c h s n :=
  (val_main_v46_apply x0 _).trans (congrArg _ (idx46 E c h s n))
theorem v47_at (s n : Fin 128) : val_main_v47 (F := Ideal) x0 (ix5 E c s h n) = rC x0 E c h s n :=
  (val_main_v47_apply x0 _).trans (congrArg _ (idx46 E c h s n))

theorem v48_at (s : Fin 128) : val_main_v48 (F := Ideal) x2 x3 x4 (ix4 E c s h) = rA x2 x3 x4 E c h s :=
  (val_main_v48_apply x2 x3 x4 _).trans (congrArg _ (ext3
    (by show (((E.val * 16 + c.val) * 128 + s.val) * 64 + h.val) / 131072 = E.val; omega)
    (by show (((E.val * 16 + c.val) * 128 + s.val) * 64 + h.val) / 64 % 2048 = c.val * 128 + s.val; omega)
    (by show (((E.val * 16 + c.val) * 128 + s.val) * 64 + h.val) % 64 = h.val; omega)))

/-- The host's running sum along a chunk. -/
theorem v49_at (r : Fin 128) : val_main_v49 (F := Ideal) x2 x3 x4 (ix4 E c r h) = CS (rA x2 x3 x4 E c h) r := by
  unfold val_main_v49 Host.reduceWindowAdd
  rw [Ideal.hostReduceWindowAdd_def]
  have e0 : val_main_call6_call0_v0 (F := Ideal) (Shape.Idx.first Gen.h_S_) = 0 := by
    rw [val_main_call6_call0_v0_apply]
    exact ofBits_zero
  rw [e0]
  unfold Ideal.hostReduceWindowAdd Host.reduceWindow
  rw [foldl_sum, zero_add, ← Fin.sum_univ_def]
  refine (Equiv.sum_comp (⟨4, ![1, 1, 128, 1]⟩ : Shape).rowMajor.symm (fun q : (⟨4, ![1, 1, 128, 1]⟩ : Shape).Idx =>
    @dite EReal (∀ a : Fin 4, (![0, 0, 127, 0] : Fin 4 → ℕ) a ≤ (ix4 E c r h a).val * (![1, 1, 1, 1] : Fin 4 → ℕ) a + (q a).val
        ∧ (ix4 E c r h a).val * (![1, 1, 1, 1] : Fin 4 → ℕ) a + (q a).val - (![0, 0, 127, 0] : Fin 4 → ℕ) a < S8x16x128x64.size a)
      (Nat.decidableForallFin _) (fun hin => val_main_v48 (F := Ideal) x2 x3 x4 (fun a => ⟨_, (hin a).2⟩)) (fun _ => 0))).trans ?_
  rw [← Equiv.sum_comp win, ← window_sum]
  refine Finset.sum_congr rfl fun w _ => ?_
  by_cases hw : 127 ≤ r.val + w.val
  · have hin : ∀ a : Fin 4, (![0, 0, 127, 0] : Fin 4 → ℕ) a ≤ (ix4 E c r h a).val * (![1, 1, 1, 1] : Fin 4 → ℕ) a + (win w a).val
        ∧ (ix4 E c r h a).val * (![1, 1, 1, 1] : Fin 4 → ℕ) a + (win w a).val - (![0, 0, 127, 0] : Fin 4 → ℕ) a < S8x16x128x64.size a := fun a => by
      match a with
      | ⟨0, _⟩ => show 0 ≤ E.val * 1 + 0 ∧ E.val * 1 + 0 - 0 < 8; omega
      | ⟨1, _⟩ => show 0 ≤ c.val * 1 + 0 ∧ c.val * 1 + 0 - 0 < 16; omega
      | ⟨2, _⟩ => show 127 ≤ r.val * 1 + w.val ∧ r.val * 1 + w.val - 127 < 128; omega
      | ⟨3, _⟩ => show 0 ≤ h.val * 1 + 0 ∧ h.val * 1 + 0 - 0 < 64; omega
    rw [dif_pos hw, dif_pos hin, ← v48_at]
    exact congrArg _ (ext4 (show E.val * 1 + 0 - 0 = E.val by omega) (show c.val * 1 + 0 - 0 = c.val by omega)
      (show r.val * 1 + w.val - 127 = r.val + w.val - 127 by omega) (show h.val * 1 + 0 - 0 = h.val by omega))
  · rw [dif_neg hw, dif_neg fun hin => ?_]
    have h2 : 127 ≤ r.val * 1 + w.val := (hin 2).1
    omega

/-- The lower triangle. -/
theorem v51_at (r s : Fin 128) : val_main_v51 (F := Ideal) (ix2 r s) = if s ≤ r then 1#1 else 0#1 := by
  unfold val_main_v51 val_main_call7_v4 val_main_call7_v2 val_main_call7_v0 val_main_call7_v1 val_main_call7_v3 val_main_call7_v5 val_main_v50 val_main_c val_main_call7_c val_main_call7_c_0
  pointwise
  have e : IntOp.cmpi .sge (IntOp.addi (BitVec.ofNat 32 r.val) 0#32) (BitVec.ofNat 32 s.val) = if s ≤ r then 1#1 else 0#1 :=
    (congrArg (fun z => IntOp.cmpi .sge z (BitVec.ofNat 32 s.val)) (BitVec.add_zero _)).trans (ge_word r s)
  rw [e]
  by_cases hs : s ≤ r
  · rw [if_pos hs]; rfl
  · rw [if_neg hs]; rfl

theorem v59_at (r s : Fin 128) : val_main_v59 (F := Ideal) x2 x3 x4 (ix5 E c r s h)
    = Ideal.exp (if s ≤ r then CS (rA x2 x3 x4 E c h) r - CS (rA x2 x3 x4 E c h) s else ⊥) := by
  rw [val_main_v59_apply, val_main_v58_apply, val_main_v57_apply, val_main_v55_apply, val_main_v53_apply, val_main_v56_apply, val_main_v54_apply,
    val_main_call8_v1_apply, val_main_v52_apply, val_main_call8_v2_apply,
    show idx_main_v52 (idx_main_call8_v1 (ix5 E c r s h)) = ix2 r s from ext2 rfl rfl, v51_at,
    show idx_main_v53 (idx_main_v55 (ix5 E c r s h)) = ix4 E c r h from ext4 rfl rfl rfl rfl,
    show idx_main_v54 (idx_main_v56 (ix5 E c r s h)) = ix4 E c s h from ext4 rfl rfl rfl rfl, v49_at, v49_at]
  refine congrArg Ideal.exp ?_
  by_cases hs : s ≤ r
  · rw [if_pos hs, if_pos hs]; rfl
  · rw [if_neg hs, if_neg hs]; rfl

theorem v62_at (r s : Fin 128) : val_main_v62 (F := Ideal) x0 x2 x3 x4 (ix5 E c h r s)
    = (∑ n : Fin 128, rC x0 E c h r n * rB x0 E c h s n) * Ideal.exp (if s ≤ r then CS (rA x2 x3 x4 E c h) r - CS (rA x2 x3 x4 E c h) s else ⊥) := by
  rw [val_main_v62_apply, val_main_v60_apply, val_main_v61_apply, show idx_main_v61 (ix5 E c h r s) = ix5 E c r s h from ext5 rfl rfl rfl rfl rfl, v59_at]
  refine congrArg (· * _) (Finset.sum_congr rfl fun n _ => ?_)
  rw [show lidx_main_v60 (ix5 E c h r s) n = ix5 E c r h n from ext5 rfl rfl rfl rfl rfl, show ridx_main_v60 (ix5 E c h r s) n = ix5 E c s h n from ext5 rfl rfl rfl rfl rfl, v47_at, v46_at]

theorem v64_at (r : Fin 128) (p : Fin 64) : val_main_v64 (F := Ideal) x0 x2 x3 x4 (ix5 E c r h p)
    = ∑ s : Fin 128, (rX x0 E c h p s * rD x2 x3 E c h s)
      * ((∑ n : Fin 128, rC x0 E c h r n * rB x0 E c h s n) * Ideal.exp (if s ≤ r then CS (rA x2 x3 x4 E c h) r - CS (rA x2 x3 x4 E c h) s else ⊥)) := by
  rw [val_main_v64_apply, show idx_main_v64 (ix5 E c r h p) = ix5 E c h p r from ext5 rfl rfl rfl rfl rfl, val_main_v63_apply]
  refine Finset.sum_congr rfl fun s _ => ?_
  rw [show lidx_main_v63 (ix5 E c h p r) s = ix5 E c s h p from ext5 rfl rfl rfl rfl rfl, show ridx_main_v63 (ix5 E c h p r) s = ix5 E c h r s from ext5 rfl rfl rfl rfl rfl, v45_at, v62_at]

theorem v68_at (s : Fin 128) : val_main_v68 (F := Ideal) x2 x3 x4 (ix4 E c s h) = Ideal.exp (CS (rA x2 x3 x4 E c h) 127 - CS (rA x2 x3 x4 E c h) s) := by
  rw [val_main_v68_apply, val_main_v67_apply, val_main_v66_apply, val_main_v65_apply, show idx_main_v65 (idx_main_v66 (ix4 E c s h)) = ix4 E c 127 h from ext4 rfl rfl rfl rfl, v49_at, v49_at]
  rfl

/-- What a chunk adds to the state. -/
theorem v72_at (p : Fin 64) (n : Fin 128) : val_main_v72 (F := Ideal) x0 x2 x3 x4 (ix5 E c h p n)
    = ∑ s : Fin 128, (Ideal.exp (CS (rA x2 x3 x4 E c h) 127 - CS (rA x2 x3 x4 E c h) s) * (rX x0 E c h p s * rD x2 x3 E c h s)) * rB x0 E c h s n := by
  rw [val_main_v72_apply]
  refine Finset.sum_congr rfl fun s _ => ?_
  rw [show lidx_main_v72 (ix5 E c h p n) s = ix5 E c s h p from ext5 rfl rfl rfl rfl rfl, show ridx_main_v72 (ix5 E c h p n) s = ix5 E c s h n from ext5 rfl rfl rfl rfl rfl,
    val_main_v71_apply, v45_at, v46_at, val_main_v70_apply, val_main_v69_apply,
    show idx_main_v69 (idx_main_v70 (ix5 E c s h p)) = ix4 E c s h from ext4 rfl rfl rfl rfl, v68_at]
  rfl

/-- How a chunk damps the state. -/
theorem v75_at : val_main_v75 (F := Ideal) x2 x3 x4 (ix3 E c h) = Ideal.exp (CS (rA x2 x3 x4 E c h) 127) := by
  rw [val_main_v75_apply, val_main_v74_apply, val_main_v73_apply, show idx_main_v73 (idx_main_v74 (ix3 E c h)) = ix4 E c 127 h from ext4
    (by show ((E.val * 16 + c.val) * 64 + h.val) / 1024 = E.val; omega) (by show ((E.val * 16 + c.val) * 64 + h.val) / 64 % 16 = c.val; omega) rfl
    (by show ((E.val * 16 + c.val) * 64 + h.val) % 64 = h.val; omega), v49_at]
  rfl
end

theorem sl3 : ∀ k : Fin 16, S8x16x64.Slices ![0, k.val, 0] S8x1x64 := by decide
theorem sl5 : ∀ k : Fin 16, S8x16x64x64x128.Slices ![0, k.val, 0, 0, 0] S8x1x64x64x128 := by decide

/-- The states after chunk `k` from those before it. -/
def after (dec : FVec Ideal S8x16x64 .f32) (z : FVec Ideal S8x16x64x64x128 .f32) (k : Fin 16) (H : FVec Ideal S8x64x64x128 .f32) : FVec Ideal S8x64x64x128 .f32 :=
  addf (mulf H (broadcastInDim S8x64x64x128 ![0, 1, 2, 3] Gen.bcast_S8x64x1x1_S8x64x64x128_0_1_2_3
      (broadcastInDim S8x64x1x1 ![0, 1] Gen.bcast_S8x64_S8x64x1x1_0_1 (shapeCast S8x64 (extractStridedSlice S8x1x64 ![0, k.val, 0] dec (sl3 k)) Gen.shapeCasts_S8x1x64_S8x64))))
    (shapeCast S8x64x64x128 (extractStridedSlice S8x1x64x64x128 ![0, k.val, 0, 0, 0] z (sl5 k)) Gen.shapeCasts_S8x1x64x64x128_S8x64x64x128)

theorem after_apply (dec : FVec Ideal S8x16x64 .f32) (z : FVec Ideal S8x16x64x64x128 .f32) (k : Fin 16) (H : FVec Ideal S8x64x64x128 .f32) (E : Fin 8) (h p : Fin 64) (n : Fin 128) :
    after dec z k H (ix4 E h p n) = H (ix4 E h p n) * dec (ix3 E k h) + z (ix5 E k h p n) := by
  unfold after
  pointwise

/-- The states before each chunk. -/
def run (dec : FVec Ideal S8x16x64 .f32) (z : FVec Ideal S8x16x64x64x128 .f32) : ℕ → FVec Ideal S8x64x64x128 .f32
  | 0 => val_main_v76 (F := Ideal)
  | k + 1 => after dec z (fw k) (run dec z k)

theorem run_at (E : Fin 8) (h p : Fin 64) (n : Fin 128) (k : ℕ) : run (val_main_v75 (F := Ideal) x2 x3 x4) (val_main_v72 (F := Ideal) x0 x2 x3 x4) k (ix4 E h p n)
    = states (fun k => rA x2 x3 x4 E (fw k) h) (fun k => rD x2 x3 E (fw k) h) (fun k => rX x0 E (fw k) h p) (fun k => rB x0 E (fw k) h) k n := by
  induction k with
  | zero =>
    show val_main_v76 (F := Ideal) (ix4 E h p n) = 0
    rw [val_main_v76_apply]
    exact ofBits_zero
  | succ k ih =>
    show after _ _ (fw k) (run _ _ k) (ix4 E h p n) = chunkH _ _ _ _ _ n
    rw [after_apply, ih, v75_at, v72_at]
    unfold chunkH
    refine congrArg _ (Finset.sum_congr rfl fun s _ => ?_)
    rw [mul_comm, mul_comm (Ideal.exp _), mul_assoc]

/-- Sixteen pieces one beside the other. -/
theorem beside {α : Type} (f : Fin 16 → (S8x1x64x64x128.Idx → α)) (hc) (E : Fin 8) (c : Fin 16) (h p : Fin 64) (n : Fin 128) :
    concatenate S8x16x64x64x128 1 [⟨S8x1x64x64x128, f 0⟩, ⟨S8x1x64x64x128, f 1⟩, ⟨S8x1x64x64x128, f 2⟩, ⟨S8x1x64x64x128, f 3⟩, ⟨S8x1x64x64x128, f 4⟩, ⟨S8x1x64x64x128, f 5⟩, ⟨S8x1x64x64x128, f 6⟩, ⟨S8x1x64x64x128, f 7⟩, ⟨S8x1x64x64x128, f 8⟩, ⟨S8x1x64x64x128, f 9⟩, ⟨S8x1x64x64x128, f 10⟩, ⟨S8x1x64x64x128, f 11⟩, ⟨S8x1x64x64x128, f 12⟩, ⟨S8x1x64x64x128, f 13⟩, ⟨S8x1x64x64x128, f 14⟩, ⟨S8x1x64x64x128, f 15⟩] hc (ix5 E c h p n) = f c (ix5 E 0 h p n) := by
  refine concatenate_ofFn_apply (t := S8x16x64x64x128) (s₁ := S8x1x64x64x128) 1 f hc rfl 1 rfl _ c (Nat.div_one _) (ix5 E 0 h p n) (Nat.mod_one _).symm fun b hb => ?_
  match b with
  | ⟨0, _⟩ => rfl
  | ⟨1, _⟩ => exact absurd rfl hb
  | ⟨2, _⟩ => rfl
  | ⟨3, _⟩ => rfl
  | ⟨4, _⟩ => rfl

theorem joined (g : Fin 16 → FVec Ideal S8x64x64x128 .f32) (h0 : val_main_v76 (F := Ideal) = g 0) (h1 : val_main_v84 (F := Ideal) x0 x2 x3 x4 = g 1) (h2 : val_main_v92 (F := Ideal) x0 x2 x3 x4 = g 2) (h3 : val_main_v100 (F := Ideal) x0 x2 x3 x4 = g 3) (h4 : val_main_v108 (F := Ideal) x0 x2 x3 x4 = g 4) (h5 : val_main_v116 (F := Ideal) x0 x2 x3 x4 = g 5) (h6 : val_main_v124 (F := Ideal) x0 x2 x3 x4 = g 6) (h7 : val_main_v132 (F := Ideal) x0 x2 x3 x4 = g 7) (h8 : val_main_v140 (F := Ideal) x0 x2 x3 x4 = g 8) (h9 : val_main_v148 (F := Ideal) x0 x2 x3 x4 = g 9) (h10 : val_main_v156 (F := Ideal) x0 x2 x3 x4 = g 10) (h11 : val_main_v164 (F := Ideal) x0 x2 x3 x4 = g 11) (h12 : val_main_v172 (F := Ideal) x0 x2 x3 x4 = g 12) (h13 : val_main_v180 (F := Ideal) x0 x2 x3 x4 = g 13) (h14 : val_main_v188 (F := Ideal) x0 x2 x3 x4 = g 14) (h15 : val_main_v196 (F := Ideal) x0 x2 x3 x4 = g 15)
    (E : Fin 8) (c : Fin 16) (h p : Fin 64) (n : Fin 128) : val_main_v221 (F := Ideal) x0 x2 x3 x4 (ix5 E c h p n) = g c (ix4 E h p n) := by
  unfold val_main_v221 val_main_v205 val_main_v206 val_main_v207 val_main_v208 val_main_v209 val_main_v210 val_main_v211 val_main_v212 val_main_v213 val_main_v214 val_main_v215 val_main_v216 val_main_v217 val_main_v218 val_main_v219 val_main_v220
  rw [h0, h1, h2, h3, h4, h5, h6, h7, h8, h9, h10, h11, h12, h13, h14, h15]
  refine (beside (fun k => broadcastInDim S8x1x64x64x128 ![0, 2, 3, 4] Gen.bcast_S8x64x64x128_S8x1x64x64x128_0_2_3_4 (g k)) _ E c h p n).trans ?_
  pointwise

/-- The states one beside the other. -/
theorem v221_at (E : Fin 8) (c : Fin 16) (h p : Fin 64) (n : Fin 128) : val_main_v221 (F := Ideal) x0 x2 x3 x4 (ix5 E c h p n)
    = (run (val_main_v75 (F := Ideal) x2 x3 x4) (val_main_v72 (F := Ideal) x0 x2 x3 x4) c.val) (ix4 E h p n) := by
  have e1 : val_main_v84 (F := Ideal) x0 x2 x3 x4 = (run (val_main_v75 (F := Ideal) x2 x3 x4) (val_main_v72 (F := Ideal) x0 x2 x3 x4) 1) := rfl
  have e2 : val_main_v92 (F := Ideal) x0 x2 x3 x4 = (run (val_main_v75 (F := Ideal) x2 x3 x4) (val_main_v72 (F := Ideal) x0 x2 x3 x4) 2) := congrArg (after _ _ 1) e1
  have e3 : val_main_v100 (F := Ideal) x0 x2 x3 x4 = (run (val_main_v75 (F := Ideal) x2 x3 x4) (val_main_v72 (F := Ideal) x0 x2 x3 x4) 3) := congrArg (after _ _ 2) e2
  have e4 : val_main_v108 (F := Ideal) x0 x2 x3 x4 = (run (val_main_v75 (F := Ideal) x2 x3 x4) (val_main_v72 (F := Ideal) x0 x2 x3 x4) 4) := congrArg (after _ _ 3) e3
  have e5 : val_main_v116 (F := Ideal) x0 x2 x3 x4 = (run (val_main_v75 (F := Ideal) x2 x3 x4) (val_main_v72 (F := Ideal) x0 x2 x3 x4) 5) := congrArg (after _ _ 4) e4
  have e6 : val_main_v124 (F := Ideal) x0 x2 x3 x4 = (run (val_main_v75 (F := Ideal) x2 x3 x4) (val_main_v72 (F := Ideal) x0 x2 x3 x4) 6) := congrArg (after _ _ 5) e5
  have e7 : val_main_v132 (F := Ideal) x0 x2 x3 x4 = (run (val_main_v75 (F := Ideal) x2 x3 x4) (val_main_v72 (F := Ideal) x0 x2 x3 x4) 7) := congrArg (after _ _ 6) e6
  have e8 : val_main_v140 (F := Ideal) x0 x2 x3 x4 = (run (val_main_v75 (F := Ideal) x2 x3 x4) (val_main_v72 (F := Ideal) x0 x2 x3 x4) 8) := congrArg (after _ _ 7) e7
  have e9 : val_main_v148 (F := Ideal) x0 x2 x3 x4 = (run (val_main_v75 (F := Ideal) x2 x3 x4) (val_main_v72 (F := Ideal) x0 x2 x3 x4) 9) := congrArg (after _ _ 8) e8
  have e10 : val_main_v156 (F := Ideal) x0 x2 x3 x4 = (run (val_main_v75 (F := Ideal) x2 x3 x4) (val_main_v72 (F := Ideal) x0 x2 x3 x4) 10) := congrArg (after _ _ 9) e9
  have e11 : val_main_v164 (F := Ideal) x0 x2 x3 x4 = (run (val_main_v75 (F := Ideal) x2 x3 x4) (val_main_v72 (F := Ideal) x0 x2 x3 x4) 11) := congrArg (after _ _ 10) e10
  have e12 : val_main_v172 (F := Ideal) x0 x2 x3 x4 = (run (val_main_v75 (F := Ideal) x2 x3 x4) (val_main_v72 (F := Ideal) x0 x2 x3 x4) 12) := congrArg (after _ _ 11) e11
  have e13 : val_main_v180 (F := Ideal) x0 x2 x3 x4 = (run (val_main_v75 (F := Ideal) x2 x3 x4) (val_main_v72 (F := Ideal) x0 x2 x3 x4) 13) := congrArg (after _ _ 12) e12
  have e14 : val_main_v188 (F := Ideal) x0 x2 x3 x4 = (run (val_main_v75 (F := Ideal) x2 x3 x4) (val_main_v72 (F := Ideal) x0 x2 x3 x4) 14) := congrArg (after _ _ 13) e13
  have e15 : val_main_v196 (F := Ideal) x0 x2 x3 x4 = (run (val_main_v75 (F := Ideal) x2 x3 x4) (val_main_v72 (F := Ideal) x0 x2 x3 x4) 15) := congrArg (after _ _ 14) e14
  exact joined x0 x2 x3 x4 (fun k => (run (val_main_v75 (F := Ideal) x2 x3 x4) (val_main_v72 (F := Ideal) x0 x2 x3 x4) k.val)) rfl e1 e2 e3 e4 e5 e6 e7 e8 e9 e10 e11 e12 e13 e14 e15 E c h p n

theorem v229_at (E : Fin 8) (c : Fin 16) (r : Fin 128) (h p : Fin 64) : val_main_v229 (F := Ideal) x0 x2 x3 x4 (ix4 E (pos c r) h p)
    = chunkY (rA x2 x3 x4 E c h) (rD x2 x3 E c h) (rX x0 E c h p) (rB x0 E c h) (rC x0 E c h)
      (states (fun k => rA x2 x3 x4 E (fw k) h) (fun k => rD x2 x3 E (fw k) h) (fun k => rX x0 E (fw k) h p) (fun k => rB x0 E (fw k) h) c.val) r := by
  rw [val_main_v229_apply, show idx_main_v229 (ix4 E (pos c r) h p) = ix5 E c r h p from ext5
    (by show (((E.val * 2048 + (c.val * 128 + r.val)) * 64 + h.val) * 64 + p.val) / 8388608 = E.val; omega)
    (by show (((E.val * 2048 + (c.val * 128 + r.val)) * 64 + h.val) * 64 + p.val) / 524288 % 16 = c.val; omega)
    (by show (((E.val * 2048 + (c.val * 128 + r.val)) * 64 + h.val) * 64 + p.val) / 4096 % 128 = r.val; omega)
    (by show (((E.val * 2048 + (c.val * 128 + r.val)) * 64 + h.val) * 64 + p.val) / 64 % 64 = h.val; omega)
    (by show (((E.val * 2048 + (c.val * 128 + r.val)) * 64 + h.val) * 64 + p.val) % 64 = p.val; omega),
    val_main_v228_apply, v64_at, val_main_v227_apply, val_main_v223_apply, show idx_main_v223 (ix5 E c r h p) = ix5 E c h p r from ext5 rfl rfl rfl rfl rfl,
    val_main_v222_apply, val_main_v226_apply, val_main_v225_apply, val_main_v224_apply, show idx_main_v225 (idx_main_v226 (ix5 E c r h p)) = ix4 E c r h from ext4 rfl rfl rfl rfl, v49_at]
  unfold chunkY
  refine (add_comm _ _).trans (congrArg₂ (· + ·) (congrArg (· * _) (Finset.sum_congr rfl fun n _ => ?_)) (Finset.sum_congr rfl fun s _ => ?_))
  · rw [show lidx_main_v222 (ix5 E c h p r) n = ix5 E c h p n from ext5 rfl rfl rfl rfl rfl, show ridx_main_v222 (ix5 E c h p r) n = ix5 E c r h n from ext5 rfl rfl rfl rfl rfl,
      v221_at, run_at, v47_at, mul_comm]
  · rw [mul_comm (rX x0 E c h p s), mul_comm _ (_ * Ideal.exp _), ← mul_assoc]

/-! ## The two directions -/

section
variable (b : Fin 4) (R : Fin 2048)

/-- Batch entry `b` in the forward direction and in the backward one. -/
def eF (b : Fin 4) : Fin 8 := ⟨b.val, by omega⟩
def eB (b : Fin 4) : Fin 8 := ⟨4 + b.val, by omega⟩

theorem rev4 {W : ℕ} {α : Type} (y : (⟨4, ![4, 2048, 64, W]⟩ : Shape).Idx → α) (h : Fin 64) (p : Fin W) :
    Host.reverse (s := (⟨4, ![4, 2048, 64, W]⟩ : Shape)) [1] y (ix4 b R h p) = y (ix4 b (Fin.rev R) h p) := congrArg y (ext4 rfl rfl rfl rfl)

theorem rev3 {α : Type} (y : S4x2048x64.Idx → α) (h : Fin 64) : Host.reverse (s := S4x2048x64) [1] y (ix3 b R h) = y (ix3 b (Fin.rev R) h) := congrArg y (ext3 rfl rfl rfl)

/-- Two arrays over the batch, one after the other. -/
theorem both4 {W : ℕ} {α : Type} (x y : (⟨4, ![4, 2048, 64, W]⟩ : Shape).Idx → α) (hc) (h : Fin 64) (p : Fin W) :
    concatenate (⟨4, ![8, 2048, 64, W]⟩ : Shape) 0 [⟨(⟨4, ![4, 2048, 64, W]⟩ : Shape), x⟩, ⟨(⟨4, ![4, 2048, 64, W]⟩ : Shape), y⟩] hc (ix4 (eF b) R h p) = x (ix4 b R h p)
    ∧ concatenate (⟨4, ![8, 2048, 64, W]⟩ : Shape) 0 [⟨(⟨4, ![4, 2048, 64, W]⟩ : Shape), x⟩, ⟨(⟨4, ![4, 2048, 64, W]⟩ : Shape), y⟩] hc (ix4 (eB b) R h p) = y (ix4 b R h p) := by
  constructor <;> pointwise
  · rw [dif_pos (show (eF b).val < 4 from b.isLt)]
    exact congrArg x (ext4 rfl rfl rfl rfl)
  · rw [dif_neg (show ¬ (eB b).val < 4 by show ¬ 4 + b.val < 4; omega)]
    exact congrArg y (ext4 (show 4 + b.val - 4 = b.val by omega) rfl rfl rfl)

theorem both3 {α : Type} (x y : S4x2048x64.Idx → α) (hc) (h : Fin 64) :
    concatenate S8x2048x64 0 [⟨S4x2048x64, x⟩, ⟨S4x2048x64, y⟩] hc (ix3 (eF b) R h) = x (ix3 b R h)
    ∧ concatenate S8x2048x64 0 [⟨S4x2048x64, x⟩, ⟨S4x2048x64, y⟩] hc (ix3 (eB b) R h) = y (ix3 b R h) := by
  constructor <;> pointwise
  · rw [dif_pos (show (eF b).val < 4 from b.isLt)]
    exact congrArg x (ext3 rfl rfl rfl)
  · rw [dif_neg (show ¬ (eB b).val < 4 by show ¬ 4 + b.val < 4; omega)]
    exact congrArg y (ext3 (show 4 + b.val - 4 = b.val by omega) rfl rfl)

theorem v4_at (h p : Fin 64) (A : Fin 6144) (hA : A.val = 64 * h.val + p.val) : val_main_v4 (F := Ideal) x0 (ix4 b R h p) = x0 (ix3 b R A) := by
  rw [val_main_v4_apply, val_main_v3_apply, val_main_v0_apply]
  exact congrArg x0 (ext3
    (by show (((b.val * 2048 + R.val) * 64 + h.val) * 64 + p.val) / 8388608 = b.val; omega)
    (by show (((b.val * 2048 + R.val) * 64 + h.val) * 64 + p.val) / 4096 % 2048 = R.val; omega)
    (by show (((b.val * 2048 + R.val) * 64 + h.val) * 64 + p.val) % 4096 = A.val; omega))

theorem idx10 (h : Fin 64) (n : Fin 128) : idx_main_v9 (idx_main_v10 (ix4 b R h n)) = ix4 b R (⟨h.val / 8, by omega⟩ : Fin 8) n := ext4
  (by show (((b.val * 2048 + R.val) * 64 + h.val) * 128 + n.val) / 16777216 = b.val; omega)
  (by show (((b.val * 2048 + R.val) * 64 + h.val) * 128 + n.val) / 8192 % 2048 = R.val; omega)
  (by show (((b.val * 2048 + R.val) * 64 + h.val) * 128 + n.val) / 1024 % 8 = h.val / 8; omega)
  (by show (((b.val * 2048 + R.val) * 64 + h.val) * 128 + n.val) % 128 = n.val; omega)

theorem v10_at (h : Fin 64) (n : Fin 128) (A : Fin 6144) (hA : A.val = 4096 + 128 * (h.val / 8) + n.val) : val_main_v10 (F := Ideal) x0 (ix4 b R h n) = x0 (ix3 b R A) := by
  rw [val_main_v10_apply, val_main_v9_apply, idx10, val_main_v6_apply, val_main_v5_apply, val_main_v0_apply]
  exact congrArg x0 (ext3
    (by show (((b.val * 2048 + R.val) * 8 + h.val / 8) * 128 + n.val) / 2097152 = b.val; omega)
    (by show (((b.val * 2048 + R.val) * 8 + h.val / 8) * 128 + n.val) / 1024 % 2048 = R.val; omega)
    (by show 4096 + (((b.val * 2048 + R.val) * 8 + h.val / 8) * 128 + n.val) % 1024 = A.val; omega))

theorem v12_at (h : Fin 64) (n : Fin 128) (A : Fin 6144) (hA : A.val = 5120 + 128 * (h.val / 8) + n.val) : val_main_v12 (F := Ideal) x0 (ix4 b R h n) = x0 (ix3 b R A) := by
  rw [val_main_v12_apply, val_main_v11_apply, show idx_main_v11 (idx_main_v12 (ix4 b R h n)) = _ from idx10 b R h n, val_main_v8_apply, val_main_v7_apply, val_main_v0_apply]
  exact congrArg x0 (ext3
    (by show (((b.val * 2048 + R.val) * 8 + h.val / 8) * 128 + n.val) / 2097152 = b.val; omega)
    (by show (((b.val * 2048 + R.val) * 8 + h.val / 8) * 128 + n.val) / 1024 % 2048 = R.val; omega)
    (by show 5120 + (((b.val * 2048 + R.val) * 8 + h.val / 8) * 128 + n.val) % 1024 = A.val; omega))

theorem v18_at (e : Fin 2) (h : Fin 64) (w : Fin 128) (q : Fin 8192) (hw : w.val = 64 * e.val + h.val) (hq : q.val = 2048 * b.val + R.val) :
    val_main_v18 (F := Ideal) x2 x3 (ix4 e b R h) = sp (x2 (ix2 w q) + x3 (ix2 e h)) := by
  have e17 : val_main_v17 (F := Ideal) x2 x3 (ix4 e b R h) = x2 (ix2 w q) + x3 (ix2 e h) := by
    rw [val_main_v17_apply, val_main_v14_apply, val_main_v13_apply, val_main_v16_apply, val_main_v15_apply]
    exact congrArg₂ (fun i j => x2 i + x3 j) (ext2
      (by show (((e.val * 64 + h.val) * 4 + b.val) * 2048 + R.val) / 8192 = w.val; omega)
      (by show (((e.val * 64 + h.val) * 4 + b.val) * 2048 + R.val) % 8192 = q.val; omega)) (ext2 rfl rfl)
  generalize x2 (ix2 w q) + x3 (ix2 e h) = z at e17
  have z0 : ∀ i, val_main_call0_v0 (F := Ideal) i = 0 := fun i => (val_main_call0_v0_apply i).trans ofBits_zero
  have z2 : ∀ i, val_main_call0_v2 (F := Ideal) i = 0 := fun i => (val_main_call0_v2_apply i).trans ofBits_zero
  rw [val_main_v18_apply, val_main_call0_v4_apply, val_main_call0_v11_apply, val_main_call0_v1_apply, val_main_call0_v10_apply, val_main_call0_v9_apply, val_main_call0_v8_apply,
    val_main_call0_v7_apply, val_main_call0_v3_apply, z0, z2, e17]
  have hs : (FloatOps.subf (F := Ideal) (φ := .f32) z 0) = z := sub_zero z
  have hc : FloatOps.cmpf (F := Ideal) (φ := .f32) CmpFPredicate.une z z = 0#1 := by
    show BitVec.ofBool (decide (z ≠ z)) = 0#1
    rw [decide_eq_false fun h => h rfl]
    rfl
  rw [hs, hc]
  show max z 0 + Ideal.log1p (Ideal.exp (-(max z (-z)))) = sp z
  unfold sp
  rw [zero_sub]

theorem v23_at (e : Fin 2) (h : Fin 64) : val_main_v23 (F := Ideal) x2 x3 x4 (ix4 e b R h) = val_main_v18 (F := Ideal) x2 x3 (ix4 e b R h) * (0 - Ideal.exp (x4 (ix2 e h))) := by
  rw [val_main_v23_apply, val_main_v22_apply, val_main_v21_apply, val_main_v20_apply, val_main_v19_apply, show idx_main_v21 (idx_main_v22 (ix4 e b R h)) = ix2 e h from ext2 rfl rfl, zero_sub]
  rfl

theorem dir0 (h : Fin 64) : idx_main_v26 (idx_main_v27 (ix3 b R h)) = ix4 0 b R h := ext4 rfl
  (by show ((b.val * 2048 + R.val) * 64 + h.val) / 131072 % 4 = b.val; omega)
  (by show ((b.val * 2048 + R.val) * 64 + h.val) / 64 % 2048 = R.val; omega)
  (by show ((b.val * 2048 + R.val) * 64 + h.val) % 64 = h.val; omega)

theorem dir1 (h : Fin 64) : idx_main_v28 (idx_main_v29 (ix3 b R h)) = ix4 1 b R h := ext4 rfl
  (by show ((b.val * 2048 + R.val) * 64 + h.val) / 131072 % 4 = b.val; omega)
  (by show ((b.val * 2048 + R.val) * 64 + h.val) / 64 % 2048 = R.val; omega)
  (by show ((b.val * 2048 + R.val) * 64 + h.val) % 64 = h.val; omega)

/-- The sequences in the forward direction and in the backward one. -/
theorem v25_at (h p : Fin 64) : val_main_v25 (F := Ideal) x0 (ix4 (eF b) R h p) = val_main_v4 (F := Ideal) x0 (ix4 b R h p)
    ∧ val_main_v25 (F := Ideal) x0 (ix4 (eB b) R h p) = val_main_v4 (F := Ideal) x0 (ix4 b (Fin.rev R) h p) :=
  ⟨(both4 b R _ (val_main_v24 (F := Ideal) x0) _ h p).1, (both4 b R (val_main_v4 (F := Ideal) x0) _ _ h p).2.trans (rev4 b R _ h p)⟩
theorem v39_at (h : Fin 64) (n : Fin 128) : val_main_v39 (F := Ideal) x0 (ix4 (eF b) R h n) = val_main_v10 (F := Ideal) x0 (ix4 b R h n)
    ∧ val_main_v39 (F := Ideal) x0 (ix4 (eB b) R h n) = val_main_v10 (F := Ideal) x0 (ix4 b (Fin.rev R) h n) :=
  ⟨(both4 b R _ (val_main_v38 (F := Ideal) x0) _ h n).1, (both4 b R (val_main_v10 (F := Ideal) x0) _ _ h n).2.trans (rev4 b R _ h n)⟩
theorem v41_at (h : Fin 64) (n : Fin 128) : val_main_v41 (F := Ideal) x0 (ix4 (eF b) R h n) = val_main_v12 (F := Ideal) x0 (ix4 b R h n)
    ∧ val_main_v41 (F := Ideal) x0 (ix4 (eB b) R h n) = val_main_v12 (F := Ideal) x0 (ix4 b (Fin.rev R) h n) :=
  ⟨(both4 b R _ (val_main_v40 (F := Ideal) x0) _ h n).1, (both4 b R (val_main_v12 (F := Ideal) x0) _ _ h n).2.trans (rev4 b R _ h n)⟩
theorem v31_at (h : Fin 64) : val_main_v31 (F := Ideal) x2 x3 (ix3 (eF b) R h) = val_main_v18 (F := Ideal) x2 x3 (ix4 0 b R h)
    ∧ val_main_v31 (F := Ideal) x2 x3 (ix3 (eB b) R h) = val_main_v18 (F := Ideal) x2 x3 (ix4 1 b (Fin.rev R) h) :=
  ⟨(both3 b R _ (val_main_v30 (F := Ideal) x2 x3) _ h).1.trans (by rw [val_main_v27_apply, val_main_v26_apply, dir0]),
    (both3 b R (val_main_v27 (F := Ideal) x2 x3) _ _ h).2.trans ((rev3 b R _ h).trans <| by rw [val_main_v29_apply, val_main_v28_apply, dir1])⟩
theorem v37_at (h : Fin 64) : val_main_v37 (F := Ideal) x2 x3 x4 (ix3 (eF b) R h) = val_main_v23 (F := Ideal) x2 x3 x4 (ix4 0 b R h)
    ∧ val_main_v37 (F := Ideal) x2 x3 x4 (ix3 (eB b) R h) = val_main_v23 (F := Ideal) x2 x3 x4 (ix4 1 b (Fin.rev R) h) :=
  ⟨(both3 b R _ (val_main_v36 (F := Ideal) x2 x3 x4) _ h).1.trans (by rw [val_main_v33_apply, val_main_v32_apply]; exact congrArg _ (dir0 b R h)),
    (both3 b R (val_main_v33 (F := Ideal) x2 x3 x4) _ _ h).2.trans ((rev3 b R _ h).trans <| by rw [val_main_v35_apply, val_main_v34_apply]; exact congrArg _ (dir1 b (Fin.rev R) h))⟩

/-! ## The results -/

/-- The two directions' sum with the skip. -/
theorem v239_at (h p : Fin 64) (A : Fin 4096) (hA : A.val = 64 * h.val + p.val) : val_main_v239 (F := Ideal) x0 x2 x3 x4 x5 (ix3 b R A)
    = (val_main_v229 (F := Ideal) x0 x2 x3 x4 (ix4 (eF b) R h p) + val_main_v229 (F := Ideal) x0 x2 x3 x4 (ix4 (eB b) (Fin.rev R) h p))
      + val_main_v4 (F := Ideal) x0 (ix4 b R h p) * x5 (ix1 h) := by
  rw [val_main_v239_apply, show idx_main_v239 (ix3 b R A) = ix4 b R h p from ext4
    (by show ((b.val * 2048 + R.val) * 4096 + A.val) / 8388608 = b.val; omega)
    (by show ((b.val * 2048 + R.val) * 4096 + A.val) / 4096 % 2048 = R.val; omega)
    (by show ((b.val * 2048 + R.val) * 4096 + A.val) / 64 % 64 = h.val; omega)
    (by show ((b.val * 2048 + R.val) * 4096 + A.val) % 64 = p.val; omega),
    val_main_v238_apply, val_main_v233_apply, val_main_v230_apply, val_main_v237_apply, val_main_v236_apply, val_main_v235_apply, val_main_v234_apply,
    show idx_main_v230 (ix4 b R h p) = ix4 (eF b) R h p from ext4 rfl rfl rfl rfl,
    show idx_main_v234 (idx_main_v235 (idx_main_v236 (ix4 b R h p))) = ix1 h from funext fun a => match a with | ⟨0, _⟩ => rfl]
  have e : val_main_v232 (F := Ideal) x0 x2 x3 x4 (ix4 b R h p) = val_main_v229 (F := Ideal) x0 x2 x3 x4 (ix4 (eB b) (Fin.rev R) h p) := by
    refine (rev4 b R (val_main_v231 (F := Ideal) x0 x2 x3 x4) h p).trans ?_
    rw [val_main_v231_apply]
    exact congrArg _ (ext4 rfl rfl rfl rfl)
  rw [e]
  rfl

/-- The gate. -/
theorem v240_at (A : Fin 4096) (q : Fin 10240) (hq : q.val = A.val) : val_main_v240 (F := Ideal) x1 (ix3 b R A) = x1 (ix3 b R q) * Ideal.logistic (x1 (ix3 b R q)) := by
  have e2 : val_main_v2 (F := Ideal) x1 (ix3 b R A) = x1 (ix3 b R q) := by
    rw [val_main_v2_apply, val_main_v1_apply]
    exact congrArg x1 (ext3 rfl rfl hq.symm)
  have o2 : ∀ i, val_main_call10_v2 (F := Ideal) i = 1 := fun i => (val_main_call10_v2_apply i).trans ofBits_one
  have o4 : ∀ i, val_main_call10_v4 (F := Ideal) i = 1 := fun i => (val_main_call10_v4_apply i).trans ofBits_one
  rw [val_main_v240_apply, val_main_call10_v5_apply, val_main_call10_v3_apply, val_main_call10_v1_apply, val_main_call10_v0_apply, o2, o4, e2]
  rfl

/-- The sums of four squares. -/
theorem v245_at (q : Fin 8) (j : Fin 128) (A : Fin 1024) (hA : A.val = 128 * q.val + j.val) (g : Fin 512 → EReal)
    (hg : ∀ (l : Fin 512) (B : Fin 4096), B.val = 512 * q.val + l.val → val_main_v241 (F := Ideal) x0 x1 x2 x3 x4 x5 (ix3 b R B) = g l) :
    val_main_v245 (F := Ideal) x0 x1 x2 x3 x4 x5 (ix3 b R A) = sq4 g j := by
  have one : ∀ (k : Fin 4) (l : Fin 512), l.val = 128 * k.val + j.val → val_main_v243 (F := Ideal) x0 x1 x2 x3 x4 x5 (ix5 b R q k j) = g l * g l := fun k l hl => by
    obtain ⟨t, ht, et, e⟩ : ∃ t, t < 4096 ∧ t = 512 * q.val + l.val ∧ (((b.val * 2048 + R.val) * 8 + q.val) * 4 + k.val) * 128 + j.val = (b.val * 2048 + R.val) * 4096 + t :=
      ⟨512 * q.val + l.val, by omega, rfl, by omega⟩
    rw [val_main_v243_apply, val_main_v242_apply, show idx_main_v243 (ix5 b R q k j) = ix3 b R ⟨512 * q.val + l.val, by omega⟩ from ext3
      (by show ((((b.val * 2048 + R.val) * 8 + q.val) * 4 + k.val) * 128 + j.val) / 8388608 = b.val; rw [e]; omega)
      (by show ((((b.val * 2048 + R.val) * 8 + q.val) * 4 + k.val) * 128 + j.val) / 4096 % 2048 = R.val; rw [e]; omega)
      (by show ((((b.val * 2048 + R.val) * 8 + q.val) * 4 + k.val) * 128 + j.val) % 4096 = 512 * q.val + l.val; rw [e]; omega),
      hg l _ rfl]
    rfl
  rw [val_main_v245_apply, val_main_v244_apply, show idx_main_v245 (ix3 b R A) = ix4 b R q j from ext4
    (by show ((b.val * 2048 + R.val) * 1024 + A.val) / 2097152 = b.val; omega)
    (by show ((b.val * 2048 + R.val) * 1024 + A.val) / 1024 % 2048 = R.val; omega)
    (by show ((b.val * 2048 + R.val) * 1024 + A.val) / 128 % 8 = q.val; omega)
    (by show ((b.val * 2048 + R.val) * 1024 + A.val) % 128 = j.val; omega)]
  have i5 : ∀ k : Fin 4, idx_main_v244 (ix4 b R q j) k = ix5 b R q k j := fun k => ext5 rfl rfl rfl rfl rfl
  rw [show val_main_cst_1 (F := Ideal) (Shape.Idx.first Gen.h_S_) = 0 from ofBits_zero, zero_add, Fin.sum_univ_four, i5, i5, i5, i5,
    one 0 ⟨j.val, by omega⟩ (by show j.val = 128 * 0 + j.val; omega), one 1 ⟨128 + j.val, by omega⟩ rfl, one 2 ⟨256 + j.val, by omega⟩ rfl, one 3 ⟨384 + j.val, by omega⟩ rfl]
  rfl
end

end Cert.Proof.Scan

end
-- ==== Proof.ScanArr.lean ====
/-
  THE SCAN'S ARRAYS: the blocks a grid point reads out of the arguments, and the two results' arrays after the run.
-/
module

public import proofs.«01_k».proof.Proof.ScanAt
public import proofs.«01_k».proof.Proof.ScanRef
public import proofs.«01_k».proof.Defs
public import Idealize.ShloMosaic.Lib.Quiescent

@[expose] public section

set_option maxRecDepth 16384

noncomputable section

namespace Cert.Proof.Scan

open Idealize.ShloMosaic Idealize.ShloMosaic.TcCoe Idealize.ShloMosaic.Tactic Idealize.SL.Sem Cert.KernelIdeal Cert.KernelIdeal.Gen
open Cert.Proof.Ffn (ext2)

variable (m : (ℓ : Loc nD τ sig) → Buf (Elt Ideal) ℓ)

theorem idx0 : ∀ t : Fin grid0.N, win0_0.index t 0 = t.val / 8 ∧ win0_0.index t 1 = 0 ∧ win0_0.index t 2 = t.val % 8 := by decide +kernel
theorem idx1 : ∀ t : Fin grid0.N, win0_1.index t 0 = t.val / 8 ∧ win0_1.index t 1 = 0 ∧ win0_1.index t 2 = 32 + t.val % 8 := by decide +kernel
theorem idx2 : ∀ t : Fin grid0.N, win0_2.index t 0 = t.val / 8 ∧ win0_2.index t 1 = 0 ∧ win0_2.index t 2 = 40 + t.val % 8 := by decide +kernel
theorem idx3 : ∀ t : Fin grid0.N, win0_3.index t 0 = t.val / 8 ∧ win0_3.index t 1 = 0 ∧ win0_3.index t 2 = t.val % 8 := by decide +kernel
theorem idx4 : ∀ t : Fin grid0.N, win0_4.index t 0 = t.val % 8 ∧ win0_4.index t 1 = t.val / 8 := by decide +kernel
theorem idx5 : ∀ t : Fin grid0.N, win0_5.index t 0 = 8 + t.val % 8 ∧ win0_5.index t 1 = t.val / 8 := by decide +kernel
theorem idx6 : ∀ t : Fin grid0.N, win0_6.index t 0 = t.val % 8 ∧ win0_6.index t 1 = 0 := by decide +kernel
theorem idx7 : ∀ t : Fin grid0.N, win0_7.index t 0 = 8 + t.val % 8 ∧ win0_7.index t 1 = 0 := by decide +kernel
theorem idx8 : ∀ t : Fin grid0.N, win0_8.index t 0 = t.val % 8 ∧ win0_8.index t 1 = 0 := by decide +kernel
theorem idx9 : ∀ t : Fin grid0.N, win0_9.index t 0 = 8 + t.val % 8 ∧ win0_9.index t 1 = 0 := by decide +kernel
theorem idx10' : ∀ t : Fin grid0.N, win0_10.index t 0 = 0 ∧ win0_10.index t 1 = t.val % 8 := by decide +kernel
theorem idx11 : ∀ t : Fin grid0.N, win0_11.index t 0 = t.val / 8 ∧ win0_11.index t 1 = 0 ∧ win0_11.index t 2 = t.val % 8 := by decide +kernel
theorem idx12 : ∀ t : Fin grid0.N, win0_12.index t 0 = t.val / 8 ∧ win0_12.index t 1 = 0 ∧ win0_12.index t 2 = t.val % 8 := by decide +kernel

section
variable (c : Dev nD) (t : Fin cfg0.N) (b : Fin 4) (q : Fin 8) (hb : b.val = t.val / 8) (hq : q.val = t.val % 8)
include hb hq

theorem blk0 (R : Fin 2048) (l : Fin 512) (A : Fin 6144) (hA : A.val = 512 * q.val + l.val) :
    (iblk m c 0 t : Vec Ideal S1x2048x512 .bf16) (ix3 0 R l) = m ((c : Thread nD τ).loc main_arg0) (ix3 b R A) := by
  rw [← V_main_arg0 m c]
  unfold iblk
  rw [View.read_apply]
  show V m c main_arg0 _ = V m c main_arg0 _
  obtain ⟨e0, e1, e2⟩ := idx0 t
  refine congrArg _ (ext3 ?_ ?_ ?_)
  · show win0_0.index t 0 * 1 + 1 * 0 = b.val; rw [e0]; omega
  · show win0_0.index t 1 * 2048 + 1 * R.val = R.val; rw [e1]; omega
  · show win0_0.index t 2 * 512 + 1 * l.val = A.val; rw [e2]; omega

theorem blk1 (R : Fin 2048) (n : Fin 128) (A : Fin 6144) (hA : A.val = 4096 + 128 * q.val + n.val) :
    (iblk m c 1 t : Vec Ideal S1x2048x128 .bf16) (ix3 0 R n) = m ((c : Thread nD τ).loc main_arg0) (ix3 b R A) := by
  rw [← V_main_arg0 m c]
  unfold iblk
  rw [View.read_apply]
  show V m c main_arg0 _ = V m c main_arg0 _
  obtain ⟨e0, e1, e2⟩ := idx1 t
  refine congrArg _ (ext3 ?_ ?_ ?_)
  · show win0_1.index t 0 * 1 + 1 * 0 = b.val; rw [e0]; omega
  · show win0_1.index t 1 * 2048 + 1 * R.val = R.val; rw [e1]; omega
  · show win0_1.index t 2 * 128 + 1 * n.val = A.val; rw [e2]; omega

theorem blk2 (R : Fin 2048) (n : Fin 128) (A : Fin 6144) (hA : A.val = 5120 + 128 * q.val + n.val) :
    (iblk m c 2 t : Vec Ideal S1x2048x128 .bf16) (ix3 0 R n) = m ((c : Thread nD τ).loc main_arg0) (ix3 b R A) := by
  rw [← V_main_arg0 m c]
  unfold iblk
  rw [View.read_apply]
  show V m c main_arg0 _ = V m c main_arg0 _
  obtain ⟨e0, e1, e2⟩ := idx2 t
  refine congrArg _ (ext3 ?_ ?_ ?_)
  · show win0_2.index t 0 * 1 + 1 * 0 = b.val; rw [e0]; omega
  · show win0_2.index t 1 * 2048 + 1 * R.val = R.val; rw [e1]; omega
  · show win0_2.index t 2 * 128 + 1 * n.val = A.val; rw [e2]; omega

theorem blk3 (R : Fin 2048) (l : Fin 512) (A : Fin 10240) (hA : A.val = 512 * q.val + l.val) :
    (iblk m c 3 t : Vec Ideal S1x2048x512 .bf16) (ix3 0 R l) = m ((c : Thread nD τ).loc main_arg1) (ix3 b R A) := by
  rw [← V_main_arg1 m c]
  unfold iblk
  rw [View.read_apply]
  show V m c main_arg1 _ = V m c main_arg1 _
  obtain ⟨e0, e1, e2⟩ := idx3 t
  refine congrArg _ (ext3 ?_ ?_ ?_)
  · show win0_3.index t 0 * 1 + 1 * 0 = b.val; rw [e0]; omega
  · show win0_3.index t 1 * 2048 + 1 * R.val = R.val; rw [e1]; omega
  · show win0_3.index t 2 * 512 + 1 * l.val = A.val; rw [e2]; omega

theorem blk4 (h : Fin 8) (R : Fin 2048) (w : Fin 128) (Q : Fin 8192) (hw : w.val = 8 * q.val + h.val) (hQ : Q.val = 2048 * b.val + R.val) :
    (iblk m c 4 t : Vec Ideal S8x2048 .f32) (ix2 h R) = m ((c : Thread nD τ).loc main_arg2) (ix2 w Q) := by
  rw [← V_main_arg2 m c]
  unfold iblk
  rw [View.read_apply]
  show V m c main_arg2 _ = V m c main_arg2 _
  obtain ⟨e0, e1⟩ := idx4 t
  refine congrArg _ (ext2 ?_ ?_)
  · show win0_4.index t 0 * 8 + 1 * h.val = w.val; rw [e0]; omega
  · show win0_4.index t 1 * 2048 + 1 * R.val = Q.val; rw [e1]; omega

theorem blk5 (h : Fin 8) (R : Fin 2048) (w : Fin 128) (Q : Fin 8192) (hw : w.val = 64 + 8 * q.val + h.val) (hQ : Q.val = 2048 * b.val + R.val) :
    (iblk m c 5 t : Vec Ideal S8x2048 .f32) (ix2 h R) = m ((c : Thread nD τ).loc main_arg2) (ix2 w Q) := by
  rw [← V_main_arg2 m c]
  unfold iblk
  rw [View.read_apply]
  show V m c main_arg2 _ = V m c main_arg2 _
  obtain ⟨e0, e1⟩ := idx5 t
  refine congrArg _ (ext2 ?_ ?_)
  · show win0_5.index t 0 * 8 + 1 * h.val = w.val; rw [e0]; omega
  · show win0_5.index t 1 * 2048 + 1 * R.val = Q.val; rw [e1]; omega
end

/-- The parameters as the call takes them. -/
theorem params (c : Dev nD) : V m c main_v3 = shapeCast S128x1 (m ((c : Thread nD τ).loc main_arg3)) shapeCasts_S2x64_S128x1
    ∧ V m c main_v4 = shapeCast S128x1 (m ((c : Thread nD τ).loc main_arg3)) shapeCasts_S2x64_S128x1
    ∧ V m c main_v5 = shapeCast S128x1 (m ((c : Thread nD τ).loc main_arg4)) shapeCasts_S2x64_S128x1
    ∧ V m c main_v6 = shapeCast S128x1 (m ((c : Thread nD τ).loc main_arg4)) shapeCasts_S2x64_S128x1
    ∧ V m c main_v2 = shapeCast S1x4096 (shapeCast S4096 (broadcastInDim S64x64 ![0] bcast_S64_S64x64_0 (m ((c : Thread nD τ).loc main_arg5))) shapeCasts_S64x64_S4096) shapeCasts_S4096_S1x4096 := by
  unfold V
  simp only [hostOps0, List.flatten_cons, List.flatten_nil, List.append_nil, List.cons_append, List.nil_append]
  refine ⟨?_, ?_, ?_, ?_, ?_⟩ <;> after_results_simp <;> rfl

theorem col (x : Vec Ideal S2x64 .f32) (e : Fin 2) (h : Fin 64) (w : Fin 128) (hw : w.val = 64 * e.val + h.val) :
    shapeCast S128x1 x shapeCasts_S2x64_S128x1 (ix2 w 0) = x (ix2 e h) :=
  shapeCast_apply x shapeCasts_S2x64_S128x1 _ _ (by
    rw [Shape.rowMajor_val_two, Shape.rowMajor_val_two]
    show e.val * 64 + h.val = w.val * 1 + 0
    omega)

theorem lanes (x : Vec Ideal S64 .f32) (h : Fin 64) (A : Fin 4096) (hA : A.val / 64 = h.val) :
    shapeCast S1x4096 (shapeCast S4096 (broadcastInDim S64x64 ![0] bcast_S64_S64x64_0 x) shapeCasts_S64x64_S4096) shapeCasts_S4096_S1x4096 (ix2 0 A) = x (ix1 h) := by
  refine (shapeCast_apply _ shapeCasts_S4096_S1x4096 _ (ix1 A) (by
    rw [Shape.rowMajor_val_one, Shape.rowMajor_val_two]
    show A.val = 0 * 4096 + A.val
    omega)).trans ?_
  refine (shapeCast_apply _ shapeCasts_S64x64_S4096 _ (ix2 h ⟨A.val % 64, by omega⟩) (by
    rw [Shape.rowMajor_val_one, Shape.rowMajor_val_two]
    show h.val * 64 + A.val % 64 = A.val
    omega)).trans ?_
  pointwise

section
variable (c : Dev nD) (t : Fin cfg0.N) (q : Fin 8) (hq : q.val = t.val % 8)
include hq

theorem blk6 (h : Fin 8) (H : Fin 64) (hH : H.val = 8 * q.val + h.val) : (iblk m c 6 t : Vec Ideal S8x1 .f32) (ix2 h 0) = m ((c : Thread nD τ).loc main_arg3) (ix2 0 H) := by
  refine Eq.trans ?_ (col _ 0 H ⟨H.val, by omega⟩ (by show H.val = 64 * 0 + H.val; omega))
  rw [← (params m c).1]
  unfold iblk
  rw [View.read_apply]
  show V m c main_v3 _ = V m c main_v3 _
  obtain ⟨e0, e1⟩ := idx6 t
  refine congrArg _ (ext2 ?_ ?_)
  · show win0_6.index t 0 * 8 + 1 * h.val = H.val; rw [e0]; omega
  · show win0_6.index t 1 * 1 + 1 * 0 = 0; rw [e1]

theorem blk7 (h : Fin 8) (H : Fin 64) (hH : H.val = 8 * q.val + h.val) : (iblk m c 7 t : Vec Ideal S8x1 .f32) (ix2 h 0) = m ((c : Thread nD τ).loc main_arg3) (ix2 1 H) := by
  refine Eq.trans ?_ (col _ 1 H ⟨64 + H.val, by omega⟩ (by show 64 + H.val = 64 * 1 + H.val; omega))
  rw [← (params m c).2.1]
  unfold iblk
  rw [View.read_apply]
  show V m c main_v4 _ = V m c main_v4 _
  obtain ⟨e0, e1⟩ := idx7 t
  refine congrArg _ (ext2 ?_ ?_)
  · show win0_7.index t 0 * 8 + 1 * h.val = 64 + H.val; rw [e0]; omega
  · show win0_7.index t 1 * 1 + 1 * 0 = 0; rw [e1]

theorem blk8 (h : Fin 8) (H : Fin 64) (hH : H.val = 8 * q.val + h.val) : (iblk m c 8 t : Vec Ideal S8x1 .f32) (ix2 h 0) = m ((c : Thread nD τ).loc main_arg4) (ix2 0 H) := by
  refine Eq.trans ?_ (col _ 0 H ⟨H.val, by omega⟩ (by show H.val = 64 * 0 + H.val; omega))
  rw [← (params m c).2.2.1]
  unfold iblk
  rw [View.read_apply]
  show V m c main_v5 _ = V m c main_v5 _
  obtain ⟨e0, e1⟩ := idx8 t
  refine congrArg _ (ext2 ?_ ?_)
  · show win0_8.index t 0 * 8 + 1 * h.val = H.val; rw [e0]; omega
  · show win0_8.index t 1 * 1 + 1 * 0 = 0; rw [e1]

theorem blk9 (h : Fin 8) (H : Fin 64) (hH : H.val = 8 * q.val + h.val) : (iblk m c 9 t : Vec Ideal S8x1 .f32) (ix2 h 0) = m ((c : Thread nD τ).loc main_arg4) (ix2 1 H) := by
  refine Eq.trans ?_ (col _ 1 H ⟨64 + H.val, by omega⟩ (by show 64 + H.val = 64 * 1 + H.val; omega))
  rw [← (params m c).2.2.2.1]
  unfold iblk
  rw [View.read_apply]
  show V m c main_v6 _ = V m c main_v6 _
  obtain ⟨e0, e1⟩ := idx9 t
  refine congrArg _ (ext2 ?_ ?_)
  · show win0_9.index t 0 * 8 + 1 * h.val = 64 + H.val; rw [e0]; omega
  · show win0_9.index t 1 * 1 + 1 * 0 = 0; rw [e1]

theorem blk10 (l : Fin 512) (H : Fin 64) (hH : H.val = 8 * q.val + l.val / 64) : (iblk m c 10 t : Vec Ideal S1x512 .f32) (ix2 0 l) = m ((c : Thread nD τ).loc main_arg5) (ix1 H) := by
  refine Eq.trans ?_ (lanes _ H ⟨512 * q.val + l.val, by omega⟩ (by show (512 * q.val + l.val) / 64 = H.val; omega))
  rw [← (params m c).2.2.2.2]
  unfold iblk
  rw [View.read_apply]
  show V m c main_v2 _ = V m c main_v2 _
  obtain ⟨e0, e1⟩ := idx10' t
  refine congrArg _ (ext2 ?_ ?_)
  · show win0_10.index t 0 * 1 + 1 * 0 = 0; rw [e0]
  · show win0_10.index t 1 * 512 + 1 * l.val = 512 * q.val + l.val; rw [e1]; omega
end

end Cert.Proof.Scan

end
-- ==== Proof.ScanRow.lean ====
/-
  THE SCAN'S ROWS: a row the body leaves is the reference's row. The forward direction's chunks are the first half's, the
  backward direction's the second half's read from the end.
-/
module

public import proofs.«01_k».proof.Proof.ScanArr

@[expose] public section

set_option maxRecDepth 16384

noncomputable section

namespace Cert.Proof.Scan

open Idealize.ShloMosaic Idealize.ShloMosaic.TcCoe Idealize.ShloMosaic.Tactic Idealize.SL.Sem Cert.KernelIdeal Cert.KernelIdeal.Gen
open Cert.ReferenceIdeal.Read (val_main_v4 val_main_v10 val_main_v12 val_main_v18 val_main_v23 val_main_v229 val_main_v241 val_main_v245 val_main_v246)

/-- A direction's chunk from the chunks' values. -/
theorem dirY_of (σ : Equiv.Perm (Fin 128)) (ρ : ℕ → Fin 16) (a d : Fin 16 → Fin 8 → Fin 128 → EReal) (x0 : Vec Ideal S1x2048x512 .bf16) (x1 x2 : Vec Ideal S1x2048x128 .bf16)
    (l : Fin 512) (k : ℕ) (r : Fin 128) (A D X : ℕ → Fin 128 → EReal) (B C : ℕ → Fin 128 → Fin 128 → EReal)
    (hA : ∀ k s, A k s = a (ρ k) (hd l) s) (hD : ∀ k s, D k s = d (ρ k) (hd l) s) (hX : ∀ k s, X k s = x0 (ix3 0 (pos (ρ k) (σ s)) l))
    (hB : ∀ k s n, B k s n = x1 (ix3 0 (pos (ρ k) (σ s)) n)) (hC : ∀ k s n, C k s n = x2 (ix3 0 (pos (ρ k) (σ s)) n)) :
    chunkY (A k) (D k) (X k) (B k) (C k) (states A D X B k) r = dirY σ ρ a d x0 x1 x2 k r l := by
  obtain rfl : A = fun k => a (ρ k) (hd l) := funext fun k => funext (hA k)
  obtain rfl : D = fun k => d (ρ k) (hd l) := funext fun k => funext (hD k)
  obtain rfl : X = fun k s => x0 (ix3 0 (pos (ρ k) (σ s)) l) := funext fun k => funext (hX k)
  obtain rfl : B = fun k s n => x1 (ix3 0 (pos (ρ k) (σ s)) n) := funext fun k => funext fun s => funext (hB k s)
  obtain rfl : C = fun k s n => x2 (ix3 0 (pos (ρ k) (σ s)) n) := funext fun k => funext fun s => funext (hC k s)
  rfl

theorem rev_pos (k : ℕ) (s : Fin 128) : Fin.rev (pos (fw k) s) = pos (bw k) (Fin.rev s) :=
  Fin.ext (by rw [Fin.val_rev]; show 2048 - (k % 16 * 128 + s.val + 1) = (15 - k % 16) * 128 + (Fin.rev s).val; rw [Fin.val_rev]; omega)

theorem rev_pos' (C : Fin 16) (r : Fin 128) : Fin.rev (pos C r) = pos (fw (15 - C.val)) (Fin.rev r) :=
  Fin.ext (by rw [Fin.val_rev]; show 2048 - (C.val * 128 + r.val + 1) = (15 - C.val) % 16 * 128 + (Fin.rev r).val; rw [Fin.val_rev]; omega)

variable (m : (ℓ : Loc nD τ sig) → Buf (Elt Ideal) ℓ)

section
variable (c : Dev nD) (t : Fin cfg0.N) (b : Fin 4) (q : Fin 8) (hb : b.val = t.val / 8) (hq : q.val = t.val % 8)
variable (l : Fin 512) (H : Fin 64) (hH : H.val = 8 * q.val + l.val / 64)
include hb hq hH

theorem fX (p : Fin 64) (hp : p.val = l.val % 64) (R : Fin 2048) : val_main_v4 (F := Ideal) (m ((c : Thread nD τ).loc main_arg0)) (ix4 b R H p)
    = (iblk m c 0 t : Vec Ideal S1x2048x512 .bf16) (ix3 0 R l) :=
  (v4_at _ b R H p ⟨512 * q.val + l.val, by omega⟩ (by show 512 * q.val + l.val = 64 * H.val + p.val; omega)).trans (blk0 m c t b q hb hq R l _ rfl).symm

theorem fB (R : Fin 2048) (n : Fin 128) : val_main_v10 (F := Ideal) (m ((c : Thread nD τ).loc main_arg0)) (ix4 b R H n)
    = (iblk m c 1 t : Vec Ideal S1x2048x128 .bf16) (ix3 0 R n) :=
  (v10_at _ b R H n ⟨4096 + 128 * q.val + n.val, by omega⟩ (by show 4096 + 128 * q.val + n.val = 4096 + 128 * (H.val / 8) + n.val; omega)).trans (blk1 m c t b q hb hq R n _ rfl).symm

theorem fC (R : Fin 2048) (n : Fin 128) : val_main_v12 (F := Ideal) (m ((c : Thread nD τ).loc main_arg0)) (ix4 b R H n)
    = (iblk m c 2 t : Vec Ideal S1x2048x128 .bf16) (ix3 0 R n) :=
  (v12_at _ b R H n ⟨5120 + 128 * q.val + n.val, by omega⟩ (by show 5120 + 128 * q.val + n.val = 5120 + 128 * (H.val / 8) + n.val; omega)).trans (blk2 m c t b q hb hq R n _ rfl).symm

theorem fD0 (R : Fin 2048) : val_main_v18 (F := Ideal) (m ((c : Thread nD τ).loc main_arg2)) (m ((c : Thread nD τ).loc main_arg3)) (ix4 0 b R H)
    = k0_pay76 (iblk m c 4 t : Vec Ideal S8x2048 .f32) (iblk m c 6 t : Vec Ideal S8x1 .f32) (ix2 (hd l) R) := by
  refine (v18_at _ _ b R 0 H ⟨H.val, by omega⟩ ⟨2048 * b.val + R.val, by omega⟩ (by show H.val = 64 * 0 + H.val; omega) rfl).trans ((pay76_apply _ _ (hd l) R).trans ?_).symm
  rw [blk4 m c t b q hb hq (hd l) R ⟨H.val, by omega⟩ ⟨2048 * b.val + R.val, by omega⟩ hH rfl, blk6 m c t q hq (hd l) H hH]

theorem fD1 (R : Fin 2048) : val_main_v18 (F := Ideal) (m ((c : Thread nD τ).loc main_arg2)) (m ((c : Thread nD τ).loc main_arg3)) (ix4 1 b R H)
    = k0_pay76 (iblk m c 5 t : Vec Ideal S8x2048 .f32) (iblk m c 7 t : Vec Ideal S8x1 .f32) (ix2 (hd l) R) := by
  refine (v18_at _ _ b R 1 H ⟨64 + H.val, by omega⟩ ⟨2048 * b.val + R.val, by omega⟩ (by show 64 + H.val = 64 * 1 + H.val; omega) rfl).trans ((pay76_apply _ _ (hd l) R).trans ?_).symm
  rw [blk5 m c t b q hb hq (hd l) R ⟨64 + H.val, by omega⟩ ⟨2048 * b.val + R.val, by omega⟩ (by show 64 + H.val = 64 + 8 * q.val + l.val / 64; omega) rfl, blk7 m c t q hq (hd l) H hH]

theorem fA0 (R : Fin 2048) : val_main_v23 (F := Ideal) (m ((c : Thread nD τ).loc main_arg2)) (m ((c : Thread nD τ).loc main_arg3)) (m ((c : Thread nD τ).loc main_arg4)) (ix4 0 b R H)
    = k0_pay77 (iblk m c 4 t : Vec Ideal S8x2048 .f32) (iblk m c 6 t : Vec Ideal S8x1 .f32) (iblk m c 8 t : Vec Ideal S8x1 .f32) (ix2 (hd l) R) := by
  refine (v23_at _ _ _ b R 0 H).trans ((pay77_apply _ _ _ (hd l) R).trans ?_).symm
  rw [fD0 m c t b q hb hq l H hH R, pay76_apply, blk8 m c t q hq (hd l) H hH]

theorem fA1 (R : Fin 2048) : val_main_v23 (F := Ideal) (m ((c : Thread nD τ).loc main_arg2)) (m ((c : Thread nD τ).loc main_arg3)) (m ((c : Thread nD τ).loc main_arg4)) (ix4 1 b R H)
    = k0_pay77 (iblk m c 5 t : Vec Ideal S8x2048 .f32) (iblk m c 7 t : Vec Ideal S8x1 .f32) (iblk m c 9 t : Vec Ideal S8x1 .f32) (ix2 (hd l) R) := by
  refine (v23_at _ _ _ b R 1 H).trans ((pay77_apply _ _ _ (hd l) R).trans ?_).symm
  rw [fD1 m c t b q hb hq l H hH R, pay76_apply, blk9 m c t q hq (hd l) H hH]

/-- The forward direction. -/
theorem forward (p : Fin 64) (hp : p.val = l.val % 64) (C : Fin 16) (r : Fin 128) :
    val_main_v229 (F := Ideal) (m ((c : Thread nD τ).loc main_arg0)) (m ((c : Thread nD τ).loc main_arg2)) (m ((c : Thread nD τ).loc main_arg3)) (m ((c : Thread nD τ).loc main_arg4)) (ix4 (eF b) (pos C r) H p)
    = dirY (Equiv.refl _) fw (aF (iblk m c 4 t) (iblk m c 6 t) (iblk m c 8 t)) (dF (iblk m c 4 t) (iblk m c 6 t)) (iblk m c 0 t) (iblk m c 1 t) (iblk m c 2 t) C.val r l := by
  refine (v229_at _ _ _ _ (eF b) C r H p).trans ?_
  refine Eq.trans ?_ (dirY_of (Equiv.refl _) fw _ _ _ _ _ l C.val r
    (fun k => rA (m ((c : Thread nD τ).loc main_arg2)) (m ((c : Thread nD τ).loc main_arg3)) (m ((c : Thread nD τ).loc main_arg4)) (eF b) (fw k) H)
    (fun k => rD (m ((c : Thread nD τ).loc main_arg2)) (m ((c : Thread nD τ).loc main_arg3)) (eF b) (fw k) H)
    (fun k => rX (m ((c : Thread nD τ).loc main_arg0)) (eF b) (fw k) H p)
    (fun k => rB (m ((c : Thread nD τ).loc main_arg0)) (eF b) (fw k) H)
    (fun k => rC (m ((c : Thread nD τ).loc main_arg0)) (eF b) (fw k) H) ?_ ?_ ?_ ?_ ?_)
  · dsimp only
    rw [fw_val C]
  · exact fun k s => (v37_at _ _ _ b (pos (fw k) s) H).1.trans (fA0 m c t b q hb hq l H hH _)
  · exact fun k s => (v31_at _ _ b (pos (fw k) s) H).1.trans (fD0 m c t b q hb hq l H hH _)
  · exact fun k s => (v25_at _ b (pos (fw k) s) H p).1.trans (fX m c t b q hb hq l H hH p hp _)
  · exact fun k s n => (v39_at _ b (pos (fw k) s) H n).1.trans (fB m c t b q hb hq l H hH _ n)
  · exact fun k s n => (v41_at _ b (pos (fw k) s) H n).1.trans (fC m c t b q hb hq l H hH _ n)

/-- The backward direction. -/
theorem backward (p : Fin 64) (hp : p.val = l.val % 64) (C : Fin 16) (r : Fin 128) :
    val_main_v229 (F := Ideal) (m ((c : Thread nD τ).loc main_arg0)) (m ((c : Thread nD τ).loc main_arg2)) (m ((c : Thread nD τ).loc main_arg3)) (m ((c : Thread nD τ).loc main_arg4)) (ix4 (eB b) (Fin.rev (pos C r)) H p)
    = dirY Fin.revPerm bw (aB (iblk m c 5 t) (iblk m c 7 t) (iblk m c 9 t)) (dB (iblk m c 5 t) (iblk m c 7 t)) (iblk m c 0 t) (iblk m c 1 t) (iblk m c 2 t) (15 - C.val) (Fin.revPerm r) l := by
  rw [rev_pos' C r]
  refine (v229_at _ _ _ _ (eB b) (fw (15 - C.val)) (Fin.rev r) H p).trans ?_
  refine Eq.trans ?_ (dirY_of Fin.revPerm bw _ _ _ _ _ l (15 - C.val) (Fin.revPerm r)
    (fun k => rA (m ((c : Thread nD τ).loc main_arg2)) (m ((c : Thread nD τ).loc main_arg3)) (m ((c : Thread nD τ).loc main_arg4)) (eB b) (fw k) H)
    (fun k => rD (m ((c : Thread nD τ).loc main_arg2)) (m ((c : Thread nD τ).loc main_arg3)) (eB b) (fw k) H)
    (fun k => rX (m ((c : Thread nD τ).loc main_arg0)) (eB b) (fw k) H p)
    (fun k => rB (m ((c : Thread nD τ).loc main_arg0)) (eB b) (fw k) H)
    (fun k => rC (m ((c : Thread nD τ).loc main_arg0)) (eB b) (fw k) H) ?_ ?_ ?_ ?_ ?_)
  · rw [show (fw (15 - C.val)).val = 15 - C.val from Nat.mod_eq_of_lt (by omega)]
    rfl
  · exact fun k s => (v37_at _ _ _ b (pos (fw k) s) H).2.trans ((fA1 m c t b q hb hq l H hH _).trans (by rw [rev_pos]; rfl))
  · exact fun k s => (v31_at _ _ b (pos (fw k) s) H).2.trans ((fD1 m c t b q hb hq l H hH _).trans (by rw [rev_pos]; rfl))
  · exact fun k s => (v25_at _ b (pos (fw k) s) H p).2.trans ((fX m c t b q hb hq l H hH p hp _).trans (by rw [rev_pos]; rfl))
  · exact fun k s n => (v39_at _ b (pos (fw k) s) H n).2.trans ((fB m c t b q hb hq l H hH _ n).trans (by rw [rev_pos]; rfl))
  · exact fun k s n => (v41_at _ b (pos (fw k) s) H n).2.trans ((fC m c t b q hb hq l H hH _ n).trans (by rw [rev_pos]; rfl))
end

/-- The results' arrays, as the reference computes them. -/
def G0 (c : Dev nD) : S4x2048x4096.Idx → EReal := val_main_v246 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
def G1 (c : Dev nD) : S4x2048x1024.Idx → EReal := val_main_v245 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

section
variable (c : Dev nD) (t : Fin cfg0.N) (b : Fin 4) (q : Fin 8) (hb : b.val = t.val / 8) (hq : q.val = t.val % 8)
include hb hq

/-- The reference's row. -/
theorem row_eq (C : Fin 16) (r : Fin 128) (l : Fin 512) (A : Fin 4096) (hA : A.val = 512 * q.val + l.val) :
    val_main_v241 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix3 b (pos C r) A)
    = rowOut (iblk m c 0 t) (iblk m c 1 t) (iblk m c 2 t) (iblk m c 3 t) (iblk m c 4 t) (iblk m c 5 t) (iblk m c 6 t) (iblk m c 7 t) (iblk m c 8 t) (iblk m c 9 t) (iblk m c 10 t) C r l := by
  obtain ⟨H, hH⟩ : ∃ H : Fin 64, H.val = 8 * q.val + l.val / 64 := ⟨⟨8 * q.val + l.val / 64, by omega⟩, rfl⟩
  obtain ⟨p, hp⟩ : ∃ p : Fin 64, p.val = l.val % 64 := ⟨⟨l.val % 64, by omega⟩, rfl⟩
  rw [Cert.ReferenceIdeal.Read.val_main_v241_apply, v239_at _ _ _ _ _ b (pos C r) H p A (by omega), v240_at _ b (pos C r) A ⟨A.val, by omega⟩ rfl,
    forward m c t b q hb hq l H hH p hp, backward m c t b q hb hq l H hH p hp, fX m c t b q hb hq l H hH p hp, ← blk3 m c t b q hb hq (pos C r) l ⟨A.val, by omega⟩ hA, ← blk10 m c t q hq l H hH, add_right_comm]
  rfl

theorem point0 (R : Fin 2048) (l : Fin 512) (A : Fin 4096) (hA : A.val = 512 * q.val + l.val) : (outsAt0 m c t).1 (ix3 0 R l) = G0 m c (ix3 b R A) := by
  obtain ⟨C, r, rfl⟩ := pos_surj R
  exact ((rows_at m c t C r).1 l).trans (row_eq m c t b q hb hq C r l A hA).symm

theorem point1 (R : Fin 2048) (j : Fin 128) (A : Fin 1024) (hA : A.val = 128 * q.val + j.val) : (outsAt0 m c t).2 (ix3 0 R j) = G1 m c (ix3 b R A) := by
  obtain ⟨C, r, rfl⟩ := pos_surj R
  exact ((rows_at m c t C r).2 j).trans (v245_at _ _ _ _ _ _ b (pos C r) q j A hA _ (fun l B hB => row_eq m c t b q hb hq C r l B hB)).symm
end

end Cert.Proof.Scan

end
-- ==== Proof.Scan.lean ====
/-
  THE SCAN'S CLAIM: the two results' arrays after the run are the reference's.
-/
module

public import proofs.«01_k».proof.Proof.ScanRow

@[expose] public section

set_option maxRecDepth 16384

noncomputable section

namespace Cert.Proof.Scan

open Idealize.ShloMosaic Idealize.ShloMosaic.TcCoe Idealize.ShloMosaic.Tactic Idealize.SL.Sem Cert.KernelIdeal Cert.KernelIdeal.Gen
open Cert.ReferenceIdeal.Read (val_main_v4 val_main_v10 val_main_v12 val_main_v18 val_main_v23 val_main_v229 val_main_v241 val_main_v245 val_main_v246)

variable (m : (ℓ : Loc nD τ sig) → Buf (Elt Ideal) ℓ)

theorem flushed11 (c : Dev nD) (t : Fin cfg0.N) : (dats m 0 c).flushed 11 t = (cfg0.win 11).cut (grid0.coords t) (outsAt0 m c t).1 := by
  show (cfg0.win 11).cut (grid0.coords t) ((dats m 0 c).after 11 t) = _
  rw [after0_11]

theorem flushed12 (c : Dev nD) (t : Fin cfg0.N) : (dats m 0 c).flushed 12 t = (cfg0.win 12).cut (grid0.coords t) (outsAt0 m c t).2 := by
  show (cfg0.win 12).cut (grid0.coords t) ((dats m 0 c).after 12 t) = _
  rw [after0_12]

theorem cut0 (t : Fin cfg0.N) (X : S1x2048x512.Idx → EReal) (Y : S4x2048x4096.Idx → EReal)
    (hX : ∀ (b : Fin 4) (q : Fin 8), b.val = t.val / 8 → q.val = t.val % 8 → ∀ (R : Fin 2048) (l : Fin 512) (A : Fin 4096), A.val = 512 * q.val + l.val → X (ix3 0 R l) = Y (ix3 b R A)) :
    (cfg0.win 11).cut (grid0.coords t) X = ((cfg0.win 11).blk t).view.read (Elt Ideal) Y := by
  funext y
  obtain ⟨r, l, rfl⟩ : ∃ (r : Fin 2048) (l : Fin 512), y = ix3 0 r l :=
    ⟨y 1, y 2, ext3 (by have : (y 0).val < 1 := (y 0).isLt; show (y 0).val = 0; omega) rfl rfl⟩
  have hN : cfg0.N = 32 := N_0
  have ht := t.isLt
  have hB : t.val / 8 < 4 := by omega
  have hA : 512 * (t.val % 8) + l.val < 4096 := by omega
  rw [View.read_apply]
  have e : ((cfg0.win 11).blk t).view.emb (ix3 0 r l) = ix3 (⟨_, hB⟩ : Fin 4) r (⟨_, hA⟩ : Fin 4096) := by
    obtain ⟨e0, e1, e2⟩ := idx11 t
    refine ext3 ?_ ?_ ?_
    · show win0_11.index t 0 * 1 + 1 * 0 = t.val / 8; rw [e0]; omega
    · show win0_11.index t 1 * 2048 + 1 * r.val = r.val; rw [e1]; omega
    · show win0_11.index t 2 * 512 + 1 * l.val = 512 * (t.val % 8) + l.val; rw [e2]; omega
  refine Eq.trans ?_ (congrArg Y e).symm
  exact hX _ ⟨t.val % 8, by omega⟩ rfl rfl r l _ rfl

theorem written0 (c : Dev nD) (t : Fin cfg0.N) : (dats m 0 c).flushed 11 t = ((cfg0.win 11).blk t).view.read (Elt Ideal) (G0 m c) :=
  (flushed11 m c t).trans (cut0 t _ _ fun b q hb hq => point0 m c t b q hb hq)

theorem cut1 (t : Fin cfg0.N) (X : S1x2048x128.Idx → EReal) (Y : S4x2048x1024.Idx → EReal)
    (hX : ∀ (b : Fin 4) (q : Fin 8), b.val = t.val / 8 → q.val = t.val % 8 → ∀ (R : Fin 2048) (l : Fin 128) (A : Fin 1024), A.val = 128 * q.val + l.val → X (ix3 0 R l) = Y (ix3 b R A)) :
    (cfg0.win 12).cut (grid0.coords t) X = ((cfg0.win 12).blk t).view.read (Elt Ideal) Y := by
  funext y
  obtain ⟨r, l, rfl⟩ : ∃ (r : Fin 2048) (l : Fin 128), y = ix3 0 r l :=
    ⟨y 1, y 2, ext3 (by have : (y 0).val < 1 := (y 0).isLt; show (y 0).val = 0; omega) rfl rfl⟩
  have hN : cfg0.N = 32 := N_0
  have ht := t.isLt
  have hB : t.val / 8 < 4 := by omega
  have hA : 128 * (t.val % 8) + l.val < 1024 := by omega
  rw [View.read_apply]
  have e : ((cfg0.win 12).blk t).view.emb (ix3 0 r l) = ix3 (⟨_, hB⟩ : Fin 4) r (⟨_, hA⟩ : Fin 1024) := by
    obtain ⟨e0, e1, e2⟩ := idx12 t
    refine ext3 ?_ ?_ ?_
    · show win0_12.index t 0 * 1 + 1 * 0 = t.val / 8; rw [e0]; omega
    · show win0_12.index t 1 * 2048 + 1 * r.val = r.val; rw [e1]; omega
    · show win0_12.index t 2 * 128 + 1 * l.val = 128 * (t.val % 8) + l.val; rw [e2]; omega
  refine Eq.trans ?_ (congrArg Y e).symm
  exact hX _ ⟨t.val % 8, by omega⟩ rfl rfl r l _ rfl

theorem written1 (c : Dev nD) (t : Fin cfg0.N) : (dats m 0 c).flushed 12 t = ((cfg0.win 12).blk t).view.read (Elt Ideal) (G1 m c) :=
  (flushed12 m c t).trans (cut1 t _ _ fun b q hb hq => point1 m c t b q hb hq)

theorem final0 (c : Dev nD) : (dats m 0 c).arrAt 11 cfg0.N = G0 m c :=
  (dats m 0 c).arrAt_eq_of_cover 11 (G0 m c) (fun t _ => written0 m c t) fun i => by
    have hN : cfg0.N = 32 := N_0
    have h0 : (i 0 : Nat) < 4 := (i 0).isLt
    have h1 : (i 1 : Nat) < 2048 := (i 1).isLt
    have h2 : (i 2 : Nat) < 4096 := (i 2).isLt
    have hn : (i 0 : Nat) * 8 + (i 2 : Nat) / 512 < cfg0.N := by omega
    refine ⟨⟨_, hn⟩, flush0_11 _, ?_⟩
    show i ∈ ((View.whole main_v7_0).slice (win0_11.rect ⟨_, hn⟩)).set
    rw [View.set_slice_whole, Rect.mem_set_unit]
    obtain ⟨e0, e1, e2⟩ := idx11 ⟨_, hn⟩
    intro a
    match a with
    | ⟨0, _⟩ =>
      show win0_11.index ⟨_, hn⟩ 0 * 1 ≤ (i 0 : Nat) ∧ (i 0 : Nat) < win0_11.index ⟨_, hn⟩ 0 * 1 + 1
      rw [e0]; simp only; omega
    | ⟨1, _⟩ =>
      show win0_11.index ⟨_, hn⟩ 1 * 2048 ≤ (i 1 : Nat) ∧ (i 1 : Nat) < win0_11.index ⟨_, hn⟩ 1 * 2048 + 2048
      rw [e1]; omega
    | ⟨2, _⟩ =>
      show win0_11.index ⟨_, hn⟩ 2 * 512 ≤ (i 2 : Nat) ∧ (i 2 : Nat) < win0_11.index ⟨_, hn⟩ 2 * 512 + 512
      rw [e2]; simp only; omega

theorem final1 (c : Dev nD) : (dats m 0 c).arrAt 12 cfg0.N = G1 m c :=
  (dats m 0 c).arrAt_eq_of_cover 12 (G1 m c) (fun t _ => written1 m c t) fun i => by
    have hN : cfg0.N = 32 := N_0
    have h0 : (i 0 : Nat) < 4 := (i 0).isLt
    have h1 : (i 1 : Nat) < 2048 := (i 1).isLt
    have h2 : (i 2 : Nat) < 1024 := (i 2).isLt
    have hn : (i 0 : Nat) * 8 + (i 2 : Nat) / 128 < cfg0.N := by omega
    refine ⟨⟨_, hn⟩, flush0_12 _, ?_⟩
    show i ∈ ((View.whole main_v7_1).slice (win0_12.rect ⟨_, hn⟩)).set
    rw [View.set_slice_whole, Rect.mem_set_unit]
    obtain ⟨e0, e1, e2⟩ := idx12 ⟨_, hn⟩
    intro a
    match a with
    | ⟨0, _⟩ =>
      show win0_12.index ⟨_, hn⟩ 0 * 1 ≤ (i 0 : Nat) ∧ (i 0 : Nat) < win0_12.index ⟨_, hn⟩ 0 * 1 + 1
      rw [e0]; simp only; omega
    | ⟨1, _⟩ =>
      show win0_12.index ⟨_, hn⟩ 1 * 2048 ≤ (i 1 : Nat) ∧ (i 1 : Nat) < win0_12.index ⟨_, hn⟩ 1 * 2048 + 2048
      rw [e1]; omega
    | ⟨2, _⟩ =>
      show win0_12.index ⟨_, hn⟩ 2 * 128 ≤ (i 2 : Nat) ∧ (i 2 : Nat) < win0_12.index ⟨_, hn⟩ 2 * 128 + 128
      rw [e2]; simp only; omega

theorem algebraic : Cert.algebraic_KernelIdeal_ReferenceIdeal := by
  intro m ρ m' ρ' _ h
  refine ⟨fun c => G0 m c, fun c => G1 m c, ?_, ?_⟩
  · refine (θ_run defs _ _).mono (fun r hr c => ?_) (θ_run_and (unchanged m ρ) (run_main m ρ))
    exact ⟨((hr.2 c).1 11).trans (final0 m c), ((hr.2 c).1 12).trans (final1 m c), hr.1 c⟩
  · refine (θ_run Cert.ReferenceIdeal.defs _ _).mono (fun r hr c => ?_) (Cert.ReferenceIdeal.Value.run (F := Ideal) m' ρ')
    obtain ⟨e0, e1, e2, e3, e4, e5⟩ := h c
    obtain ⟨h0, h1, hk⟩ := hr c
    refine ⟨h0.trans ((Cert.ReferenceIdeal.Read.val_main_v246_eq _).trans ?_), h1.trans ((Cert.ReferenceIdeal.Read.val_main_v245_eq _).trans ?_), hk⟩
    · show val_main_v246 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) = _
      rw [e0, e1, e2, e3, e4, e5]; rfl
    · show val_main_v245 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) = _
      rw [e0, e1, e2, e3, e4, e5]; rfl

end Cert.Proof.Scan

end
-- ==== Proof.InProj.lean ====
/-
  THE INPUT PROJECTION (the scan mixer's first call): its arrays after the run are the normalised rows times the weight's first 10240
  columns, and the next weight's first layer, which is what the reference computes.
-/
module

public import proofs.«01_k».proof.Proof.FfnRef
public import proofs.«01_k».proof.Proof.Gen.Kernel3Ideal.Value
public import proofs.«01_k».proof.Proof.Gen.Reference3Ideal.Read
public import proofs.«01_k».proof.Defs
public import Idealize.ShloMosaic.Lib.Quiescent

@[expose] public section

set_option maxRecDepth 16384

noncomputable section

namespace Cert.Proof.InProj

open Idealize.ShloMosaic Idealize.ShloMosaic.TcCoe Idealize.SL.Sem Cert.Kernel3Ideal Cert.Kernel3Ideal.Gen
open Cert.Proof.Ffn (ext2 z2 rms)

theorem z3 : (![0, 0, 0] : Fin 3 → Nat) = fun _ => 0 := funext fun a => by fin_cases a <;> rfl

theorem pay1_apply (x : Vec Ideal S1024x2048 .f32) (g : Vec Ideal S1x2048 .f32) (r : Fin 1024) (a : Fin 2048) :
    k0_pay1 (F := Ideal) x g (ix2 r a) = rms (fun b => x (ix2 r b)) (fun b => g (ix2 0 b)) a :=
  Ffn.pay2_apply x g r a

theorem pay2_apply (n : Vec Ideal S1024x2048 .bf16) (w : Vec Ideal S2048x1024 .bf16) (r : Fin 1024) (l : Fin 1024) :
    k0_pay2 (F := Ideal) n w (ix2 r l) = ∑ a : Fin 2048, n (ix2 r a) * w (ix2 a l) := by
  unfold_payloads
  pointwise [dot_S1024x2048_S2048x1024_S1024x1024_1_0_0_1_n_n]

theorem pay3_apply (w : Vec Ideal S1x64x2048 .f32) (r : Fin 64) (l : Fin 2048) :
    k0_pay3 (F := Ideal) w (ix2 r l) = w (ix3 0 r l) := by
  unfold_payloads
  pointwise

section
variable {F : FTy → Type} [FloatOps F]
variable (m : (ℓ : Loc nD τ sig) → Buf (Elt F) ℓ)

/-- The first column block of a row block: the rows are normalised and kept. -/
theorem at_first (c : Dev nD) (t : Fin cfg0.N) (h0 : t.val % 10 = 0) :
    outsAt0 m c t.val t.isLt
      = (k0_pay2 (k0_pay1 (iblk m c 0 t) (iblk m c 1 t)) (X0_2 m c t), k0_pay3 (iblk m c 3 t), k0_pay1 (iblk m c 0 t) (iblk m c 1 t)) := by
  rw [outsAt0_A m c t h0]
  refine Prod.ext ?_ (Prod.ext ?_ ?_)
  · dsimp only
    unfold out0_A_4
    rw [View.read_writes_eq_canon _ _ _ (fun _ => cover0_A_4 ..)]
    unfold kernelRun0_A
    dsimp only
    sl_unfold_words
    rw [View.canon_unit_zero (S := S1024x1024) z2]
    simp only [View.readCov_unit_zero (S := S1024x2048) _ z2, View.readAt_eq_ld, (hs0_0 t).read_unread, (hs0_1 t).read_unread,
      (hs0_2 t).read_unread, View.ld_unit_zero (S := S1024x2048) z2, View.ld_unit_zero (S := S1x2048) z2, View.ld_unit_zero (S := S2048x1024) z2]
  · dsimp only
    unfold out0_A_5
    rw [View.read_writes_eq_canon _ _ _ (fun _ => cover0_A_5 ..)]
    unfold kernelRun0_A
    dsimp only
    sl_unfold_words
    rw [View.canon_unit_zero (S := S64x2048) z2]
    simp only [View.readAt_eq_ld, (hs0_3 t).read_unread, View.ld_unit_zero (S := S1x64x2048) z3]
  · dsimp only
    unfold sout0_A_0
    rw [View.read_writes_eq_canon _ _ _ (fun _ => scover0_A_0 ..)]
    unfold kernelRun0_A
    dsimp only
    sl_unfold_words
    rw [View.canon_unit_zero (S := S1024x2048) z2]
    simp only [View.readAt_eq_ld, (hs0_0 t).read_unread, (hs0_1 t).read_unread, View.ld_unit_zero (S := S1024x2048) z2,
      View.ld_unit_zero (S := S1x2048) z2]

/-- A later column block: the kept rows are read. -/
theorem at_next (c : Dev nD) (t : Fin cfg0.N) (h0 : ¬t.val % 10 = 0)
    (prev : Vec F S1024x1024 .bf16 × Vec F S64x2048 .bf16 × Vec F S1024x2048 .bf16)
    (hp : outsAt0 m c (t.val - 1) (Nat.lt_of_le_of_lt (Nat.sub_le _ _) t.isLt) = prev) :
    outsAt0 m c t.val t.isLt = (k0_pay2 prev.2.2 (X0_2 m c t), k0_pay3 (iblk m c 3 t), prev.2.2) := by
  rw [outsAt0_B m c t h0, hp]
  refine Prod.ext ?_ (Prod.ext ?_ ?_)
  · dsimp only
    unfold out0_B_4
    rw [View.read_writes_eq_canon _ _ _ (fun _ => cover0_B_4 ..)]
    unfold kernelRun0_B
    dsimp only
    sl_unfold_words
    rw [View.canon_unit_zero (S := S1024x1024) z2]
    simp only [View.readAt_eq_ld, (Memref.isWhole_whole cc0_scratch0).read_unread, (hs0_2 t).read_unread,
      View.ld_unit_zero (S := S1024x2048) z2, View.ld_unit_zero (S := S2048x1024) z2]
  · dsimp only
    unfold out0_B_5
    rw [View.read_writes_eq_canon _ _ _ (fun _ => cover0_B_5 ..)]
    unfold kernelRun0_B
    dsimp only
    sl_unfold_words
    rw [View.canon_unit_zero (S := S64x2048) z2]
    simp only [View.readAt_eq_ld, (hs0_3 t).read_unread, View.ld_unit_zero (S := S1x64x2048) z3]
  · rfl

end

variable (m : (ℓ : Loc nD τ sig) → Buf (Elt Ideal) ℓ)

theorem idx0 : ∀ t : Fin grid0.N, win0_0.index t 0 = t.val / 10 ∧ win0_0.index t 1 = 0 := by decide +kernel
theorem idx1 : ∀ t : Fin grid0.N, win0_1.index t 0 = 0 ∧ win0_1.index t 1 = 0 := by decide +kernel
theorem idx2 : ∀ t : Fin grid0.N, win0_2.index t 0 = 0 ∧ win0_2.index t 1 = t.val % 10 := by decide +kernel
theorem idx3 : ∀ t : Fin grid0.N, win0_3.index t 0 = 0 ∧ win0_3.index t 1 = min t.val 63 ∧ win0_3.index t 2 = 0 := by decide +kernel
theorem idx4 : ∀ t : Fin grid0.N, win0_4.index t 0 = t.val / 10 ∧ win0_4.index t 1 = t.val % 10 := by decide +kernel
theorem idx5 : ∀ t : Fin grid0.N, win0_5.index t 0 = min t.val 63 ∧ win0_5.index t 1 = 0 := by decide +kernel
theorem flush5 : ∀ t : Fin grid0.N, (t.val < 63 ∨ t.val = 79) → (cfg0.win 5).flush t = true := by decide +kernel

theorem blk0 (c : Dev nD) (t : Fin cfg0.N) (r : Fin 1024) (a : Fin 2048) (R : Fin 8192) (hR : R.val = t.val / 10 * 1024 + r.val) :
    (iblk m c 0 t : Vec Ideal S1024x2048 .f32) (ix2 r a) = m ((c : Thread nD τ).loc main_arg0) (ix2 R a) := by
  rw [← V_main_arg0 m c]
  unfold iblk
  rw [View.read_apply]
  show V m c main_arg0 _ = V m c main_arg0 _
  refine congrArg _ (ext2 ?_ ?_)
  · show win0_0.index t 0 * 1024 + 1 * r.val = R.val; rw [(idx0 t).1]; omega
  · show win0_0.index t 1 * 2048 + 1 * a.val = a.val; rw [(idx0 t).2]; omega

theorem gain (c : Dev nD) (a : Fin 2048) :
    (V m c main_v0 : Vec Ideal S1x2048 .f32) (ix2 0 a) = m ((c : Thread nD τ).loc main_arg1) (ix1 a) := by
  have h : V m c main_v0 = shapeCast S1x2048 (m ((c : Thread nD τ).loc main_arg1)) shapeCasts_S2048_S1x2048 := by
    unfold V
    simp only [hostOps0, List.flatten_cons, List.flatten_nil, List.append_nil, List.cons_append, List.nil_append]
    after_results_simp <;> rfl
  rw [h]
  exact shapeCast_apply _ shapeCasts_S2048_S1x2048 _ _ (by decide +revert)

theorem blk1 (c : Dev nD) (t : Fin cfg0.N) (a : Fin 2048) :
    (iblk m c 1 t : Vec Ideal S1x2048 .f32) (ix2 0 a) = m ((c : Thread nD τ).loc main_arg1) (ix1 a) := by
  rw [← gain m c]
  unfold iblk
  rw [View.read_apply]
  show V m c main_v0 _ = V m c main_v0 _
  refine congrArg _ (ext2 ?_ ?_)
  · show win0_1.index t 0 * 1 + 1 * 0 = 0; rw [(idx1 t).1]
  · show win0_1.index t 1 * 2048 + 1 * a.val = a.val; rw [(idx1 t).2]; omega

theorem blk2 (c : Dev nD) (t : Fin cfg0.N) (a : Fin 2048) (l : Fin 1024) (L : Fin 10368) (hL : L.val = t.val % 10 * 1024 + l.val) :
    (X0_2 m c t : Vec Ideal S2048x1024 .bf16) (ix2 a l) = m ((c : Thread nD τ).loc main_arg2) (ix2 a L) := by
  rw [← V_main_arg2 m c]
  unfold X0_2 Pipeline.Window.fill
  rw [dif_pos (moved0_2 t _)]
  unfold iblk
  rw [View.read_apply]
  show V m c main_arg2 _ = V m c main_arg2 _
  refine congrArg _ (ext2 ?_ ?_)
  · show win0_2.index t 0 * 2048 + 1 * a.val = a.val; rw [(idx2 t).1]; omega
  · show win0_2.index t 1 * 1024 + 1 * l.val = L.val; rw [(idx2 t).2]; omega

theorem blk3 (c : Dev nD) (t : Fin cfg0.N) (r : Fin 64) (l : Fin 2048) (R : Fin 4096) (hR : R.val = min t.val 63 * 64 + r.val) :
    (iblk m c 3 t : Vec Ideal S1x64x2048 .f32) (ix3 0 r l) = m ((c : Thread nD τ).loc main_arg3) (ix3 0 R l) := by
  rw [← V_main_arg3 m c]
  unfold iblk
  rw [View.read_apply]
  show V m c main_arg3 _ = V m c main_arg3 _
  congr 1
  funext d
  apply Fin.ext
  obtain ⟨h0, h1, h2⟩ := idx3 t
  match d with
  | ⟨0, _⟩ => show win0_3.index t 0 * 1 + 1 * 0 = 0; rw [h0]
  | ⟨1, _⟩ => show win0_3.index t 1 * 64 + 1 * r.val = R.val; rw [h1]; omega
  | ⟨2, _⟩ => show win0_3.index t 2 * 2048 + 1 * l.val = l.val; rw [h2]; omega

/-- Row `R` normalised. -/
def nrow (c : Dev nD) (R : Fin 8192) (a : Fin 2048) : EReal :=
  rms (fun b => m ((c : Thread nD τ).loc main_arg0) (ix2 R b)) (fun b => m ((c : Thread nD τ).loc main_arg1) (ix1 b)) a

/-- At every point the kept rows are the row block's, normalised, and the first result's block is their product. -/
theorem at_point (c : Dev nD) (q : ℕ) (hq : q < 8) : ∀ (j : ℕ) (hj : j < 10) (hn : 10 * q + j < cfg0.N) (r : Fin 1024) (R : Fin 8192),
    R.val = q * 1024 + r.val →
    (∀ a, (outsAt0 m c (10 * q + j) hn).2.2 (ix2 r a) = nrow m c R a)
    ∧ ∀ (l : Fin 1024) (L : Fin 10368), L.val = j * 1024 + l.val → (outsAt0 m c (10 * q + j) hn).1 (ix2 r l)
        = ∑ a : Fin 2048, nrow m c R a * m ((c : Thread nD τ).loc main_arg2) (ix2 a L) := by
  intro j
  induction j with
  | zero =>
    intro hj hn r R hR
    have h0 : (⟨10 * q + 0, hn⟩ : Fin cfg0.N).val % 10 = 0 := by simp only; omega
    have hd : (⟨10 * q + 0, hn⟩ : Fin cfg0.N).val / 10 = q := by simp only; omega
    have e := at_first m c ⟨10 * q + 0, hn⟩ h0
    have hk : ∀ a, k0_pay1 (F := Ideal) (iblk m c 0 ⟨10 * q + 0, hn⟩) (iblk m c 1 ⟨10 * q + 0, hn⟩) (ix2 r a) = nrow m c R a := by
      intro a
      rw [pay1_apply]
      unfold nrow
      rw [funext fun a => blk0 m c _ r a R (by rw [hd]; exact hR), funext (blk1 m c _)]
    rw [e]
    refine ⟨hk, fun l L hL => ?_⟩
    show k0_pay2 _ _ (ix2 r l) = _
    rw [pay2_apply]
    refine Finset.sum_congr rfl fun a _ => ?_
    rw [hk, blk2 m c _ a l L (by rw [h0]; exact hL)]
  | succ j ih =>
    intro hj hn r R hR
    have hn' : 10 * q + j < cfg0.N := Nat.lt_of_succ_lt hn
    obtain ⟨ihn, -⟩ := ih (by omega) hn' r R hR
    have hm : (⟨10 * q + (j + 1), hn⟩ : Fin cfg0.N).val % 10 = j + 1 := by simp only; omega
    have e := at_next m c ⟨10 * q + (j + 1), hn⟩ (by rw [hm]; omega) (outsAt0 m c (10 * q + j) hn') rfl
    rw [e]
    refine ⟨ihn, fun l L hL => ?_⟩
    show k0_pay2 _ _ (ix2 r l) = _
    rw [pay2_apply]
    refine Finset.sum_congr rfl fun a _ => ?_
    rw [ihn, blk2 m c _ a l L (by rw [hm]; exact hL)]

/-- What every point writes of the cast weight, whichever its case. -/
theorem at_any (c : Dev nD) (t : Fin cfg0.N) : (outsAt0 m c t.val t.isLt).2.1 = k0_pay3 (iblk m c 3 t) := by
  by_cases h0 : t.val % 10 = 0
  · rw [at_first m c t h0]
  · rw [at_next m c t h0 _ rfl]

/-- The reference's results, of the kernel's arguments. -/
def G4 (c : Dev nD) : Buf (Elt Ideal) ((c : Thread nD τ).loc main_v1_0) :=
  Cert.Reference3Ideal.Read.val_main_v16 (F := Ideal) (m ((c : Thread nD τ).loc main_arg0)) (m ((c : Thread nD τ).loc main_arg1))
    (m ((c : Thread nD τ).loc main_arg2))

def G5 (c : Dev nD) : Buf (Elt Ideal) ((c : Thread nD τ).loc main_v1_1) :=
  Cert.Reference3Ideal.Read.val_main_v19 (F := Ideal) (m ((c : Thread nD τ).loc main_arg3))

open Cert.Reference3Ideal.Read in
theorem G4_apply (c : Dev nD) (R : Fin 8192) (L : Fin 10240) :
    G4 m c (ix2 R L) = ∑ a : Fin 2048, nrow m c R a
      * m ((c : Thread nD τ).loc main_arg2) (ix2 a (⟨L.val, L.isLt.trans (by decide)⟩ : Fin 10368)) := by
  unfold G4
  rw [val_main_v16_apply]
  show val_main_v15 (F := Ideal) _ _ _ _ = _
  rw [val_main_v15_apply]
  refine Finset.sum_congr rfl fun a _ => ?_
  rw [show lidx_main_v15 (ix2 R L) a = ix2 R a from ext2 rfl rfl, show ridx_main_v15 (ix2 R L) a = ix2 a L from ext2 rfl rfl,
    val_main_v14_apply, val_main_v13_apply]
  refine congrArg₂ (fun p q : EReal => p * q) (Ffn.ref_rms _ _ R a) ?_
  show m ((c : Thread nD τ).loc main_arg2) _ = _
  exact congrArg _ (ext2 rfl rfl)

open Cert.Reference3Ideal.Read in
theorem G5_apply (c : Dev nD) (R : Fin 4096) (L : Fin 2048) :
    G5 m c (ix2 R L) = m ((c : Thread nD τ).loc main_arg3) (ix3 0 R L) := by
  have hR := R.isLt
  have hL := L.isLt
  unfold G5
  rw [val_main_v19_apply, val_main_v18_apply, val_main_v17_apply]
  show m ((c : Thread nD τ).loc main_arg3) _ = _
  congr 1
  funext d
  apply Fin.ext
  match d with
  | ⟨0, _⟩ => rfl
  | ⟨1, _⟩ => show (R.val * 2048 + L.val) / 2048 % 4096 = R.val; omega
  | ⟨2, _⟩ => show (R.val * 2048 + L.val) % 2048 = L.val; omega

theorem written4 (c : Dev nD) (t : Fin cfg0.N) : (dats m 0 c).flushed 4 t = ((cfg0.win 4).blk t).view.read (Elt Ideal) (G4 m c) := by
  rw [Value.flushed4]
  funext y
  obtain ⟨r, l, rfl⟩ : ∃ (r : Fin 1024) (l : Fin 1024), y = ix2 r l := ⟨y 0, y 1, ext2 rfl rfl⟩
  have hN : cfg0.N = 80 := N_0
  have ht := t.isLt
  have hR : t.val / 10 * 1024 + r.val < 8192 := by have := r.isLt; omega
  have hL : t.val % 10 * 1024 + l.val < 10240 := by have := l.isLt; omega
  rw [View.read_apply]
  have e : ((cfg0.win 4).blk t).view.emb (ix2 r l) = ix2 (⟨_, hR⟩ : Fin 8192) (⟨_, hL⟩ : Fin 10240) := by
    refine ext2 ?_ ?_
    · show win0_4.index t 0 * 1024 + 1 * r.val = t.val / 10 * 1024 + r.val; rw [(idx4 t).1]; omega
    · show win0_4.index t 1 * 1024 + 1 * l.val = t.val % 10 * 1024 + l.val; rw [(idx4 t).2]; omega
  refine Eq.trans ?_ (congrArg (G4 m c) e).symm
  rw [G4_apply]
  show (outsAt0 m c t.val t.isLt).1 (ix2 r l) = _
  obtain ⟨n, hn⟩ := t
  obtain ⟨q, j, rfl, hj⟩ : ∃ q j, n = 10 * q + j ∧ j < 10 := ⟨n / 10, n % 10, by omega, by omega⟩
  exact (at_point m c q (by simp only at ht; omega) j hj hn r ⟨_, hR⟩ (by simp only; omega)).2 l _ (by simp only; omega)

theorem written5 (c : Dev nD) (t : Fin cfg0.N) : (dats m 0 c).flushed 5 t = ((cfg0.win 5).blk t).view.read (Elt Ideal) (G5 m c) := by
  rw [Value.flushed5, at_any]
  funext y
  obtain ⟨r, l, rfl⟩ : ∃ (r : Fin 64) (l : Fin 2048), y = ix2 r l := ⟨y 0, y 1, ext2 rfl rfl⟩
  have hR : min t.val 63 * 64 + r.val < 4096 := by have := r.isLt; omega
  rw [View.read_apply]
  have e : ((cfg0.win 5).blk t).view.emb (ix2 r l) = ix2 (⟨_, hR⟩ : Fin 4096) l := by
    refine ext2 ?_ ?_
    · show win0_5.index t 0 * 64 + 1 * r.val = min t.val 63 * 64 + r.val; rw [(idx5 t).1]; omega
    · show win0_5.index t 1 * 2048 + 1 * l.val = l.val; rw [(idx5 t).2]; omega
  refine Eq.trans ?_ (congrArg (G5 m c) e).symm
  rw [G5_apply]
  show k0_pay3 (F := Ideal) _ (ix2 r l) = _
  rw [pay3_apply, blk3 m c t r l ⟨_, hR⟩ rfl]

theorem final4 (c : Dev nD) : (dats m 0 c).arrAt 4 cfg0.N = G4 m c :=
  (dats m 0 c).arrAt_eq_of_cover 4 (G4 m c) (fun t _ => written4 m c t) fun i => by
    have hN : cfg0.N = 80 := N_0
    have h0 : (i 0 : Nat) < 8192 := (i 0).isLt
    have h1 : (i 1 : Nat) < 10240 := (i 1).isLt
    have hn : (i 0 : Nat) / 1024 * 10 + (i 1 : Nat) / 1024 < cfg0.N := by omega
    refine ⟨⟨_, hn⟩, flush0_4 _, ?_⟩
    show i ∈ ((View.whole main_v1_0).slice (win0_4.rect ⟨_, hn⟩)).set
    rw [View.set_slice_whole, Rect.mem_set_unit]
    intro a
    match a with
    | ⟨0, _⟩ =>
      show win0_4.index ⟨_, hn⟩ 0 * 1024 ≤ (i 0 : Nat) ∧ (i 0 : Nat) < win0_4.index ⟨_, hn⟩ 0 * 1024 + 1024
      rw [(idx4 _).1]; simp only; omega
    | ⟨1, _⟩ =>
      show win0_4.index ⟨_, hn⟩ 1 * 1024 ≤ (i 1 : Nat) ∧ (i 1 : Nat) < win0_4.index ⟨_, hn⟩ 1 * 1024 + 1024
      rw [(idx4 _).2]; simp only; omega

theorem final5 (c : Dev nD) : (dats m 0 c).arrAt 5 cfg0.N = G5 m c :=
  (dats m 0 c).arrAt_eq_of_cover 5 (G5 m c) (fun t _ => written5 m c t) fun i => by
    have hN : cfg0.N = 80 := N_0
    have h0 : (i 0 : Nat) < 4096 := (i 0).isLt
    have h1 : (i 1 : Nat) < 2048 := (i 1).isLt
    obtain ⟨n, hn, hf, hb⟩ : ∃ n, n < cfg0.N ∧ (n < 63 ∨ n = 79) ∧ min n 63 = (i 0 : Nat) / 64 := by
      by_cases hlt : (i 0 : Nat) / 64 < 63
      · exact ⟨(i 0 : Nat) / 64, by omega, Or.inl hlt, by omega⟩
      · exact ⟨79, by omega, Or.inr rfl, by omega⟩
    refine ⟨⟨n, hn⟩, flush5 ⟨n, hn⟩ hf, ?_⟩
    show i ∈ ((View.whole main_v1_1).slice (win0_5.rect ⟨n, hn⟩)).set
    rw [View.set_slice_whole, Rect.mem_set_unit]
    intro a
    match a with
    | ⟨0, _⟩ =>
      show win0_5.index ⟨n, hn⟩ 0 * 64 ≤ (i 0 : Nat) ∧ (i 0 : Nat) < win0_5.index ⟨n, hn⟩ 0 * 64 + 64
      rw [(idx5 _).1]; simp only; omega
    | ⟨1, _⟩ =>
      show win0_5.index ⟨n, hn⟩ 1 * 2048 ≤ (i 1 : Nat) ∧ (i 1 : Nat) < win0_5.index ⟨n, hn⟩ 1 * 2048 + 2048
      rw [(idx5 _).2]; omega

theorem algebraic : Cert.algebraic_Kernel3Ideal_Reference3Ideal := by
  intro m ρ m' ρ' _ h
  refine ⟨fun c => G4 m c, fun c => G5 m c, ?_, ?_⟩
  · refine (θ_run defs _ _).mono (fun r hr c => ?_) (Value.run_blocks m ρ)
    obtain ⟨h0, h1, hk⟩ := hr c
    exact ⟨h0.trans (final4 m c), h1.trans (final5 m c), hk⟩
  · refine (θ_run Cert.Reference3Ideal.defs _ _).mono (fun r hr c => ?_) (Cert.Reference3Ideal.Value.run (F := Ideal) m' ρ')
    obtain ⟨e0, e1, e2, e3⟩ := h c
    obtain ⟨h0, h1, hk⟩ := hr c
    refine ⟨h0.trans ((Cert.Reference3Ideal.Read.val_main_v16_eq _ _ _).trans ?_),
      h1.trans ((Cert.Reference3Ideal.Read.val_main_v19_eq _).trans ?_), hk⟩
    · rw [e0, e1, e2]; rfl
    · rw [e3]; rfl

theorem quiescent_reference : Cert.quiescent_Reference3Ideal :=
  fun m ρ _ => (θ_run Cert.Reference3Ideal.defs _ _).mono (fun r h => ⟨fun c => (h c).2.2,
    Idealize.ShloMosaic.sem_eq_zero_of_no_sems (by decide) r.2⟩) (Cert.Reference3Ideal.Value.run (F := Ideal) m ρ)

end Cert.Proof.InProj

end
-- ==== Proof.OutProj.lean ====
/-
  THE OUTPUT PROJECTION WITH ITS RESIDUAL (the last call of the pooling mixer): its array after the run is `x + v · w`, which is what the
  reference computes.
-/
module

public import proofs.«01_k».proof.Proof.FfnRef
public import proofs.«01_k».proof.Proof.Gen.Kernel4Ideal.Value
public import proofs.«01_k».proof.Proof.Gen.Reference4Ideal.Read
public import proofs.«01_k».proof.Defs
public import Idealize.ShloMosaic.Lib.Quiescent

@[expose] public section

set_option maxRecDepth 16384

noncomputable section

namespace Cert.Proof.OutProj

open Idealize.ShloMosaic Idealize.ShloMosaic.TcCoe Idealize.SL.Sem Cert.Kernel4Ideal Cert.Kernel4Ideal.Gen
open Cert.Proof.Ffn (ext2 z2)

theorem pay_apply (x : Vec Ideal S1024x512 .f32) (v : Vec Ideal S1024x2048 .bf16) (w : Vec Ideal S2048x512 .bf16) (r : Fin 1024) (l : Fin 512) :
    k0_pay1 (F := Ideal) x v w (ix2 r l) = (show EReal from x (ix2 r l)) + ∑ a : Fin 2048, v (ix2 r a) * w (ix2 a l) := by
  unfold_payloads
  pointwise [dot_S1024x2048_S2048x512_S1024x512_1_0_0_1_n_n]

variable (m : (ℓ : Loc nD τ sig) → Buf (Elt Ideal) ℓ)

theorem idx0 : ∀ t : Fin grid0.N, win0_0.index t 0 = t.val / 4 ∧ win0_0.index t 1 = 0 := by decide +kernel
theorem idx1 : ∀ t : Fin grid0.N, win0_1.index t 0 = 0 ∧ win0_1.index t 1 = t.val % 4 := by decide +kernel
theorem idx2 : ∀ t : Fin grid0.N, win0_2.index t 0 = t.val / 4 ∧ win0_2.index t 1 = t.val % 4 := by decide +kernel
theorem idx3 : ∀ t : Fin grid0.N, win0_3.index t 0 = t.val / 4 ∧ win0_3.index t 1 = t.val % 4 := by decide +kernel

theorem blk0 (c : Dev nD) (t : Fin cfg0.N) (r : Fin 1024) (a : Fin 2048) (R : Fin 8192) (hR : R.val = t.val / 4 * 1024 + r.val) :
    (iblk m c 0 t : Vec Ideal S1024x2048 .bf16) (ix2 r a) = m ((c : Thread nD τ).loc main_arg0) (ix2 R a) := by
  rw [← V_main_arg0 m c]
  unfold iblk
  rw [View.read_apply]
  show V m c main_arg0 _ = V m c main_arg0 _
  refine congrArg _ (ext2 ?_ ?_)
  · show win0_0.index t 0 * 1024 + 1 * r.val = R.val; rw [(idx0 t).1]; omega
  · show win0_0.index t 1 * 2048 + 1 * a.val = a.val; rw [(idx0 t).2]; omega

theorem blk1 (c : Dev nD) (t : Fin cfg0.N) (a : Fin 2048) (l : Fin 512) (L : Fin 2048) (hL : L.val = t.val % 4 * 512 + l.val) :
    (iblk m c 1 t : Vec Ideal S2048x512 .bf16) (ix2 a l) = m ((c : Thread nD τ).loc main_arg1) (ix2 a L) := by
  rw [← V_main_arg1 m c]
  unfold iblk
  rw [View.read_apply]
  show V m c main_arg1 _ = V m c main_arg1 _
  refine congrArg _ (ext2 ?_ ?_)
  · show win0_1.index t 0 * 2048 + 1 * a.val = a.val; rw [(idx1 t).1]; omega
  · show win0_1.index t 1 * 512 + 1 * l.val = L.val; rw [(idx1 t).2]; omega

theorem blk2 (c : Dev nD) (t : Fin cfg0.N) (r : Fin 1024) (l : Fin 512) (R : Fin 8192) (L : Fin 2048)
    (hR : R.val = t.val / 4 * 1024 + r.val) (hL : L.val = t.val % 4 * 512 + l.val) :
    (iblk m c 2 t : Vec Ideal S1024x512 .f32) (ix2 r l) = m ((c : Thread nD τ).loc main_arg2) (ix2 R L) := by
  rw [← V_main_arg2 m c]
  unfold iblk
  rw [View.read_apply]
  show V m c main_arg2 _ = V m c main_arg2 _
  refine congrArg _ (ext2 ?_ ?_)
  · show win0_2.index t 0 * 1024 + 1 * r.val = R.val; rw [(idx2 t).1]; omega
  · show win0_2.index t 1 * 512 + 1 * l.val = L.val; rw [(idx2 t).2]; omega

/-- The reference's result, of the kernel's arguments. -/
def G (c : Dev nD) : Buf (Elt Ideal) ((c : Thread nD τ).loc main_v0) :=
  Cert.Reference4Ideal.Read.val_main_v3 (F := Ideal) (m ((c : Thread nD τ).loc main_arg0)) (m ((c : Thread nD τ).loc main_arg1))
    (m ((c : Thread nD τ).loc main_arg2))

/-- The arguments' entries, as numbers. -/
abbrev vin (c : Dev nD) (R : Fin 8192) (a : Fin 2048) : EReal := m ((c : Thread nD τ).loc main_arg0) (ix2 R a)
abbrev win (c : Dev nD) (a : Fin 2048) (L : Fin 2048) : EReal := m ((c : Thread nD τ).loc main_arg1) (ix2 a L)
abbrev xin (c : Dev nD) (R : Fin 8192) (L : Fin 2048) : EReal := m ((c : Thread nD τ).loc main_arg2) (ix2 R L)

open Cert.Reference4Ideal.Read in
theorem G_apply (c : Dev nD) (R : Fin 8192) (L : Fin 2048) :
    G m c (ix2 R L) = xin m c R L + ∑ a : Fin 2048, vin m c R a * win m c a L := by
  unfold G
  rw [val_main_v3_apply, val_main_v2_apply]
  refine congrArg (fun s : EReal => xin m c _ _ + s) (Finset.sum_congr rfl fun a _ => ?_)
  rw [show lidx_main_v2 (ix2 R L) a = ix2 R a from ext2 rfl rfl, show ridx_main_v2 (ix2 R L) a = ix2 a L from ext2 rfl rfl]
  rfl

/-- What a grid point writes back is its block of the reference's result. -/
theorem flushed (c : Dev nD) (t : Fin cfg0.N) : (dats m 0 c).flushed 3 t = ((cfg0.win 3).blk t).view.read (Elt Ideal) (G m c) := by
  rw [Value.flushed3]
  funext y
  obtain ⟨r, l, rfl⟩ : ∃ (r : Fin 1024) (l : Fin 512), y = ix2 r l := ⟨y 0, y 1, ext2 rfl rfl⟩
  have hN : cfg0.N = 32 := N_0
  have ht := t.isLt
  have hR : t.val / 4 * 1024 + r.val < 8192 := by have := r.isLt; omega
  have hL : t.val % 4 * 512 + l.val < 2048 := by have := l.isLt; omega
  rw [View.read_apply]
  have e : ((cfg0.win 3).blk t).view.emb (ix2 r l) = ix2 (⟨_, hR⟩ : Fin 8192) (⟨_, hL⟩ : Fin 2048) := by
    refine ext2 ?_ ?_
    · show win0_3.index t 0 * 1024 + 1 * r.val = t.val / 4 * 1024 + r.val; rw [(idx3 t).1]; omega
    · show win0_3.index t 1 * 512 + 1 * l.val = t.val % 4 * 512 + l.val; rw [(idx3 t).2]; omega
  refine Eq.trans ?_ (congrArg (G m c) e).symm
  rw [G_apply]
  show out0_3 (iblk m c 0 t) (iblk m c 1 t) (iblk m c 2 t) (ix2 r l) = _
  unfold out0_3
  rw [View.canon_unit_zero (S := S1024x512) z2, View.ld_unit_zero (S := S1024x512) z2, View.ld_unit_zero (S := S1024x2048) z2,
    View.ld_unit_zero (S := S2048x512) z2, pay_apply, blk2 m c t r l ⟨_, hR⟩ ⟨_, hL⟩ rfl rfl]
  refine congrArg (fun s : EReal => xin m c _ _ + s) (Finset.sum_congr rfl fun a _ => ?_)
  rw [blk0 m c t r a ⟨_, hR⟩ rfl, blk1 m c t a l ⟨_, hL⟩ rfl]

/-- The array after the run. -/
theorem final (c : Dev nD) : (dats m 0 c).arrAt 3 cfg0.N = G m c :=
  (dats m 0 c).arrAt_eq_of_cover 3 (G m c) (fun t _ => flushed m c t) fun i => by
    have hN : cfg0.N = 32 := N_0
    have h0 : (i 0 : Nat) < 8192 := (i 0).isLt
    have h1 : (i 1 : Nat) < 2048 := (i 1).isLt
    have hn : (i 0 : Nat) / 1024 * 4 + (i 1 : Nat) / 512 < cfg0.N := by omega
    refine ⟨⟨_, hn⟩, flush0_3 _, ?_⟩
    show i ∈ ((View.whole main_v0).slice (win0_3.rect ⟨_, hn⟩)).set
    rw [View.set_slice_whole, Rect.mem_set_unit]
    intro a
    match a with
    | ⟨0, _⟩ =>
      show win0_3.index ⟨_, hn⟩ 0 * 1024 ≤ (i 0 : Nat) ∧ (i 0 : Nat) < win0_3.index ⟨_, hn⟩ 0 * 1024 + 1024
      rw [(idx3 _).1]; simp only; omega
    | ⟨1, _⟩ =>
      show win0_3.index ⟨_, hn⟩ 1 * 512 ≤ (i 1 : Nat) ∧ (i 1 : Nat) < win0_3.index ⟨_, hn⟩ 1 * 512 + 512
      rw [(idx3 _).2]; simp only; omega

theorem algebraic : Cert.algebraic_Kernel4Ideal_Reference4Ideal := by
  intro m ρ m' ρ' _ h
  refine ⟨fun c => G m c, ?_, ?_⟩
  · refine (θ_run defs _ _).mono (fun r hr c => ?_) (Value.run_blocks m ρ)
    obtain ⟨h0, hk⟩ := hr c
    exact ⟨h0.trans (final m c), hk⟩
  · refine (θ_run Cert.Reference4Ideal.defs _ _).mono (fun r hr c => ?_) (Cert.Reference4Ideal.Value.run (F := Ideal) m' ρ')
    obtain ⟨e0, e1, e2⟩ := h c
    obtain ⟨h0, hk⟩ := hr c
    refine ⟨h0.trans ((Cert.Reference4Ideal.Read.val_main_v3_eq _ _ _).trans ?_), hk⟩
    rw [e0, e1, e2]; rfl

theorem quiescent_reference : Cert.quiescent_Reference4Ideal :=
  fun m ρ _ => (θ_run Cert.Reference4Ideal.defs _ _).mono (fun r h => ⟨fun c => (h c).2,
    Idealize.ShloMosaic.sem_eq_zero_of_no_sems (by decide) r.2⟩) (Cert.Reference4Ideal.Value.run (F := Ideal) m ρ)

end Cert.Proof.OutProj

end
-- ==== Proof.NormOut.lean ====
/-
  THE GATED NORM WITH THE OUTPUT PROJECTION (the scan mixer's last call): its array after the run is `x + norm(y) · w`, which is what the
  reference computes. The rows are normalised 128 at a time by a counted loop, at the first column block of a row block.
-/
module

public import proofs.«01_k».proof.Proof.FfnRef
public import proofs.«01_k».proof.Proof.Gen.Kernel5Ideal.Value
public import proofs.«01_k».proof.Proof.Gen.Reference5Ideal.Read
public import proofs.«01_k».proof.Defs
public import Idealize.ShloMosaic.Lib.Quiescent

@[expose] public section

set_option maxRecDepth 16384

noncomputable section

namespace Cert.Proof.NormOut

open Idealize.ShloMosaic Idealize.ShloMosaic.TcCoe Idealize.SL.Sem Cert.Kernel5Ideal Cert.Kernel5Ideal.Gen
open Cert.Proof.Ffn (ext2 z2)

/-- Entry `a` of a row `y` of length 4096 normalised by the mean of the parts `s` of its squares, with gain `g`. -/
def gn (y : Fin 4096 → EReal) (s : Fin 1024 → EReal) (g : Fin 4096 → EReal) (a : Fin 4096) : EReal :=
  y a * Ideal.rsqrt ((∑ b, s b) * Ideal.ofBits .f32 0x39800000#32 + Ideal.ofBits .f32 0x358637BD#32) * g a

/-- The words of 4096 and of 1/4096: dividing by the one is multiplying by the other. -/
theorem ofBits_4096 : Ideal.ofBits .f32 0x45800000#32 = ((4096 : ℝ) : EReal) := by
  have h : ((8388608 : ℝ) : EReal) * ((1 / 2048 : ℝ) : EReal) = ((4096 : ℝ) : EReal) := by
    rw [← EReal.coe_mul]; norm_num
  simp [Ideal.ofBits, Ideal.ieee]
  norm_num
  exact h

theorem ofBits_inv : Ideal.ofBits .f32 0x39800000#32 = ((1 / 4096 : ℝ) : EReal) := by
  have h : ((8388608 : ℝ) : EReal) * ((1 / 34359738368 : ℝ) : EReal) = ((1 / 4096 : ℝ) : EReal) := by
    rw [← EReal.coe_mul]; norm_num
  simp [Ideal.ofBits, Ideal.ieee]
  norm_num
  exact h

theorem div_4096 (s : EReal) : Ideal.div s (Ideal.ofBits .f32 0x45800000#32) = s * Ideal.ofBits .f32 0x39800000#32 := by
  unfold Ideal.div
  rw [ofBits_4096, ofBits_inv, if_neg (by exact_mod_cast (by norm_num : (4096 : ℝ) ≠ 0)), one_div, EReal.coe_inv]

theorem pay1_apply (s : Vec Ideal S128x1024 .f32) (y : Vec Ideal S128x4096 .bf16) (g : Vec Ideal S1x4096 .f32) (r : Fin 128) (a : Fin 4096) :
    k0_pay1 (F := Ideal) s y g (ix2 r a) = gn (fun b => y (ix2 r b)) (fun b => s (ix2 r b)) (fun b => g (ix2 0 b)) a := by
  unfold gn
  unfold_payloads
  pointwise

theorem pay2_apply (x : Vec Ideal S1024x512 .f32) (n : Vec Ideal S1024x4096 .bf16) (w : Vec Ideal S4096x512 .bf16) (r : Fin 1024) (l : Fin 512) :
    k0_pay2 (F := Ideal) x n w (ix2 r l) = (show EReal from x (ix2 r l)) + ∑ a : Fin 4096, n (ix2 r a) * w (ix2 a l) := by
  unfold_payloads
  pointwise [dot_S1024x4096_S4096x512_S1024x512_1_0_0_1_n_n]

section
variable {F : FTy → Type} [FloatOps F]
variable (m : (ℓ : Loc nD τ sig) → Buf (Elt F) ℓ)

theorem trips8 : k0_t1_loop.trips = 8 := by decide +kernel
theorem off1 : ∀ k : Fin k0_t1_loop.trips, k0_off1 k 0 = 128 * k.val ∧ k0_off1 k 1 = 0 := by decide +kernel
theorem off2 : ∀ k : Fin k0_t1_loop.trips, k0_off2 k 0 = 128 * k.val ∧ k0_off2 k 1 = 0 := by decide +kernel

/-- The stores of the first `n` trips of the counted loop, at point `t`. -/
def stores (c : Dev nD) (t : Fin cfg0.N) (h0 : t.val % 4 = 0) (n : ℕ) : List (View.Piece (Elt F) S1024x4096 .bf16) :=
  pb_k0_t1 (F := F) Variants.none c none (grid0.coords t) (ms0_0 t) (hs0_0 t) (ms0_1 t) (hs0_1 t) (ms0_2 t) (hs0_2 t) (ms0_3 t) (hs0_3 t) (ms0_4 t) (hs0_4 t) (ms0_5 t) (hs0_5 t)
    scM0_0 (Memref.isWhole_whole _) ((hcond0_0 t).mpr h0) ((hs0_0 t).unread (iblk m c 0 t)) ((hs0_1 t).unread (iblk m c 1 t))
    ((hs0_2 t).unread (iblk m c 2 t)) n

/-- What the loop leaves in the scratch. -/
def kept (c : Dev nD) (t : Fin cfg0.N) (h0 : t.val % 4 = 0) : Vec F S1024x4096 .bf16 :=
  View.canon (stores m c t h0 k0_t1_loop.trips)

theorem in1 : ∀ (k : Fin k0_t1_loop.trips) (a : Fin 2), k0_off1 k a + S128x1024.size a ≤ S1024x1024.size a := by decide +kernel
theorem in2 : ∀ (k : Fin k0_t1_loop.trips) (a : Fin 2), k0_off2 k a + S128x4096.size a ≤ S1024x4096.size a := by decide +kernel

/-- Trip `k` stores rows `128 k` to `128 k + 127`. -/
theorem stores_succ (c : Dev nD) (t : Fin cfg0.N) (h0 : t.val % 4 = 0) (k : Fin k0_t1_loop.trips) :
    stores m c t h0 (k.val + 1)
      = ⟨Rect.unit (s := S1024x4096) (k0_off2 k) S128x4096.size (in2 k),
          k0_pay1 (View.ld (iblk m c 1 t) (Rect.unit (s := S1024x1024) (k0_off1 k) S128x1024.size (in1 k)))
            (View.ld (iblk m c 0 t) (Rect.unit (s := S1024x4096) (k0_off2 k) S128x4096.size (in2 k))) (iblk m c 2 t)⟩ :: stores m c t h0 k.val := by
  unfold stores
  rw [pb_k0_t1_succ]
  unfold tripL_k0_t1 trip_k0_t1
  dsimp only
  sl_unfold_words
  simp only [List.cons_append, List.nil_append, View.readAt_eq_ld, (hs0_0 t).read_unread, (hs0_1 t).read_unread, (hs0_2 t).read_unread,
    View.ld_unit_zero (S := S1x4096) z2]
  rfl

/-- The first column block of a row block: the rows are normalised, 128 at a time, and kept. -/
theorem at_first (c : Dev nD) (t : Fin cfg0.N) (h0 : t.val % 4 = 0) :
    outsAt0 m c t.val t.isLt = (k0_pay2 (iblk m c 4 t) (kept m c t h0) (iblk m c 3 t), kept m c t h0) := by
  rw [outsAt0_A m c t h0]
  refine Prod.ext ?_ ?_
  · dsimp only
    unfold out0_A_5
    rw [View.read_writes_eq_canon _ _ _ (fun _ => cover0_A_5 ..)]
    unfold kernelRun0_A
    dsimp only
    sl_unfold_words
    rw [View.canon_unit_zero (S := S1024x512) z2, View.readCov_eq_canon']
    simp only [View.readAt_eq_ld, (hs0_3 t).read_unread, (hs0_4 t).read_unread, View.ld_unit_zero (S := S1024x512) z2,
      View.ld_unit_zero (S := S4096x512) z2]
    refine congrArg (fun n => k0_pay2 (iblk m c 4 t) n (iblk m c 3 t)) ?_
    exact View.ld_unit_zero (S := S1024x4096) z2 _ (kept m c t h0)
  · dsimp only
    unfold sout0_A_0
    rw [View.read_writes_eq_canon _ _ _ (fun _ => scover0_A_0 ..)]
    unfold kernelRun0_A
    dsimp only
    rfl

/-- A later column block: the kept rows are read. -/
theorem at_next (c : Dev nD) (t : Fin cfg0.N) (h0 : ¬t.val % 4 = 0)
    (prev : Vec F S1024x512 .f32 × Vec F S1024x4096 .bf16)
    (hp : outsAt0 m c (t.val - 1) (Nat.lt_of_le_of_lt (Nat.sub_le _ _) t.isLt) = prev) :
    outsAt0 m c t.val t.isLt = (k0_pay2 (iblk m c 4 t) prev.2 (iblk m c 3 t), prev.2) := by
  rw [outsAt0_B m c t h0, hp]
  refine Prod.ext ?_ ?_
  · dsimp only
    unfold out0_B_5
    rw [View.read_writes_eq_canon _ _ _ (fun _ => cover0_B_5 ..)]
    unfold kernelRun0_B
    dsimp only
    sl_unfold_words
    rw [View.canon_unit_zero (S := S1024x512) z2]
    simp only [View.readAt_eq_ld, (Memref.isWhole_whole cc0_scratch0).read_unread, (hs0_3 t).read_unread, (hs0_4 t).read_unread,
      View.ld_unit_zero (S := S1024x4096) z2, View.ld_unit_zero (S := S4096x512) z2, View.ld_unit_zero (S := S1024x512) z2]
  · rfl

end

variable (m : (ℓ : Loc nD τ sig) → Buf (Elt Ideal) ℓ)

/-- A row that the trips before `n` have stored is that row of the block, normalised. -/
theorem stores_apply (c : Dev nD) (t : Fin cfg0.N) (h0 : t.val % 4 = 0) : ∀ (n : ℕ) (_ : n ≤ k0_t1_loop.trips) (r : Fin 1024) (a : Fin 4096),
    r.val < 128 * n → (View.canon (stores m c t h0 n) : Vec Ideal S1024x4096 .bf16) (ix2 r a)
      = gn (fun b => (iblk m c 0 t : Vec Ideal S1024x4096 .bf16) (ix2 r b)) (fun b => (iblk m c 1 t : Vec Ideal S1024x1024 .f32) (ix2 r b))
          (fun b => (iblk m c 2 t : Vec Ideal S1x4096 .f32) (ix2 0 b)) a := by
  intro n
  induction n with
  | zero => intro _ r a h; omega
  | succ n ih =>
    intro hn r a h
    have e := stores_succ (F := Ideal) m c t h0 ⟨n, hn⟩
    obtain ⟨o1, o1'⟩ := off1 ⟨n, hn⟩
    obtain ⟨o2, o2'⟩ := off2 ⟨n, hn⟩
    rw [show stores m c t h0 (n + 1) = _ from e]
    by_cases hr : 128 * n ≤ r.val
    · have hx : r.val - 128 * n < 128 := by omega
      have ee : (ix2 r a : S1024x4096.Idx) = (Rect.unit (s := S1024x4096) (k0_off2 ⟨n, hn⟩) S128x4096.size (in2 ⟨n, hn⟩)).emb (ix2 (⟨_, hx⟩ : Fin 128) a) := by
        refine ext2 ?_ ?_
        · show r.val = k0_off2 ⟨n, hn⟩ 0 + 1 * (r.val - 128 * n); rw [o2]; simp only; omega
        · show a.val = k0_off2 ⟨n, hn⟩ 1 + 1 * a.val; rw [o2']; omega
      rw [ee]
      refine (View.canon_cons_emb _ _ _ _).trans ?_
      refine (pay1_apply _ _ _ _ _).trans ?_
      congr 1
      · funext b
        refine congrArg (iblk m c 0 t : Vec Ideal S1024x4096 .bf16) (ext2 ?_ ?_)
        · show k0_off2 ⟨n, hn⟩ 0 + 1 * (r.val - 128 * n) = r.val; rw [o2]; simp only; omega
        · show k0_off2 ⟨n, hn⟩ 1 + 1 * b.val = b.val; rw [o2']; omega
      · funext b
        refine congrArg (iblk m c 1 t : Vec Ideal S1024x1024 .f32) (ext2 ?_ ?_)
        · show k0_off1 ⟨n, hn⟩ 0 + 1 * (r.val - 128 * n) = r.val; rw [o1]; simp only; omega
        · show k0_off1 ⟨n, hn⟩ 1 + 1 * b.val = b.val; rw [o1']; omega
    · refine (View.canon_cons_of_not_mem _ _ ?_).trans (ih (Nat.le_of_succ_le hn) r a (by omega))
      intro hm
      have h2 := (Rect.mem_set_unit.mp (show (ix2 r a : S1024x4096.Idx) ∈ (Rect.unit (s := S1024x4096) (k0_off2 ⟨n, hn⟩) S128x4096.size
        (in2 ⟨n, hn⟩)).set from hm)) 0
      have : k0_off2 ⟨n, hn⟩ 0 ≤ r.val := h2.1
      rw [o2] at this
      exact hr this

theorem kept_apply (c : Dev nD) (t : Fin cfg0.N) (h0 : t.val % 4 = 0) (r : Fin 1024) (a : Fin 4096) :
    kept m c t h0 (ix2 r a)
      = gn (fun b => (iblk m c 0 t : Vec Ideal S1024x4096 .bf16) (ix2 r b)) (fun b => (iblk m c 1 t : Vec Ideal S1024x1024 .f32) (ix2 r b))
          (fun b => (iblk m c 2 t : Vec Ideal S1x4096 .f32) (ix2 0 b)) a :=
  stores_apply m c t h0 _ le_rfl r a (by have := r.isLt; rw [trips8]; omega)

theorem idx0 : ∀ t : Fin grid0.N, win0_0.index t 0 = t.val / 4 ∧ win0_0.index t 1 = 0 := by decide +kernel
theorem idx1 : ∀ t : Fin grid0.N, win0_1.index t 0 = t.val / 4 ∧ win0_1.index t 1 = 0 := by decide +kernel
theorem idx2 : ∀ t : Fin grid0.N, win0_2.index t 0 = 0 ∧ win0_2.index t 1 = 0 := by decide +kernel
theorem idx3 : ∀ t : Fin grid0.N, win0_3.index t 0 = 0 ∧ win0_3.index t 1 = t.val % 4 := by decide +kernel
theorem idx4 : ∀ t : Fin grid0.N, win0_4.index t 0 = t.val / 4 ∧ win0_4.index t 1 = t.val % 4 := by decide +kernel
theorem idx5 : ∀ t : Fin grid0.N, win0_5.index t 0 = t.val / 4 ∧ win0_5.index t 1 = t.val % 4 := by decide +kernel

theorem blk0 (c : Dev nD) (t : Fin cfg0.N) (r : Fin 1024) (a : Fin 4096) (R : Fin 8192) (hR : R.val = t.val / 4 * 1024 + r.val) :
    (iblk m c 0 t : Vec Ideal S1024x4096 .bf16) (ix2 r a) = m ((c : Thread nD τ).loc main_arg0) (ix2 R a) := by
  rw [← V_main_arg0 m c]
  unfold iblk
  rw [View.read_apply]
  show V m c main_arg0 _ = V m c main_arg0 _
  refine congrArg _ (ext2 ?_ ?_)
  · show win0_0.index t 0 * 1024 + 1 * r.val = R.val; rw [(idx0 t).1]; omega
  · show win0_0.index t 1 * 4096 + 1 * a.val = a.val; rw [(idx0 t).2]; omega

theorem blk1 (c : Dev nD) (t : Fin cfg0.N) (r : Fin 1024) (a : Fin 1024) (R : Fin 8192) (hR : R.val = t.val / 4 * 1024 + r.val) :
    (iblk m c 1 t : Vec Ideal S1024x1024 .f32) (ix2 r a) = m ((c : Thread nD τ).loc main_arg1) (ix2 R a) := by
  rw [← V_main_arg1 m c]
  unfold iblk
  rw [View.read_apply]
  show V m c main_arg1 _ = V m c main_arg1 _
  refine congrArg _ (ext2 ?_ ?_)
  · show win0_1.index t 0 * 1024 + 1 * r.val = R.val; rw [(idx1 t).1]; omega
  · show win0_1.index t 1 * 1024 + 1 * a.val = a.val; rw [(idx1 t).2]; omega

theorem gain (c : Dev nD) (a : Fin 4096) :
    (V m c main_v0 : Vec Ideal S1x4096 .f32) (ix2 0 a) = m ((c : Thread nD τ).loc main_arg2) (ix1 a) := by
  have h : V m c main_v0 = shapeCast S1x4096 (m ((c : Thread nD τ).loc main_arg2)) shapeCasts_S4096_S1x4096 := by
    unfold V
    simp only [hostOps0, List.flatten_cons, List.flatten_nil, List.append_nil, List.cons_append, List.nil_append]
    after_results_simp <;> rfl
  rw [h]
  exact shapeCast_apply _ shapeCasts_S4096_S1x4096 _ _ (by decide +revert)

theorem blk2 (c : Dev nD) (t : Fin cfg0.N) (a : Fin 4096) :
    (iblk m c 2 t : Vec Ideal S1x4096 .f32) (ix2 0 a) = m ((c : Thread nD τ).loc main_arg2) (ix1 a) := by
  rw [← gain m c]
  unfold iblk
  rw [View.read_apply]
  show V m c main_v0 _ = V m c main_v0 _
  refine congrArg _ (ext2 ?_ ?_)
  · show win0_2.index t 0 * 1 + 1 * 0 = 0; rw [(idx2 t).1]
  · show win0_2.index t 1 * 4096 + 1 * a.val = a.val; rw [(idx2 t).2]; omega

theorem blk3 (c : Dev nD) (t : Fin cfg0.N) (a : Fin 4096) (l : Fin 512) (L : Fin 2048) (hL : L.val = t.val % 4 * 512 + l.val) :
    (iblk m c 3 t : Vec Ideal S4096x512 .bf16) (ix2 a l) = m ((c : Thread nD τ).loc main_arg3) (ix2 a L) := by
  rw [← V_main_arg3 m c]
  unfold iblk
  rw [View.read_apply]
  show V m c main_arg3 _ = V m c main_arg3 _
  refine congrArg _ (ext2 ?_ ?_)
  · show win0_3.index t 0 * 4096 + 1 * a.val = a.val; rw [(idx3 t).1]; omega
  · show win0_3.index t 1 * 512 + 1 * l.val = L.val; rw [(idx3 t).2]; omega

theorem blk4 (c : Dev nD) (t : Fin cfg0.N) (r : Fin 1024) (l : Fin 512) (R : Fin 8192) (L : Fin 2048)
    (hR : R.val = t.val / 4 * 1024 + r.val) (hL : L.val = t.val % 4 * 512 + l.val) :
    (iblk m c 4 t : Vec Ideal S1024x512 .f32) (ix2 r l) = m ((c : Thread nD τ).loc main_arg4) (ix2 R L) := by
  rw [← V_main_arg4 m c]
  unfold iblk
  rw [View.read_apply]
  show V m c main_arg4 _ = V m c main_arg4 _
  refine congrArg _ (ext2 ?_ ?_)
  · show win0_4.index t 0 * 1024 + 1 * r.val = R.val; rw [(idx4 t).1]; omega
  · show win0_4.index t 1 * 512 + 1 * l.val = L.val; rw [(idx4 t).2]; omega

/-- Row `R` normalised. -/
def nrow (c : Dev nD) (R : Fin 8192) (a : Fin 4096) : EReal :=
  gn (fun b => m ((c : Thread nD τ).loc main_arg0) (ix2 R b)) (fun b => m ((c : Thread nD τ).loc main_arg1) (ix2 R b))
    (fun b => m ((c : Thread nD τ).loc main_arg2) (ix1 b)) a

/-- The result at row `R`, column `L`. -/
def res (c : Dev nD) (R : Fin 8192) (L : Fin 2048) : EReal :=
  (show EReal from m ((c : Thread nD τ).loc main_arg4) (ix2 R L)) + ∑ a : Fin 4096, nrow m c R a * m ((c : Thread nD τ).loc main_arg3) (ix2 a L)

/-- At every point the kept rows are the row block's, normalised, and the result's block is `x` plus their product. -/
theorem at_point (c : Dev nD) (q : ℕ) (hq : q < 8) : ∀ (j : ℕ) (hj : j < 4) (hn : 4 * q + j < cfg0.N) (r : Fin 1024) (R : Fin 8192),
    R.val = q * 1024 + r.val →
    (∀ a, (outsAt0 m c (4 * q + j) hn).2 (ix2 r a) = nrow m c R a)
    ∧ ∀ (l : Fin 512) (L : Fin 2048), L.val = j * 512 + l.val → (outsAt0 m c (4 * q + j) hn).1 (ix2 r l) = res m c R L := by
  intro j
  induction j with
  | zero =>
    intro hj hn r R hR
    have h0 : (⟨4 * q + 0, hn⟩ : Fin cfg0.N).val % 4 = 0 := by simp only; omega
    have hd : (⟨4 * q + 0, hn⟩ : Fin cfg0.N).val / 4 = q := by simp only; omega
    have e := at_first m c ⟨4 * q + 0, hn⟩ h0
    have hk : ∀ a, kept m c ⟨4 * q + 0, hn⟩ h0 (ix2 r a) = nrow m c R a := by
      intro a
      rw [kept_apply]
      unfold nrow
      rw [funext fun a => blk0 m c _ r a R (by rw [hd]; exact hR), funext fun a => blk1 m c _ r a R (by rw [hd]; exact hR),
        funext (blk2 m c _)]
    rw [e]
    refine ⟨hk, fun l L hL => ?_⟩
    show k0_pay2 _ _ _ (ix2 r l) = _
    rw [pay2_apply, blk4 m c _ r l R L (by rw [hd]; exact hR) (by rw [h0]; exact hL)]
    refine congrArg (fun s : EReal => _ + s) (Finset.sum_congr rfl fun a _ => ?_)
    rw [hk, blk3 m c _ a l L (by rw [h0]; exact hL)]
  | succ j ih =>
    intro hj hn r R hR
    have hn' : 4 * q + j < cfg0.N := Nat.lt_of_succ_lt hn
    obtain ⟨ihn, -⟩ := ih (by omega) hn' r R hR
    have hm : (⟨4 * q + (j + 1), hn⟩ : Fin cfg0.N).val % 4 = j + 1 := by simp only; omega
    have hd : (⟨4 * q + (j + 1), hn⟩ : Fin cfg0.N).val / 4 = q := by simp only; omega
    have e := at_next m c ⟨4 * q + (j + 1), hn⟩ (by rw [hm]; omega) (outsAt0 m c (4 * q + j) hn') rfl
    rw [e]
    refine ⟨ihn, fun l L hL => ?_⟩
    show k0_pay2 _ _ _ (ix2 r l) = _
    rw [pay2_apply, blk4 m c _ r l R L (by rw [hd]; exact hR) (by rw [hm]; exact hL)]
    refine congrArg (fun s : EReal => _ + s) (Finset.sum_congr rfl fun a _ => ?_)
    rw [ihn, blk3 m c _ a l L (by rw [hm]; exact hL)]

open Cert.Reference5Ideal.Read in
/-- The reference's normalised rows. -/
theorem ref_gn (y : (⟨S8192x4096, .bf16⟩ : BufTy).Contents (Elt Ideal)) (s : (⟨S8192x1024, .f32⟩ : BufTy).Contents (Elt Ideal))
    (g : (⟨S4096, .f32⟩ : BufTy).Contents (Elt Ideal)) (R : Fin 8192) (a : Fin 4096) :
    val_main_v12 (F := Ideal) y s g (ix2 R a) = gn (fun b => y (ix2 R b)) (fun b => s (ix2 R b)) (fun b => g (ix1 b)) a := by
  rw [val_main_v12_apply, val_main_v9_apply, val_main_v8_apply, val_main_v7_apply, val_main_v6_apply, val_main_v5_apply,
    val_main_cst_1_apply, val_main_v4_apply, val_main_v3_apply, val_main_v2_apply, val_main_cst_0_apply, val_main_v1_apply,
    val_main_v0_apply, val_main_cst_apply, val_main_v11_apply, val_main_v10_apply]
  unfold gn
  have e1 : idx_main_v10 (idx_main_v11 (ix2 R a)) = ix1 a := by
    funext d
    match d with
    | ⟨0, _⟩ => rfl
  have e2 : ∀ k, idx_main_v0 (idx_main_v1 (idx_main_v8 (ix2 R a))) k = ix2 R k := fun k => ext2 rfl rfl
  rw [e1]
  simp only [e2]
  rw [← div_4096]
  show y (ix2 R a) * Ideal.rsqrt (Ideal.div (Ideal.ofBits .f32 0x00000000#32 + _) _ + _) * _ = _
  rw [Ffn.ofBits_zero, zero_add]
  rfl

/-- The reference's result, of the kernel's arguments. -/
def G (c : Dev nD) : Buf (Elt Ideal) ((c : Thread nD τ).loc main_v1) :=
  Cert.Reference5Ideal.Read.val_main_v15 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

open Cert.Reference5Ideal.Read in
theorem G_apply (c : Dev nD) (R : Fin 8192) (L : Fin 2048) : G m c (ix2 R L) = res m c R L := by
  unfold G res
  show val_main_v15 (F := Ideal) _ _ _ _ _ _ = _
  rw [val_main_v15_apply, val_main_v14_apply]
  refine congrArg (fun s : EReal => _ + s) (Finset.sum_congr rfl fun a _ => ?_)
  rw [show lidx_main_v14 (ix2 R L) a = ix2 R a from ext2 rfl rfl, show ridx_main_v14 (ix2 R L) a = ix2 a L from ext2 rfl rfl,
    val_main_v13_apply]
  exact congrArg₂ (fun p q : EReal => p * q) (ref_gn _ _ _ R a) rfl

theorem written (c : Dev nD) (t : Fin cfg0.N) : (dats m 0 c).flushed 5 t = ((cfg0.win 5).blk t).view.read (Elt Ideal) (G m c) := by
  rw [Value.flushed5]
  funext y
  obtain ⟨r, l, rfl⟩ : ∃ (r : Fin 1024) (l : Fin 512), y = ix2 r l := ⟨y 0, y 1, ext2 rfl rfl⟩
  have hN : cfg0.N = 32 := N_0
  have ht := t.isLt
  have hR : t.val / 4 * 1024 + r.val < 8192 := by have := r.isLt; omega
  have hL : t.val % 4 * 512 + l.val < 2048 := by have := l.isLt; omega
  rw [View.read_apply]
  have e : ((cfg0.win 5).blk t).view.emb (ix2 r l) = ix2 (⟨_, hR⟩ : Fin 8192) (⟨_, hL⟩ : Fin 2048) := by
    refine ext2 ?_ ?_
    · show win0_5.index t 0 * 1024 + 1 * r.val = t.val / 4 * 1024 + r.val; rw [(idx5 t).1]; omega
    · show win0_5.index t 1 * 512 + 1 * l.val = t.val % 4 * 512 + l.val; rw [(idx5 t).2]; omega
  refine Eq.trans ?_ (congrArg (G m c) e).symm
  rw [G_apply]
  show (outsAt0 m c t.val t.isLt).1 (ix2 r l) = _
  obtain ⟨n, hn⟩ := t
  obtain ⟨q, j, rfl, hj⟩ : ∃ q j, n = 4 * q + j ∧ j < 4 := ⟨n / 4, n % 4, by omega, by omega⟩
  exact (at_point m c q (by simp only at ht; omega) j hj hn r ⟨_, hR⟩ (by simp only; omega)).2 l _ (by simp only; omega)

theorem final (c : Dev nD) : (dats m 0 c).arrAt 5 cfg0.N = G m c :=
  (dats m 0 c).arrAt_eq_of_cover 5 (G m c) (fun t _ => written m c t) fun i => by
    have hN : cfg0.N = 32 := N_0
    have h0 : (i 0 : Nat) < 8192 := (i 0).isLt
    have h1 : (i 1 : Nat) < 2048 := (i 1).isLt
    have hn : (i 0 : Nat) / 1024 * 4 + (i 1 : Nat) / 512 < cfg0.N := by omega
    refine ⟨⟨_, hn⟩, flush0_5 _, ?_⟩
    show i ∈ ((View.whole main_v1).slice (win0_5.rect ⟨_, hn⟩)).set
    rw [View.set_slice_whole, Rect.mem_set_unit]
    intro a
    match a with
    | ⟨0, _⟩ =>
      show win0_5.index ⟨_, hn⟩ 0 * 1024 ≤ (i 0 : Nat) ∧ (i 0 : Nat) < win0_5.index ⟨_, hn⟩ 0 * 1024 + 1024
      rw [(idx5 _).1]; simp only; omega
    | ⟨1, _⟩ =>
      show win0_5.index ⟨_, hn⟩ 1 * 512 ≤ (i 1 : Nat) ∧ (i 1 : Nat) < win0_5.index ⟨_, hn⟩ 1 * 512 + 512
      rw [(idx5 _).2]; simp only; omega

theorem algebraic : Cert.algebraic_Kernel5Ideal_Reference5Ideal := by
  intro m ρ m' ρ' _ h
  refine ⟨fun c => G m c, ?_, ?_⟩
  · refine (θ_run defs _ _).mono (fun r hr c => ?_) (Value.run_blocks m ρ)
    obtain ⟨h0, hk⟩ := hr c
    exact ⟨h0.trans (final m c), hk⟩
  · refine (θ_run Cert.Reference5Ideal.defs _ _).mono (fun r hr c => ?_) (Cert.Reference5Ideal.Value.run (F := Ideal) m' ρ')
    obtain ⟨e0, e1, e2, e3, e4⟩ := h c
    obtain ⟨h0, hk⟩ := hr c
    refine ⟨h0.trans ((Cert.Reference5Ideal.Read.val_main_v15_eq _ _ _ _ _).trans ?_), hk⟩
    rw [e0, e1, e2, e3, e4]; rfl

theorem quiescent_reference : Cert.quiescent_Reference5Ideal :=
  fun m ρ _ => (θ_run Cert.Reference5Ideal.defs _ _).mono (fun r h => ⟨fun c => (h c).2,
    Idealize.ShloMosaic.sem_eq_zero_of_no_sems (by decide) r.2⟩) (Cert.Reference5Ideal.Value.run (F := Ideal) m ρ)

end Cert.Proof.NormOut

end
-- ==== Proof.PoolIn.lean ====
/-
  THE POOLING MIXER'S INPUT PROJECTION: its array after the run is the normalised rows times the weight, which is what the reference
  computes.
-/
module

public import proofs.«01_k».proof.Proof.FfnRef
public import proofs.«01_k».proof.Proof.Gen.Kernel6Ideal.Value
public import proofs.«01_k».proof.Proof.Gen.Reference6Ideal.Read
public import proofs.«01_k».proof.Defs
public import Idealize.ShloMosaic.Lib.Quiescent

@[expose] public section

set_option maxRecDepth 16384

noncomputable section

namespace Cert.Proof.PoolIn

open Idealize.ShloMosaic Idealize.ShloMosaic.TcCoe Idealize.SL.Sem Cert.Kernel6Ideal Cert.Kernel6Ideal.Gen
open Cert.Proof.Ffn (ext2 z2 rms)

theorem pay1_apply (x : Vec Ideal S1024x2048 .f32) (g : Vec Ideal S1x2048 .f32) (r : Fin 1024) (a : Fin 2048) :
    k0_pay1 (F := Ideal) x g (ix2 r a) = rms (fun b => x (ix2 r b)) (fun b => g (ix2 0 b)) a :=
  Ffn.pay2_apply x g r a

theorem pay2_apply (n : Vec Ideal S1024x2048 .bf16) (w : Vec Ideal S2048x1024 .bf16) (r : Fin 1024) (l : Fin 1024) :
    k0_pay2 (F := Ideal) n w (ix2 r l) = ∑ a : Fin 2048, n (ix2 r a) * w (ix2 a l) := by
  unfold_payloads
  pointwise [dot_S1024x2048_S2048x1024_S1024x1024_1_0_0_1_n_n]

section
variable {F : FTy → Type} [FloatOps F]
variable (m : (ℓ : Loc nD τ sig) → Buf (Elt F) ℓ)

/-- The first column block of a row block: the rows are normalised and kept. -/
theorem at_first (c : Dev nD) (t : Fin cfg0.N) (h0 : t.val % 2 = 0) :
    outsAt0 m c t.val t.isLt
      = (k0_pay2 (k0_pay1 (iblk m c 0 t) (iblk m c 1 t)) (iblk m c 2 t), k0_pay1 (iblk m c 0 t) (iblk m c 1 t)) := by
  rw [outsAt0_A m c t h0]
  refine Prod.ext ?_ ?_
  · dsimp only
    unfold out0_A_3
    rw [View.read_writes_eq_canon _ _ _ (fun _ => cover0_A_3 ..)]
    unfold kernelRun0_A
    dsimp only
    sl_unfold_words
    rw [View.canon_unit_zero (S := S1024x1024) z2]
    simp only [View.readCov_unit_zero (S := S1024x2048) _ z2, View.readAt_eq_ld, (hs0_0 t).read_unread, (hs0_1 t).read_unread,
      (hs0_2 t).read_unread, View.ld_unit_zero (S := S1024x2048) z2, View.ld_unit_zero (S := S1x2048) z2, View.ld_unit_zero (S := S2048x1024) z2]
  · dsimp only
    unfold sout0_A_0
    rw [View.read_writes_eq_canon _ _ _ (fun _ => scover0_A_0 ..)]
    unfold kernelRun0_A
    dsimp only
    sl_unfold_words
    rw [View.canon_unit_zero (S := S1024x2048) z2]
    simp only [View.readAt_eq_ld, (hs0_0 t).read_unread, (hs0_1 t).read_unread, View.ld_unit_zero (S := S1024x2048) z2,
      View.ld_unit_zero (S := S1x2048) z2]

/-- A later column block: the kept rows are read. -/
theorem at_next (c : Dev nD) (t : Fin cfg0.N) (h0 : ¬t.val % 2 = 0)
    (prev : Vec F S1024x1024 .f32 × Vec F S1024x2048 .bf16)
    (hp : outsAt0 m c (t.val - 1) (Nat.lt_of_le_of_lt (Nat.sub_le _ _) t.isLt) = prev) :
    outsAt0 m c t.val t.isLt = (k0_pay2 prev.2 (iblk m c 2 t), prev.2) := by
  rw [outsAt0_B m c t h0, hp]
  refine Prod.ext ?_ ?_
  · dsimp only
    unfold out0_B_3
    rw [View.read_writes_eq_canon _ _ _ (fun _ => cover0_B_3 ..)]
    unfold kernelRun0_B
    dsimp only
    sl_unfold_words
    rw [View.canon_unit_zero (S := S1024x1024) z2]
    simp only [View.readAt_eq_ld, (Memref.isWhole_whole cc0_scratch0).read_unread, (hs0_2 t).read_unread,
      View.ld_unit_zero (S := S1024x2048) z2, View.ld_unit_zero (S := S2048x1024) z2]
  · rfl

end

variable (m : (ℓ : Loc nD τ sig) → Buf (Elt Ideal) ℓ)

theorem idx0 : ∀ t : Fin grid0.N, win0_0.index t 0 = t.val / 2 ∧ win0_0.index t 1 = 0 := by decide +kernel
theorem idx1 : ∀ t : Fin grid0.N, win0_1.index t 0 = 0 ∧ win0_1.index t 1 = 0 := by decide +kernel
theorem idx2 : ∀ t : Fin grid0.N, win0_2.index t 0 = 0 ∧ win0_2.index t 1 = t.val % 2 := by decide +kernel
theorem idx3 : ∀ t : Fin grid0.N, win0_3.index t 0 = t.val / 2 ∧ win0_3.index t 1 = t.val % 2 := by decide +kernel

theorem blk0 (c : Dev nD) (t : Fin cfg0.N) (r : Fin 1024) (a : Fin 2048) (R : Fin 8192) (hR : R.val = t.val / 2 * 1024 + r.val) :
    (iblk m c 0 t : Vec Ideal S1024x2048 .f32) (ix2 r a) = m ((c : Thread nD τ).loc main_arg0) (ix2 R a) := by
  rw [← V_main_arg0 m c]
  unfold iblk
  rw [View.read_apply]
  show V m c main_arg0 _ = V m c main_arg0 _
  refine congrArg _ (ext2 ?_ ?_)
  · show win0_0.index t 0 * 1024 + 1 * r.val = R.val; rw [(idx0 t).1]; omega
  · show win0_0.index t 1 * 2048 + 1 * a.val = a.val; rw [(idx0 t).2]; omega

theorem gain (c : Dev nD) (a : Fin 2048) :
    (V m c main_v0 : Vec Ideal S1x2048 .f32) (ix2 0 a) = m ((c : Thread nD τ).loc main_arg1) (ix1 a) := by
  have h : V m c main_v0 = shapeCast S1x2048 (m ((c : Thread nD τ).loc main_arg1)) shapeCasts_S2048_S1x2048 := by
    unfold V
    simp only [hostOps0, List.flatten_cons, List.flatten_nil, List.append_nil, List.cons_append, List.nil_append]
    after_results_simp <;> rfl
  rw [h]
  exact shapeCast_apply _ shapeCasts_S2048_S1x2048 _ _ (by decide +revert)

theorem blk1 (c : Dev nD) (t : Fin cfg0.N) (a : Fin 2048) :
    (iblk m c 1 t : Vec Ideal S1x2048 .f32) (ix2 0 a) = m ((c : Thread nD τ).loc main_arg1) (ix1 a) := by
  rw [← gain m c]
  unfold iblk
  rw [View.read_apply]
  show V m c main_v0 _ = V m c main_v0 _
  refine congrArg _ (ext2 ?_ ?_)
  · show win0_1.index t 0 * 1 + 1 * 0 = 0; rw [(idx1 t).1]
  · show win0_1.index t 1 * 2048 + 1 * a.val = a.val; rw [(idx1 t).2]; omega

theorem blk2 (c : Dev nD) (t : Fin cfg0.N) (a : Fin 2048) (l : Fin 1024) (L : Fin 2048) (hL : L.val = t.val % 2 * 1024 + l.val) :
    (iblk m c 2 t : Vec Ideal S2048x1024 .bf16) (ix2 a l) = m ((c : Thread nD τ).loc main_arg2) (ix2 a L) := by
  rw [← V_main_arg2 m c]
  unfold iblk
  rw [View.read_apply]
  show V m c main_arg2 _ = V m c main_arg2 _
  refine congrArg _ (ext2 ?_ ?_)
  · show win0_2.index t 0 * 2048 + 1 * a.val = a.val; rw [(idx2 t).1]; omega
  · show win0_2.index t 1 * 1024 + 1 * l.val = L.val; rw [(idx2 t).2]; omega

/-- Row `R` normalised. -/
def nrow (c : Dev nD) (R : Fin 8192) (a : Fin 2048) : EReal :=
  rms (fun b => m ((c : Thread nD τ).loc main_arg0) (ix2 R b)) (fun b => m ((c : Thread nD τ).loc main_arg1) (ix1 b)) a

/-- At every point the kept rows are the row block's, normalised, and the result's block is their product. -/
theorem at_point (c : Dev nD) (q : ℕ) (hq : q < 8) : ∀ (j : ℕ) (hj : j < 2) (hn : 2 * q + j < cfg0.N) (r : Fin 1024) (R : Fin 8192),
    R.val = q * 1024 + r.val →
    (∀ a, (outsAt0 m c (2 * q + j) hn).2 (ix2 r a) = nrow m c R a)
    ∧ ∀ (l : Fin 1024) (L : Fin 2048), L.val = j * 1024 + l.val → (outsAt0 m c (2 * q + j) hn).1 (ix2 r l)
        = ∑ a : Fin 2048, nrow m c R a * m ((c : Thread nD τ).loc main_arg2) (ix2 a L) := by
  intro j
  induction j with
  | zero =>
    intro hj hn r R hR
    have h0 : (⟨2 * q + 0, hn⟩ : Fin cfg0.N).val % 2 = 0 := by simp only; omega
    have hd : (⟨2 * q + 0, hn⟩ : Fin cfg0.N).val / 2 = q := by simp only; omega
    have e := at_first m c ⟨2 * q + 0, hn⟩ h0
    have hk : ∀ a, k0_pay1 (F := Ideal) (iblk m c 0 ⟨2 * q + 0, hn⟩) (iblk m c 1 ⟨2 * q + 0, hn⟩) (ix2 r a) = nrow m c R a := by
      intro a
      rw [pay1_apply]
      unfold nrow
      rw [funext fun a => blk0 m c _ r a R (by rw [hd]; exact hR), funext (blk1 m c _)]
    rw [e]
    refine ⟨hk, fun l L hL => ?_⟩
    show k0_pay2 _ _ (ix2 r l) = _
    rw [pay2_apply]
    refine Finset.sum_congr rfl fun a _ => ?_
    rw [hk, blk2 m c _ a l L (by rw [h0]; exact hL)]
  | succ j ih =>
    intro hj hn r R hR
    have hn' : 2 * q + j < cfg0.N := Nat.lt_of_succ_lt hn
    obtain ⟨ihn, -⟩ := ih (by omega) hn' r R hR
    have hm : (⟨2 * q + (j + 1), hn⟩ : Fin cfg0.N).val % 2 = j + 1 := by simp only; omega
    have e := at_next m c ⟨2 * q + (j + 1), hn⟩ (by rw [hm]; omega) (outsAt0 m c (2 * q + j) hn') rfl
    rw [e]
    refine ⟨ihn, fun l L hL => ?_⟩
    show k0_pay2 _ _ (ix2 r l) = _
    rw [pay2_apply]
    refine Finset.sum_congr rfl fun a _ => ?_
    rw [ihn, blk2 m c _ a l L (by rw [hm]; exact hL)]

/-- The reference's result, of the kernel's arguments. -/
def G (c : Dev nD) : Buf (Elt Ideal) ((c : Thread nD τ).loc main_v1) :=
  Cert.Reference6Ideal.Read.val_main_v14 (F := Ideal) (m ((c : Thread nD τ).loc main_arg0)) (m ((c : Thread nD τ).loc main_arg1))
    (m ((c : Thread nD τ).loc main_arg2))

open Cert.Reference6Ideal.Read in
theorem G_apply (c : Dev nD) (R : Fin 8192) (L : Fin 2048) :
    G m c (ix2 R L) = ∑ a : Fin 2048, nrow m c R a * m ((c : Thread nD τ).loc main_arg2) (ix2 a L) := by
  unfold G
  show val_main_v14 (F := Ideal) _ _ _ _ = _
  rw [val_main_v14_apply]
  refine Finset.sum_congr rfl fun a _ => ?_
  rw [show lidx_main_v14 (ix2 R L) a = ix2 R a from ext2 rfl rfl, show ridx_main_v14 (ix2 R L) a = ix2 a L from ext2 rfl rfl,
    val_main_v13_apply]
  exact congrArg₂ (fun p q : EReal => p * q) (Ffn.ref_rms _ _ R a) rfl

theorem written (c : Dev nD) (t : Fin cfg0.N) : (dats m 0 c).flushed 3 t = ((cfg0.win 3).blk t).view.read (Elt Ideal) (G m c) := by
  rw [Value.flushed3]
  funext y
  obtain ⟨r, l, rfl⟩ : ∃ (r : Fin 1024) (l : Fin 1024), y = ix2 r l := ⟨y 0, y 1, ext2 rfl rfl⟩
  have hN : cfg0.N = 16 := N_0
  have ht := t.isLt
  have hR : t.val / 2 * 1024 + r.val < 8192 := by have := r.isLt; omega
  have hL : t.val % 2 * 1024 + l.val < 2048 := by have := l.isLt; omega
  rw [View.read_apply]
  have e : ((cfg0.win 3).blk t).view.emb (ix2 r l) = ix2 (⟨_, hR⟩ : Fin 8192) (⟨_, hL⟩ : Fin 2048) := by
    refine ext2 ?_ ?_
    · show win0_3.index t 0 * 1024 + 1 * r.val = t.val / 2 * 1024 + r.val; rw [(idx3 t).1]; omega
    · show win0_3.index t 1 * 1024 + 1 * l.val = t.val % 2 * 1024 + l.val; rw [(idx3 t).2]; omega
  refine Eq.trans ?_ (congrArg (G m c) e).symm
  rw [G_apply]
  show (outsAt0 m c t.val t.isLt).1 (ix2 r l) = _
  obtain ⟨n, hn⟩ := t
  obtain ⟨q, j, rfl, hj⟩ : ∃ q j, n = 2 * q + j ∧ j < 2 := ⟨n / 2, n % 2, by omega, by omega⟩
  exact (at_point m c q (by simp only at ht; omega) j hj hn r ⟨_, hR⟩ (by simp only; omega)).2 l _ (by simp only; omega)

theorem final (c : Dev nD) : (dats m 0 c).arrAt 3 cfg0.N = G m c :=
  (dats m 0 c).arrAt_eq_of_cover 3 (G m c) (fun t _ => written m c t) fun i => by
    have hN : cfg0.N = 16 := N_0
    have h0 : (i 0 : Nat) < 8192 := (i 0).isLt
    have h1 : (i 1 : Nat) < 2048 := (i 1).isLt
    have hn : (i 0 : Nat) / 1024 * 2 + (i 1 : Nat) / 1024 < cfg0.N := by omega
    refine ⟨⟨_, hn⟩, flush0_3 _, ?_⟩
    show i ∈ ((View.whole main_v1).slice (win0_3.rect ⟨_, hn⟩)).set
    rw [View.set_slice_whole, Rect.mem_set_unit]
    intro a
    match a with
    | ⟨0, _⟩ =>
      show win0_3.index ⟨_, hn⟩ 0 * 1024 ≤ (i 0 : Nat) ∧ (i 0 : Nat) < win0_3.index ⟨_, hn⟩ 0 * 1024 + 1024
      rw [(idx3 _).1]; simp only; omega
    | ⟨1, _⟩ =>
      show win0_3.index ⟨_, hn⟩ 1 * 1024 ≤ (i 1 : Nat) ∧ (i 1 : Nat) < win0_3.index ⟨_, hn⟩ 1 * 1024 + 1024
      rw [(idx3 _).2]; simp only; omega

theorem algebraic : Cert.algebraic_Kernel6Ideal_Reference6Ideal := by
  intro m ρ m' ρ' _ h
  refine ⟨fun c => G m c, ?_, ?_⟩
  · refine (θ_run defs _ _).mono (fun r hr c => ?_) (Value.run_blocks m ρ)
    obtain ⟨h0, hk⟩ := hr c
    exact ⟨h0.trans (final m c), hk⟩
  · refine (θ_run Cert.Reference6Ideal.defs _ _).mono (fun r hr c => ?_) (Cert.Reference6Ideal.Value.run (F := Ideal) m' ρ')
    obtain ⟨e0, e1, e2⟩ := h c
    obtain ⟨h0, hk⟩ := hr c
    refine ⟨h0.trans ((Cert.Reference6Ideal.Read.val_main_v14_eq _ _ _).trans ?_), hk⟩
    rw [e0, e1, e2]; rfl

theorem quiescent_reference : Cert.quiescent_Reference6Ideal :=
  fun m ρ _ => (θ_run Cert.Reference6Ideal.defs _ _).mono (fun r h => ⟨fun c => (h c).2,
    Idealize.ShloMosaic.sem_eq_zero_of_no_sems (by decide) r.2⟩) (Cert.Reference6Ideal.Value.run (F := Ideal) m ρ)

end Cert.Proof.PoolIn

end
-- ==== Proof.DtProj.lean ====
/-
  THE STEP SIZES' PROJECTION (the scan mixer's second call): its array after the run is the transpose of the normalised rows times the
  weight, which is what the reference computes. A product's two factors are in the other order.
-/
module

public import proofs.«01_k».proof.Proof.FfnRef
public import proofs.«01_k».proof.Proof.Gen.Kernel7Ideal.Value
public import proofs.«01_k».proof.Proof.Gen.Reference7Ideal.Read
public import proofs.«01_k».proof.Defs
public import Idealize.ShloMosaic.Lib.Quiescent

@[expose] public section

set_option maxRecDepth 16384

noncomputable section

namespace Cert.Proof.DtProj

open Idealize.ShloMosaic Idealize.ShloMosaic.TcCoe Idealize.SL.Sem Cert.Kernel7Ideal Cert.Kernel7Ideal.Gen
open Cert.Proof.Ffn (ext2 z2 rms)

theorem pay_apply (x : Vec Ideal S1024x2048 .f32) (g : Vec Ideal S1x2048 .f32) (w : Vec Ideal S128x2048 .bf16) (h : Fin 128) (r : Fin 1024) :
    k0_pay1 (F := Ideal) x g w (ix2 h r) = ∑ a : Fin 2048, w (ix2 h a) * rms (fun b => x (ix2 r b)) (fun b => g (ix2 0 b)) a := by
  unfold rms
  unfold_payloads
  pointwise [dot_S128x2048_S1024x2048_S128x1024_1_1_0_0_n_n]

variable (m : (ℓ : Loc nD τ sig) → Buf (Elt Ideal) ℓ)

theorem idx0 : ∀ t : Fin grid0.N, win0_0.index t 0 = t.val ∧ win0_0.index t 1 = 0 := by decide +kernel
theorem idx1 : ∀ t : Fin grid0.N, win0_1.index t 0 = 0 ∧ win0_1.index t 1 = 0 := by decide +kernel
theorem idx2 : ∀ t : Fin grid0.N, win0_2.index t 0 = 0 ∧ win0_2.index t 1 = 0 := by decide +kernel
theorem idx3 : ∀ t : Fin grid0.N, win0_3.index t 0 = 0 ∧ win0_3.index t 1 = t.val := by decide +kernel

theorem blk0 (c : Dev nD) (t : Fin cfg0.N) (r : Fin 1024) (a : Fin 2048) (R : Fin 8192) (hR : R.val = t.val * 1024 + r.val) :
    (iblk m c 0 t : Vec Ideal S1024x2048 .f32) (ix2 r a) = m ((c : Thread nD τ).loc main_arg0) (ix2 R a) := by
  rw [← V_main_arg0 m c]
  unfold iblk
  rw [View.read_apply]
  show V m c main_arg0 _ = V m c main_arg0 _
  refine congrArg _ (ext2 ?_ ?_)
  · show win0_0.index t 0 * 1024 + 1 * r.val = R.val; rw [(idx0 t).1]; omega
  · show win0_0.index t 1 * 2048 + 1 * a.val = a.val; rw [(idx0 t).2]; omega

theorem gain (c : Dev nD) (a : Fin 2048) :
    (V m c main_v1 : Vec Ideal S1x2048 .f32) (ix2 0 a) = m ((c : Thread nD τ).loc main_arg1) (ix1 a) := by
  have h : V m c main_v1 = shapeCast S1x2048 (m ((c : Thread nD τ).loc main_arg1)) shapeCasts_S2048_S1x2048 := by
    unfold V
    simp only [hostOps0, List.flatten_cons, List.flatten_nil, List.append_nil, List.cons_append, List.nil_append]
    after_results_simp <;> rfl
  rw [h]
  exact shapeCast_apply _ shapeCasts_S2048_S1x2048 _ _ (by decide +revert)

theorem turned (c : Dev nD) (h : Fin 128) (a : Fin 2048) :
    (V m c main_v0 : Vec Ideal S128x2048 .bf16) (ix2 h a) = m ((c : Thread nD τ).loc main_arg2) (ix2 a h) := by
  have e : V m c main_v0 = transpose S128x2048 [1, 0] (m ((c : Thread nD τ).loc main_arg2)) transposes_S2048x128_S128x2048_1_0 := by
    unfold V
    simp only [hostOps0, List.flatten_cons, List.flatten_nil, List.append_nil, List.cons_append, List.nil_append]
    after_results_simp <;> rfl
  rw [e]
  pointwise

theorem blk1 (c : Dev nD) (t : Fin cfg0.N) (a : Fin 2048) :
    (iblk m c 1 t : Vec Ideal S1x2048 .f32) (ix2 0 a) = m ((c : Thread nD τ).loc main_arg1) (ix1 a) := by
  rw [← gain m c]
  unfold iblk
  rw [View.read_apply]
  show V m c main_v1 _ = V m c main_v1 _
  refine congrArg _ (ext2 ?_ ?_)
  · show win0_1.index t 0 * 1 + 1 * 0 = 0; rw [(idx1 t).1]
  · show win0_1.index t 1 * 2048 + 1 * a.val = a.val; rw [(idx1 t).2]; omega

theorem blk2 (c : Dev nD) (t : Fin cfg0.N) (h : Fin 128) (a : Fin 2048) :
    (iblk m c 2 t : Vec Ideal S128x2048 .bf16) (ix2 h a) = m ((c : Thread nD τ).loc main_arg2) (ix2 a h) := by
  rw [← turned m c]
  unfold iblk
  rw [View.read_apply]
  show V m c main_v0 _ = V m c main_v0 _
  refine congrArg _ (ext2 ?_ ?_)
  · show win0_2.index t 0 * 128 + 1 * h.val = h.val; rw [(idx2 t).1]; omega
  · show win0_2.index t 1 * 2048 + 1 * a.val = a.val; rw [(idx2 t).2]; omega

/-- The reference's result, of the kernel's arguments. -/
def G (c : Dev nD) : Buf (Elt Ideal) ((c : Thread nD τ).loc main_v2) :=
  Cert.Reference7Ideal.Read.val_main_v15 (F := Ideal) (m ((c : Thread nD τ).loc main_arg0)) (m ((c : Thread nD τ).loc main_arg1))
    (m ((c : Thread nD τ).loc main_arg2))

/-- Row `R` normalised, and the weight's entries. -/
def nrow (c : Dev nD) (R : Fin 8192) (a : Fin 2048) : EReal :=
  rms (fun b => m ((c : Thread nD τ).loc main_arg0) (ix2 R b)) (fun b => m ((c : Thread nD τ).loc main_arg1) (ix1 b)) a
abbrev wt (c : Dev nD) (a : Fin 2048) (h : Fin 128) : EReal := m ((c : Thread nD τ).loc main_arg2) (ix2 a h)

open Cert.Reference7Ideal.Read in
theorem G_apply (c : Dev nD) (h : Fin 128) (R : Fin 8192) : G m c (ix2 h R) = ∑ a : Fin 2048, wt m c a h * nrow m c R a := by
  unfold G
  show val_main_v15 (F := Ideal) _ _ _ _ = _
  rw [val_main_v15_apply, show idx_main_v15 (ix2 h R) = ix2 R h from ext2 rfl rfl, val_main_v14_apply]
  refine Finset.sum_congr rfl fun a _ => ?_
  rw [show lidx_main_v14 (ix2 R h) a = ix2 R a from ext2 rfl rfl, show ridx_main_v14 (ix2 R h) a = ix2 a h from ext2 rfl rfl,
    val_main_v13_apply]
  exact (congrArg₂ (fun p q : EReal => p * q) (Ffn.ref_rms _ _ R a) rfl).trans (mul_comm (nrow m c R a) (wt m c a h))

/-- What a grid point writes back is its block of the reference's result. -/
theorem flushed (c : Dev nD) (t : Fin cfg0.N) : (dats m 0 c).flushed 3 t = ((cfg0.win 3).blk t).view.read (Elt Ideal) (G m c) := by
  rw [Value.flushed3]
  funext y
  obtain ⟨h, r, rfl⟩ : ∃ (h : Fin 128) (r : Fin 1024), y = ix2 h r := ⟨y 0, y 1, ext2 rfl rfl⟩
  have hN : cfg0.N = 8 := N_0
  have ht := t.isLt
  have hR : t.val * 1024 + r.val < 8192 := by have := r.isLt; omega
  rw [View.read_apply]
  have e : ((cfg0.win 3).blk t).view.emb (ix2 h r) = ix2 h (⟨_, hR⟩ : Fin 8192) := by
    refine ext2 ?_ ?_
    · show win0_3.index t 0 * 128 + 1 * h.val = h.val; rw [(idx3 t).1]; omega
    · show win0_3.index t 1 * 1024 + 1 * r.val = t.val * 1024 + r.val; rw [(idx3 t).2]; omega
  refine Eq.trans ?_ (congrArg (G m c) e).symm
  rw [G_apply]
  show out0_3 (iblk m c 0 t) (iblk m c 1 t) (iblk m c 2 t) (ix2 h r) = _
  unfold out0_3
  rw [View.canon_unit_zero (S := S128x1024) z2, View.ld_unit_zero (S := S1024x2048) z2, View.ld_unit_zero (S := S1x2048) z2,
    View.ld_unit_zero (S := S128x2048) z2, pay_apply]
  refine Finset.sum_congr rfl fun a _ => ?_
  unfold nrow
  rw [blk2, funext fun b => blk0 m c t r b ⟨_, hR⟩ rfl, funext (blk1 m c t)]

/-- The array after the run. -/
theorem final (c : Dev nD) : (dats m 0 c).arrAt 3 cfg0.N = G m c :=
  (dats m 0 c).arrAt_eq_of_cover 3 (G m c) (fun t _ => flushed m c t) fun i => by
    have hN : cfg0.N = 8 := N_0
    have h0 : (i 0 : Nat) < 128 := (i 0).isLt
    have h1 : (i 1 : Nat) < 8192 := (i 1).isLt
    have hn : (i 1 : Nat) / 1024 < cfg0.N := by omega
    refine ⟨⟨_, hn⟩, flush0_3 _, ?_⟩
    show i ∈ ((View.whole main_v2).slice (win0_3.rect ⟨_, hn⟩)).set
    rw [View.set_slice_whole, Rect.mem_set_unit]
    intro a
    match a with
    | ⟨0, _⟩ =>
      show win0_3.index ⟨_, hn⟩ 0 * 128 ≤ (i 0 : Nat) ∧ (i 0 : Nat) < win0_3.index ⟨_, hn⟩ 0 * 128 + 128
      rw [(idx3 _).1]; omega
    | ⟨1, _⟩ =>
      show win0_3.index ⟨_, hn⟩ 1 * 1024 ≤ (i 1 : Nat) ∧ (i 1 : Nat) < win0_3.index ⟨_, hn⟩ 1 * 1024 + 1024
      rw [(idx3 _).2]; simp only; omega

theorem algebraic : Cert.algebraic_Kernel7Ideal_Reference7Ideal := by
  intro m ρ m' ρ' _ h
  refine ⟨fun c => G m c, ?_, ?_⟩
  · refine (θ_run defs _ _).mono (fun r hr c => ?_) (Value.run_blocks m ρ)
    obtain ⟨h0, hk⟩ := hr c
    exact ⟨h0.trans (final m c), hk⟩
  · refine (θ_run Cert.Reference7Ideal.defs _ _).mono (fun r hr c => ?_) (Cert.Reference7Ideal.Value.run (F := Ideal) m' ρ')
    obtain ⟨e0, e1, e2⟩ := h c
    obtain ⟨h0, hk⟩ := hr c
    refine ⟨h0.trans ((Cert.Reference7Ideal.Read.val_main_v15_eq _ _ _).trans ?_), hk⟩
    rw [e0, e1, e2]; rfl

theorem quiescent_reference : Cert.quiescent_Reference7Ideal :=
  fun m ρ _ => (θ_run Cert.Reference7Ideal.defs _ _).mono (fun r h => ⟨fun c => (h c).2,
    Idealize.ShloMosaic.sem_eq_zero_of_no_sems (by decide) r.2⟩) (Cert.Reference7Ideal.Value.run (F := Ideal) m ρ)

end Cert.Proof.DtProj

end
-- ==== Proof.Pool.lean ====
/-
  THE POOLING MIXER'S GROUP MAP: its array after the run is, at each of four groups of columns, the windowed means less the token,
  times the group's matrix and the scale, which is what the reference computes. The grid is the batch by the groups; each group has a
  counted loop of its own, of 16 trips of 128 rows, that reads its windows out of the rows padded by zeros.
-/
module

public import proofs.«01_k».proof.Proof.FfnRef
public import proofs.«01_k».proof.Proof.Gen.Kernel8Ideal.Value
public import proofs.«01_k».proof.Proof.Gen.Reference8Ideal.Read
public import proofs.«01_k».proof.Defs
public import Idealize.ShloMosaic.Lib.Quiescent
public import Idealize.ShloMosaic.Lib.WritesUnit

@[expose] public section

set_option maxRecDepth 16384

noncomputable section

namespace Cert.Proof.Pool

open Idealize.ShloMosaic Idealize.ShloMosaic.TcCoe Idealize.SL.Sem Cert.Kernel8Ideal Cert.Kernel8Ideal.Gen
open Cert.Proof.Ffn (ext2 z2)

theorem ext3 {n0 n1 n2 : ℕ} {i j : (⟨3, ![n0, n1, n2]⟩ : Shape).Idx} (h0 : (i 0).val = (j 0).val) (h1 : (i 1).val = (j 1).val)
    (h2 : (i 2).val = (j 2).val) : i = j := by
  funext d
  apply Fin.ext
  match d with
  | ⟨0, _⟩ => exact h0
  | ⟨1, _⟩ => exact h1
  | ⟨2, _⟩ => exact h2

theorem z3 : (![0, 0, 0] : Fin 3 → Nat) = fun _ => 0 := funext fun a => by fin_cases a <;> rfl

/-- How many of the positions `n - h` to `n + h - 1` lie in the sequence, as a word. -/
def word (h : BitVec 32) (n : ℕ) : BitVec 32 :=
  IntOp.subi (IntOp.minsi (IntOp.addi (BitVec.ofNat 32 n) h) 2048#32) (IntOp.maxsi (IntOp.subi (BitVec.ofNat 32 n) h) 0#32)

/-- The same as a number. -/
def count (h : BitVec 32) (n : ℕ) : EReal := FloatOps.sitofp (F := Ideal) FTy.f32 (word h n)

theorem word_ne : ∀ n : Fin 2048, ∀ j : Fin 4, (word (![1#32, 2#32, 4#32, 8#32] j) n.val).toInt ≠ 0 := by decide +kernel

theorem count_ne (j : Fin 4) (n : ℕ) (hn : n < 2048) : count (![1#32, 2#32, 4#32, 8#32] j) n ≠ 0 := by
  have h := word_ne ⟨n, hn⟩ j
  show (((word (![1#32, 2#32, 4#32, 8#32] j) n).toInt : ℝ) : EReal) ≠ 0
  exact_mod_cast h

/-- Multiplying by the inverse of a number that is not zero is dividing by it. -/
theorem mul_inv_eq (x c : EReal) (h : c ≠ 0) : x * Ideal.div 1 c = Ideal.div x c := by
  unfold Ideal.div
  rw [if_neg h, if_neg h, one_mul]

/-- The row of trip `k`'s row `r`, as the kernel computes it. -/
theorem base : ∀ (k : Fin 16) (r : Fin 128),
    IntOp.addi (Scalar.muli (Scf.iv 0#32 1#32 k.val) 128#32) (BitVec.ofNat 32 r.val) = BitVec.ofNat 32 (128 * k.val + r.val) := by
  decide +kernel

/-- The first row of trip `k`. -/
theorem off : ∀ k : Fin 16, (Scalar.indexCast (Scalar.muli (Scf.iv 0#32 1#32 k.val) 128#32)).toNat = 128 * k.val := by decide +kernel

/-- The terms `o` to `o + n` of `p` from `r` on, added up from the left. -/
def win (p : ℕ → EReal) (o r : ℕ) : ℕ → EReal
  | 0 => p (o + r)
  | n + 1 => win p o r n + p (o + (n + 1) + r)

/-- The same with the rows counted from `o + r` on. -/
def winR (p : ℕ → EReal) (o r : ℕ) : ℕ → EReal
  | 0 => p (o + r)
  | n + 1 => winR p o r n + p (o + (n + 1 + r))

theorem win_eq (p : ℕ → EReal) (o r : ℕ) : ∀ n, win p o r n = winR p o r n
  | 0 => rfl
  | n + 1 => by unfold win winR; rw [win_eq p o r n, Nat.add_assoc]

/-- Entry of row `R` of one group: the window's mean less the token, times the matrix's column `w`. The rows `p` are padded by eight
    in front; the window has `n + 1` terms from `o` on. -/
def group (h : BitVec 32) (o n : ℕ) (p : ℕ → Fin 512 → EReal) (w : Fin 512 → EReal) (R : ℕ) : EReal :=
  ∑ a, (Ideal.div (win (fun i => p i a) o R n) (count h R) - p (8 + R) a) * w a

/-- The same times the scale `g`. -/
def out (h : BitVec 32) (o n : ℕ) (p : ℕ → Fin 512 → EReal) (w : Fin 512 → EReal) (g : EReal) (R : ℕ) : EReal :=
  group h o n p w R * g

theorem pay1_apply (r : Fin 8) (a : Fin 512) : k0_pay1 (F := Ideal) (ix2 r a) = (0 : EReal) := by
  unfold_payloads
  pointwise

theorem pay2_apply (r : Fin 8) (a : Fin 512) : k0_pay2 (F := Ideal) (ix2 r a) = (0 : EReal) := by
  unfold_payloads
  pointwise

theorem pay3_apply (x : Vec Ideal S1x2048x512 .f32) (r : Fin 2048) (a : Fin 512) : k0_pay3 (F := Ideal) x (ix2 r a) = x (ix3 0 r a) := by
  unfold_payloads
  pointwise

section
variable (p : ℕ → Fin 512 → EReal) (v : Vec Ideal S144x512 .f32) (w : Vec Ideal S1x512x512 .bf16) (g : Vec Ideal S1x512 .f32)
  (k : ℕ) (hk : k < 16) (hv : ∀ (n : ℕ) (hn : n < 144) (a : Fin 512), v (ix2 ⟨n, hn⟩ a) = p (128 * k + n) a) (r : Fin 128) (l : Fin 512)
include hk hv

theorem pay4_apply (h : k < k0_t1_loop.trips) : k0_pay4 (F := Ideal) ⟨k, h⟩ v w g (ix3 0 r l)
    = out 1#32 7 1 p (fun a => w (ix3 0 a l)) (g (ix2 0 l)) (128 * k + r.val) := by
  have e : ∀ n, 128 * k + (n + r.val) = n + (128 * k + r.val) := fun n => by omega
  have hr := r.isLt
  unfold_payloads
  pointwise [dot_S128x512_S512x512_S128x512_1_0_0_1_n_n]
  rw [base ⟨k, hk⟩ r]
  simp only [hv, e]
  unfold out group
  refine congrArg (fun s : EReal => s * _) (Finset.sum_congr rfl fun a _ => ?_)
  exact congrArg (fun s : EReal => (s - p (8 + (128 * k + r.val)) a) * w (ix3 0 a l)) (mul_inv_eq _ (count 1#32 _) (count_ne 0 _ (by omega)))

theorem pay7_apply (h : k < k0_t2_loop.trips) : k0_pay7 (F := Ideal) 0#32 1#32 ⟨k, h⟩ v w g (ix3 0 r l)
    = out 2#32 6 3 p (fun a => w (ix3 0 a l)) (g (ix2 0 l)) (128 * k + r.val) := by
  have e : ∀ n, 128 * k + (n + r.val) = n + (128 * k + r.val) := fun n => by omega
  have hr := r.isLt
  unfold_payloads
  pointwise [dot_S128x512_S512x512_S128x512_1_0_0_1_n_n]
  rw [base ⟨k, hk⟩ r]
  simp only [hv, e]
  unfold out group
  refine congrArg (fun s : EReal => s * _) (Finset.sum_congr rfl fun a _ => ?_)
  exact congrArg (fun s : EReal => (s - p (8 + (128 * k + r.val)) a) * w (ix3 0 a l)) (mul_inv_eq _ (count 2#32 _) (count_ne 1 _ (by omega)))

theorem pay8_apply (h : k < k0_t3_loop.trips) : k0_pay5 (F := Ideal) (k0_pay8 0#32 1#32 ⟨k, h⟩ v w g) (ix3 0 r l)
    = out 4#32 4 7 p (fun a => w (ix3 0 a l)) (g (ix2 0 l)) (128 * k + r.val) := by
  have e : ∀ n, 128 * k + (n + r.val) = n + (128 * k + r.val) := fun n => by omega
  have hr := r.isLt
  unfold_payloads
  pointwise [dot_S128x512_S512x512_S128x512_1_0_0_1_n_n]
  rw [base ⟨k, hk⟩ r]
  simp only [hv, e]
  unfold out group
  refine congrArg (fun s : EReal => s * _) (Finset.sum_congr rfl fun a _ => ?_)
  exact congrArg (fun s : EReal => (s - p (8 + (128 * k + r.val)) a) * w (ix3 0 a l)) (mul_inv_eq _ (count 4#32 _) (count_ne 2 _ (by omega)))

theorem pay9_apply (h : k < k0_t4_loop.trips) : k0_pay6 (F := Ideal) v (k0_pay9 0#32 1#32 ⟨k, h⟩ v) w g (ix3 0 r l)
    = out 8#32 0 15 p (fun a => w (ix3 0 a l)) (g (ix2 0 l)) (128 * k + r.val) := by
  have e : ∀ n, 128 * k + (n + r.val) = n + (128 * k + r.val) := fun n => by omega
  have hr := r.isLt
  unfold_payloads
  pointwise [dot_S128x512_S512x512_S128x512_1_0_0_1_n_n]
  rw [base ⟨k, hk⟩ r]
  simp only [hv, e]
  unfold out group
  refine congrArg (fun s : EReal => s * _) (Finset.sum_congr rfl fun a _ => ?_)
  simp only [win, zero_add]
  exact congrArg (fun s : EReal => (s - p (8 + (128 * k + r.val)) a) * w (ix3 0 a l)) (mul_inv_eq _ (count 8#32 _) (count_ne 3 _ (by omega)))

end

/-- The rows of a block, padded by zeros: eight in front and eight behind. -/
def padded (x : Vec Ideal S1x2048x512 .f32) (n : ℕ) (a : Fin 512) : EReal :=
  if h : 8 ≤ n ∧ n - 8 < 2048 then x (ix3 0 ⟨n - 8, h.2⟩ a) else 0

/-- What the three stores leave in the scratch. -/
theorem scratch {κ : Kind} {sp : Space} (v : View sig κ sp S2064x512 .f32) (f : v.ty.Contents (Elt Ideal)) (x : Vec Ideal S1x2048x512 .f32)
    (i1 i2 i3) (n : ℕ) (hn : n < 2064) (a : Fin 512) :
    v.read (Elt Ideal) (v.writes (Elt Ideal) f [⟨Rect.unit (s := S2064x512) ![8, 0] S2048x512.size i1, k0_pay3 (F := Ideal) x⟩,
      ⟨Rect.unit (s := S2064x512) ![2056, 0] S8x512.size i2, k0_pay2 (F := Ideal)⟩, ⟨Rect.unit (s := S2064x512) ![0, 0] S8x512.size i3, k0_pay1 (F := Ideal)⟩])
      (ix2 ⟨n, hn⟩ a) = padded x n a := by
  unfold padded
  by_cases h : 8 ≤ n ∧ n - 8 < 2048
  · rw [dif_pos h]
    refine (View.read_writes_cons_rows_of_mem v f _ _ _ _ (ix2 (⟨n - 8, h.2⟩ : Fin 2048) a) rfl ?_ rfl).trans (pay3_apply x _ a)
    show n = 8 + (n - 8); omega
  · rw [dif_neg h]
    refine (View.read_writes_cons_rows_of_not_mem v f _ _ _ _ rfl rfl (W := 2048) ?_).trans ?_
    · show n < 8 ∨ 8 + 2048 ≤ n; omega
    by_cases h2 : 2056 ≤ n
    · have h3 : n - 2056 < 8 := by omega
      refine (View.read_writes_cons_rows_of_mem v f _ _ _ _ (ix2 (⟨n - 2056, h3⟩ : Fin 8) a) rfl ?_ rfl).trans (pay2_apply _ a)
      show n = 2056 + (n - 2056); omega
    · have h3 : n < 8 := by omega
      refine (View.read_writes_cons_rows_of_not_mem v f _ _ _ _ rfl rfl (W := 8) ?_).trans ?_
      · show n < 2056 ∨ 2056 + 8 ≤ n; omega
      refine (View.read_writes_cons_rows_of_mem v f _ _ _ _ (ix2 (⟨n, h3⟩ : Fin 8) a) rfl ?_ rfl).trans (pay1_apply _ a)
      show n = 0 + n; omega

/-- Stores of 128 rows a trip: after `n` trips the first `128 n` rows hold what was stored there. -/
theorem rows (L : ℕ → List (View.Piece (Elt Ideal) S1x2048x512 .bf16)) (f : ℕ → Fin 512 → EReal)
    (hL : ∀ k, k < 16 → ∃ (o : Fin 3 → ℕ) (inb : ∀ a, o a + S1x128x512.size a ≤ S1x2048x512.size a) (w : Vec Ideal S1x128x512 .bf16),
      (o 0 = 0 ∧ o 1 = 128 * k ∧ o 2 = 0) ∧ L (k + 1) = ⟨Rect.unit (s := S1x2048x512) o S1x128x512.size inb, w⟩ :: L k
        ∧ ∀ (r : Fin 128) (l : Fin 512), w (ix3 0 r l) = f (128 * k + r.val) l) :
    ∀ n ≤ 16, ∀ (R : Fin 2048) (l : Fin 512), R.val < 128 * n → (View.canon (L n) : Vec Ideal S1x2048x512 .bf16) (ix3 0 R l) = f R.val l := by
  intro n
  induction n with
  | zero => intro _ R l h; omega
  | succ n ih =>
    intro hn R l h
    obtain ⟨o, inb, w, ⟨o0, o1, o2⟩, e, hw⟩ := hL n hn
    rw [e]
    by_cases hr : 128 * n ≤ R.val
    · have hx : R.val - 128 * n < 128 := by omega
      have ee : (ix3 0 R l : S1x2048x512.Idx) = (Rect.unit (s := S1x2048x512) o S1x128x512.size inb).emb (ix3 0 (⟨_, hx⟩ : Fin 128) l) := by
        refine ext3 ?_ ?_ ?_
        · show 0 = o 0 + 1 * 0; rw [o0]
        · show R.val = o 1 + 1 * (R.val - 128 * n); rw [o1]; omega
        · show l.val = o 2 + 1 * l.val; rw [o2]; omega
      rw [ee]
      refine (View.canon_cons_emb _ _ _ _).trans ((hw _ _).trans ?_)
      exact congrArg (fun i => f i l) (by simp only; omega)
    · refine (View.canon_cons_of_not_mem _ _ ?_).trans (ih (Nat.le_of_succ_le hn) R l (by omega))
      intro hm
      have h2 := (Rect.mem_set_unit.mp (show (ix3 0 R l : S1x2048x512.Idx) ∈ (Rect.unit (s := S1x2048x512) o S1x128x512.size inb).set from hm)) 1
      have : o 1 ≤ R.val := h2.1
      rw [o1] at this
      exact hr this

variable (m : (ℓ : Loc nD τ sig) → Buf (Elt Ideal) ℓ)

theorem trips16 : Scf.trips (0#32) (Scalar.addi 0#32 16#32) 1#32 = 16 := by decide +kernel

/-- What trip `k` loads of the scratch. -/
theorem loaded {κ : Kind} {sp : Space} (v : View sig κ sp S2064x512 .f32) (f : v.ty.Contents (Elt Ideal)) (x : Vec Ideal S1x2048x512 .f32)
    (i0 i1 i2 i3) (k : ℕ) (hk : k < 16) (i4) (n : ℕ) (hn : n < 144) (a : Fin 512) :
    View.ld (v.read (Elt Ideal) (v.writes (Elt Ideal) f [⟨Rect.unit (s := S2064x512) ![8, 0] S2048x512.size i1,
        k0_pay3 (F := Ideal) (View.ld x (Rect.unit ![0, 0, 0] S1x2048x512.size i0))⟩,
      ⟨Rect.unit (s := S2064x512) ![2056, 0] S8x512.size i2, k0_pay2 (F := Ideal)⟩,
      ⟨Rect.unit (s := S2064x512) ![0, 0] S8x512.size i3, k0_pay1 (F := Ideal)⟩]))
      (Rect.unit (s := S2064x512) ![(Scalar.indexCast (Scalar.muli (Scf.iv 0#32 1#32 k) 128#32)).toNat, 0] S144x512.size i4) (ix2 ⟨n, hn⟩ a)
      = padded x (128 * k + n) a := by
  rw [View.ld_unit_zero (S := S1x2048x512) z3]
  have hb : 128 * k + n < 2064 := by omega
  refine Eq.trans ?_ (scratch v f x i1 i2 i3 _ hb a)
  refine congrArg (v.read (Elt Ideal) (v.writes (Elt Ideal) f _)) (ext2 ?_ ?_)
  · show (Scalar.indexCast (Scalar.muli (Scf.iv 0#32 1#32 k) 128#32)).toNat + 1 * n = 128 * k + n
    rw [off ⟨k, hk⟩]; simp only; omega
  · show 0 + 1 * a.val = a.val; omega

/-- The block of point `t` as group `h`, `o`, `n` has it. -/
def blockOf (h : BitVec 32) (o n : ℕ) (c : Dev nD) (t : Fin cfg0.N) (R : ℕ) (l : Fin 512) : EReal :=
  out h o n (padded (iblk m c 0 t)) (fun a => (iblk m c 1 t : Vec Ideal S1x512x512 .bf16) (ix3 0 a l))
    ((iblk m c 2 t : Vec Ideal S1x512 .f32) (ix2 0 l)) R

theorem at_A (c : Dev nD) (t : Fin cfg0.N) (h : t.val % 4 = 0) (R : Fin 2048) (l : Fin 512) :
    outsAt0 m c t.val t.isLt (ix3 0 R l) = blockOf m 1#32 7 1 c t R.val l := by
  rw [outsAt0_A m c t h (by omega) (by omega) (by omega)]
  unfold out0_A_3
  rw [View.read_writes_eq_canon _ _ _ (fun _ => cover0_A_3 ..)]
  unfold kernelRun0_A
  dsimp only
  rw [trips16]
  refine rows _ (blockOf m 1#32 7 1 c t) (fun k hk => ?_) 16 le_rfl R l (by have := R.isLt; omega)
  refine ⟨?o, ?i, ?w, ?h, (pb_k0_t1_succ (k := ⟨k, hk⟩) ..).trans ?e, ?v⟩
  case e =>
    unfold tripL_k0_t1 trip_k0_t1
    dsimp only
    sl_unfold_words
    simp only [List.cons_append, List.nil_append, View.readAt_eq_ld, (hs0_0 t).read_unread, (hs0_1 t).read_unread, (hs0_2 t).read_unread,
      View.ld_unit_zero (S := S1x512x512) z3, View.ld_unit_zero (S := S1x512) z2]
    rfl
  case h => exact ⟨rfl, off ⟨k, hk⟩, rfl⟩
  case v => exact fun r l => pay4_apply _ _ _ _ k hk (fun n hn a => loaded _ _ _ _ _ _ _ k hk _ n hn a) r l hk

theorem at_B (c : Dev nD) (t : Fin cfg0.N) (h : t.val % 4 = 1) (R : Fin 2048) (l : Fin 512) :
    outsAt0 m c t.val t.isLt (ix3 0 R l) = blockOf m 2#32 6 3 c t R.val l := by
  rw [outsAt0_B m c t (by omega) h (by omega) (by omega)]
  unfold out0_B_3
  rw [View.read_writes_eq_canon _ _ _ (fun _ => cover0_B_3 ..)]
  unfold kernelRun0_B
  dsimp only
  rw [trips16]
  refine rows _ (blockOf m 2#32 6 3 c t) (fun k hk => ?_) 16 le_rfl R l (by have := R.isLt; omega)
  refine ⟨?o, ?i, ?w, ?h, (pb_k0_t2_succ (k := ⟨k, hk⟩) ..).trans ?e, ?v⟩
  case e =>
    unfold tripL_k0_t2 trip_k0_t2
    dsimp only
    sl_unfold_words
    simp only [List.cons_append, List.nil_append, View.readAt_eq_ld, (hs0_0 t).read_unread, (hs0_1 t).read_unread, (hs0_2 t).read_unread,
      View.ld_unit_zero (S := S1x512x512) z3, View.ld_unit_zero (S := S1x512) z2]
    rfl
  case h => exact ⟨rfl, off ⟨k, hk⟩, rfl⟩
  case v => exact fun r l => pay7_apply _ _ _ _ k hk (fun n hn a => loaded _ _ _ _ _ _ _ k hk _ n hn a) r l hk

theorem at_C (c : Dev nD) (t : Fin cfg0.N) (h : t.val % 4 = 2) (R : Fin 2048) (l : Fin 512) :
    outsAt0 m c t.val t.isLt (ix3 0 R l) = blockOf m 4#32 4 7 c t R.val l := by
  rw [outsAt0_C m c t (by omega) (by omega) h (by omega)]
  unfold out0_C_3
  rw [View.read_writes_eq_canon _ _ _ (fun _ => cover0_C_3 ..)]
  unfold kernelRun0_C
  dsimp only
  rw [trips16]
  refine rows _ (blockOf m 4#32 4 7 c t) (fun k hk => ?_) 16 le_rfl R l (by have := R.isLt; omega)
  refine ⟨?o, ?i, ?w, ?h, (pb_k0_t3_succ (k := ⟨k, hk⟩) ..).trans ?e, ?v⟩
  case e =>
    unfold tripL_k0_t3 trip_k0_t3
    dsimp only
    sl_unfold_words
    simp only [List.cons_append, List.nil_append, View.readAt_eq_ld, (hs0_0 t).read_unread, (hs0_1 t).read_unread, (hs0_2 t).read_unread,
      View.ld_unit_zero (S := S1x512x512) z3, View.ld_unit_zero (S := S1x512) z2]
    rfl
  case h => exact ⟨rfl, off ⟨k, hk⟩, rfl⟩
  case v => exact fun r l => pay8_apply _ _ _ _ k hk (fun n hn a => loaded _ _ _ _ _ _ _ k hk _ n hn a) r l hk

theorem at_D (c : Dev nD) (t : Fin cfg0.N) (h : t.val % 4 = 3) (R : Fin 2048) (l : Fin 512) :
    outsAt0 m c t.val t.isLt (ix3 0 R l) = blockOf m 8#32 0 15 c t R.val l := by
  rw [outsAt0_D m c t (by omega) (by omega) (by omega) h]
  unfold out0_D_3
  rw [View.read_writes_eq_canon _ _ _ (fun _ => cover0_D_3 ..)]
  unfold kernelRun0_D
  dsimp only
  rw [trips16]
  refine rows _ (blockOf m 8#32 0 15 c t) (fun k hk => ?_) 16 le_rfl R l (by have := R.isLt; omega)
  refine ⟨?o, ?i, ?w, ?h, (pb_k0_t4_succ (k := ⟨k, hk⟩) ..).trans ?e, ?v⟩
  case e =>
    unfold tripL_k0_t4 trip_k0_t4
    dsimp only
    sl_unfold_words
    simp only [List.cons_append, List.nil_append, View.readAt_eq_ld, (hs0_0 t).read_unread, (hs0_1 t).read_unread, (hs0_2 t).read_unread,
      View.ld_unit_zero (S := S1x512x512) z3, View.ld_unit_zero (S := S1x512) z2]
    rfl
  case h => exact ⟨rfl, off ⟨k, hk⟩, rfl⟩
  case v => exact fun r l => pay9_apply _ _ _ _ k hk (fun n hn a => loaded _ _ _ _ _ _ _ k hk _ n hn a) r l hk

theorem idx0 : ∀ t : Fin grid0.N, win0_0.index t 0 = t.val / 4 ∧ win0_0.index t 1 = 0 ∧ win0_0.index t 2 = t.val % 4 := by decide +kernel
theorem idx1 : ∀ t : Fin grid0.N, win0_1.index t 0 = t.val % 4 ∧ win0_1.index t 1 = 0 ∧ win0_1.index t 2 = 0 := by decide +kernel
theorem idx2 : ∀ t : Fin grid0.N, win0_2.index t 0 = 0 ∧ win0_2.index t 1 = t.val % 4 := by decide +kernel
theorem idx3 : ∀ t : Fin grid0.N, win0_3.index t 0 = t.val / 4 ∧ win0_3.index t 1 = 0 ∧ win0_3.index t 2 = t.val % 4 := by decide +kernel

theorem blk0 (c : Dev nD) (t : Fin cfg0.N) (r : Fin 2048) (a : Fin 512) (B : Fin 4) (A : Fin 2048) (hB : B.val = t.val / 4)
    (hA : A.val = 512 * (t.val % 4) + a.val) :
    (iblk m c 0 t : Vec Ideal S1x2048x512 .f32) (ix3 0 r a) = m ((c : Thread nD τ).loc main_arg0) (ix3 B r A) := by
  rw [← V_main_arg0 m c]
  unfold iblk
  rw [View.read_apply]
  show V m c main_arg0 _ = V m c main_arg0 _
  obtain ⟨e0, e1, e2⟩ := idx0 t
  refine congrArg _ (ext3 ?_ ?_ ?_)
  · show win0_0.index t 0 * 1 + 1 * 0 = B.val; rw [e0]; omega
  · show win0_0.index t 1 * 2048 + 1 * r.val = r.val; rw [e1]; omega
  · show win0_0.index t 2 * 512 + 1 * a.val = A.val; rw [e2]; omega

theorem blk1 (c : Dev nD) (t : Fin cfg0.N) (a l : Fin 512) (Q : Fin 4) (hQ : Q.val = t.val % 4) :
    (iblk m c 1 t : Vec Ideal S1x512x512 .bf16) (ix3 0 a l) = m ((c : Thread nD τ).loc main_arg1) (ix3 Q a l) := by
  rw [← V_main_arg1 m c]
  unfold iblk
  rw [View.read_apply]
  show V m c main_arg1 _ = V m c main_arg1 _
  obtain ⟨e0, e1, e2⟩ := idx1 t
  refine congrArg _ (ext3 ?_ ?_ ?_)
  · show win0_1.index t 0 * 1 + 1 * 0 = Q.val; rw [e0]; omega
  · show win0_1.index t 1 * 512 + 1 * a.val = a.val; rw [e1]; omega
  · show win0_1.index t 2 * 512 + 1 * l.val = l.val; rw [e2]; omega

theorem scale (c : Dev nD) (A : Fin 2048) :
    (V m c main_v0 : Vec Ideal S1x2048 .f32) (ix2 0 A) = m ((c : Thread nD τ).loc main_arg2) (ix1 A) := by
  have h : V m c main_v0 = shapeCast S1x2048 (m ((c : Thread nD τ).loc main_arg2)) shapeCasts_S2048_S1x2048 := by
    unfold V
    simp only [hostOps0, List.flatten_cons, List.flatten_nil, List.append_nil, List.cons_append, List.nil_append]
    after_results_simp <;> rfl
  rw [h]
  exact shapeCast_apply _ shapeCasts_S2048_S1x2048 _ _ (by decide +revert)

theorem blk2 (c : Dev nD) (t : Fin cfg0.N) (l : Fin 512) (A : Fin 2048) (hA : A.val = 512 * (t.val % 4) + l.val) :
    (iblk m c 2 t : Vec Ideal S1x512 .f32) (ix2 0 l) = m ((c : Thread nD τ).loc main_arg2) (ix1 A) := by
  rw [← scale m c]
  unfold iblk
  rw [View.read_apply]
  show V m c main_v0 _ = V m c main_v0 _
  obtain ⟨e0, e1⟩ := idx2 t
  refine congrArg _ (ext2 ?_ ?_)
  · show win0_2.index t 0 * 1 + 1 * 0 = 0; rw [e0]
  · show win0_2.index t 1 * 512 + 1 * l.val = A.val; rw [e1]; omega

open Cert.Reference8Ideal.Read

/-- Column `a` of group `q` of batch `b`, padded by zeros. -/
def pcol (x : Vec Ideal S4x2048x2048 .f32) (b q : Fin 4) (n : ℕ) (a : Fin 512) : EReal :=
  if h : 8 ≤ n ∧ n - 8 < 2048 then x (ix3 b ⟨n - 8, h.2⟩ ⟨512 * q.val + a.val, by omega⟩) else 0

/-- The padded column at a row of the sequence is the column there. -/
theorem pcol_self (x : Vec Ideal S4x2048x2048 .f32) (b q : Fin 4) (R : Fin 2048) (a : Fin 512) :
    pcol x b q (8 + R.val) a = x (ix3 b R ⟨512 * q.val + a.val, by omega⟩) := by
  unfold pcol
  rw [dif_pos (by omega)]
  exact congrArg x (ext3 rfl (show 8 + R.val - 8 = R.val by omega) rfl)

theorem zero_word : (FloatOps.sitofp (F := Ideal) FTy.f32 0#32 : EReal) = 0 := by
  show (((0#32 : BitVec 32).toInt : ℝ) : EReal) = 0
  simp

theorem ref_pad0 (x : (⟨S4x2048x2048, .f32⟩ : BufTy).Contents (Elt Ideal)) (j : Cert.Reference8Ideal.S4x2050x512.Idx) :
    val_main_v13 (F := Ideal) x j = pcol x (j 0) 0 (7 + (j 1).val) (j 2) := by
  obtain ⟨b, R, a, rfl⟩ : ∃ (b : Fin 4) (R : Fin 2050) (a : Fin 512), j = ix3 b R a := ⟨j 0, j 1, j 2, ext3 rfl rfl rfl⟩
  unfold val_main_v13
  pointwise
  show _ = pcol x b 0 (7 + R.val) a
  unfold pcol
  by_cases h : 1 ≤ R.val ∧ R.val - 1 < 2048
  · rw [dif_pos h, dif_pos (by omega), val_main_v1_apply]
    refine congrArg x (ext3 rfl ?_ ?_)
    · show R.val - 1 = 7 + R.val - 8; omega
    · show a.val = 512 * 0 + a.val; omega
  · rw [dif_neg h, dif_neg (by omega)]
    exact zero_word

theorem ref_group0 (x : (⟨S4x2048x2048, .f32⟩ : BufTy).Contents (Elt Ideal)) (w : (⟨S4x512x512, .bf16⟩ : BufTy).Contents (Elt Ideal))
    (b : Fin 4) (R : Fin 2048) (l : Fin 512) :
    val_main_v25 (F := Ideal) x w (ix3 b R l) = group 1#32 7 1 (pcol x b 0) (fun a => w (ix3 0 a l)) R.val := by
  have e0 : ∀ i, val_main_v16 (F := Ideal) x i = val_main_v14 (F := Ideal) x i := fun i => by
    rw [val_main_v16_apply, val_main_v15_apply, val_main_cst_apply]
    show Ideal.ofBits .f32 0x00000000#32 + _ = _
    rw [Ffn.ofBits_zero, zero_add]
  unfold group
  rw [val_main_v25_apply]
  refine Finset.sum_congr rfl fun a _ => ?_
  rw [pcol_self, win_eq]
  simp only [ val_main_v21_apply, val_main_v20_apply, val_main_v1_apply,
    val_main_v19_apply, val_main_v12_apply, val_main_v11_apply, val_main_v10_apply, val_main_v5_apply, val_main_v3_apply, val_main_v0_apply, val_main_v2_apply, val_main_c_apply, val_main_v4_apply, val_main_c_0_apply, val_main_v9_apply, val_main_v7_apply, val_main_v6_apply, val_main_c_1_apply, val_main_v8_apply, val_main_c_2_apply,
    val_main_v18_apply, val_main_v17_apply,
    e0, val_main_v14_apply, ref_pad0, val_main_v24_apply, val_main_v23_apply, val_main_v22_apply]
  have e1 : idx_main_v1 (lidx_main_v25 (ix3 b R l) a) = ix3 b R ⟨512 * 0 + a.val, by omega⟩ :=
    ext3 rfl rfl (show a.val = 512 * 0 + a.val by omega)
  have e2 : idx_main_v22 (idx_main_v23 (ridx_main_v25 (ix3 b R l) a)) = ix3 0 a l :=
    ext3 rfl (show (a.val * 512 + l.val) / 512 % 512 = a.val by omega) (show (a.val * 512 + l.val) % 512 = l.val by omega)
  rw [e1, e2]
  rfl

theorem ref_pad1 (x : (⟨S4x2048x2048, .f32⟩ : BufTy).Contents (Elt Ideal)) (j : Cert.Reference8Ideal.S4x2052x512.Idx) :
    val_main_v38 (F := Ideal) x j = pcol x (j 0) 1 (6 + (j 1).val) (j 2) := by
  obtain ⟨b, R, a, rfl⟩ : ∃ (b : Fin 4) (R : Fin 2052) (a : Fin 512), j = ix3 b R a := ⟨j 0, j 1, j 2, ext3 rfl rfl rfl⟩
  unfold val_main_v38
  pointwise
  show _ = pcol x b 1 (6 + R.val) a
  unfold pcol
  by_cases h : 2 ≤ R.val ∧ R.val - 2 < 2048
  · rw [dif_pos h, dif_pos (by omega), val_main_v26_apply]
    refine congrArg x (ext3 rfl ?_ ?_)
    · show R.val - 2 = 6 + R.val - 8; omega
    · show 512 + a.val = 512 * 1 + a.val; omega
  · rw [dif_neg h, dif_neg (by omega)]
    exact zero_word

theorem ref_group1 (x : (⟨S4x2048x2048, .f32⟩ : BufTy).Contents (Elt Ideal)) (w : (⟨S4x512x512, .bf16⟩ : BufTy).Contents (Elt Ideal))
    (b : Fin 4) (R : Fin 2048) (l : Fin 512) :
    val_main_v54 (F := Ideal) x w (ix3 b R l) = group 2#32 6 3 (pcol x b 1) (fun a => w (ix3 1 a l)) R.val := by
  have e0 : ∀ i, val_main_v41 (F := Ideal) x i = val_main_v39 (F := Ideal) x i := fun i => by
    rw [val_main_v41_apply, val_main_v40_apply, val_main_cst_9_apply]
    show Ideal.ofBits .f32 0x00000000#32 + _ = _
    rw [Ffn.ofBits_zero, zero_add]
  unfold group
  rw [val_main_v54_apply]
  refine Finset.sum_congr rfl fun a _ => ?_
  rw [pcol_self, win_eq]
  simp only [ val_main_v50_apply, val_main_v49_apply, val_main_v26_apply,
    val_main_v48_apply, val_main_v37_apply, val_main_v36_apply, val_main_v35_apply, val_main_v30_apply, val_main_v28_apply, val_main_v0_apply, val_main_v27_apply, val_main_c_4_apply, val_main_v29_apply, val_main_c_5_apply, val_main_v34_apply, val_main_v32_apply, val_main_v31_apply, val_main_c_6_apply, val_main_v33_apply, val_main_c_7_apply,
    val_main_v47_apply, val_main_v46_apply, val_main_v45_apply, val_main_v44_apply, val_main_v43_apply, val_main_v42_apply,
    e0, val_main_v39_apply, ref_pad1, val_main_v53_apply, val_main_v52_apply, val_main_v51_apply]
  have e1 : idx_main_v26 (lidx_main_v54 (ix3 b R l) a) = ix3 b R ⟨512 * 1 + a.val, by omega⟩ :=
    ext3 rfl rfl (show 512 + a.val = 512 * 1 + a.val by omega)
  have e2 : idx_main_v51 (idx_main_v52 (ridx_main_v54 (ix3 b R l) a)) = ix3 1 a l :=
    ext3 rfl (show (a.val * 512 + l.val) / 512 % 512 = a.val by omega) (show (a.val * 512 + l.val) % 512 = l.val by omega)
  rw [e1, e2]
  rfl

theorem ref_pad2 (x : (⟨S4x2048x2048, .f32⟩ : BufTy).Contents (Elt Ideal)) (j : Cert.Reference8Ideal.S4x2056x512.Idx) :
    val_main_v67 (F := Ideal) x j = pcol x (j 0) 2 (4 + (j 1).val) (j 2) := by
  obtain ⟨b, R, a, rfl⟩ : ∃ (b : Fin 4) (R : Fin 2056) (a : Fin 512), j = ix3 b R a := ⟨j 0, j 1, j 2, ext3 rfl rfl rfl⟩
  unfold val_main_v67
  pointwise
  show _ = pcol x b 2 (4 + R.val) a
  unfold pcol
  by_cases h : 4 ≤ R.val ∧ R.val - 4 < 2048
  · rw [dif_pos h, dif_pos (by omega), val_main_v55_apply]
    refine congrArg x (ext3 rfl ?_ ?_)
    · show R.val - 4 = 4 + R.val - 8; omega
    · show 1024 + a.val = 512 * 2 + a.val; omega
  · rw [dif_neg h, dif_neg (by omega)]
    exact zero_word

theorem ref_group2 (x : (⟨S4x2048x2048, .f32⟩ : BufTy).Contents (Elt Ideal)) (w : (⟨S4x512x512, .bf16⟩ : BufTy).Contents (Elt Ideal))
    (b : Fin 4) (R : Fin 2048) (l : Fin 512) :
    val_main_v91 (F := Ideal) x w (ix3 b R l) = group 4#32 4 7 (pcol x b 2) (fun a => w (ix3 2 a l)) R.val := by
  have e0 : ∀ i, val_main_v70 (F := Ideal) x i = val_main_v68 (F := Ideal) x i := fun i => by
    rw [val_main_v70_apply, val_main_v69_apply, val_main_cst_15_apply]
    show Ideal.ofBits .f32 0x00000000#32 + _ = _
    rw [Ffn.ofBits_zero, zero_add]
  unfold group
  rw [val_main_v91_apply]
  refine Finset.sum_congr rfl fun a _ => ?_
  rw [pcol_self, win_eq]
  simp only [ val_main_v87_apply, val_main_v86_apply, val_main_v55_apply,
    val_main_v85_apply, val_main_v66_apply, val_main_v65_apply, val_main_v64_apply, val_main_v59_apply, val_main_v57_apply, val_main_v0_apply, val_main_v56_apply, val_main_c_10_apply, val_main_v58_apply, val_main_c_11_apply, val_main_v63_apply, val_main_v61_apply, val_main_v60_apply, val_main_c_12_apply, val_main_v62_apply, val_main_c_13_apply,
    val_main_v84_apply, val_main_v83_apply, val_main_v82_apply, val_main_v81_apply, val_main_v80_apply, val_main_v79_apply, val_main_v78_apply, val_main_v77_apply, val_main_v76_apply, val_main_v75_apply, val_main_v74_apply, val_main_v73_apply, val_main_v72_apply, val_main_v71_apply,
    e0, val_main_v68_apply, ref_pad2, val_main_v90_apply, val_main_v89_apply, val_main_v88_apply]
  have e1 : idx_main_v55 (lidx_main_v91 (ix3 b R l) a) = ix3 b R ⟨512 * 2 + a.val, by omega⟩ :=
    ext3 rfl rfl (show 1024 + a.val = 512 * 2 + a.val by omega)
  have e2 : idx_main_v88 (idx_main_v89 (ridx_main_v91 (ix3 b R l) a)) = ix3 2 a l :=
    ext3 rfl (show (a.val * 512 + l.val) / 512 % 512 = a.val by omega) (show (a.val * 512 + l.val) % 512 = l.val by omega)
  rw [e1, e2]
  rfl

theorem ref_pad3 (x : (⟨S4x2048x2048, .f32⟩ : BufTy).Contents (Elt Ideal)) (j : Cert.Reference8Ideal.S4x2064x512.Idx) :
    val_main_v104 (F := Ideal) x j = pcol x (j 0) 3 (0 + (j 1).val) (j 2) := by
  obtain ⟨b, R, a, rfl⟩ : ∃ (b : Fin 4) (R : Fin 2064) (a : Fin 512), j = ix3 b R a := ⟨j 0, j 1, j 2, ext3 rfl rfl rfl⟩
  unfold val_main_v104
  pointwise
  show _ = pcol x b 3 (R.val) a
  unfold pcol
  by_cases h : 8 ≤ R.val ∧ R.val - 8 < 2048
  · rw [dif_pos h, dif_pos h, val_main_v92_apply]
    refine congrArg x (ext3 rfl ?_ ?_)
    · rfl
    · show 1536 + a.val = 512 * 3 + a.val; omega
  · rw [dif_neg h, dif_neg h]
    exact zero_word

theorem ref_group3 (x : (⟨S4x2048x2048, .f32⟩ : BufTy).Contents (Elt Ideal)) (w : (⟨S4x512x512, .bf16⟩ : BufTy).Contents (Elt Ideal))
    (b : Fin 4) (R : Fin 2048) (l : Fin 512) :
    val_main_v144 (F := Ideal) x w (ix3 b R l) = group 8#32 0 15 (pcol x b 3) (fun a => w (ix3 3 a l)) R.val := by
  have e0 : ∀ i, val_main_v107 (F := Ideal) x i = val_main_v105 (F := Ideal) x i := fun i => by
    rw [val_main_v107_apply, val_main_v106_apply, val_main_cst_21_apply]
    show Ideal.ofBits .f32 0x00000000#32 + _ = _
    rw [Ffn.ofBits_zero, zero_add]
  unfold group
  rw [val_main_v144_apply]
  refine Finset.sum_congr rfl fun a _ => ?_
  rw [pcol_self, win_eq]
  simp only [ val_main_v140_apply, val_main_v139_apply, val_main_v92_apply,
    val_main_v138_apply, val_main_v103_apply, val_main_v102_apply, val_main_v101_apply, val_main_v96_apply, val_main_v94_apply, val_main_v0_apply, val_main_v93_apply, val_main_c_16_apply, val_main_v95_apply, val_main_c_17_apply, val_main_v100_apply, val_main_v98_apply, val_main_v97_apply, val_main_c_18_apply, val_main_v99_apply, val_main_c_19_apply,
    val_main_v137_apply, val_main_v136_apply, val_main_v135_apply, val_main_v134_apply, val_main_v133_apply, val_main_v132_apply, val_main_v131_apply, val_main_v130_apply, val_main_v129_apply, val_main_v128_apply, val_main_v127_apply, val_main_v126_apply, val_main_v125_apply, val_main_v124_apply, val_main_v123_apply, val_main_v122_apply, val_main_v121_apply, val_main_v120_apply, val_main_v119_apply, val_main_v118_apply, val_main_v117_apply, val_main_v116_apply, val_main_v115_apply, val_main_v114_apply, val_main_v113_apply, val_main_v112_apply, val_main_v111_apply, val_main_v110_apply, val_main_v109_apply, val_main_v108_apply,
    e0, val_main_v105_apply, ref_pad3, val_main_v143_apply, val_main_v142_apply, val_main_v141_apply]
  have e1 : idx_main_v92 (lidx_main_v144 (ix3 b R l) a) = ix3 b R ⟨512 * 3 + a.val, by omega⟩ :=
    ext3 rfl rfl (show 1536 + a.val = 512 * 3 + a.val by omega)
  have e2 : idx_main_v141 (idx_main_v142 (ridx_main_v144 (ix3 b R l) a)) = ix3 3 a l :=
    ext3 rfl (show (a.val * 512 + l.val) / 512 % 512 = a.val by omega) (show (a.val * 512 + l.val) % 512 = l.val by omega)
  rw [e1, e2]
  rfl

/-- The reference's result, of the kernel's arguments. -/
def G (c : Dev nD) : Buf (Elt Ideal) ((c : Thread nD τ).loc main_v1) :=
  val_main_v149 (F := Ideal) (m ((c : Thread nD τ).loc main_arg0)) (m ((c : Thread nD τ).loc main_arg1)) (m ((c : Thread nD τ).loc main_arg2))

/-- The result as group `h`, `o`, `n` has it, at batch `b`, row `R`, column `l` of group `q`. -/
def res (h : BitVec 32) (o n : ℕ) (c : Dev nD) (b q : Fin 4) (R : ℕ) (l : Fin 512) (A : Fin 2048) : EReal :=
  out h o n (pcol (m ((c : Thread nD τ).loc main_arg0)) b q) (fun a => m ((c : Thread nD τ).loc main_arg1) (ix3 q a l))
    (m ((c : Thread nD τ).loc main_arg2) (ix1 A)) R

/-- A point's block is the result at its batch and group. -/
theorem blockOf_eq (h : BitVec 32) (o n : ℕ) (c : Dev nD) (t : Fin cfg0.N) (R : ℕ) (l : Fin 512) (b q : Fin 4) (A : Fin 2048)
    (hb : b.val = t.val / 4) (hq : q.val = t.val % 4) (hA : A.val = 512 * (t.val % 4) + l.val) :
    blockOf m h o n c t R l = res m h o n c b q R l A := by
  unfold blockOf res
  have e : padded (iblk m c 0 t) = pcol (m ((c : Thread nD τ).loc main_arg0)) b q := by
    funext n a
    unfold padded pcol
    by_cases hn : 8 ≤ n ∧ n - 8 < 2048
    · rw [dif_pos hn, dif_pos hn]
      exact blk0 m c t _ a b _ hb (by simp only; rw [hq])
    · rw [dif_neg hn, dif_neg hn]
  rw [e, funext fun a => blk1 m c t a l q hq, blk2 m c t l A hA]

/-- The reference's result is the group's value times the scale. -/
theorem G_of (h : BitVec 32) (o n : ℕ) (c : Dev nD) (b q : Fin 4) (R A : Fin 2048) (l : Fin 512)
    (he : (val_main_v145 (F := Ideal) (m ((c : Thread nD τ).loc main_arg0)) (m ((c : Thread nD τ).loc main_arg1)) (ix3 b R A) : EReal)
      = group h o n (pcol (m ((c : Thread nD τ).loc main_arg0)) b q) (fun a => m ((c : Thread nD τ).loc main_arg1) (ix3 q a l)) R.val) :
    G m c (ix3 b R A) = res m h o n c b q R.val l A := by
  unfold G res out
  show val_main_v149 (F := Ideal) _ _ _ _ = _
  rw [val_main_v149_apply, val_main_v148_apply, val_main_v147_apply, val_main_v146_apply, he]
  refine congrArg (fun s : EReal => _ * s) ?_
  refine congrArg _ ?_
  funext d
  match d with
  | ⟨0, _⟩ => rfl

/-- The reference's four groups side by side. -/
theorem joined (x : (⟨S4x2048x2048, .f32⟩ : BufTy).Contents (Elt Ideal)) (w : (⟨S4x512x512, .bf16⟩ : BufTy).Contents (Elt Ideal))
    (b : Fin 4) (R : Fin 2048) (l : Fin 512) :
    (∀ A : Fin 2048, A.val = l.val → val_main_v145 (F := Ideal) x w (ix3 b R A) = val_main_v25 (F := Ideal) x w (ix3 b R l))
    ∧ (∀ A : Fin 2048, A.val = 512 + l.val → val_main_v145 (F := Ideal) x w (ix3 b R A) = val_main_v54 (F := Ideal) x w (ix3 b R l))
    ∧ (∀ A : Fin 2048, A.val = 1024 + l.val → val_main_v145 (F := Ideal) x w (ix3 b R A) = val_main_v91 (F := Ideal) x w (ix3 b R l))
    ∧ (∀ A : Fin 2048, A.val = 1536 + l.val → val_main_v145 (F := Ideal) x w (ix3 b R A) = val_main_v144 (F := Ideal) x w (ix3 b R l)) := by
  refine ⟨fun A hA => ?_, fun A hA => ?_, fun A hA => ?_, fun A hA => ?_⟩ <;> unfold val_main_v145 <;> pointwise
  · rw [dif_pos (by omega)]
    exact congrArg _ (ext3 rfl rfl hA)
  · rw [dif_neg (by omega), dif_pos (by omega)]
    exact congrArg _ (ext3 rfl rfl (show A.val - 512 = l.val by omega))
  · rw [dif_neg (by omega), dif_neg (by omega), dif_pos (by omega)]
    exact congrArg _ (ext3 rfl rfl (show A.val - 512 - 512 = l.val by omega))
  · rw [dif_neg (by omega), dif_neg (by omega), dif_neg (by omega)]
    exact congrArg _ (ext3 rfl rfl (show A.val - 512 - 512 - 512 = l.val by omega))

/-- At every point the result's block is the reference's. -/
theorem at_point (c : Dev nD) (t : Fin cfg0.N) (R : Fin 2048) (l : Fin 512) (b : Fin 4) (A : Fin 2048) (hb : b.val = t.val / 4)
    (hA : A.val = 512 * (t.val % 4) + l.val) : outsAt0 m c t.val t.isLt (ix3 0 R l) = G m c (ix3 b R A) := by
  obtain ⟨j0, j1, j2, j3⟩ := joined (m ((c : Thread nD τ).loc main_arg0)) (m ((c : Thread nD τ).loc main_arg1)) b R l
  have h4 : t.val % 4 < 4 := Nat.mod_lt _ (by decide)
  interval_cases hq : t.val % 4
  · rw [at_A m c t hq, blockOf_eq m _ _ _ c t R.val l b 0 A hb hq.symm (by rw [hq]; exact hA)]
    exact (G_of m _ _ _ c b 0 R A l ((j0 A (by omega)).trans (ref_group0 ..))).symm
  · rw [at_B m c t hq, blockOf_eq m _ _ _ c t R.val l b 1 A hb hq.symm (by rw [hq]; exact hA)]
    exact (G_of m _ _ _ c b 1 R A l ((j1 A (by omega)).trans (ref_group1 ..))).symm
  · rw [at_C m c t hq, blockOf_eq m _ _ _ c t R.val l b 2 A hb hq.symm (by rw [hq]; exact hA)]
    exact (G_of m _ _ _ c b 2 R A l ((j2 A (by omega)).trans (ref_group2 ..))).symm
  · rw [at_D m c t hq, blockOf_eq m _ _ _ c t R.val l b 3 A hb hq.symm (by rw [hq]; exact hA)]
    exact (G_of m _ _ _ c b 3 R A l ((j3 A (by omega)).trans (ref_group3 ..))).symm

theorem written (c : Dev nD) (t : Fin cfg0.N) : (dats m 0 c).flushed 3 t = ((cfg0.win 3).blk t).view.read (Elt Ideal) (G m c) := by
  rw [Value.flushed3]
  funext y
  obtain ⟨r, l, rfl⟩ : ∃ (r : Fin 2048) (l : Fin 512), y = ix3 0 r l :=
    ⟨y 1, y 2, ext3 (by have : (y 0).val < 1 := (y 0).isLt; show (y 0).val = 0; omega) rfl rfl⟩
  have hN : cfg0.N = 16 := N_0
  have ht := t.isLt
  have hB : t.val / 4 < 4 := by omega
  have hA : 512 * (t.val % 4) + l.val < 2048 := by omega
  rw [View.read_apply]
  have e : ((cfg0.win 3).blk t).view.emb (ix3 0 r l) = ix3 (⟨_, hB⟩ : Fin 4) r (⟨_, hA⟩ : Fin 2048) := by
    obtain ⟨e0, e1, e2⟩ := idx3 t
    refine ext3 ?_ ?_ ?_
    · show win0_3.index t 0 * 1 + 1 * 0 = t.val / 4; rw [e0]; omega
    · show win0_3.index t 1 * 2048 + 1 * r.val = r.val; rw [e1]; omega
    · show win0_3.index t 2 * 512 + 1 * l.val = 512 * (t.val % 4) + l.val; rw [e2]; omega
  refine Eq.trans ?_ (congrArg (G m c) e).symm
  exact at_point m c t r l _ _ rfl rfl

theorem final (c : Dev nD) : (dats m 0 c).arrAt 3 cfg0.N = G m c :=
  (dats m 0 c).arrAt_eq_of_cover 3 (G m c) (fun t _ => written m c t) fun i => by
    have hN : cfg0.N = 16 := N_0
    have h0 : (i 0 : Nat) < 4 := (i 0).isLt
    have h1 : (i 1 : Nat) < 2048 := (i 1).isLt
    have h2 : (i 2 : Nat) < 2048 := (i 2).isLt
    have hn : (i 0 : Nat) * 4 + (i 2 : Nat) / 512 < cfg0.N := by omega
    refine ⟨⟨_, hn⟩, flush0_3 _, ?_⟩
    show i ∈ ((View.whole main_v1).slice (win0_3.rect ⟨_, hn⟩)).set
    rw [View.set_slice_whole, Rect.mem_set_unit]
    obtain ⟨e0, e1, e2⟩ := idx3 ⟨_, hn⟩
    intro a
    match a with
    | ⟨0, _⟩ =>
      show win0_3.index ⟨_, hn⟩ 0 * 1 ≤ (i 0 : Nat) ∧ (i 0 : Nat) < win0_3.index ⟨_, hn⟩ 0 * 1 + 1
      rw [e0]; simp only; omega
    | ⟨1, _⟩ =>
      show win0_3.index ⟨_, hn⟩ 1 * 2048 ≤ (i 1 : Nat) ∧ (i 1 : Nat) < win0_3.index ⟨_, hn⟩ 1 * 2048 + 2048
      rw [e1]; omega
    | ⟨2, _⟩ =>
      show win0_3.index ⟨_, hn⟩ 2 * 512 ≤ (i 2 : Nat) ∧ (i 2 : Nat) < win0_3.index ⟨_, hn⟩ 2 * 512 + 512
      rw [e2]; simp only; omega

theorem algebraic : Cert.algebraic_Kernel8Ideal_Reference8Ideal := by
  intro m ρ m' ρ' _ h
  refine ⟨fun c => G m c, ?_, ?_⟩
  · refine (θ_run defs _ _).mono (fun r hr c => ?_) (Value.run_blocks m ρ)
    obtain ⟨h0, hk⟩ := hr c
    exact ⟨h0.trans (final m c), hk⟩
  · refine (θ_run Cert.Reference8Ideal.defs _ _).mono (fun r hr c => ?_) (Cert.Reference8Ideal.Value.run (F := Ideal) m' ρ')
    obtain ⟨e0, e1, e2⟩ := h c
    obtain ⟨h0, hk⟩ := hr c
    refine ⟨h0.trans ((val_main_v149_eq _ _).trans ?_), hk⟩
    rw [e0, e1, e2]; rfl

theorem quiescent_reference : Cert.quiescent_Reference8Ideal :=
  fun m ρ _ => (θ_run Cert.Reference8Ideal.defs _ _).mono (fun r h => ⟨fun c => (h c).2,
    Idealize.ShloMosaic.sem_eq_zero_of_no_sems (by decide) r.2⟩) (Cert.Reference8Ideal.Value.run (F := Ideal) m ρ)

end Cert.Proof.Pool

end
-- ==== Proof.FinalNorm.lean ====
/-
  THE LAST NORM: its array after the run is the normalised rows, which is what the reference computes.
-/
module

public import proofs.«01_k».proof.Proof.FfnRef
public import proofs.«01_k».proof.Proof.Gen.Kernel9Ideal.Value
public import proofs.«01_k».proof.Proof.Gen.Reference9Ideal.Read
public import proofs.«01_k».proof.Defs
public import Idealize.ShloMosaic.Lib.Quiescent

@[expose] public section

set_option maxRecDepth 16384

noncomputable section

namespace Cert.Proof.FinalNorm

open Idealize.ShloMosaic Idealize.ShloMosaic.TcCoe Idealize.SL.Sem Cert.Kernel9Ideal Cert.Kernel9Ideal.Gen
open Cert.Proof.Ffn (ext2 z2 rms)

theorem pay_apply (x : Vec Ideal S512x2048 .f32) (g : Vec Ideal S1x2048 .f32) (r : Fin 512) (a : Fin 2048) :
    k0_pay1 (F := Ideal) x g (ix2 r a) = rms (fun b => x (ix2 r b)) (fun b => g (ix2 0 b)) a := by
  unfold rms
  unfold_payloads
  pointwise

variable (m : (ℓ : Loc nD τ sig) → Buf (Elt Ideal) ℓ)

theorem idx0 : ∀ t : Fin grid0.N, win0_0.index t 0 = t.val ∧ win0_0.index t 1 = 0 := by decide +kernel
theorem idx1 : ∀ t : Fin grid0.N, win0_1.index t 0 = 0 ∧ win0_1.index t 1 = 0 := by decide +kernel
theorem idx2 : ∀ t : Fin grid0.N, win0_2.index t 0 = t.val ∧ win0_2.index t 1 = 0 := by decide +kernel

theorem blk0 (c : Dev nD) (t : Fin cfg0.N) (r : Fin 512) (a : Fin 2048) (R : Fin 8192) (hR : R.val = t.val * 512 + r.val) :
    (iblk m c 0 t : Vec Ideal S512x2048 .f32) (ix2 r a) = m ((c : Thread nD τ).loc main_arg0) (ix2 R a) := by
  rw [← V_main_arg0 m c]
  unfold iblk
  rw [View.read_apply]
  show V m c main_arg0 _ = V m c main_arg0 _
  refine congrArg _ (ext2 ?_ ?_)
  · show win0_0.index t 0 * 512 + 1 * r.val = R.val; rw [(idx0 t).1]; omega
  · show win0_0.index t 1 * 2048 + 1 * a.val = a.val; rw [(idx0 t).2]; omega

theorem gain (c : Dev nD) (a : Fin 2048) :
    (V m c main_v0 : Vec Ideal S1x2048 .f32) (ix2 0 a) = m ((c : Thread nD τ).loc main_arg1) (ix1 a) := by
  have h : V m c main_v0 = shapeCast S1x2048 (m ((c : Thread nD τ).loc main_arg1)) shapeCasts_S2048_S1x2048 := by
    unfold V
    simp only [hostOps0, List.flatten_cons, List.flatten_nil, List.append_nil, List.cons_append, List.nil_append]
    after_results_simp <;> rfl
  rw [h]
  exact shapeCast_apply _ shapeCasts_S2048_S1x2048 _ _ (by decide +revert)

theorem blk1 (c : Dev nD) (t : Fin cfg0.N) (a : Fin 2048) :
    (iblk m c 1 t : Vec Ideal S1x2048 .f32) (ix2 0 a) = m ((c : Thread nD τ).loc main_arg1) (ix1 a) := by
  rw [← gain m c]
  unfold iblk
  rw [View.read_apply]
  show V m c main_v0 _ = V m c main_v0 _
  refine congrArg _ (ext2 ?_ ?_)
  · show win0_1.index t 0 * 1 + 1 * 0 = 0; rw [(idx1 t).1]
  · show win0_1.index t 1 * 2048 + 1 * a.val = a.val; rw [(idx1 t).2]; omega

/-- The reference's result, of the kernel's arguments. -/
def G (c : Dev nD) : Buf (Elt Ideal) ((c : Thread nD τ).loc main_v1) :=
  Cert.Reference9Ideal.Read.val_main_v12 (F := Ideal) (m ((c : Thread nD τ).loc main_arg0)) (m ((c : Thread nD τ).loc main_arg1))

theorem G_apply (c : Dev nD) (R : Fin 8192) (a : Fin 2048) :
    G m c (ix2 R a) = rms (fun b => m ((c : Thread nD τ).loc main_arg0) (ix2 R b)) (fun b => m ((c : Thread nD τ).loc main_arg1) (ix1 b)) a :=
  Ffn.ref_rms _ _ R a

/-- What a grid point writes back is its block of the reference's result. -/
theorem flushed (c : Dev nD) (t : Fin cfg0.N) : (dats m 0 c).flushed 2 t = ((cfg0.win 2).blk t).view.read (Elt Ideal) (G m c) := by
  rw [Value.flushed2]
  funext y
  obtain ⟨r, a, rfl⟩ : ∃ (r : Fin 512) (a : Fin 2048), y = ix2 r a := ⟨y 0, y 1, ext2 rfl rfl⟩
  have hN : cfg0.N = 16 := N_0
  have ht := t.isLt
  have hR : t.val * 512 + r.val < 8192 := by have := r.isLt; omega
  rw [View.read_apply]
  have e : ((cfg0.win 2).blk t).view.emb (ix2 r a) = ix2 (⟨_, hR⟩ : Fin 8192) a := by
    refine ext2 ?_ ?_
    · show win0_2.index t 0 * 512 + 1 * r.val = t.val * 512 + r.val; rw [(idx2 t).1]; omega
    · show win0_2.index t 1 * 2048 + 1 * a.val = a.val; rw [(idx2 t).2]; omega
  refine Eq.trans ?_ (congrArg (G m c) e).symm
  rw [G_apply]
  show out0_2 (iblk m c 0 t) (iblk m c 1 t) (ix2 r a) = _
  unfold out0_2
  rw [View.canon_unit_zero (S := S512x2048) z2, View.ld_unit_zero (S := S512x2048) z2, View.ld_unit_zero (S := S1x2048) z2, pay_apply,
    funext fun b => blk0 m c t r b ⟨_, hR⟩ rfl, funext (blk1 m c t)]

/-- The array after the run. -/
theorem final (c : Dev nD) : (dats m 0 c).arrAt 2 cfg0.N = G m c :=
  (dats m 0 c).arrAt_eq_of_cover 2 (G m c) (fun t _ => flushed m c t) fun i => by
    have hN : cfg0.N = 16 := N_0
    have h0 : (i 0 : Nat) < 8192 := (i 0).isLt
    have h1 : (i 1 : Nat) < 2048 := (i 1).isLt
    have hn : (i 0 : Nat) / 512 < cfg0.N := by omega
    refine ⟨⟨_, hn⟩, flush0_2 _, ?_⟩
    show i ∈ ((View.whole main_v1).slice (win0_2.rect ⟨_, hn⟩)).set
    rw [View.set_slice_whole, Rect.mem_set_unit]
    intro a
    match a with
    | ⟨0, _⟩ =>
      show win0_2.index ⟨_, hn⟩ 0 * 512 ≤ (i 0 : Nat) ∧ (i 0 : Nat) < win0_2.index ⟨_, hn⟩ 0 * 512 + 512
      rw [(idx2 _).1]; simp only; omega
    | ⟨1, _⟩ =>
      show win0_2.index ⟨_, hn⟩ 1 * 2048 ≤ (i 1 : Nat) ∧ (i 1 : Nat) < win0_2.index ⟨_, hn⟩ 1 * 2048 + 2048
      rw [(idx2 _).2]; omega

theorem algebraic : Cert.algebraic_Kernel9Ideal_Reference9Ideal := by
  intro m ρ m' ρ' _ h
  refine ⟨fun c => G m c, ?_, ?_⟩
  · refine (θ_run defs _ _).mono (fun r hr c => ?_) (Value.run_blocks m ρ)
    obtain ⟨h0, hk⟩ := hr c
    exact ⟨h0.trans (final m c), hk⟩
  · refine (θ_run Cert.Reference9Ideal.defs _ _).mono (fun r hr c => ?_) (Cert.Reference9Ideal.Value.run (F := Ideal) m' ρ')
    obtain ⟨e0, e1⟩ := h c
    obtain ⟨h0, hk⟩ := hr c
    refine ⟨h0.trans ((Cert.Reference9Ideal.Read.val_main_v12_eq _ _).trans ?_), hk⟩
    rw [e0, e1]; rfl

theorem quiescent_reference : Cert.quiescent_Reference9Ideal :=
  fun m ρ _ => (θ_run Cert.Reference9Ideal.defs _ _).mono (fun r h => ⟨fun c => (h c).2,
    Idealize.ShloMosaic.sem_eq_zero_of_no_sems (by decide) r.2⟩) (Cert.Reference9Ideal.Value.run (F := Ideal) m ρ)

end Cert.Proof.FinalNorm

end
-- ==== Proof.FfnAlg.lean ====
/-
  THE FEED-FORWARD CALL AGAINST ITS REFERENCE: both runs, with equal results.
-/
module

public import proofs.«01_k».proof.Proof.FfnRef
public import proofs.«01_k».proof.Defs
public import Idealize.ShloMosaic.Lib.Quiescent

@[expose] public section

set_option maxRecDepth 16384

noncomputable section

namespace Cert.Proof.Ffn

open Idealize.ShloMosaic Idealize.ShloMosaic.TcCoe Idealize.SL.Sem

theorem algebraic : Cert.algebraic_Kernel2Ideal_Reference2Ideal := by
  intro m ρ m' ρ' _ h
  refine ⟨fun c => Cert.Kernel2Ideal.Value.G8 m c, fun c => Cert.Kernel2Ideal.Value.G9 m c, fun c => Cert.Kernel2Ideal.Value.G10 m c,
    fun c => Cert.Kernel2Ideal.Value.G11 m c, Cert.Kernel2Ideal.Value.run m ρ, ?_⟩
  refine (θ_run Cert.Reference2Ideal.defs _ _).mono (fun r hr c => ?_) (Cert.Reference2Ideal.Value.run (F := Ideal) m' ρ')
  obtain ⟨e0, e1, e2, e3, e4, e5, e6, e7⟩ := h c
  obtain ⟨h0, h1, h2, h3, hk⟩ := hr c
  obtain ⟨r0, r1, r2, r3⟩ := results m c
  refine ⟨h0.trans ((Cert.Reference2Ideal.Read.val_main_v23_eq _ _ _ _ _).trans ?_),
    h1.trans ((Cert.Reference2Ideal.Read.val_main_v26_eq _).trans ?_), h2.trans ((Cert.Reference2Ideal.Read.val_main_v29_eq _).trans ?_),
    h3.trans ((Cert.Reference2Ideal.Read.val_main_v32_eq _).trans ?_), hk⟩
  · rw [e0, e1, e2, e3, e4]; exact r0.symm
  · rw [e5]; exact r1.symm
  · rw [e6]; exact r2.symm
  · rw [e7]; exact r3.symm

theorem quiescent_reference : Cert.quiescent_Reference2Ideal :=
  fun m ρ _ => (θ_run Cert.Reference2Ideal.defs _ _).mono (fun r h => ⟨fun c => (h c).2.2.2.2,
    Idealize.ShloMosaic.sem_eq_zero_of_no_sems (by decide) r.2⟩) (Cert.Reference2Ideal.Value.run (F := Ideal) m ρ)

end Cert.Proof.Ffn

end
-- ==== Proof.lean ====
/-
  The claim: the frames and the values of the scan, of the feed-forward call, of five projections, of the pooling mixer's group map
  and of the last norm.
-/
module

public import proofs.«01_k».proof.Defs
public import proofs.«01_k».proof.Proof.Gen.Kernel2.Frame
public import proofs.«01_k».proof.Proof.Gen.Kernel2Ideal.Frame
public import proofs.«01_k».proof.Proof.Gen.ReferenceIdeal.Run
public import proofs.«01_k».proof.Proof.SsdFrame
public import proofs.«01_k».proof.Proof.SsdFrameK
public import proofs.«01_k».proof.Proof.Gen.Kernel3.Frame
public import proofs.«01_k».proof.Proof.Gen.Kernel4.Frame
public import proofs.«01_k».proof.Proof.Gen.Kernel5.Frame
public import proofs.«01_k».proof.Proof.Gen.Kernel6.Frame
public import proofs.«01_k».proof.Proof.Gen.Kernel7.Frame
public import proofs.«01_k».proof.Proof.Gen.Kernel8.Frame
public import proofs.«01_k».proof.Proof.Gen.Kernel9.Frame
public import proofs.«01_k».proof.Proof.Scan
public import proofs.«01_k».proof.Proof.InProj
public import proofs.«01_k».proof.Proof.OutProj
public import proofs.«01_k».proof.Proof.NormOut
public import proofs.«01_k».proof.Proof.PoolIn
public import proofs.«01_k».proof.Proof.DtProj
public import proofs.«01_k».proof.Proof.Pool
public import proofs.«01_k».proof.Proof.FinalNorm
public import proofs.«01_k».proof.Proof.FfnAlg

@[expose] public section

noncomputable section

namespace Cert.Proof

open Idealize.ShloMosaic Idealize.SL.Sem

theorem scan_quiescent_reference : Cert.quiescent_ReferenceIdeal :=
  fun m ρ _ => (θ_run Cert.ReferenceIdeal.defs _ _).mono (fun r h => ⟨fun c => (h c).2.2,
    Idealize.ShloMosaic.sem_eq_zero_of_no_sems (by decide) r.2⟩) (Cert.ReferenceIdeal.Value.run (F := Ideal) m ρ)

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    fun m ρ _ => Cert.Kernel.Gen.frame m ρ, fun m ρ _ => Cert.KernelIdeal.Gen.frame m ρ, scan_quiescent_reference,
    fun m ρ _ => Cert.Kernel2.Gen.frame m ρ, fun m ρ _ => Cert.Kernel2Ideal.Gen.frame m ρ, Ffn.quiescent_reference,
    fun m ρ _ => Cert.Kernel3.Gen.frame m ρ, fun m ρ _ => Cert.Kernel3Ideal.Gen.frame m ρ, InProj.quiescent_reference,
    fun m ρ _ => Cert.Kernel4.Gen.frame m ρ, fun m ρ _ => Cert.Kernel4Ideal.Gen.frame m ρ, OutProj.quiescent_reference,
    fun m ρ _ => Cert.Kernel5.Gen.frame m ρ, fun m ρ _ => Cert.Kernel5Ideal.Gen.frame m ρ, NormOut.quiescent_reference,
    fun m ρ _ => Cert.Kernel6.Gen.frame m ρ, fun m ρ _ => Cert.Kernel6Ideal.Gen.frame m ρ, PoolIn.quiescent_reference,
    fun m ρ _ => Cert.Kernel7.Gen.frame m ρ, fun m ρ _ => Cert.Kernel7Ideal.Gen.frame m ρ, DtProj.quiescent_reference,
    fun m ρ _ => Cert.Kernel8.Gen.frame m ρ, fun m ρ _ => Cert.Kernel8Ideal.Gen.frame m ρ, Pool.quiescent_reference,
    fun m ρ _ => Cert.Kernel9.Gen.frame m ρ, fun m ρ _ => Cert.Kernel9Ideal.Gen.frame m ρ, FinalNorm.quiescent_reference,
    by trivial, Scan.algebraic, by trivial, Ffn.algebraic, by trivial, InProj.algebraic, by trivial, OutProj.algebraic,
    by trivial, NormOut.algebraic, by trivial, PoolIn.algebraic, by trivial, DtProj.algebraic,
    by trivial, Pool.algebraic, by trivial, FinalNorm.algebraic⟩

end Cert.Proof

end
